-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S1 : Shape := ⟨1, ![1]⟩
abbrev S32 : Shape := ⟨1, ![32]⟩
abbrev S_ : Shape := ⟨0, ![]⟩
abbrev S4096x2048 : Shape := ⟨2, ![4096, 2048]⟩
abbrev S2x128x512 : Shape := ⟨3, ![2, 128, 512]⟩
abbrev S4x2 : Shape := ⟨2, ![4, 2]⟩
abbrev S1x1 : Shape := ⟨2, ![1, 1]⟩
abbrev S1x128x512 : Shape := ⟨3, ![1, 128, 512]⟩
abbrev S128x512 : Shape := ⟨2, ![128, 512]⟩

abbrev nBuf : Space → Nat
  | .hbm => 47
  | .vmem => 7
  | .smem => 5
  | _ => 0

abbrev bufTy : (tb : Table) → Fin (tcTables nBuf tb) → BufTy
  | .hbm, ⟨0, _⟩ => ⟨S4096x128, .i8⟩
  | .hbm, ⟨1, _⟩ => ⟨S128x2048, .i8⟩
  | .hbm, ⟨2, _⟩ => ⟨S1, .f32⟩
  | .hbm, ⟨3, _⟩ => ⟨S1, .f32⟩
  | .hbm, ⟨4, _⟩ => ⟨S32, .i32⟩
  | .hbm, ⟨5, _⟩ => ⟨S32, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S1, .i32⟩
  | .hbm, ⟨42, _⟩ => ⟨S_, .i32⟩
  | .hbm, ⟨43, _⟩ => ⟨S1, .i32⟩
  | .hbm, ⟨44, _⟩ => ⟨S1, .i32⟩
  | .hbm, ⟨45, _⟩ => ⟨S1, .i32⟩
  | .hbm, ⟨46, _⟩ => ⟨S4096x2048, .f32⟩
  | .local _ .vmem, ⟨0, _⟩ => ⟨S4096x128, .i8⟩
  | .local _ .vmem, ⟨1, _⟩ => ⟨S128x2048, .i8⟩
  | .local _ .vmem, ⟨2, _⟩ => ⟨S4096x2048, .f32⟩
  | .local _ .vmem, ⟨3, _⟩ => ⟨S2x128x512, .f32⟩
  | .local _ .vmem, ⟨4, _⟩ => ⟨S2x128x512, .f32⟩
  | .local _ .vmem, ⟨5, _⟩ => ⟨S2x128x512, .f32⟩
  | .local _ .vmem, ⟨6, _⟩ => ⟨S2x128x512, .f32⟩
  | .local _ .smem, ⟨0, _⟩ => ⟨S1, .f32⟩
  | .local _ .smem, ⟨1, _⟩ => ⟨S1, .f32⟩
  | .local _ .smem, ⟨2, _⟩ => ⟨S1, .i32⟩
  | .local _ .smem, ⟨3, _⟩ => ⟨S1, .i32⟩
  | .local _ .smem, ⟨4, _⟩ => ⟨S1, .i32⟩
  | _, _ => ⟨S4096x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 5 24 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_3 : Ref sig .tc := ⟨.hbm, 12, rfl⟩
abbrev main_v5 : Ref sig .tc := ⟨.hbm, 13, rfl⟩
abbrev main_c_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_5 : Ref sig .tc := ⟨.hbm, 19, rfl⟩
abbrev main_v10 : Ref sig .tc := ⟨.hbm, 20, rfl⟩
abbrev main_c_6 : Ref sig .tc := ⟨.hbm, 21, rfl⟩
abbrev main_v11 : Ref sig .tc := ⟨.hbm, 22, rfl⟩
abbrev main_c_7 : Ref sig .tc := ⟨.hbm, 23, rfl⟩
abbrev main_v12 : Ref sig .tc := ⟨.hbm, 24, rfl⟩
abbrev main_c_8 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_9 : Ref sig .tc := ⟨.hbm, 30, rfl⟩
abbrev main_v17 : Ref sig .tc := ⟨.hbm, 31, rfl⟩
abbrev main_c_10 : Ref sig .tc := ⟨.hbm, 32, rfl⟩
abbrev main_v18 : Ref sig .tc := ⟨.hbm, 33, rfl⟩
abbrev main_c_11 : Ref sig .tc := ⟨.hbm, 34, rfl⟩
abbrev main_v19 : Ref sig .tc := ⟨.hbm, 35, rfl⟩
abbrev main_c_12 : Ref sig .tc := ⟨.hbm, 36, rfl⟩
abbrev main_v20 : Ref sig .tc := ⟨.hbm, 37, rfl⟩
abbrev main_c_13 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg7_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg2_0 : Ref sig .tc := ⟨.smem, 0, rfl⟩
abbrev cc0_stg3_0 : Ref sig .tc := ⟨.smem, 1, rfl⟩
abbrev cc0_stg4_0 : Ref sig .tc := ⟨.smem, 2, rfl⟩
abbrev cc0_stg5_0 : Ref sig .tc := ⟨.smem, 3, rfl⟩
abbrev cc0_stg6_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 4

abbrev nD : Nat := 32
abbrev τ : Topo := Topo.v7x

variable {F : FTy → Type} [FloatOps F]

abbrev grid0 : Pipeline.Grid := .none

def k0_dev1 (v1 : BitVec 32) : Nat :=
  let c0_i32 : BitVec 32 := 0#32
  let c1_i32_2 : BitVec 32 := 1#32
  let v4 : BitVec 32 := Scalar.muli v1 c1_i32_2
  let v5 : BitVec 32 := Scalar.addi c0_i32 v4
  v5.toNat

def k0_dev2 (v2 : BitVec 32) : Nat :=
  let c0_i32_5 : BitVec 32 := 0#32
  let c1_i32_4 : BitVec 32 := 1#32
  let v6 : BitVec 32 := Scalar.muli v2 c1_i32_4
  let v7 : BitVec 32 := Scalar.addi c0_i32_5 v6
  v7.toNat

def k0_off1 (v0 : BitVec 32) (c64_i32 : BitVec 32) : Fin 2 → Nat :=
  let v18 : BitVec 32 := Scalar.addi v0 c64_i32
  let c32_i32 : BitVec 32 := 32#32
  let v19 : BitVec 32 := Scalar.remsi v18 c32_i32
  let c128_i32 : BitVec 32 := 128#32
  let v20 : BitVec 32 := Scalar.muli v19 c128_i32
  let c0_i32_32 : BitVec 32 := 0#32
  ![v20.toNat, 0]

def k0_dev3 (v2 : BitVec 32) : Nat :=
  let c0_i32_29 : BitVec 32 := 0#32
  let c1_i32_28 : BitVec 32 := 1#32
  let v30 : BitVec 32 := Scalar.muli v2 c1_i32_28
  let v31 : BitVec 32 := Scalar.addi c0_i32_29 v30
  v31.toNat
def k0_off2 (v0 : BitVec 32) (c64_i32_14 : BitVec 32) : Fin 2 → Nat :=
  let v21 : BitVec 32 := Scalar.addi v0 c64_i32_14
  let c32_i32_15 : BitVec 32 := 32#32
  let v22 : BitVec 32 := Scalar.remsi v21 c32_i32_15
  let c128_i32_16 : BitVec 32 := 128#32
  let v23 : BitVec 32 := Scalar.muli v22 c128_i32_16
  let c512_i32 : BitVec 32 := 512#32
  ![v23.toNat, 512]
def k0_dev4 (v2 : BitVec 32) : Nat :=
  let c0_i32_39 : BitVec 32 := 0#32
  let c1_i32_38 : BitVec 32 := 1#32
  let v39 : BitVec 32 := Scalar.muli v2 c1_i32_38
  let v40 : BitVec 32 := Scalar.addi c0_i32_39 v39
  v40.toNat
def k0_off3 (v0 : BitVec 32) (c0_i32_17 : BitVec 32) : Fin 2 → Nat :=
  let v24 : BitVec 32 := Scalar.addi v0 c0_i32_17
  let c32_i32_18 : BitVec 32 := 32#32
  let v25 : BitVec 32 := Scalar.remsi v24 c32_i32_18
  let c128_i32_19 : BitVec 32 := 128#32
  let v26 : BitVec 32 := Scalar.muli v25 c128_i32_19
  let c1024_i32 : BitVec 32 := 1024#32
  ![v26.toNat, 1024]
def k0_dev5 (v1 : BitVec 32) : Nat :=
  let c0_i32_48 : BitVec 32 := 0#32
  let c1_i32_47 : BitVec 32 := 1#32
  let v48 : BitVec 32 := Scalar.muli v1 c1_i32_47
  let v49 : BitVec 32 := Scalar.addi c0_i32_48 v48
  v49.toNat
def k0_off4 (v0 : BitVec 32) (c0_i32_20 : BitVec 32) : Fin 2 → Nat :=
  let v27 : BitVec 32 := Scalar.addi v0 c0_i32_20
  let c32_i32_21 : BitVec 32 := 32#32
  let v28 : BitVec 32 := Scalar.remsi v27 c32_i32_21
  let c128_i32_22 : BitVec 32 := 128#32
  let v29 : BitVec 32 := Scalar.muli v28 c128_i32_22
  let c1536_i32 : BitVec 32 := 1536#32
  ![v29.toNat, 1536]
def k0_dev6 (v1 : BitVec 32) : Nat :=
  let c0_i32_56 : BitVec 32 := 0#32
  let c1_i32_55 : BitVec 32 := 1#32
  let v57 : BitVec 32 := Scalar.muli v1 c1_i32_55
  let v58 : BitVec 32 := Scalar.addi c0_i32_56 v57
  v58.toNat
def k0_off5 (v0 : BitVec 32) (c63_i32 : BitVec 32) : Fin 2 → Nat :=
  let v78 : BitVec 32 := Scalar.addi v0 c63_i32
  let c32_i32_78 : BitVec 32 := 32#32
  let v79 : BitVec 32 := Scalar.remsi v78 c32_i32_78
  let c128_i32_79 : BitVec 32 := 128#32
  let v80 : BitVec 32 := Scalar.muli v79 c128_i32_79
  let v81 : Index := Scalar.indexCast v80
  let c0_80 : Index := 0#32
  ![v81.toNat, 0]
def k0_off5_at (r : Fin 32) : BitVec 32 :=
  if r.val < 16 then
    if r.val < 8 then
      if r.val < 4 then
        if r.val < 2 then
          if r.val < 1 then
            63#32
          else
            62#32
        else
          if r.val < 3 then
            61#32
          else
            60#32
      else
        if r.val < 6 then
          if r.val < 5 then
            59#32
          else
            58#32
        else
          if r.val < 7 then
            57#32
          else
            56#32
    else
      if r.val < 12 then
        if r.val < 10 then
          if r.val < 9 then
            55#32
          else
            54#32
        else
          if r.val < 11 then
            53#32
          else
            52#32
      else
        if r.val < 14 then
          if r.val < 13 then
            51#32
          else
            50#32
        else
          if r.val < 15 then
            49#32
          else
            48#32
  else
    if r.val < 24 then
      if r.val < 20 then
        if r.val < 18 then
          if r.val < 17 then
            47#32
          else
            46#32
        else
          if r.val < 19 then
            45#32
          else
            44#32
      else
        if r.val < 22 then
          if r.val < 21 then
            43#32
          else
            42#32
        else
          if r.val < 23 then
            41#32
          else
            40#32
    else
      if r.val < 28 then
        if r.val < 26 then
          if r.val < 25 then
            39#32
          else
            38#32
        else
          if r.val < 27 then
            37#32
          else
            36#32
      else
        if r.val < 30 then
          if r.val < 29 then
            35#32
          else
            34#32
        else
          if r.val < 31 then
            33#32
          else
            1#32
def k0_dev7 (v1 : BitVec 32) : Nat :=
  let c0_i32_86 : BitVec 32 := 0#32
  let c1_i32_85 : BitVec 32 := 1#32
  let v89 : BitVec 32 := Scalar.muli v1 c1_i32_85
  let v90 : BitVec 32 := Scalar.addi c0_i32_86 v89
  v90.toNat
def k0_dev8 (v2 : BitVec 32) : Nat :=
  let c0_i32_96 : BitVec 32 := 0#32
  let c1_i32_95 : BitVec 32 := 1#32
  let v94 : BitVec 32 := Scalar.muli v2 c1_i32_95
  let v95 : BitVec 32 := Scalar.addi c0_i32_96 v94
  v95.toNat
def k0_off6 (v0 : BitVec 32) (c63_i32_119 : BitVec 32) : Fin 2 → Nat :=
  let v115 : BitVec 32 := Scalar.addi v0 c63_i32_119
  let c32_i32_120 : BitVec 32 := 32#32
  let v116 : BitVec 32 := Scalar.remsi v115 c32_i32_120
  let c128_i32_121 : BitVec 32 := 128#32
  let v117 : BitVec 32 := Scalar.muli v116 c128_i32_121
  let v118 : Index := Scalar.indexCast v117
  let c512 : Index := 512#32
  ![v118.toNat, 512]
def k0_off6_at (r : Fin 32) : BitVec 32 :=
  if r.val < 16 then
    if r.val < 8 then
      if r.val < 4 then
        if r.val < 2 then
          if r.val < 1 then
            63#32
          else
            62#32
        else
          if r.val < 3 then
            61#32
          else
            60#32
      else
        if r.val < 6 then
          if r.val < 5 then
            59#32
          else
            58#32
        else
          if r.val < 7 then
            57#32
          else
            56#32
    else
      if r.val < 12 then
        if r.val < 10 then
          if r.val < 9 then
            55#32
          else
            54#32
        else
          if r.val < 11 then
            53#32
          else
            52#32
      else
        if r.val < 14 then
          if r.val < 13 then
            51#32
          else
            50#32
        else
          if r.val < 15 then
            49#32
          else
            48#32
  else
    if r.val < 24 then
      if r.val < 20 then
        if r.val < 18 then
          if r.val < 17 then
            47#32
          else
            46#32
        else
          if r.val < 19 then
            45#32
          else
            44#32
      else
        if r.val < 22 then
          if r.val < 21 then
            43#32
          else
            42#32
        else
          if r.val < 23 then
            41#32
          else
            40#32
    else
      if r.val < 28 then
        if r.val < 26 then
          if r.val < 25 then
            39#32
          else
            38#32
        else
          if r.val < 27 then
            37#32
          else
            36#32
      else
        if r.val < 30 then
          if r.val < 29 then
            35#32
          else
            34#32
        else
          if r.val < 31 then
            33#32
          else
            1#32
def k0_dev9 (v1 : BitVec 32) : Nat :=
  let c0_i32_128 : BitVec 32 := 0#32
  let c1_i32_127 : BitVec 32 := 1#32
  let v126 : BitVec 32 := Scalar.muli v1 c1_i32_127
  let v127 : BitVec 32 := Scalar.addi c0_i32_128 v126
  v127.toNat
def k0_dev10 (v2 : BitVec 32) : Nat :=
  let c0_i32_138 : BitVec 32 := 0#32
  let c1_i32_137 : BitVec 32 := 1#32
  let v131 : BitVec 32 := Scalar.muli v2 c1_i32_137
  let v132 : BitVec 32 := Scalar.addi c0_i32_138 v131
  v132.toNat
def k0_off7 (v0 : BitVec 32) (c1_i32_161 : BitVec 32) : Fin 2 → Nat :=
  let v152 : BitVec 32 := Scalar.addi v0 c1_i32_161
  let c32_i32_162 : BitVec 32 := 32#32
  let v153 : BitVec 32 := Scalar.remsi v152 c32_i32_162
  let c128_i32_163 : BitVec 32 := 128#32
  let v154 : BitVec 32 := Scalar.muli v153 c128_i32_163
  let v155 : Index := Scalar.indexCast v154
  let c1024 : Index := 1024#32
  ![v155.toNat, 1024]
def k0_dev11 (v2 : BitVec 32) : Nat :=
  let c0_i32_170 : BitVec 32 := 0#32
  let c1_i32_169 : BitVec 32 := 1#32
  let v163 : BitVec 32 := Scalar.muli v2 c1_i32_169
  let v164 : BitVec 32 := Scalar.addi c0_i32_170 v163
  v164.toNat
def k0_dev12 (v1 : BitVec 32) : Nat :=
  let c0_i32_180 : BitVec 32 := 0#32
  let c1_i32_179 : BitVec 32 := 1#32
  let v168 : BitVec 32 := Scalar.muli v1 c1_i32_179
  let v169 : BitVec 32 := Scalar.addi c0_i32_180 v168
  v169.toNat
def k0_off8 (v0 : BitVec 32) (c1_i32_203 : BitVec 32) : Fin 2 → Nat :=
  let v189 : BitVec 32 := Scalar.addi v0 c1_i32_203
  let c32_i32_204 : BitVec 32 := 32#32
  let v190 : BitVec 32 := Scalar.remsi v189 c32_i32_204
  let c128_i32_205 : BitVec 32 := 128#32
  let v191 : BitVec 32 := Scalar.muli v190 c128_i32_205
  let v192 : Index := Scalar.indexCast v191
  let c1536 : Index := 1536#32
  ![v192.toNat, 1536]

def k0_chk3 (v0 : BitVec 32) : Prop :=
  (∀ (r : Fin 32), ∀ a, (k0_off1 v0 (BitVec.ofNat 32 (34 + r.val))) a + S128x512.size a ≤ S4096x2048.size a) ∧
  (∀ (r : Fin 32), ∀ a, (k0_off2 v0 (BitVec.ofNat 32 (34 + r.val))) a + S128x512.size a ≤ S4096x2048.size a) ∧
  (∀ (r : Fin 62), ∀ a, (k0_off3 v0 (BitVec.ofNat 32 r.val)) a + S128x512.size a ≤ S4096x2048.size a) ∧
  (∀ (r : Fin 62), ∀ a, (k0_off4 v0 (BitVec.ofNat 32 r.val)) a + S128x512.size a ≤ S4096x2048.size a) ∧
  (∀ (r : Fin 32), ∀ a, (k0_off5 v0 (k0_off5_at r)) a + S128x512.size a ≤ S4096x2048.size a) ∧
  (∀ (r : Fin 32), ∀ a, (k0_off6 v0 (k0_off6_at r)) a + S128x512.size a ≤ S4096x2048.size a) ∧
  (∀ (r : Fin 31), ∀ a, (k0_off7 v0 (BitVec.ofNat 32 (1 + r.val))) a + S128x512.size a ≤ S4096x2048.size a) ∧
  (∀ (r : Fin 31), ∀ a, (k0_off8 v0 (BitVec.ofNat 32 (1 + r.val))) a + S128x512.size a ≤ S4096x2048.size a)
theorem k0_off1_inb : ∀ (v0 : BitVec 32) (k0_hw3 : k0_chk3 v0), ∀ (r : Fin 32), ∀ a, (k0_off1 v0 (BitVec.ofNat 32 (34 + r.val))) a + S128x512.size a ≤ S4096x2048.size a := fun v0 k0_hw3 r => k0_hw3.1 r
theorem k0_off2_inb : ∀ (v0 : BitVec 32) (k0_hw3 : k0_chk3 v0), ∀ (r : Fin 32), ∀ a, (k0_off2 v0 (BitVec.ofNat 32 (34 + r.val))) a + S128x512.size a ≤ S4096x2048.size a := fun v0 k0_hw3 r => k0_hw3.2.1 r
theorem k0_off3_inb : ∀ (v0 : BitVec 32) (k0_hw3 : k0_chk3 v0), ∀ (r : Fin 62), ∀ a, (k0_off3 v0 (BitVec.ofNat 32 r.val)) a + S128x512.size a ≤ S4096x2048.size a := fun v0 k0_hw3 r => k0_hw3.2.2.1 r
theorem k0_off4_inb : ∀ (v0 : BitVec 32) (k0_hw3 : k0_chk3 v0), ∀ (r : Fin 62), ∀ a, (k0_off4 v0 (BitVec.ofNat 32 r.val)) a + S128x512.size a ≤ S4096x2048.size a := fun v0 k0_hw3 r => k0_hw3.2.2.2.1 r
theorem k0_off5_inb : ∀ (v0 : BitVec 32) (k0_hw3 : k0_chk3 v0), ∀ (r : Fin 32), ∀ a, (k0_off5 v0 (k0_off5_at r)) a + S128x512.size a ≤ S4096x2048.size a := fun v0 k0_hw3 r => k0_hw3.2.2.2.2.1 r
theorem k0_off6_inb : ∀ (v0 : BitVec 32) (k0_hw3 : k0_chk3 v0), ∀ (r : Fin 32), ∀ a, (k0_off6 v0 (k0_off6_at r)) a + S128x512.size a ≤ S4096x2048.size a := fun v0 k0_hw3 r => k0_hw3.2.2.2.2.2.1 r
theorem k0_off7_inb : ∀ (v0 : BitVec 32) (k0_hw3 : k0_chk3 v0), ∀ (r : Fin 31), ∀ a, (k0_off7 v0 (BitVec.ofNat 32 (1 + r.val))) a + S128x512.size a ≤ S4096x2048.size a := fun v0 k0_hw3 r => k0_hw3.2.2.2.2.2.2.1 r
theorem k0_off8_inb : ∀ (v0 : BitVec 32) (k0_hw3 : k0_chk3 v0), ∀ (r : Fin 31), ∀ a, (k0_off8 v0 (BitVec.ofNat 32 (1 + r.val))) a + S128x512.size a ≤ S4096x2048.size a := fun v0 k0_hw3 r => k0_hw3.2.2.2.2.2.2.2 r

def k0_dev13 (v2 : BitVec 32) : Nat :=
  let c0_i32_212 : BitVec 32 := 0#32
  let c1_i32_211 : BitVec 32 := 1#32
  let v200 : BitVec 32 := Scalar.muli v2 c1_i32_211
  let v201 : BitVec 32 := Scalar.addi c0_i32_212 v200
  v201.toNat
def k0_dev14 (v1 : BitVec 32) : Nat :=
  let c0_i32_222 : BitVec 32 := 0#32
  let c1_i32_221 : BitVec 32 := 1#32
  let v205 : BitVec 32 := Scalar.muli v1 c1_i32_221
  let v206 : BitVec 32 := Scalar.addi c0_i32_222 v205
  v206.toNat
def k0_dev15 (v1 : BitVec 32) : Nat :=
  let c0_i32_254 : BitVec 32 := 0#32
  let c1_i32_253 : BitVec 32 := 1#32
  let v237 : BitVec 32 := Scalar.muli v1 c1_i32_253
  let v238 : BitVec 32 := Scalar.addi c0_i32_254 v237
  v238.toNat
def k0_dev16 (v2 : BitVec 32) : Nat :=
  let c0_i32_266 : BitVec 32 := 0#32
  let c1_i32_265 : BitVec 32 := 1#32
  let v242 : BitVec 32 := Scalar.muli v2 c1_i32_265
  let v243 : BitVec 32 := Scalar.addi c0_i32_266 v242
  v243.toNat
def k0_dev17 (v1 : BitVec 32) : Nat :=
  let c0_i32_299 : BitVec 32 := 0#32
  let c1_i32_298 : BitVec 32 := 1#32
  let v274 : BitVec 32 := Scalar.muli v1 c1_i32_298
  let v275 : BitVec 32 := Scalar.addi c0_i32_299 v274
  v275.toNat
def k0_dev18 (v2 : BitVec 32) : Nat :=
  let c0_i32_311 : BitVec 32 := 0#32
  let c1_i32_310 : BitVec 32 := 1#32
  let v279 : BitVec 32 := Scalar.muli v2 c1_i32_310
  let v280 : BitVec 32 := Scalar.addi c0_i32_311 v279
  v280.toNat
def k0_dev19 (v2 : BitVec 32) : Nat :=
  let c0_i32_344 : BitVec 32 := 0#32
  let c1_i32_343 : BitVec 32 := 1#32
  let v311 : BitVec 32 := Scalar.muli v2 c1_i32_343
  let v312 : BitVec 32 := Scalar.addi c0_i32_344 v311
  v312.toNat
def k0_dev20 (v1 : BitVec 32) : Nat :=
  let c0_i32_356 : BitVec 32 := 0#32
  let c1_i32_355 : BitVec 32 := 1#32
  let v316 : BitVec 32 := Scalar.muli v1 c1_i32_355
  let v317 : BitVec 32 := Scalar.addi c0_i32_356 v316
  v317.toNat
def k0_dev21 (v2 : BitVec 32) : Nat :=
  let c0_i32_389 : BitVec 32 := 0#32
  let c1_i32_388 : BitVec 32 := 1#32
  let v348 : BitVec 32 := Scalar.muli v2 c1_i32_388
  let v349 : BitVec 32 := Scalar.addi c0_i32_389 v348
  v349.toNat
def k0_dev22 (v1 : BitVec 32) : Nat :=
  let c0_i32_401 : BitVec 32 := 0#32
  let c1_i32_400 : BitVec 32 := 1#32
  let v353 : BitVec 32 := Scalar.muli v1 c1_i32_400
  let v354 : BitVec 32 := Scalar.addi c0_i32_401 v353
  v354.toNat
def k0_dev23 (v1 : BitVec 32) : Nat :=
  let c0_i32_433 : BitVec 32 := 0#32
  let c1_i32_432 : BitVec 32 := 1#32
  let v385 : BitVec 32 := Scalar.muli v1 c1_i32_432
  let v386 : BitVec 32 := Scalar.addi c0_i32_433 v385
  v386.toNat
def k0_dev24 (v2 : BitVec 32) : Nat :=
  let c0_i32_445 : BitVec 32 := 0#32
  let c1_i32_444 : BitVec 32 := 1#32
  let v390 : BitVec 32 := Scalar.muli v2 c1_i32_444
  let v391 : BitVec 32 := Scalar.addi c0_i32_445 v390
  v391.toNat
def k0_dev25 (v1 : BitVec 32) : Nat :=
  let c0_i32_478 : BitVec 32 := 0#32
  let c1_i32_477 : BitVec 32 := 1#32
  let v422 : BitVec 32 := Scalar.muli v1 c1_i32_477
  let v423 : BitVec 32 := Scalar.addi c0_i32_478 v422
  v423.toNat
def k0_dev26 (v2 : BitVec 32) : Nat :=
  let c0_i32_490 : BitVec 32 := 0#32
  let c1_i32_489 : BitVec 32 := 1#32
  let v427 : BitVec 32 := Scalar.muli v2 c1_i32_489
  let v428 : BitVec 32 := Scalar.addi c0_i32_490 v427
  v428.toNat
def k0_dev27 (v2 : BitVec 32) : Nat :=
  let c0_i32_523 : BitVec 32 := 0#32
  let c1_i32_522 : BitVec 32 := 1#32
  let v459 : BitVec 32 := Scalar.muli v2 c1_i32_522
  let v460 : BitVec 32 := Scalar.addi c0_i32_523 v459
  v460.toNat
def k0_dev28 (v1 : BitVec 32) : Nat :=
  let c0_i32_535 : BitVec 32 := 0#32
  let c1_i32_534 : BitVec 32 := 1#32
  let v464 : BitVec 32 := Scalar.muli v1 c1_i32_534
  let v465 : BitVec 32 := Scalar.addi c0_i32_535 v464
  v465.toNat
def k0_dev29 (v2 : BitVec 32) : Nat :=
  let c0_i32_568 : BitVec 32 := 0#32
  let c1_i32_567 : BitVec 32 := 1#32
  let v496 : BitVec 32 := Scalar.muli v2 c1_i32_567
  let v497 : BitVec 32 := Scalar.addi c0_i32_568 v496
  v497.toNat
def k0_dev30 (v1 : BitVec 32) : Nat :=
  let c0_i32_580 : BitVec 32 := 0#32
  let c1_i32_579 : BitVec 32 := 1#32
  let v501 : BitVec 32 := Scalar.muli v1 c1_i32_579
  let v502 : BitVec 32 := Scalar.addi c0_i32_580 v501
  v502.toNat
def k0_dev31 (v1 : BitVec 32) : Nat :=
  let c0_i32_612 : BitVec 32 := 0#32
  let c1_i32_611 : BitVec 32 := 1#32
  let v533 : BitVec 32 := Scalar.muli v1 c1_i32_611
  let v534 : BitVec 32 := Scalar.addi c0_i32_612 v533
  v534.toNat
def k0_dev32 (v2 : BitVec 32) : Nat :=
  let c0_i32_624 : BitVec 32 := 0#32
  let c1_i32_623 : BitVec 32 := 1#32
  let v538 : BitVec 32 := Scalar.muli v2 c1_i32_623
  let v539 : BitVec 32 := Scalar.addi c0_i32_624 v538
  v539.toNat
def k0_dev33 (v1 : BitVec 32) : Nat :=
  let c0_i32_657 : BitVec 32 := 0#32
  let c1_i32_656 : BitVec 32 := 1#32
  let v570 : BitVec 32 := Scalar.muli v1 c1_i32_656
  let v571 : BitVec 32 := Scalar.addi c0_i32_657 v570
  v571.toNat
def k0_dev34 (v2 : BitVec 32) : Nat :=
  let c0_i32_669 : BitVec 32 := 0#32
  let c1_i32_668 : BitVec 32 := 1#32
  let v575 : BitVec 32 := Scalar.muli v2 c1_i32_668
  let v576 : BitVec 32 := Scalar.addi c0_i32_669 v575
  v576.toNat
def k0_dev35 (v2 : BitVec 32) : Nat :=
  let c0_i32_701 : BitVec 32 := 0#32
  let c1_i32_700 : BitVec 32 := 1#32
  let v607 : BitVec 32 := Scalar.muli v2 c1_i32_700
  let v608 : BitVec 32 := Scalar.addi c0_i32_701 v607
  v608.toNat
def k0_dev36 (v1 : BitVec 32) : Nat :=
  let c0_i32_713 : BitVec 32 := 0#32
  let c1_i32_712 : BitVec 32 := 1#32
  let v612 : BitVec 32 := Scalar.muli v1 c1_i32_712
  let v613 : BitVec 32 := Scalar.addi c0_i32_713 v612
  v613.toNat
def k0_dev37 (v2 : BitVec 32) : Nat :=
  let c0_i32_746 : BitVec 32 := 0#32
  let c1_i32_745 : BitVec 32 := 1#32
  let v644 : BitVec 32 := Scalar.muli v2 c1_i32_745
  let v645 : BitVec 32 := Scalar.addi c0_i32_746 v644
  v645.toNat
def k0_dev38 (v1 : BitVec 32) : Nat :=
  let c0_i32_758 : BitVec 32 := 0#32
  let c1_i32_757 : BitVec 32 := 1#32
  let v649 : BitVec 32 := Scalar.muli v1 c1_i32_757
  let v650 : BitVec 32 := Scalar.addi c0_i32_758 v649
  v650.toNat
def k0_dev39 (v1 : BitVec 32) : Nat :=
  let c0_i32_790 : BitVec 32 := 0#32
  let c1_i32_789 : BitVec 32 := 1#32
  let v681 : BitVec 32 := Scalar.muli v1 c1_i32_789
  let v682 : BitVec 32 := Scalar.addi c0_i32_790 v681
  v682.toNat
def k0_dev40 (v2 : BitVec 32) : Nat :=
  let c0_i32_802 : BitVec 32 := 0#32
  let c1_i32_801 : BitVec 32 := 1#32
  let v686 : BitVec 32 := Scalar.muli v2 c1_i32_801
  let v687 : BitVec 32 := Scalar.addi c0_i32_802 v686
  v687.toNat
def k0_dev41 (v1 : BitVec 32) : Nat :=
  let c0_i32_835 : BitVec 32 := 0#32
  let c1_i32_834 : BitVec 32 := 1#32
  let v718 : BitVec 32 := Scalar.muli v1 c1_i32_834
  let v719 : BitVec 32 := Scalar.addi c0_i32_835 v718
  v719.toNat
def k0_dev42 (v2 : BitVec 32) : Nat :=
  let c0_i32_847 : BitVec 32 := 0#32
  let c1_i32_846 : BitVec 32 := 1#32
  let v723 : BitVec 32 := Scalar.muli v2 c1_i32_846
  let v724 : BitVec 32 := Scalar.addi c0_i32_847 v723
  v724.toNat
def k0_dev43 (v2 : BitVec 32) : Nat :=
  let c0_i32_879 : BitVec 32 := 0#32
  let c1_i32_878 : BitVec 32 := 1#32
  let v755 : BitVec 32 := Scalar.muli v2 c1_i32_878
  let v756 : BitVec 32 := Scalar.addi c0_i32_879 v755
  v756.toNat
def k0_dev44 (v1 : BitVec 32) : Nat :=
  let c0_i32_891 : BitVec 32 := 0#32
  let c1_i32_890 : BitVec 32 := 1#32
  let v760 : BitVec 32 := Scalar.muli v1 c1_i32_890
  let v761 : BitVec 32 := Scalar.addi c0_i32_891 v760
  v761.toNat
def k0_dev45 (v2 : BitVec 32) : Nat :=
  let c0_i32_924 : BitVec 32 := 0#32
  let c1_i32_923 : BitVec 32 := 1#32
  let v792 : BitVec 32 := Scalar.muli v2 c1_i32_923
  let v793 : BitVec 32 := Scalar.addi c0_i32_924 v792
  v793.toNat
def k0_dev46 (v1 : BitVec 32) : Nat :=
  let c0_i32_936 : BitVec 32 := 0#32
  let c1_i32_935 : BitVec 32 := 1#32
  let v797 : BitVec 32 := Scalar.muli v1 c1_i32_935
  let v798 : BitVec 32 := Scalar.addi c0_i32_936 v797
  v798.toNat
def k0_dev47 (v1 : BitVec 32) : Nat :=
  let c0_i32_968 : BitVec 32 := 0#32
  let c1_i32_967 : BitVec 32 := 1#32
  let v829 : BitVec 32 := Scalar.muli v1 c1_i32_967
  let v830 : BitVec 32 := Scalar.addi c0_i32_968 v829
  v830.toNat
def k0_dev48 (v2 : BitVec 32) : Nat :=
  let c0_i32_980 : BitVec 32 := 0#32
  let c1_i32_979 : BitVec 32 := 1#32
  let v834 : BitVec 32 := Scalar.muli v2 c1_i32_979
  let v835 : BitVec 32 := Scalar.addi c0_i32_980 v834
  v835.toNat
def k0_dev49 (v1 : BitVec 32) : Nat :=
  let c0_i32_1013 : BitVec 32 := 0#32
  let c1_i32_1012 : BitVec 32 := 1#32
  let v866 : BitVec 32 := Scalar.muli v1 c1_i32_1012
  let v867 : BitVec 32 := Scalar.addi c0_i32_1013 v866
  v867.toNat
def k0_dev50 (v2 : BitVec 32) : Nat :=
  let c0_i32_1025 : BitVec 32 := 0#32
  let c1_i32_1024 : BitVec 32 := 1#32
  let v871 : BitVec 32 := Scalar.muli v2 c1_i32_1024
  let v872 : BitVec 32 := Scalar.addi c0_i32_1025 v871
  v872.toNat
def k0_dev51 (v2 : BitVec 32) : Nat :=
  let c0_i32_1057 : BitVec 32 := 0#32
  let c1_i32_1056 : BitVec 32 := 1#32
  let v903 : BitVec 32 := Scalar.muli v2 c1_i32_1056
  let v904 : BitVec 32 := Scalar.addi c0_i32_1057 v903
  v904.toNat
def k0_dev52 (v1 : BitVec 32) : Nat :=
  let c0_i32_1069 : BitVec 32 := 0#32
  let c1_i32_1068 : BitVec 32 := 1#32
  let v908 : BitVec 32 := Scalar.muli v1 c1_i32_1068
  let v909 : BitVec 32 := Scalar.addi c0_i32_1069 v908
  v909.toNat
def k0_dev53 (v2 : BitVec 32) : Nat :=
  let c0_i32_1102 : BitVec 32 := 0#32
  let c1_i32_1101 : BitVec 32 := 1#32
  let v940 : BitVec 32 := Scalar.muli v2 c1_i32_1101
  let v941 : BitVec 32 := Scalar.addi c0_i32_1102 v940
  v941.toNat
def k0_dev54 (v1 : BitVec 32) : Nat :=
  let c0_i32_1114 : BitVec 32 := 0#32
  let c1_i32_1113 : BitVec 32 := 1#32
  let v945 : BitVec 32 := Scalar.muli v1 c1_i32_1113
  let v946 : BitVec 32 := Scalar.addi c0_i32_1114 v945
  v946.toNat
def k0_dev55 (v1 : BitVec 32) : Nat :=
  let c0_i32_1146 : BitVec 32 := 0#32
  let c1_i32_1145 : BitVec 32 := 1#32
  let v977 : BitVec 32 := Scalar.muli v1 c1_i32_1145
  let v978 : BitVec 32 := Scalar.addi c0_i32_1146 v977
  v978.toNat
def k0_dev56 (v2 : BitVec 32) : Nat :=
  let c0_i32_1158 : BitVec 32 := 0#32
  let c1_i32_1157 : BitVec 32 := 1#32
  let v982 : BitVec 32 := Scalar.muli v2 c1_i32_1157
  let v983 : BitVec 32 := Scalar.addi c0_i32_1158 v982
  v983.toNat
def k0_dev57 (v1 : BitVec 32) : Nat :=
  let c0_i32_1191 : BitVec 32 := 0#32
  let c1_i32_1190 : BitVec 32 := 1#32
  let v1014 : BitVec 32 := Scalar.muli v1 c1_i32_1190
  let v1015 : BitVec 32 := Scalar.addi c0_i32_1191 v1014
  v1015.toNat
def k0_dev58 (v2 : BitVec 32) : Nat :=
  let c0_i32_1203 : BitVec 32 := 0#32
  let c1_i32_1202 : BitVec 32 := 1#32
  let v1019 : BitVec 32 := Scalar.muli v2 c1_i32_1202
  let v1020 : BitVec 32 := Scalar.addi c0_i32_1203 v1019
  v1020.toNat
def k0_dev59 (v2 : BitVec 32) : Nat :=
  let c0_i32_1235 : BitVec 32 := 0#32
  let c1_i32_1234 : BitVec 32 := 1#32
  let v1051 : BitVec 32 := Scalar.muli v2 c1_i32_1234
  let v1052 : BitVec 32 := Scalar.addi c0_i32_1235 v1051
  v1052.toNat
def k0_dev60 (v1 : BitVec 32) : Nat :=
  let c0_i32_1247 : BitVec 32 := 0#32
  let c1_i32_1246 : BitVec 32 := 1#32
  let v1056 : BitVec 32 := Scalar.muli v1 c1_i32_1246
  let v1057 : BitVec 32 := Scalar.addi c0_i32_1247 v1056
  v1057.toNat
def k0_dev61 (v2 : BitVec 32) : Nat :=
  let c0_i32_1280 : BitVec 32 := 0#32
  let c1_i32_1279 : BitVec 32 := 1#32
  let v1088 : BitVec 32 := Scalar.muli v2 c1_i32_1279
  let v1089 : BitVec 32 := Scalar.addi c0_i32_1280 v1088
  v1089.toNat
def k0_dev62 (v1 : BitVec 32) : Nat :=
  let c0_i32_1292 : BitVec 32 := 0#32
  let c1_i32_1291 : BitVec 32 := 1#32
  let v1093 : BitVec 32 := Scalar.muli v1 c1_i32_1291
  let v1094 : BitVec 32 := Scalar.addi c0_i32_1292 v1093
  v1094.toNat
def k0_dev63 (v1 : BitVec 32) : Nat :=
  let c0_i32_1324 : BitVec 32 := 0#32
  let c1_i32_1323 : BitVec 32 := 1#32
  let v1125 : BitVec 32 := Scalar.muli v1 c1_i32_1323
  let v1126 : BitVec 32 := Scalar.addi c0_i32_1324 v1125
  v1126.toNat
def k0_dev64 (v2 : BitVec 32) : Nat :=
  let c0_i32_1336 : BitVec 32 := 0#32
  let c1_i32_1335 : BitVec 32 := 1#32
  let v1130 : BitVec 32 := Scalar.muli v2 c1_i32_1335
  let v1131 : BitVec 32 := Scalar.addi c0_i32_1336 v1130
  v1131.toNat
def k0_dev65 (v1 : BitVec 32) : Nat :=
  let c0_i32_1369 : BitVec 32 := 0#32
  let c1_i32_1368 : BitVec 32 := 1#32
  let v1162 : BitVec 32 := Scalar.muli v1 c1_i32_1368
  let v1163 : BitVec 32 := Scalar.addi c0_i32_1369 v1162
  v1163.toNat
def k0_dev66 (v2 : BitVec 32) : Nat :=
  let c0_i32_1381 : BitVec 32 := 0#32
  let c1_i32_1380 : BitVec 32 := 1#32
  let v1167 : BitVec 32 := Scalar.muli v2 c1_i32_1380
  let v1168 : BitVec 32 := Scalar.addi c0_i32_1381 v1167
  v1168.toNat
def k0_dev67 (v2 : BitVec 32) : Nat :=
  let c0_i32_1413 : BitVec 32 := 0#32
  let c1_i32_1412 : BitVec 32 := 1#32
  let v1199 : BitVec 32 := Scalar.muli v2 c1_i32_1412
  let v1200 : BitVec 32 := Scalar.addi c0_i32_1413 v1199
  v1200.toNat
def k0_dev68 (v1 : BitVec 32) : Nat :=
  let c0_i32_1425 : BitVec 32 := 0#32
  let c1_i32_1424 : BitVec 32 := 1#32
  let v1204 : BitVec 32 := Scalar.muli v1 c1_i32_1424
  let v1205 : BitVec 32 := Scalar.addi c0_i32_1425 v1204
  v1205.toNat
def k0_dev69 (v2 : BitVec 32) : Nat :=
  let c0_i32_1458 : BitVec 32 := 0#32
  let c1_i32_1457 : BitVec 32 := 1#32
  let v1236 : BitVec 32 := Scalar.muli v2 c1_i32_1457
  let v1237 : BitVec 32 := Scalar.addi c0_i32_1458 v1236
  v1237.toNat
def k0_dev70 (v1 : BitVec 32) : Nat :=
  let c0_i32_1470 : BitVec 32 := 0#32
  let c1_i32_1469 : BitVec 32 := 1#32
  let v1241 : BitVec 32 := Scalar.muli v1 c1_i32_1469
  let v1242 : BitVec 32 := Scalar.addi c0_i32_1470 v1241
  v1242.toNat
def k0_dev71 (v1 : BitVec 32) : Nat :=
  let c0_i32_1502 : BitVec 32 := 0#32
  let c1_i32_1501 : BitVec 32 := 1#32
  let v1273 : BitVec 32 := Scalar.muli v1 c1_i32_1501
  let v1274 : BitVec 32 := Scalar.addi c0_i32_1502 v1273
  v1274.toNat
def k0_dev72 (v2 : BitVec 32) : Nat :=
  let c0_i32_1514 : BitVec 32 := 0#32
  let c1_i32_1513 : BitVec 32 := 1#32
  let v1278 : BitVec 32 := Scalar.muli v2 c1_i32_1513
  let v1279 : BitVec 32 := Scalar.addi c0_i32_1514 v1278
  v1279.toNat
def k0_dev73 (v1 : BitVec 32) : Nat :=
  let c0_i32_1547 : BitVec 32 := 0#32
  let c1_i32_1546 : BitVec 32 := 1#32
  let v1310 : BitVec 32 := Scalar.muli v1 c1_i32_1546
  let v1311 : BitVec 32 := Scalar.addi c0_i32_1547 v1310
  v1311.toNat
def k0_dev74 (v2 : BitVec 32) : Nat :=
  let c0_i32_1559 : BitVec 32 := 0#32
  let c1_i32_1558 : BitVec 32 := 1#32
  let v1315 : BitVec 32 := Scalar.muli v2 c1_i32_1558
  let v1316 : BitVec 32 := Scalar.addi c0_i32_1559 v1315
  v1316.toNat
def k0_dev75 (v2 : BitVec 32) : Nat :=
  let c0_i32_1591 : BitVec 32 := 0#32
  let c1_i32_1590 : BitVec 32 := 1#32
  let v1347 : BitVec 32 := Scalar.muli v2 c1_i32_1590
  let v1348 : BitVec 32 := Scalar.addi c0_i32_1591 v1347
  v1348.toNat
def k0_dev76 (v1 : BitVec 32) : Nat :=
  let c0_i32_1603 : BitVec 32 := 0#32
  let c1_i32_1602 : BitVec 32 := 1#32
  let v1352 : BitVec 32 := Scalar.muli v1 c1_i32_1602
  let v1353 : BitVec 32 := Scalar.addi c0_i32_1603 v1352
  v1353.toNat
def k0_dev77 (v2 : BitVec 32) : Nat :=
  let c0_i32_1636 : BitVec 32 := 0#32
  let c1_i32_1635 : BitVec 32 := 1#32
  let v1384 : BitVec 32 := Scalar.muli v2 c1_i32_1635
  let v1385 : BitVec 32 := Scalar.addi c0_i32_1636 v1384
  v1385.toNat
def k0_dev78 (v1 : BitVec 32) : Nat :=
  let c0_i32_1648 : BitVec 32 := 0#32
  let c1_i32_1647 : BitVec 32 := 1#32
  let v1389 : BitVec 32 := Scalar.muli v1 c1_i32_1647
  let v1390 : BitVec 32 := Scalar.addi c0_i32_1648 v1389
  v1390.toNat
def k0_dev79 (v1 : BitVec 32) : Nat :=
  let c0_i32_1680 : BitVec 32 := 0#32
  let c1_i32_1679 : BitVec 32 := 1#32
  let v1421 : BitVec 32 := Scalar.muli v1 c1_i32_1679
  let v1422 : BitVec 32 := Scalar.addi c0_i32_1680 v1421
  v1422.toNat
def k0_dev80 (v2 : BitVec 32) : Nat :=
  let c0_i32_1692 : BitVec 32 := 0#32
  let c1_i32_1691 : BitVec 32 := 1#32
  let v1426 : BitVec 32 := Scalar.muli v2 c1_i32_1691
  let v1427 : BitVec 32 := Scalar.addi c0_i32_1692 v1426
  v1427.toNat
def k0_dev81 (v1 : BitVec 32) : Nat :=
  let c0_i32_1725 : BitVec 32 := 0#32
  let c1_i32_1724 : BitVec 32 := 1#32
  let v1458 : BitVec 32 := Scalar.muli v1 c1_i32_1724
  let v1459 : BitVec 32 := Scalar.addi c0_i32_1725 v1458
  v1459.toNat
def k0_dev82 (v2 : BitVec 32) : Nat :=
  let c0_i32_1737 : BitVec 32 := 0#32
  let c1_i32_1736 : BitVec 32 := 1#32
  let v1463 : BitVec 32 := Scalar.muli v2 c1_i32_1736
  let v1464 : BitVec 32 := Scalar.addi c0_i32_1737 v1463
  v1464.toNat
def k0_dev83 (v2 : BitVec 32) : Nat :=
  let c0_i32_1769 : BitVec 32 := 0#32
  let c1_i32_1768 : BitVec 32 := 1#32
  let v1495 : BitVec 32 := Scalar.muli v2 c1_i32_1768
  let v1496 : BitVec 32 := Scalar.addi c0_i32_1769 v1495
  v1496.toNat
def k0_dev84 (v1 : BitVec 32) : Nat :=
  let c0_i32_1781 : BitVec 32 := 0#32
  let c1_i32_1780 : BitVec 32 := 1#32
  let v1500 : BitVec 32 := Scalar.muli v1 c1_i32_1780
  let v1501 : BitVec 32 := Scalar.addi c0_i32_1781 v1500
  v1501.toNat
def k0_dev85 (v2 : BitVec 32) : Nat :=
  let c0_i32_1814 : BitVec 32 := 0#32
  let c1_i32_1813 : BitVec 32 := 1#32
  let v1532 : BitVec 32 := Scalar.muli v2 c1_i32_1813
  let v1533 : BitVec 32 := Scalar.addi c0_i32_1814 v1532
  v1533.toNat
def k0_dev86 (v1 : BitVec 32) : Nat :=
  let c0_i32_1826 : BitVec 32 := 0#32
  let c1_i32_1825 : BitVec 32 := 1#32
  let v1537 : BitVec 32 := Scalar.muli v1 c1_i32_1825
  let v1538 : BitVec 32 := Scalar.addi c0_i32_1826 v1537
  v1538.toNat
def k0_dev87 (v1 : BitVec 32) : Nat :=
  let c0_i32_1858 : BitVec 32 := 0#32
  let c1_i32_1857 : BitVec 32 := 1#32
  let v1569 : BitVec 32 := Scalar.muli v1 c1_i32_1857
  let v1570 : BitVec 32 := Scalar.addi c0_i32_1858 v1569
  v1570.toNat
def k0_dev88 (v2 : BitVec 32) : Nat :=
  let c0_i32_1870 : BitVec 32 := 0#32
  let c1_i32_1869 : BitVec 32 := 1#32
  let v1574 : BitVec 32 := Scalar.muli v2 c1_i32_1869
  let v1575 : BitVec 32 := Scalar.addi c0_i32_1870 v1574
  v1575.toNat
def k0_dev89 (v1 : BitVec 32) : Nat :=
  let c0_i32_1903 : BitVec 32 := 0#32
  let c1_i32_1902 : BitVec 32 := 1#32
  let v1606 : BitVec 32 := Scalar.muli v1 c1_i32_1902
  let v1607 : BitVec 32 := Scalar.addi c0_i32_1903 v1606
  v1607.toNat
def k0_dev90 (v2 : BitVec 32) : Nat :=
  let c0_i32_1915 : BitVec 32 := 0#32
  let c1_i32_1914 : BitVec 32 := 1#32
  let v1611 : BitVec 32 := Scalar.muli v2 c1_i32_1914
  let v1612 : BitVec 32 := Scalar.addi c0_i32_1915 v1611
  v1612.toNat
def k0_dev91 (v2 : BitVec 32) : Nat :=
  let c0_i32_1947 : BitVec 32 := 0#32
  let c1_i32_1946 : BitVec 32 := 1#32
  let v1643 : BitVec 32 := Scalar.muli v2 c1_i32_1946
  let v1644 : BitVec 32 := Scalar.addi c0_i32_1947 v1643
  v1644.toNat
def k0_dev92 (v1 : BitVec 32) : Nat :=
  let c0_i32_1959 : BitVec 32 := 0#32
  let c1_i32_1958 : BitVec 32 := 1#32
  let v1648 : BitVec 32 := Scalar.muli v1 c1_i32_1958
  let v1649 : BitVec 32 := Scalar.addi c0_i32_1959 v1648
  v1649.toNat
def k0_dev93 (v2 : BitVec 32) : Nat :=
  let c0_i32_1992 : BitVec 32 := 0#32
  let c1_i32_1991 : BitVec 32 := 1#32
  let v1680 : BitVec 32 := Scalar.muli v2 c1_i32_1991
  let v1681 : BitVec 32 := Scalar.addi c0_i32_1992 v1680
  v1681.toNat
def k0_dev94 (v1 : BitVec 32) : Nat :=
  let c0_i32_2004 : BitVec 32 := 0#32
  let c1_i32_2003 : BitVec 32 := 1#32
  let v1685 : BitVec 32 := Scalar.muli v1 c1_i32_2003
  let v1686 : BitVec 32 := Scalar.addi c0_i32_2004 v1685
  v1686.toNat
def k0_dev95 (v1 : BitVec 32) : Nat :=
  let c0_i32_2036 : BitVec 32 := 0#32
  let c1_i32_2035 : BitVec 32 := 1#32
  let v1717 : BitVec 32 := Scalar.muli v1 c1_i32_2035
  let v1718 : BitVec 32 := Scalar.addi c0_i32_2036 v1717
  v1718.toNat
def k0_dev96 (v2 : BitVec 32) : Nat :=
  let c0_i32_2048 : BitVec 32 := 0#32
  let c1_i32_2047 : BitVec 32 := 1#32
  let v1722 : BitVec 32 := Scalar.muli v2 c1_i32_2047
  let v1723 : BitVec 32 := Scalar.addi c0_i32_2048 v1722
  v1723.toNat
def k0_dev97 (v1 : BitVec 32) : Nat :=
  let c0_i32_2081 : BitVec 32 := 0#32
  let c1_i32_2080 : BitVec 32 := 1#32
  let v1754 : BitVec 32 := Scalar.muli v1 c1_i32_2080
  let v1755 : BitVec 32 := Scalar.addi c0_i32_2081 v1754
  v1755.toNat
def k0_dev98 (v2 : BitVec 32) : Nat :=
  let c0_i32_2093 : BitVec 32 := 0#32
  let c1_i32_2092 : BitVec 32 := 1#32
  let v1759 : BitVec 32 := Scalar.muli v2 c1_i32_2092
  let v1760 : BitVec 32 := Scalar.addi c0_i32_2093 v1759
  v1760.toNat
def k0_dev99 (v2 : BitVec 32) : Nat :=
  let c0_i32_2125 : BitVec 32 := 0#32
  let c1_i32_2124 : BitVec 32 := 1#32
  let v1791 : BitVec 32 := Scalar.muli v2 c1_i32_2124
  let v1792 : BitVec 32 := Scalar.addi c0_i32_2125 v1791
  v1792.toNat
def k0_dev100 (v1 : BitVec 32) : Nat :=
  let c0_i32_2137 : BitVec 32 := 0#32
  let c1_i32_2136 : BitVec 32 := 1#32
  let v1796 : BitVec 32 := Scalar.muli v1 c1_i32_2136
  let v1797 : BitVec 32 := Scalar.addi c0_i32_2137 v1796
  v1797.toNat
def k0_dev101 (v2 : BitVec 32) : Nat :=
  let c0_i32_2170 : BitVec 32 := 0#32
  let c1_i32_2169 : BitVec 32 := 1#32
  let v1828 : BitVec 32 := Scalar.muli v2 c1_i32_2169
  let v1829 : BitVec 32 := Scalar.addi c0_i32_2170 v1828
  v1829.toNat
def k0_dev102 (v1 : BitVec 32) : Nat :=
  let c0_i32_2182 : BitVec 32 := 0#32
  let c1_i32_2181 : BitVec 32 := 1#32
  let v1833 : BitVec 32 := Scalar.muli v1 c1_i32_2181
  let v1834 : BitVec 32 := Scalar.addi c0_i32_2182 v1833
  v1834.toNat
def k0_dev103 (v1 : BitVec 32) : Nat :=
  let c0_i32_2214 : BitVec 32 := 0#32
  let c1_i32_2213 : BitVec 32 := 1#32
  let v1865 : BitVec 32 := Scalar.muli v1 c1_i32_2213
  let v1866 : BitVec 32 := Scalar.addi c0_i32_2214 v1865
  v1866.toNat
def k0_dev104 (v2 : BitVec 32) : Nat :=
  let c0_i32_2226 : BitVec 32 := 0#32
  let c1_i32_2225 : BitVec 32 := 1#32
  let v1870 : BitVec 32 := Scalar.muli v2 c1_i32_2225
  let v1871 : BitVec 32 := Scalar.addi c0_i32_2226 v1870
  v1871.toNat
def k0_dev105 (v1 : BitVec 32) : Nat :=
  let c0_i32_2259 : BitVec 32 := 0#32
  let c1_i32_2258 : BitVec 32 := 1#32
  let v1902 : BitVec 32 := Scalar.muli v1 c1_i32_2258
  let v1903 : BitVec 32 := Scalar.addi c0_i32_2259 v1902
  v1903.toNat
def k0_dev106 (v2 : BitVec 32) : Nat :=
  let c0_i32_2271 : BitVec 32 := 0#32
  let c1_i32_2270 : BitVec 32 := 1#32
  let v1907 : BitVec 32 := Scalar.muli v2 c1_i32_2270
  let v1908 : BitVec 32 := Scalar.addi c0_i32_2271 v1907
  v1908.toNat
def k0_dev107 (v2 : BitVec 32) : Nat :=
  let c0_i32_2303 : BitVec 32 := 0#32
  let c1_i32_2302 : BitVec 32 := 1#32
  let v1939 : BitVec 32 := Scalar.muli v2 c1_i32_2302
  let v1940 : BitVec 32 := Scalar.addi c0_i32_2303 v1939
  v1940.toNat
def k0_dev108 (v1 : BitVec 32) : Nat :=
  let c0_i32_2315 : BitVec 32 := 0#32
  let c1_i32_2314 : BitVec 32 := 1#32
  let v1944 : BitVec 32 := Scalar.muli v1 c1_i32_2314
  let v1945 : BitVec 32 := Scalar.addi c0_i32_2315 v1944
  v1945.toNat
def k0_dev109 (v2 : BitVec 32) : Nat :=
  let c0_i32_2348 : BitVec 32 := 0#32
  let c1_i32_2347 : BitVec 32 := 1#32
  let v1976 : BitVec 32 := Scalar.muli v2 c1_i32_2347
  let v1977 : BitVec 32 := Scalar.addi c0_i32_2348 v1976
  v1977.toNat
def k0_dev110 (v1 : BitVec 32) : Nat :=
  let c0_i32_2360 : BitVec 32 := 0#32
  let c1_i32_2359 : BitVec 32 := 1#32
  let v1981 : BitVec 32 := Scalar.muli v1 c1_i32_2359
  let v1982 : BitVec 32 := Scalar.addi c0_i32_2360 v1981
  v1982.toNat
def k0_dev111 (v1 : BitVec 32) : Nat :=
  let c0_i32_2392 : BitVec 32 := 0#32
  let c1_i32_2391 : BitVec 32 := 1#32
  let v2013 : BitVec 32 := Scalar.muli v1 c1_i32_2391
  let v2014 : BitVec 32 := Scalar.addi c0_i32_2392 v2013
  v2014.toNat
def k0_dev112 (v2 : BitVec 32) : Nat :=
  let c0_i32_2404 : BitVec 32 := 0#32
  let c1_i32_2403 : BitVec 32 := 1#32
  let v2018 : BitVec 32 := Scalar.muli v2 c1_i32_2403
  let v2019 : BitVec 32 := Scalar.addi c0_i32_2404 v2018
  v2019.toNat
def k0_dev113 (v1 : BitVec 32) : Nat :=
  let c0_i32_2437 : BitVec 32 := 0#32
  let c1_i32_2436 : BitVec 32 := 1#32
  let v2050 : BitVec 32 := Scalar.muli v1 c1_i32_2436
  let v2051 : BitVec 32 := Scalar.addi c0_i32_2437 v2050
  v2051.toNat
def k0_dev114 (v2 : BitVec 32) : Nat :=
  let c0_i32_2449 : BitVec 32 := 0#32
  let c1_i32_2448 : BitVec 32 := 1#32
  let v2055 : BitVec 32 := Scalar.muli v2 c1_i32_2448
  let v2056 : BitVec 32 := Scalar.addi c0_i32_2449 v2055
  v2056.toNat
def k0_dev115 (v2 : BitVec 32) : Nat :=
  let c0_i32_2481 : BitVec 32 := 0#32
  let c1_i32_2480 : BitVec 32 := 1#32
  let v2087 : BitVec 32 := Scalar.muli v2 c1_i32_2480
  let v2088 : BitVec 32 := Scalar.addi c0_i32_2481 v2087
  v2088.toNat
def k0_dev116 (v1 : BitVec 32) : Nat :=
  let c0_i32_2493 : BitVec 32 := 0#32
  let c1_i32_2492 : BitVec 32 := 1#32
  let v2092 : BitVec 32 := Scalar.muli v1 c1_i32_2492
  let v2093 : BitVec 32 := Scalar.addi c0_i32_2493 v2092
  v2093.toNat
def k0_dev117 (v2 : BitVec 32) : Nat :=
  let c0_i32_2526 : BitVec 32 := 0#32
  let c1_i32_2525 : BitVec 32 := 1#32
  let v2124 : BitVec 32 := Scalar.muli v2 c1_i32_2525
  let v2125 : BitVec 32 := Scalar.addi c0_i32_2526 v2124
  v2125.toNat
def k0_dev118 (v1 : BitVec 32) : Nat :=
  let c0_i32_2538 : BitVec 32 := 0#32
  let c1_i32_2537 : BitVec 32 := 1#32
  let v2129 : BitVec 32 := Scalar.muli v1 c1_i32_2537
  let v2130 : BitVec 32 := Scalar.addi c0_i32_2538 v2129
  v2130.toNat
def k0_dev119 (v1 : BitVec 32) : Nat :=
  let c0_i32_2570 : BitVec 32 := 0#32
  let c1_i32_2569 : BitVec 32 := 1#32
  let v2161 : BitVec 32 := Scalar.muli v1 c1_i32_2569
  let v2162 : BitVec 32 := Scalar.addi c0_i32_2570 v2161
  v2162.toNat
def k0_dev120 (v2 : BitVec 32) : Nat :=
  let c0_i32_2582 : BitVec 32 := 0#32
  let c1_i32_2581 : BitVec 32 := 1#32
  let v2166 : BitVec 32 := Scalar.muli v2 c1_i32_2581
  let v2167 : BitVec 32 := Scalar.addi c0_i32_2582 v2166
  v2167.toNat
def k0_dev121 (v1 : BitVec 32) : Nat :=
  let c0_i32_2615 : BitVec 32 := 0#32
  let c1_i32_2614 : BitVec 32 := 1#32
  let v2198 : BitVec 32 := Scalar.muli v1 c1_i32_2614
  let v2199 : BitVec 32 := Scalar.addi c0_i32_2615 v2198
  v2199.toNat
def k0_dev122 (v2 : BitVec 32) : Nat :=
  let c0_i32_2627 : BitVec 32 := 0#32
  let c1_i32_2626 : BitVec 32 := 1#32
  let v2203 : BitVec 32 := Scalar.muli v2 c1_i32_2626
  let v2204 : BitVec 32 := Scalar.addi c0_i32_2627 v2203
  v2204.toNat
def k0_dev123 (v2 : BitVec 32) : Nat :=
  let c0_i32_2659 : BitVec 32 := 0#32
  let c1_i32_2658 : BitVec 32 := 1#32
  let v2235 : BitVec 32 := Scalar.muli v2 c1_i32_2658
  let v2236 : BitVec 32 := Scalar.addi c0_i32_2659 v2235
  v2236.toNat
def k0_dev124 (v1 : BitVec 32) : Nat :=
  let c0_i32_2671 : BitVec 32 := 0#32
  let c1_i32_2670 : BitVec 32 := 1#32
  let v2240 : BitVec 32 := Scalar.muli v1 c1_i32_2670
  let v2241 : BitVec 32 := Scalar.addi c0_i32_2671 v2240
  v2241.toNat
def k0_dev125 (v2 : BitVec 32) : Nat :=
  let c0_i32_2704 : BitVec 32 := 0#32
  let c1_i32_2703 : BitVec 32 := 1#32
  let v2272 : BitVec 32 := Scalar.muli v2 c1_i32_2703
  let v2273 : BitVec 32 := Scalar.addi c0_i32_2704 v2272
  v2273.toNat
def k0_dev126 (v1 : BitVec 32) : Nat :=
  let c0_i32_2716 : BitVec 32 := 0#32
  let c1_i32_2715 : BitVec 32 := 1#32
  let v2277 : BitVec 32 := Scalar.muli v1 c1_i32_2715
  let v2278 : BitVec 32 := Scalar.addi c0_i32_2716 v2277
  v2278.toNat
def k0_dev127 (v1 : BitVec 32) : Nat :=
  let c0_i32_2748 : BitVec 32 := 0#32
  let c1_i32_2747 : BitVec 32 := 1#32
  let v2309 : BitVec 32 := Scalar.muli v1 c1_i32_2747
  let v2310 : BitVec 32 := Scalar.addi c0_i32_2748 v2309
  v2310.toNat
def k0_dev128 (v2 : BitVec 32) : Nat :=
  let c0_i32_2760 : BitVec 32 := 0#32
  let c1_i32_2759 : BitVec 32 := 1#32
  let v2314 : BitVec 32 := Scalar.muli v2 c1_i32_2759
  let v2315 : BitVec 32 := Scalar.addi c0_i32_2760 v2314
  v2315.toNat
def k0_dev129 (v1 : BitVec 32) : Nat :=
  let c0_i32_2793 : BitVec 32 := 0#32
  let c1_i32_2792 : BitVec 32 := 1#32
  let v2346 : BitVec 32 := Scalar.muli v1 c1_i32_2792
  let v2347 : BitVec 32 := Scalar.addi c0_i32_2793 v2346
  v2347.toNat
def k0_dev130 (v2 : BitVec 32) : Nat :=
  let c0_i32_2805 : BitVec 32 := 0#32
  let c1_i32_2804 : BitVec 32 := 1#32
  let v2351 : BitVec 32 := Scalar.muli v2 c1_i32_2804
  let v2352 : BitVec 32 := Scalar.addi c0_i32_2805 v2351
  v2352.toNat
def k0_dev131 (v2 : BitVec 32) : Nat :=
  let c0_i32_2837 : BitVec 32 := 0#32
  let c1_i32_2836 : BitVec 32 := 1#32
  let v2383 : BitVec 32 := Scalar.muli v2 c1_i32_2836
  let v2384 : BitVec 32 := Scalar.addi c0_i32_2837 v2383
  v2384.toNat
def k0_dev132 (v1 : BitVec 32) : Nat :=
  let c0_i32_2849 : BitVec 32 := 0#32
  let c1_i32_2848 : BitVec 32 := 1#32
  let v2388 : BitVec 32 := Scalar.muli v1 c1_i32_2848
  let v2389 : BitVec 32 := Scalar.addi c0_i32_2849 v2388
  v2389.toNat
def k0_dev133 (v2 : BitVec 32) : Nat :=
  let c0_i32_2882 : BitVec 32 := 0#32
  let c1_i32_2881 : BitVec 32 := 1#32
  let v2420 : BitVec 32 := Scalar.muli v2 c1_i32_2881
  let v2421 : BitVec 32 := Scalar.addi c0_i32_2882 v2420
  v2421.toNat
def k0_dev134 (v1 : BitVec 32) : Nat :=
  let c0_i32_2894 : BitVec 32 := 0#32
  let c1_i32_2893 : BitVec 32 := 1#32
  let v2425 : BitVec 32 := Scalar.muli v1 c1_i32_2893
  let v2426 : BitVec 32 := Scalar.addi c0_i32_2894 v2425
  v2426.toNat
def k0_dev135 (v1 : BitVec 32) : Nat :=
  let c0_i32_2926 : BitVec 32 := 0#32
  let c1_i32_2925 : BitVec 32 := 1#32
  let v2457 : BitVec 32 := Scalar.muli v1 c1_i32_2925
  let v2458 : BitVec 32 := Scalar.addi c0_i32_2926 v2457
  v2458.toNat
def k0_dev136 (v2 : BitVec 32) : Nat :=
  let c0_i32_2938 : BitVec 32 := 0#32
  let c1_i32_2937 : BitVec 32 := 1#32
  let v2462 : BitVec 32 := Scalar.muli v2 c1_i32_2937
  let v2463 : BitVec 32 := Scalar.addi c0_i32_2938 v2462
  v2463.toNat
def k0_dev137 (v1 : BitVec 32) : Nat :=
  let c0_i32_2971 : BitVec 32 := 0#32
  let c1_i32_2970 : BitVec 32 := 1#32
  let v2494 : BitVec 32 := Scalar.muli v1 c1_i32_2970
  let v2495 : BitVec 32 := Scalar.addi c0_i32_2971 v2494
  v2495.toNat
def k0_dev138 (v2 : BitVec 32) : Nat :=
  let c0_i32_2983 : BitVec 32 := 0#32
  let c1_i32_2982 : BitVec 32 := 1#32
  let v2499 : BitVec 32 := Scalar.muli v2 c1_i32_2982
  let v2500 : BitVec 32 := Scalar.addi c0_i32_2983 v2499
  v2500.toNat
def k0_dev139 (v2 : BitVec 32) : Nat :=
  let c0_i32_3015 : BitVec 32 := 0#32
  let c1_i32_3014 : BitVec 32 := 1#32
  let v2531 : BitVec 32 := Scalar.muli v2 c1_i32_3014
  let v2532 : BitVec 32 := Scalar.addi c0_i32_3015 v2531
  v2532.toNat
def k0_dev140 (v1 : BitVec 32) : Nat :=
  let c0_i32_3027 : BitVec 32 := 0#32
  let c1_i32_3026 : BitVec 32 := 1#32
  let v2536 : BitVec 32 := Scalar.muli v1 c1_i32_3026
  let v2537 : BitVec 32 := Scalar.addi c0_i32_3027 v2536
  v2537.toNat
def k0_dev141 (v2 : BitVec 32) : Nat :=
  let c0_i32_3060 : BitVec 32 := 0#32
  let c1_i32_3059 : BitVec 32 := 1#32
  let v2568 : BitVec 32 := Scalar.muli v2 c1_i32_3059
  let v2569 : BitVec 32 := Scalar.addi c0_i32_3060 v2568
  v2569.toNat
def k0_dev142 (v1 : BitVec 32) : Nat :=
  let c0_i32_3072 : BitVec 32 := 0#32
  let c1_i32_3071 : BitVec 32 := 1#32
  let v2573 : BitVec 32 := Scalar.muli v1 c1_i32_3071
  let v2574 : BitVec 32 := Scalar.addi c0_i32_3072 v2573
  v2574.toNat
def k0_dev143 (v1 : BitVec 32) : Nat :=
  let c0_i32_3104 : BitVec 32 := 0#32
  let c1_i32_3103 : BitVec 32 := 1#32
  let v2605 : BitVec 32 := Scalar.muli v1 c1_i32_3103
  let v2606 : BitVec 32 := Scalar.addi c0_i32_3104 v2605
  v2606.toNat
def k0_dev144 (v2 : BitVec 32) : Nat :=
  let c0_i32_3116 : BitVec 32 := 0#32
  let c1_i32_3115 : BitVec 32 := 1#32
  let v2610 : BitVec 32 := Scalar.muli v2 c1_i32_3115
  let v2611 : BitVec 32 := Scalar.addi c0_i32_3116 v2610
  v2611.toNat
def k0_dev145 (v1 : BitVec 32) : Nat :=
  let c0_i32_3149 : BitVec 32 := 0#32
  let c1_i32_3148 : BitVec 32 := 1#32
  let v2642 : BitVec 32 := Scalar.muli v1 c1_i32_3148
  let v2643 : BitVec 32 := Scalar.addi c0_i32_3149 v2642
  v2643.toNat
def k0_dev146 (v2 : BitVec 32) : Nat :=
  let c0_i32_3161 : BitVec 32 := 0#32
  let c1_i32_3160 : BitVec 32 := 1#32
  let v2647 : BitVec 32 := Scalar.muli v2 c1_i32_3160
  let v2648 : BitVec 32 := Scalar.addi c0_i32_3161 v2647
  v2648.toNat
def k0_dev147 (v2 : BitVec 32) : Nat :=
  let c0_i32_3193 : BitVec 32 := 0#32
  let c1_i32_3192 : BitVec 32 := 1#32
  let v2679 : BitVec 32 := Scalar.muli v2 c1_i32_3192
  let v2680 : BitVec 32 := Scalar.addi c0_i32_3193 v2679
  v2680.toNat
def k0_dev148 (v1 : BitVec 32) : Nat :=
  let c0_i32_3205 : BitVec 32 := 0#32
  let c1_i32_3204 : BitVec 32 := 1#32
  let v2684 : BitVec 32 := Scalar.muli v1 c1_i32_3204
  let v2685 : BitVec 32 := Scalar.addi c0_i32_3205 v2684
  v2685.toNat
def k0_dev149 (v2 : BitVec 32) : Nat :=
  let c0_i32_3238 : BitVec 32 := 0#32
  let c1_i32_3237 : BitVec 32 := 1#32
  let v2716 : BitVec 32 := Scalar.muli v2 c1_i32_3237
  let v2717 : BitVec 32 := Scalar.addi c0_i32_3238 v2716
  v2717.toNat
def k0_dev150 (v1 : BitVec 32) : Nat :=
  let c0_i32_3250 : BitVec 32 := 0#32
  let c1_i32_3249 : BitVec 32 := 1#32
  let v2721 : BitVec 32 := Scalar.muli v1 c1_i32_3249
  let v2722 : BitVec 32 := Scalar.addi c0_i32_3250 v2721
  v2722.toNat
def k0_dev151 (v1 : BitVec 32) : Nat :=
  let c0_i32_3282 : BitVec 32 := 0#32
  let c1_i32_3281 : BitVec 32 := 1#32
  let v2753 : BitVec 32 := Scalar.muli v1 c1_i32_3281
  let v2754 : BitVec 32 := Scalar.addi c0_i32_3282 v2753
  v2754.toNat
def k0_dev152 (v2 : BitVec 32) : Nat :=
  let c0_i32_3294 : BitVec 32 := 0#32
  let c1_i32_3293 : BitVec 32 := 1#32
  let v2758 : BitVec 32 := Scalar.muli v2 c1_i32_3293
  let v2759 : BitVec 32 := Scalar.addi c0_i32_3294 v2758
  v2759.toNat
def k0_dev153 (v1 : BitVec 32) : Nat :=
  let c0_i32_3327 : BitVec 32 := 0#32
  let c1_i32_3326 : BitVec 32 := 1#32
  let v2790 : BitVec 32 := Scalar.muli v1 c1_i32_3326
  let v2791 : BitVec 32 := Scalar.addi c0_i32_3327 v2790
  v2791.toNat
def k0_dev154 (v2 : BitVec 32) : Nat :=
  let c0_i32_3339 : BitVec 32 := 0#32
  let c1_i32_3338 : BitVec 32 := 1#32
  let v2795 : BitVec 32 := Scalar.muli v2 c1_i32_3338
  let v2796 : BitVec 32 := Scalar.addi c0_i32_3339 v2795
  v2796.toNat
def k0_dev155 (v2 : BitVec 32) : Nat :=
  let c0_i32_3371 : BitVec 32 := 0#32
  let c1_i32_3370 : BitVec 32 := 1#32
  let v2827 : BitVec 32 := Scalar.muli v2 c1_i32_3370
  let v2828 : BitVec 32 := Scalar.addi c0_i32_3371 v2827
  v2828.toNat
def k0_dev156 (v1 : BitVec 32) : Nat :=
  let c0_i32_3383 : BitVec 32 := 0#32
  let c1_i32_3382 : BitVec 32 := 1#32
  let v2832 : BitVec 32 := Scalar.muli v1 c1_i32_3382
  let v2833 : BitVec 32 := Scalar.addi c0_i32_3383 v2832
  v2833.toNat
def k0_dev157 (v2 : BitVec 32) : Nat :=
  let c0_i32_3416 : BitVec 32 := 0#32
  let c1_i32_3415 : BitVec 32 := 1#32
  let v2864 : BitVec 32 := Scalar.muli v2 c1_i32_3415
  let v2865 : BitVec 32 := Scalar.addi c0_i32_3416 v2864
  v2865.toNat
def k0_dev158 (v1 : BitVec 32) : Nat :=
  let c0_i32_3428 : BitVec 32 := 0#32
  let c1_i32_3427 : BitVec 32 := 1#32
  let v2869 : BitVec 32 := Scalar.muli v1 c1_i32_3427
  let v2870 : BitVec 32 := Scalar.addi c0_i32_3428 v2869
  v2870.toNat
def k0_dev159 (v1 : BitVec 32) : Nat :=
  let c0_i32_3460 : BitVec 32 := 0#32
  let c1_i32_3459 : BitVec 32 := 1#32
  let v2901 : BitVec 32 := Scalar.muli v1 c1_i32_3459
  let v2902 : BitVec 32 := Scalar.addi c0_i32_3460 v2901
  v2902.toNat
def k0_dev160 (v2 : BitVec 32) : Nat :=
  let c0_i32_3472 : BitVec 32 := 0#32
  let c1_i32_3471 : BitVec 32 := 1#32
  let v2906 : BitVec 32 := Scalar.muli v2 c1_i32_3471
  let v2907 : BitVec 32 := Scalar.addi c0_i32_3472 v2906
  v2907.toNat
def k0_dev161 (v1 : BitVec 32) : Nat :=
  let c0_i32_3505 : BitVec 32 := 0#32
  let c1_i32_3504 : BitVec 32 := 1#32
  let v2938 : BitVec 32 := Scalar.muli v1 c1_i32_3504
  let v2939 : BitVec 32 := Scalar.addi c0_i32_3505 v2938
  v2939.toNat
def k0_dev162 (v2 : BitVec 32) : Nat :=
  let c0_i32_3517 : BitVec 32 := 0#32
  let c1_i32_3516 : BitVec 32 := 1#32
  let v2943 : BitVec 32 := Scalar.muli v2 c1_i32_3516
  let v2944 : BitVec 32 := Scalar.addi c0_i32_3517 v2943
  v2944.toNat
def k0_dev163 (v2 : BitVec 32) : Nat :=
  let c0_i32_3549 : BitVec 32 := 0#32
  let c1_i32_3548 : BitVec 32 := 1#32
  let v2975 : BitVec 32 := Scalar.muli v2 c1_i32_3548
  let v2976 : BitVec 32 := Scalar.addi c0_i32_3549 v2975
  v2976.toNat
def k0_dev164 (v1 : BitVec 32) : Nat :=
  let c0_i32_3561 : BitVec 32 := 0#32
  let c1_i32_3560 : BitVec 32 := 1#32
  let v2980 : BitVec 32 := Scalar.muli v1 c1_i32_3560
  let v2981 : BitVec 32 := Scalar.addi c0_i32_3561 v2980
  v2981.toNat
def k0_dev165 (v2 : BitVec 32) : Nat :=
  let c0_i32_3594 : BitVec 32 := 0#32
  let c1_i32_3593 : BitVec 32 := 1#32
  let v3012 : BitVec 32 := Scalar.muli v2 c1_i32_3593
  let v3013 : BitVec 32 := Scalar.addi c0_i32_3594 v3012
  v3013.toNat
def k0_dev166 (v1 : BitVec 32) : Nat :=
  let c0_i32_3606 : BitVec 32 := 0#32
  let c1_i32_3605 : BitVec 32 := 1#32
  let v3017 : BitVec 32 := Scalar.muli v1 c1_i32_3605
  let v3018 : BitVec 32 := Scalar.addi c0_i32_3606 v3017
  v3018.toNat
def k0_dev167 (v1 : BitVec 32) : Nat :=
  let c0_i32_3638 : BitVec 32 := 0#32
  let c1_i32_3637 : BitVec 32 := 1#32
  let v3049 : BitVec 32 := Scalar.muli v1 c1_i32_3637
  let v3050 : BitVec 32 := Scalar.addi c0_i32_3638 v3049
  v3050.toNat
def k0_dev168 (v2 : BitVec 32) : Nat :=
  let c0_i32_3650 : BitVec 32 := 0#32
  let c1_i32_3649 : BitVec 32 := 1#32
  let v3054 : BitVec 32 := Scalar.muli v2 c1_i32_3649
  let v3055 : BitVec 32 := Scalar.addi c0_i32_3650 v3054
  v3055.toNat
def k0_dev169 (v1 : BitVec 32) : Nat :=
  let c0_i32_3683 : BitVec 32 := 0#32
  let c1_i32_3682 : BitVec 32 := 1#32
  let v3086 : BitVec 32 := Scalar.muli v1 c1_i32_3682
  let v3087 : BitVec 32 := Scalar.addi c0_i32_3683 v3086
  v3087.toNat
def k0_dev170 (v2 : BitVec 32) : Nat :=
  let c0_i32_3695 : BitVec 32 := 0#32
  let c1_i32_3694 : BitVec 32 := 1#32
  let v3091 : BitVec 32 := Scalar.muli v2 c1_i32_3694
  let v3092 : BitVec 32 := Scalar.addi c0_i32_3695 v3091
  v3092.toNat
def k0_dev171 (v2 : BitVec 32) : Nat :=
  let c0_i32_3727 : BitVec 32 := 0#32
  let c1_i32_3726 : BitVec 32 := 1#32
  let v3123 : BitVec 32 := Scalar.muli v2 c1_i32_3726
  let v3124 : BitVec 32 := Scalar.addi c0_i32_3727 v3123
  v3124.toNat
def k0_dev172 (v1 : BitVec 32) : Nat :=
  let c0_i32_3739 : BitVec 32 := 0#32
  let c1_i32_3738 : BitVec 32 := 1#32
  let v3128 : BitVec 32 := Scalar.muli v1 c1_i32_3738
  let v3129 : BitVec 32 := Scalar.addi c0_i32_3739 v3128
  v3129.toNat
def k0_dev173 (v2 : BitVec 32) : Nat :=
  let c0_i32_3772 : BitVec 32 := 0#32
  let c1_i32_3771 : BitVec 32 := 1#32
  let v3160 : BitVec 32 := Scalar.muli v2 c1_i32_3771
  let v3161 : BitVec 32 := Scalar.addi c0_i32_3772 v3160
  v3161.toNat
def k0_dev174 (v1 : BitVec 32) : Nat :=
  let c0_i32_3784 : BitVec 32 := 0#32
  let c1_i32_3783 : BitVec 32 := 1#32
  let v3165 : BitVec 32 := Scalar.muli v1 c1_i32_3783
  let v3166 : BitVec 32 := Scalar.addi c0_i32_3784 v3165
  v3166.toNat
def k0_dev175 (v1 : BitVec 32) : Nat :=
  let c0_i32_3816 : BitVec 32 := 0#32
  let c1_i32_3815 : BitVec 32 := 1#32
  let v3197 : BitVec 32 := Scalar.muli v1 c1_i32_3815
  let v3198 : BitVec 32 := Scalar.addi c0_i32_3816 v3197
  v3198.toNat
def k0_dev176 (v2 : BitVec 32) : Nat :=
  let c0_i32_3828 : BitVec 32 := 0#32
  let c1_i32_3827 : BitVec 32 := 1#32
  let v3202 : BitVec 32 := Scalar.muli v2 c1_i32_3827
  let v3203 : BitVec 32 := Scalar.addi c0_i32_3828 v3202
  v3203.toNat
def k0_dev177 (v1 : BitVec 32) : Nat :=
  let c0_i32_3861 : BitVec 32 := 0#32
  let c1_i32_3860 : BitVec 32 := 1#32
  let v3234 : BitVec 32 := Scalar.muli v1 c1_i32_3860
  let v3235 : BitVec 32 := Scalar.addi c0_i32_3861 v3234
  v3235.toNat
def k0_dev178 (v2 : BitVec 32) : Nat :=
  let c0_i32_3873 : BitVec 32 := 0#32
  let c1_i32_3872 : BitVec 32 := 1#32
  let v3239 : BitVec 32 := Scalar.muli v2 c1_i32_3872
  let v3240 : BitVec 32 := Scalar.addi c0_i32_3873 v3239
  v3240.toNat
def k0_dev179 (v2 : BitVec 32) : Nat :=
  let c0_i32_3905 : BitVec 32 := 0#32
  let c1_i32_3904 : BitVec 32 := 1#32
  let v3271 : BitVec 32 := Scalar.muli v2 c1_i32_3904
  let v3272 : BitVec 32 := Scalar.addi c0_i32_3905 v3271
  v3272.toNat
def k0_dev180 (v1 : BitVec 32) : Nat :=
  let c0_i32_3917 : BitVec 32 := 0#32
  let c1_i32_3916 : BitVec 32 := 1#32
  let v3276 : BitVec 32 := Scalar.muli v1 c1_i32_3916
  let v3277 : BitVec 32 := Scalar.addi c0_i32_3917 v3276
  v3277.toNat
def k0_dev181 (v2 : BitVec 32) : Nat :=
  let c0_i32_3950 : BitVec 32 := 0#32
  let c1_i32_3949 : BitVec 32 := 1#32
  let v3308 : BitVec 32 := Scalar.muli v2 c1_i32_3949
  let v3309 : BitVec 32 := Scalar.addi c0_i32_3950 v3308
  v3309.toNat
def k0_dev182 (v1 : BitVec 32) : Nat :=
  let c0_i32_3962 : BitVec 32 := 0#32
  let c1_i32_3961 : BitVec 32 := 1#32
  let v3313 : BitVec 32 := Scalar.muli v1 c1_i32_3961
  let v3314 : BitVec 32 := Scalar.addi c0_i32_3962 v3313
  v3314.toNat
def k0_dev183 (v1 : BitVec 32) : Nat :=
  let c0_i32_3994 : BitVec 32 := 0#32
  let c1_i32_3993 : BitVec 32 := 1#32
  let v3345 : BitVec 32 := Scalar.muli v1 c1_i32_3993
  let v3346 : BitVec 32 := Scalar.addi c0_i32_3994 v3345
  v3346.toNat
def k0_dev184 (v2 : BitVec 32) : Nat :=
  let c0_i32_4006 : BitVec 32 := 0#32
  let c1_i32_4005 : BitVec 32 := 1#32
  let v3350 : BitVec 32 := Scalar.muli v2 c1_i32_4005
  let v3351 : BitVec 32 := Scalar.addi c0_i32_4006 v3350
  v3351.toNat
def k0_dev185 (v1 : BitVec 32) : Nat :=
  let c0_i32_4039 : BitVec 32 := 0#32
  let c1_i32_4038 : BitVec 32 := 1#32
  let v3382 : BitVec 32 := Scalar.muli v1 c1_i32_4038
  let v3383 : BitVec 32 := Scalar.addi c0_i32_4039 v3382
  v3383.toNat
def k0_dev186 (v2 : BitVec 32) : Nat :=
  let c0_i32_4051 : BitVec 32 := 0#32
  let c1_i32_4050 : BitVec 32 := 1#32
  let v3387 : BitVec 32 := Scalar.muli v2 c1_i32_4050
  let v3388 : BitVec 32 := Scalar.addi c0_i32_4051 v3387
  v3388.toNat
def k0_dev187 (v2 : BitVec 32) : Nat :=
  let c0_i32_4083 : BitVec 32 := 0#32
  let c1_i32_4082 : BitVec 32 := 1#32
  let v3419 : BitVec 32 := Scalar.muli v2 c1_i32_4082
  let v3420 : BitVec 32 := Scalar.addi c0_i32_4083 v3419
  v3420.toNat
def k0_dev188 (v1 : BitVec 32) : Nat :=
  let c0_i32_4095 : BitVec 32 := 0#32
  let c1_i32_4094 : BitVec 32 := 1#32
  let v3424 : BitVec 32 := Scalar.muli v1 c1_i32_4094
  let v3425 : BitVec 32 := Scalar.addi c0_i32_4095 v3424
  v3425.toNat
def k0_dev189 (v2 : BitVec 32) : Nat :=
  let c0_i32_4128 : BitVec 32 := 0#32
  let c1_i32_4127 : BitVec 32 := 1#32
  let v3456 : BitVec 32 := Scalar.muli v2 c1_i32_4127
  let v3457 : BitVec 32 := Scalar.addi c0_i32_4128 v3456
  v3457.toNat
def k0_dev190 (v1 : BitVec 32) : Nat :=
  let c0_i32_4140 : BitVec 32 := 0#32
  let c1_i32_4139 : BitVec 32 := 1#32
  let v3461 : BitVec 32 := Scalar.muli v1 c1_i32_4139
  let v3462 : BitVec 32 := Scalar.addi c0_i32_4140 v3461
  v3462.toNat
def k0_dev191 (v1 : BitVec 32) : Nat :=
  let c0_i32_4172 : BitVec 32 := 0#32
  let c1_i32_4171 : BitVec 32 := 1#32
  let v3493 : BitVec 32 := Scalar.muli v1 c1_i32_4171
  let v3494 : BitVec 32 := Scalar.addi c0_i32_4172 v3493
  v3494.toNat
def k0_dev192 (v2 : BitVec 32) : Nat :=
  let c0_i32_4184 : BitVec 32 := 0#32
  let c1_i32_4183 : BitVec 32 := 1#32
  let v3498 : BitVec 32 := Scalar.muli v2 c1_i32_4183
  let v3499 : BitVec 32 := Scalar.addi c0_i32_4184 v3498
  v3499.toNat
def k0_dev193 (v1 : BitVec 32) : Nat :=
  let c0_i32_4217 : BitVec 32 := 0#32
  let c1_i32_4216 : BitVec 32 := 1#32
  let v3530 : BitVec 32 := Scalar.muli v1 c1_i32_4216
  let v3531 : BitVec 32 := Scalar.addi c0_i32_4217 v3530
  v3531.toNat
def k0_dev194 (v2 : BitVec 32) : Nat :=
  let c0_i32_4229 : BitVec 32 := 0#32
  let c1_i32_4228 : BitVec 32 := 1#32
  let v3535 : BitVec 32 := Scalar.muli v2 c1_i32_4228
  let v3536 : BitVec 32 := Scalar.addi c0_i32_4229 v3535
  v3536.toNat
def k0_dev195 (v2 : BitVec 32) : Nat :=
  let c0_i32_4261 : BitVec 32 := 0#32
  let c1_i32_4260 : BitVec 32 := 1#32
  let v3567 : BitVec 32 := Scalar.muli v2 c1_i32_4260
  let v3568 : BitVec 32 := Scalar.addi c0_i32_4261 v3567
  v3568.toNat
def k0_dev196 (v1 : BitVec 32) : Nat :=
  let c0_i32_4273 : BitVec 32 := 0#32
  let c1_i32_4272 : BitVec 32 := 1#32
  let v3572 : BitVec 32 := Scalar.muli v1 c1_i32_4272
  let v3573 : BitVec 32 := Scalar.addi c0_i32_4273 v3572
  v3573.toNat
def k0_dev197 (v2 : BitVec 32) : Nat :=
  let c0_i32_4306 : BitVec 32 := 0#32
  let c1_i32_4305 : BitVec 32 := 1#32
  let v3604 : BitVec 32 := Scalar.muli v2 c1_i32_4305
  let v3605 : BitVec 32 := Scalar.addi c0_i32_4306 v3604
  v3605.toNat
def k0_dev198 (v1 : BitVec 32) : Nat :=
  let c0_i32_4318 : BitVec 32 := 0#32
  let c1_i32_4317 : BitVec 32 := 1#32
  let v3609 : BitVec 32 := Scalar.muli v1 c1_i32_4317
  let v3610 : BitVec 32 := Scalar.addi c0_i32_4318 v3609
  v3610.toNat
def k0_dev199 (v1 : BitVec 32) : Nat :=
  let c0_i32_4350 : BitVec 32 := 0#32
  let c1_i32_4349 : BitVec 32 := 1#32
  let v3641 : BitVec 32 := Scalar.muli v1 c1_i32_4349
  let v3642 : BitVec 32 := Scalar.addi c0_i32_4350 v3641
  v3642.toNat
def k0_dev200 (v2 : BitVec 32) : Nat :=
  let c0_i32_4362 : BitVec 32 := 0#32
  let c1_i32_4361 : BitVec 32 := 1#32
  let v3646 : BitVec 32 := Scalar.muli v2 c1_i32_4361
  let v3647 : BitVec 32 := Scalar.addi c0_i32_4362 v3646
  v3647.toNat
def k0_dev201 (v1 : BitVec 32) : Nat :=
  let c0_i32_4395 : BitVec 32 := 0#32
  let c1_i32_4394 : BitVec 32 := 1#32
  let v3678 : BitVec 32 := Scalar.muli v1 c1_i32_4394
  let v3679 : BitVec 32 := Scalar.addi c0_i32_4395 v3678
  v3679.toNat
def k0_dev202 (v2 : BitVec 32) : Nat :=
  let c0_i32_4407 : BitVec 32 := 0#32
  let c1_i32_4406 : BitVec 32 := 1#32
  let v3683 : BitVec 32 := Scalar.muli v2 c1_i32_4406
  let v3684 : BitVec 32 := Scalar.addi c0_i32_4407 v3683
  v3684.toNat
def k0_dev203 (v2 : BitVec 32) : Nat :=
  let c0_i32_4439 : BitVec 32 := 0#32
  let c1_i32_4438 : BitVec 32 := 1#32
  let v3715 : BitVec 32 := Scalar.muli v2 c1_i32_4438
  let v3716 : BitVec 32 := Scalar.addi c0_i32_4439 v3715
  v3716.toNat
def k0_dev204 (v1 : BitVec 32) : Nat :=
  let c0_i32_4451 : BitVec 32 := 0#32
  let c1_i32_4450 : BitVec 32 := 1#32
  let v3720 : BitVec 32 := Scalar.muli v1 c1_i32_4450
  let v3721 : BitVec 32 := Scalar.addi c0_i32_4451 v3720
  v3721.toNat
def k0_dev205 (v2 : BitVec 32) : Nat :=
  let c0_i32_4484 : BitVec 32 := 0#32
  let c1_i32_4483 : BitVec 32 := 1#32
  let v3752 : BitVec 32 := Scalar.muli v2 c1_i32_4483
  let v3753 : BitVec 32 := Scalar.addi c0_i32_4484 v3752
  v3753.toNat
def k0_dev206 (v1 : BitVec 32) : Nat :=
  let c0_i32_4496 : BitVec 32 := 0#32
  let c1_i32_4495 : BitVec 32 := 1#32
  let v3757 : BitVec 32 := Scalar.muli v1 c1_i32_4495
  let v3758 : BitVec 32 := Scalar.addi c0_i32_4496 v3757
  v3758.toNat
def k0_dev207 (v1 : BitVec 32) : Nat :=
  let c0_i32_4528 : BitVec 32 := 0#32
  let c1_i32_4527 : BitVec 32 := 1#32
  let v3789 : BitVec 32 := Scalar.muli v1 c1_i32_4527
  let v3790 : BitVec 32 := Scalar.addi c0_i32_4528 v3789
  v3790.toNat
def k0_dev208 (v2 : BitVec 32) : Nat :=
  let c0_i32_4540 : BitVec 32 := 0#32
  let c1_i32_4539 : BitVec 32 := 1#32
  let v3794 : BitVec 32 := Scalar.muli v2 c1_i32_4539
  let v3795 : BitVec 32 := Scalar.addi c0_i32_4540 v3794
  v3795.toNat
def k0_dev209 (v1 : BitVec 32) : Nat :=
  let c0_i32_4573 : BitVec 32 := 0#32
  let c1_i32_4572 : BitVec 32 := 1#32
  let v3826 : BitVec 32 := Scalar.muli v1 c1_i32_4572
  let v3827 : BitVec 32 := Scalar.addi c0_i32_4573 v3826
  v3827.toNat
def k0_dev210 (v2 : BitVec 32) : Nat :=
  let c0_i32_4585 : BitVec 32 := 0#32
  let c1_i32_4584 : BitVec 32 := 1#32
  let v3831 : BitVec 32 := Scalar.muli v2 c1_i32_4584
  let v3832 : BitVec 32 := Scalar.addi c0_i32_4585 v3831
  v3832.toNat
def k0_dev211 (v2 : BitVec 32) : Nat :=
  let c0_i32_4617 : BitVec 32 := 0#32
  let c1_i32_4616 : BitVec 32 := 1#32
  let v3863 : BitVec 32 := Scalar.muli v2 c1_i32_4616
  let v3864 : BitVec 32 := Scalar.addi c0_i32_4617 v3863
  v3864.toNat
def k0_dev212 (v1 : BitVec 32) : Nat :=
  let c0_i32_4629 : BitVec 32 := 0#32
  let c1_i32_4628 : BitVec 32 := 1#32
  let v3868 : BitVec 32 := Scalar.muli v1 c1_i32_4628
  let v3869 : BitVec 32 := Scalar.addi c0_i32_4629 v3868
  v3869.toNat
def k0_dev213 (v2 : BitVec 32) : Nat :=
  let c0_i32_4662 : BitVec 32 := 0#32
  let c1_i32_4661 : BitVec 32 := 1#32
  let v3900 : BitVec 32 := Scalar.muli v2 c1_i32_4661
  let v3901 : BitVec 32 := Scalar.addi c0_i32_4662 v3900
  v3901.toNat
def k0_dev214 (v1 : BitVec 32) : Nat :=
  let c0_i32_4674 : BitVec 32 := 0#32
  let c1_i32_4673 : BitVec 32 := 1#32
  let v3905 : BitVec 32 := Scalar.muli v1 c1_i32_4673
  let v3906 : BitVec 32 := Scalar.addi c0_i32_4674 v3905
  v3906.toNat
def k0_dev215 (v1 : BitVec 32) : Nat :=
  let c0_i32_4706 : BitVec 32 := 0#32
  let c1_i32_4705 : BitVec 32 := 1#32
  let v3937 : BitVec 32 := Scalar.muli v1 c1_i32_4705
  let v3938 : BitVec 32 := Scalar.addi c0_i32_4706 v3937
  v3938.toNat
def k0_dev216 (v2 : BitVec 32) : Nat :=
  let c0_i32_4718 : BitVec 32 := 0#32
  let c1_i32_4717 : BitVec 32 := 1#32
  let v3942 : BitVec 32 := Scalar.muli v2 c1_i32_4717
  let v3943 : BitVec 32 := Scalar.addi c0_i32_4718 v3942
  v3943.toNat
def k0_dev217 (v1 : BitVec 32) : Nat :=
  let c0_i32_4751 : BitVec 32 := 0#32
  let c1_i32_4750 : BitVec 32 := 1#32
  let v3974 : BitVec 32 := Scalar.muli v1 c1_i32_4750
  let v3975 : BitVec 32 := Scalar.addi c0_i32_4751 v3974
  v3975.toNat
def k0_dev218 (v2 : BitVec 32) : Nat :=
  let c0_i32_4763 : BitVec 32 := 0#32
  let c1_i32_4762 : BitVec 32 := 1#32
  let v3979 : BitVec 32 := Scalar.muli v2 c1_i32_4762
  let v3980 : BitVec 32 := Scalar.addi c0_i32_4763 v3979
  v3980.toNat
def k0_dev219 (v2 : BitVec 32) : Nat :=
  let c0_i32_4795 : BitVec 32 := 0#32
  let c1_i32_4794 : BitVec 32 := 1#32
  let v4011 : BitVec 32 := Scalar.muli v2 c1_i32_4794
  let v4012 : BitVec 32 := Scalar.addi c0_i32_4795 v4011
  v4012.toNat
def k0_dev220 (v1 : BitVec 32) : Nat :=
  let c0_i32_4807 : BitVec 32 := 0#32
  let c1_i32_4806 : BitVec 32 := 1#32
  let v4016 : BitVec 32 := Scalar.muli v1 c1_i32_4806
  let v4017 : BitVec 32 := Scalar.addi c0_i32_4807 v4016
  v4017.toNat
def k0_dev221 (v2 : BitVec 32) : Nat :=
  let c0_i32_4840 : BitVec 32 := 0#32
  let c1_i32_4839 : BitVec 32 := 1#32
  let v4048 : BitVec 32 := Scalar.muli v2 c1_i32_4839
  let v4049 : BitVec 32 := Scalar.addi c0_i32_4840 v4048
  v4049.toNat
def k0_dev222 (v1 : BitVec 32) : Nat :=
  let c0_i32_4852 : BitVec 32 := 0#32
  let c1_i32_4851 : BitVec 32 := 1#32
  let v4053 : BitVec 32 := Scalar.muli v1 c1_i32_4851
  let v4054 : BitVec 32 := Scalar.addi c0_i32_4852 v4053
  v4054.toNat
def k0_dev223 (v1 : BitVec 32) : Nat :=
  let c0_i32_4884 : BitVec 32 := 0#32
  let c1_i32_4883 : BitVec 32 := 1#32
  let v4085 : BitVec 32 := Scalar.muli v1 c1_i32_4883
  let v4086 : BitVec 32 := Scalar.addi c0_i32_4884 v4085
  v4086.toNat
def k0_dev224 (v2 : BitVec 32) : Nat :=
  let c0_i32_4896 : BitVec 32 := 0#32
  let c1_i32_4895 : BitVec 32 := 1#32
  let v4090 : BitVec 32 := Scalar.muli v2 c1_i32_4895
  let v4091 : BitVec 32 := Scalar.addi c0_i32_4896 v4090
  v4091.toNat
def k0_dev225 (v1 : BitVec 32) : Nat :=
  let c0_i32_4929 : BitVec 32 := 0#32
  let c1_i32_4928 : BitVec 32 := 1#32
  let v4122 : BitVec 32 := Scalar.muli v1 c1_i32_4928
  let v4123 : BitVec 32 := Scalar.addi c0_i32_4929 v4122
  v4123.toNat
def k0_dev226 (v2 : BitVec 32) : Nat :=
  let c0_i32_4941 : BitVec 32 := 0#32
  let c1_i32_4940 : BitVec 32 := 1#32
  let v4127 : BitVec 32 := Scalar.muli v2 c1_i32_4940
  let v4128 : BitVec 32 := Scalar.addi c0_i32_4941 v4127
  v4128.toNat
def k0_dev227 (v2 : BitVec 32) : Nat :=
  let c0_i32_4973 : BitVec 32 := 0#32
  let c1_i32_4972 : BitVec 32 := 1#32
  let v4159 : BitVec 32 := Scalar.muli v2 c1_i32_4972
  let v4160 : BitVec 32 := Scalar.addi c0_i32_4973 v4159
  v4160.toNat
def k0_dev228 (v1 : BitVec 32) : Nat :=
  let c0_i32_4985 : BitVec 32 := 0#32
  let c1_i32_4984 : BitVec 32 := 1#32
  let v4164 : BitVec 32 := Scalar.muli v1 c1_i32_4984
  let v4165 : BitVec 32 := Scalar.addi c0_i32_4985 v4164
  v4165.toNat
def k0_dev229 (v2 : BitVec 32) : Nat :=
  let c0_i32_5018 : BitVec 32 := 0#32
  let c1_i32_5017 : BitVec 32 := 1#32
  let v4196 : BitVec 32 := Scalar.muli v2 c1_i32_5017
  let v4197 : BitVec 32 := Scalar.addi c0_i32_5018 v4196
  v4197.toNat
def k0_dev230 (v1 : BitVec 32) : Nat :=
  let c0_i32_5030 : BitVec 32 := 0#32
  let c1_i32_5029 : BitVec 32 := 1#32
  let v4201 : BitVec 32 := Scalar.muli v1 c1_i32_5029
  let v4202 : BitVec 32 := Scalar.addi c0_i32_5030 v4201
  v4202.toNat
def k0_dev231 (v1 : BitVec 32) : Nat :=
  let c0_i32_5062 : BitVec 32 := 0#32
  let c1_i32_5061 : BitVec 32 := 1#32
  let v4233 : BitVec 32 := Scalar.muli v1 c1_i32_5061
  let v4234 : BitVec 32 := Scalar.addi c0_i32_5062 v4233
  v4234.toNat
def k0_dev232 (v2 : BitVec 32) : Nat :=
  let c0_i32_5074 : BitVec 32 := 0#32
  let c1_i32_5073 : BitVec 32 := 1#32
  let v4238 : BitVec 32 := Scalar.muli v2 c1_i32_5073
  let v4239 : BitVec 32 := Scalar.addi c0_i32_5074 v4238
  v4239.toNat
def k0_dev233 (v1 : BitVec 32) : Nat :=
  let c0_i32_5107 : BitVec 32 := 0#32
  let c1_i32_5106 : BitVec 32 := 1#32
  let v4270 : BitVec 32 := Scalar.muli v1 c1_i32_5106
  let v4271 : BitVec 32 := Scalar.addi c0_i32_5107 v4270
  v4271.toNat
def k0_dev234 (v2 : BitVec 32) : Nat :=
  let c0_i32_5119 : BitVec 32 := 0#32
  let c1_i32_5118 : BitVec 32 := 1#32
  let v4275 : BitVec 32 := Scalar.muli v2 c1_i32_5118
  let v4276 : BitVec 32 := Scalar.addi c0_i32_5119 v4275
  v4276.toNat
def k0_dev235 (v2 : BitVec 32) : Nat :=
  let c0_i32_5151 : BitVec 32 := 0#32
  let c1_i32_5150 : BitVec 32 := 1#32
  let v4307 : BitVec 32 := Scalar.muli v2 c1_i32_5150
  let v4308 : BitVec 32 := Scalar.addi c0_i32_5151 v4307
  v4308.toNat
def k0_dev236 (v1 : BitVec 32) : Nat :=
  let c0_i32_5163 : BitVec 32 := 0#32
  let c1_i32_5162 : BitVec 32 := 1#32
  let v4312 : BitVec 32 := Scalar.muli v1 c1_i32_5162
  let v4313 : BitVec 32 := Scalar.addi c0_i32_5163 v4312
  v4313.toNat
def k0_dev237 (v2 : BitVec 32) : Nat :=
  let c0_i32_5196 : BitVec 32 := 0#32
  let c1_i32_5195 : BitVec 32 := 1#32
  let v4344 : BitVec 32 := Scalar.muli v2 c1_i32_5195
  let v4345 : BitVec 32 := Scalar.addi c0_i32_5196 v4344
  v4345.toNat
def k0_dev238 (v1 : BitVec 32) : Nat :=
  let c0_i32_5208 : BitVec 32 := 0#32
  let c1_i32_5207 : BitVec 32 := 1#32
  let v4349 : BitVec 32 := Scalar.muli v1 c1_i32_5207
  let v4350 : BitVec 32 := Scalar.addi c0_i32_5208 v4349
  v4350.toNat
def k0_dev239 (v1 : BitVec 32) : Nat :=
  let c0_i32_5240 : BitVec 32 := 0#32
  let c1_i32_5239 : BitVec 32 := 1#32
  let v4381 : BitVec 32 := Scalar.muli v1 c1_i32_5239
  let v4382 : BitVec 32 := Scalar.addi c0_i32_5240 v4381
  v4382.toNat
def k0_dev240 (v2 : BitVec 32) : Nat :=
  let c0_i32_5252 : BitVec 32 := 0#32
  let c1_i32_5251 : BitVec 32 := 1#32
  let v4386 : BitVec 32 := Scalar.muli v2 c1_i32_5251
  let v4387 : BitVec 32 := Scalar.addi c0_i32_5252 v4386
  v4387.toNat
def k0_dev241 (v1 : BitVec 32) : Nat :=
  let c0_i32_5285 : BitVec 32 := 0#32
  let c1_i32_5284 : BitVec 32 := 1#32
  let v4418 : BitVec 32 := Scalar.muli v1 c1_i32_5284
  let v4419 : BitVec 32 := Scalar.addi c0_i32_5285 v4418
  v4419.toNat
def k0_dev242 (v2 : BitVec 32) : Nat :=
  let c0_i32_5297 : BitVec 32 := 0#32
  let c1_i32_5296 : BitVec 32 := 1#32
  let v4423 : BitVec 32 := Scalar.muli v2 c1_i32_5296
  let v4424 : BitVec 32 := Scalar.addi c0_i32_5297 v4423
  v4424.toNat
def k0_dev243 (v2 : BitVec 32) : Nat :=
  let c0_i32_5329 : BitVec 32 := 0#32
  let c1_i32_5328 : BitVec 32 := 1#32
  let v4455 : BitVec 32 := Scalar.muli v2 c1_i32_5328
  let v4456 : BitVec 32 := Scalar.addi c0_i32_5329 v4455
  v4456.toNat
def k0_dev244 (v1 : BitVec 32) : Nat :=
  let c0_i32_5341 : BitVec 32 := 0#32
  let c1_i32_5340 : BitVec 32 := 1#32
  let v4460 : BitVec 32 := Scalar.muli v1 c1_i32_5340
  let v4461 : BitVec 32 := Scalar.addi c0_i32_5341 v4460
  v4461.toNat
def k0_dev245 (v2 : BitVec 32) : Nat :=
  let c0_i32_5374 : BitVec 32 := 0#32
  let c1_i32_5373 : BitVec 32 := 1#32
  let v4492 : BitVec 32 := Scalar.muli v2 c1_i32_5373
  let v4493 : BitVec 32 := Scalar.addi c0_i32_5374 v4492
  v4493.toNat
def k0_dev246 (v1 : BitVec 32) : Nat :=
  let c0_i32_5386 : BitVec 32 := 0#32
  let c1_i32_5385 : BitVec 32 := 1#32
  let v4497 : BitVec 32 := Scalar.muli v1 c1_i32_5385
  let v4498 : BitVec 32 := Scalar.addi c0_i32_5386 v4497
  v4498.toNat
def k0_dev247 (v1 : BitVec 32) : Nat :=
  let c0_i32_5425 : BitVec 32 := 0#32
  let c1_i32_5424 : BitVec 32 := 1#32
  let v4545 : BitVec 32 := Scalar.muli v1 c1_i32_5424
  let v4546 : BitVec 32 := Scalar.addi c0_i32_5425 v4545
  v4546.toNat
def k0_dev248 (v2 : BitVec 32) : Nat :=
  let c0_i32_5436 : BitVec 32 := 0#32
  let c1_i32_5435 : BitVec 32 := 1#32
  let v4551 : BitVec 32 := Scalar.muli v2 c1_i32_5435
  let v4552 : BitVec 32 := Scalar.addi c0_i32_5436 v4551
  v4552.toNat
def k0_dev249 (v1 : BitVec 32) : Nat :=
  let c0_i32_5475 : BitVec 32 := 0#32
  let c1_i32_5474 : BitVec 32 := 1#32
  let v4598 : BitVec 32 := Scalar.muli v1 c1_i32_5474
  let v4599 : BitVec 32 := Scalar.addi c0_i32_5475 v4598
  v4599.toNat
def k0_dev250 (v2 : BitVec 32) : Nat :=
  let c0_i32_5487 : BitVec 32 := 0#32
  let c1_i32_5486 : BitVec 32 := 1#32
  let v4604 : BitVec 32 := Scalar.muli v2 c1_i32_5486
  let v4605 : BitVec 32 := Scalar.addi c0_i32_5487 v4604
  v4605.toNat
def k0_dev251 (v2 : BitVec 32) : Nat :=
  let c0_i32_5525 : BitVec 32 := 0#32
  let c1_i32_5524 : BitVec 32 := 1#32
  let v4651 : BitVec 32 := Scalar.muli v2 c1_i32_5524
  let v4652 : BitVec 32 := Scalar.addi c0_i32_5525 v4651
  v4652.toNat
def k0_dev252 (v1 : BitVec 32) : Nat :=
  let c0_i32_5537 : BitVec 32 := 0#32
  let c1_i32_5536 : BitVec 32 := 1#32
  let v4657 : BitVec 32 := Scalar.muli v1 c1_i32_5536
  let v4658 : BitVec 32 := Scalar.addi c0_i32_5537 v4657
  v4658.toNat
def k0_dev253 (v2 : BitVec 32) : Nat :=
  let c0_i32_5576 : BitVec 32 := 0#32
  let c1_i32_5575 : BitVec 32 := 1#32
  let v4704 : BitVec 32 := Scalar.muli v2 c1_i32_5575
  let v4705 : BitVec 32 := Scalar.addi c0_i32_5576 v4704
  v4705.toNat
def k0_dev254 (v1 : BitVec 32) : Nat :=
  let c0_i32_5588 : BitVec 32 := 0#32
  let c1_i32_5587 : BitVec 32 := 1#32
  let v4710 : BitVec 32 := Scalar.muli v1 c1_i32_5587
  let v4711 : BitVec 32 := Scalar.addi c0_i32_5588 v4710
  v4711.toNat
def k0_dev255 (v1 : BitVec 32) : Nat :=
  let c0_i32_5608 : BitVec 32 := 0#32
  let c1_i32_5607 : BitVec 32 := 1#32
  let v4728 : BitVec 32 := Scalar.muli v1 c1_i32_5607
  let v4729 : BitVec 32 := Scalar.addi c0_i32_5608 v4728
  v4729.toNat
def k0_dev256 (v2 : BitVec 32) : Nat :=
  let c0_i32_5620 : BitVec 32 := 0#32
  let c1_i32_5619 : BitVec 32 := 1#32
  let v4734 : BitVec 32 := Scalar.muli v2 c1_i32_5619
  let v4735 : BitVec 32 := Scalar.addi c0_i32_5620 v4734
  v4735.toNat
def k0_dev257 (v1 : BitVec 32) : Nat :=
  let c0_i32_5640 : BitVec 32 := 0#32
  let c1_i32_5639 : BitVec 32 := 1#32
  let v4752 : BitVec 32 := Scalar.muli v1 c1_i32_5639
  let v4753 : BitVec 32 := Scalar.addi c0_i32_5640 v4752
  v4753.toNat
def k0_dev258 (v2 : BitVec 32) : Nat :=
  let c0_i32_5652 : BitVec 32 := 0#32
  let c1_i32_5651 : BitVec 32 := 1#32
  let v4758 : BitVec 32 := Scalar.muli v2 c1_i32_5651
  let v4759 : BitVec 32 := Scalar.addi c0_i32_5652 v4758
  v4759.toNat
def k0_dev259 (v2 : BitVec 32) : Nat :=
  let c0_i32_5672 : BitVec 32 := 0#32
  let c1_i32_5671 : BitVec 32 := 1#32
  let v4776 : BitVec 32 := Scalar.muli v2 c1_i32_5671
  let v4777 : BitVec 32 := Scalar.addi c0_i32_5672 v4776
  v4777.toNat
def k0_dev260 (v1 : BitVec 32) : Nat :=
  let c0_i32_5684 : BitVec 32 := 0#32
  let c1_i32_5683 : BitVec 32 := 1#32
  let v4782 : BitVec 32 := Scalar.muli v1 c1_i32_5683
  let v4783 : BitVec 32 := Scalar.addi c0_i32_5684 v4782
  v4783.toNat
def k0_dev261 (v2 : BitVec 32) : Nat :=
  let c0_i32_5704 : BitVec 32 := 0#32
  let c1_i32_5703 : BitVec 32 := 1#32
  let v4800 : BitVec 32 := Scalar.muli v2 c1_i32_5703
  let v4801 : BitVec 32 := Scalar.addi c0_i32_5704 v4800
  v4801.toNat
def k0_dev262 (v1 : BitVec 32) : Nat :=
  let c0_i32_5716 : BitVec 32 := 0#32
  let c1_i32_5715 : BitVec 32 := 1#32
  let v4806 : BitVec 32 := Scalar.muli v1 c1_i32_5715
  let v4807 : BitVec 32 := Scalar.addi c0_i32_5716 v4806
  v4807.toNat
def k0_dev263 (v1 : BitVec 32) : Nat :=
  let c0_i32_5736 : BitVec 32 := 0#32
  let c1_i32_5735 : BitVec 32 := 1#32
  let v4824 : BitVec 32 := Scalar.muli v1 c1_i32_5735
  let v4825 : BitVec 32 := Scalar.addi c0_i32_5736 v4824
  v4825.toNat
def k0_dev264 (v2 : BitVec 32) : Nat :=
  let c0_i32_5748 : BitVec 32 := 0#32
  let c1_i32_5747 : BitVec 32 := 1#32
  let v4830 : BitVec 32 := Scalar.muli v2 c1_i32_5747
  let v4831 : BitVec 32 := Scalar.addi c0_i32_5748 v4830
  v4831.toNat
def k0_dev265 (v1 : BitVec 32) : Nat :=
  let c0_i32_5768 : BitVec 32 := 0#32
  let c1_i32_5767 : BitVec 32 := 1#32
  let v4848 : BitVec 32 := Scalar.muli v1 c1_i32_5767
  let v4849 : BitVec 32 := Scalar.addi c0_i32_5768 v4848
  v4849.toNat
def k0_dev266 (v2 : BitVec 32) : Nat :=
  let c0_i32_5780 : BitVec 32 := 0#32
  let c1_i32_5779 : BitVec 32 := 1#32
  let v4854 : BitVec 32 := Scalar.muli v2 c1_i32_5779
  let v4855 : BitVec 32 := Scalar.addi c0_i32_5780 v4854
  v4855.toNat
def k0_dev267 (v2 : BitVec 32) : Nat :=
  let c0_i32_5800 : BitVec 32 := 0#32
  let c1_i32_5799 : BitVec 32 := 1#32
  let v4872 : BitVec 32 := Scalar.muli v2 c1_i32_5799
  let v4873 : BitVec 32 := Scalar.addi c0_i32_5800 v4872
  v4873.toNat
def k0_dev268 (v1 : BitVec 32) : Nat :=
  let c0_i32_5812 : BitVec 32 := 0#32
  let c1_i32_5811 : BitVec 32 := 1#32
  let v4878 : BitVec 32 := Scalar.muli v1 c1_i32_5811
  let v4879 : BitVec 32 := Scalar.addi c0_i32_5812 v4878
  v4879.toNat
def k0_dev269 (v2 : BitVec 32) : Nat :=
  let c0_i32_5832 : BitVec 32 := 0#32
  let c1_i32_5831 : BitVec 32 := 1#32
  let v4896 : BitVec 32 := Scalar.muli v2 c1_i32_5831
  let v4897 : BitVec 32 := Scalar.addi c0_i32_5832 v4896
  v4897.toNat
def k0_dev270 (v1 : BitVec 32) : Nat :=
  let c0_i32_5844 : BitVec 32 := 0#32
  let c1_i32_5843 : BitVec 32 := 1#32
  let v4902 : BitVec 32 := Scalar.muli v1 c1_i32_5843
  let v4903 : BitVec 32 := Scalar.addi c0_i32_5844 v4902
  v4903.toNat
def k0_dev271 (v1 : BitVec 32) : Nat :=
  let c0_i32_5864 : BitVec 32 := 0#32
  let c1_i32_5863 : BitVec 32 := 1#32
  let v4920 : BitVec 32 := Scalar.muli v1 c1_i32_5863
  let v4921 : BitVec 32 := Scalar.addi c0_i32_5864 v4920
  v4921.toNat
def k0_dev272 (v2 : BitVec 32) : Nat :=
  let c0_i32_5876 : BitVec 32 := 0#32
  let c1_i32_5875 : BitVec 32 := 1#32
  let v4926 : BitVec 32 := Scalar.muli v2 c1_i32_5875
  let v4927 : BitVec 32 := Scalar.addi c0_i32_5876 v4926
  v4927.toNat
def k0_dev273 (v1 : BitVec 32) : Nat :=
  let c0_i32_5896 : BitVec 32 := 0#32
  let c1_i32_5895 : BitVec 32 := 1#32
  let v4944 : BitVec 32 := Scalar.muli v1 c1_i32_5895
  let v4945 : BitVec 32 := Scalar.addi c0_i32_5896 v4944
  v4945.toNat
def k0_dev274 (v2 : BitVec 32) : Nat :=
  let c0_i32_5908 : BitVec 32 := 0#32
  let c1_i32_5907 : BitVec 32 := 1#32
  let v4950 : BitVec 32 := Scalar.muli v2 c1_i32_5907
  let v4951 : BitVec 32 := Scalar.addi c0_i32_5908 v4950
  v4951.toNat
def k0_dev275 (v2 : BitVec 32) : Nat :=
  let c0_i32_5928 : BitVec 32 := 0#32
  let c1_i32_5927 : BitVec 32 := 1#32
  let v4968 : BitVec 32 := Scalar.muli v2 c1_i32_5927
  let v4969 : BitVec 32 := Scalar.addi c0_i32_5928 v4968
  v4969.toNat
def k0_dev276 (v1 : BitVec 32) : Nat :=
  let c0_i32_5940 : BitVec 32 := 0#32
  let c1_i32_5939 : BitVec 32 := 1#32
  let v4974 : BitVec 32 := Scalar.muli v1 c1_i32_5939
  let v4975 : BitVec 32 := Scalar.addi c0_i32_5940 v4974
  v4975.toNat
def k0_dev277 (v2 : BitVec 32) : Nat :=
  let c0_i32_5960 : BitVec 32 := 0#32
  let c1_i32_5959 : BitVec 32 := 1#32
  let v4992 : BitVec 32 := Scalar.muli v2 c1_i32_5959
  let v4993 : BitVec 32 := Scalar.addi c0_i32_5960 v4992
  v4993.toNat
def k0_dev278 (v1 : BitVec 32) : Nat :=
  let c0_i32_5972 : BitVec 32 := 0#32
  let c1_i32_5971 : BitVec 32 := 1#32
  let v4998 : BitVec 32 := Scalar.muli v1 c1_i32_5971
  let v4999 : BitVec 32 := Scalar.addi c0_i32_5972 v4998
  v4999.toNat
def k0_dev279 (v1 : BitVec 32) : Nat :=
  let c0_i32_5992 : BitVec 32 := 0#32
  let c1_i32_5991 : BitVec 32 := 1#32
  let v5016 : BitVec 32 := Scalar.muli v1 c1_i32_5991
  let v5017 : BitVec 32 := Scalar.addi c0_i32_5992 v5016
  v5017.toNat
def k0_dev280 (v2 : BitVec 32) : Nat :=
  let c0_i32_6004 : BitVec 32 := 0#32
  let c1_i32_6003 : BitVec 32 := 1#32
  let v5022 : BitVec 32 := Scalar.muli v2 c1_i32_6003
  let v5023 : BitVec 32 := Scalar.addi c0_i32_6004 v5022
  v5023.toNat
def k0_dev281 (v1 : BitVec 32) : Nat :=
  let c0_i32_6024 : BitVec 32 := 0#32
  let c1_i32_6023 : BitVec 32 := 1#32
  let v5040 : BitVec 32 := Scalar.muli v1 c1_i32_6023
  let v5041 : BitVec 32 := Scalar.addi c0_i32_6024 v5040
  v5041.toNat
def k0_dev282 (v2 : BitVec 32) : Nat :=
  let c0_i32_6036 : BitVec 32 := 0#32
  let c1_i32_6035 : BitVec 32 := 1#32
  let v5046 : BitVec 32 := Scalar.muli v2 c1_i32_6035
  let v5047 : BitVec 32 := Scalar.addi c0_i32_6036 v5046
  v5047.toNat
def k0_dev283 (v2 : BitVec 32) : Nat :=
  let c0_i32_6056 : BitVec 32 := 0#32
  let c1_i32_6055 : BitVec 32 := 1#32
  let v5064 : BitVec 32 := Scalar.muli v2 c1_i32_6055
  let v5065 : BitVec 32 := Scalar.addi c0_i32_6056 v5064
  v5065.toNat
def k0_dev284 (v1 : BitVec 32) : Nat :=
  let c0_i32_6068 : BitVec 32 := 0#32
  let c1_i32_6067 : BitVec 32 := 1#32
  let v5070 : BitVec 32 := Scalar.muli v1 c1_i32_6067
  let v5071 : BitVec 32 := Scalar.addi c0_i32_6068 v5070
  v5071.toNat
def k0_dev285 (v2 : BitVec 32) : Nat :=
  let c0_i32_6088 : BitVec 32 := 0#32
  let c1_i32_6087 : BitVec 32 := 1#32
  let v5088 : BitVec 32 := Scalar.muli v2 c1_i32_6087
  let v5089 : BitVec 32 := Scalar.addi c0_i32_6088 v5088
  v5089.toNat
def k0_dev286 (v1 : BitVec 32) : Nat :=
  let c0_i32_6100 : BitVec 32 := 0#32
  let c1_i32_6099 : BitVec 32 := 1#32
  let v5094 : BitVec 32 := Scalar.muli v1 c1_i32_6099
  let v5095 : BitVec 32 := Scalar.addi c0_i32_6100 v5094
  v5095.toNat
def k0_dev287 (v1 : BitVec 32) : Nat :=
  let c0_i32_6120 : BitVec 32 := 0#32
  let c1_i32_6119 : BitVec 32 := 1#32
  let v5112 : BitVec 32 := Scalar.muli v1 c1_i32_6119
  let v5113 : BitVec 32 := Scalar.addi c0_i32_6120 v5112
  v5113.toNat
def k0_dev288 (v2 : BitVec 32) : Nat :=
  let c0_i32_6132 : BitVec 32 := 0#32
  let c1_i32_6131 : BitVec 32 := 1#32
  let v5118 : BitVec 32 := Scalar.muli v2 c1_i32_6131
  let v5119 : BitVec 32 := Scalar.addi c0_i32_6132 v5118
  v5119.toNat
def k0_dev289 (v1 : BitVec 32) : Nat :=
  let c0_i32_6152 : BitVec 32 := 0#32
  let c1_i32_6151 : BitVec 32 := 1#32
  let v5136 : BitVec 32 := Scalar.muli v1 c1_i32_6151
  let v5137 : BitVec 32 := Scalar.addi c0_i32_6152 v5136
  v5137.toNat
def k0_dev290 (v2 : BitVec 32) : Nat :=
  let c0_i32_6164 : BitVec 32 := 0#32
  let c1_i32_6163 : BitVec 32 := 1#32
  let v5142 : BitVec 32 := Scalar.muli v2 c1_i32_6163
  let v5143 : BitVec 32 := Scalar.addi c0_i32_6164 v5142
  v5143.toNat
def k0_dev291 (v2 : BitVec 32) : Nat :=
  let c0_i32_6184 : BitVec 32 := 0#32
  let c1_i32_6183 : BitVec 32 := 1#32
  let v5160 : BitVec 32 := Scalar.muli v2 c1_i32_6183
  let v5161 : BitVec 32 := Scalar.addi c0_i32_6184 v5160
  v5161.toNat
def k0_dev292 (v1 : BitVec 32) : Nat :=
  let c0_i32_6196 : BitVec 32 := 0#32
  let c1_i32_6195 : BitVec 32 := 1#32
  let v5166 : BitVec 32 := Scalar.muli v1 c1_i32_6195
  let v5167 : BitVec 32 := Scalar.addi c0_i32_6196 v5166
  v5167.toNat
def k0_dev293 (v2 : BitVec 32) : Nat :=
  let c0_i32_6216 : BitVec 32 := 0#32
  let c1_i32_6215 : BitVec 32 := 1#32
  let v5184 : BitVec 32 := Scalar.muli v2 c1_i32_6215
  let v5185 : BitVec 32 := Scalar.addi c0_i32_6216 v5184
  v5185.toNat
def k0_dev294 (v1 : BitVec 32) : Nat :=
  let c0_i32_6228 : BitVec 32 := 0#32
  let c1_i32_6227 : BitVec 32 := 1#32
  let v5190 : BitVec 32 := Scalar.muli v1 c1_i32_6227
  let v5191 : BitVec 32 := Scalar.addi c0_i32_6228 v5190
  v5191.toNat
def k0_dev295 (v1 : BitVec 32) : Nat :=
  let c0_i32_6248 : BitVec 32 := 0#32
  let c1_i32_6247 : BitVec 32 := 1#32
  let v5208 : BitVec 32 := Scalar.muli v1 c1_i32_6247
  let v5209 : BitVec 32 := Scalar.addi c0_i32_6248 v5208
  v5209.toNat
def k0_dev296 (v2 : BitVec 32) : Nat :=
  let c0_i32_6260 : BitVec 32 := 0#32
  let c1_i32_6259 : BitVec 32 := 1#32
  let v5214 : BitVec 32 := Scalar.muli v2 c1_i32_6259
  let v5215 : BitVec 32 := Scalar.addi c0_i32_6260 v5214
  v5215.toNat
def k0_dev297 (v1 : BitVec 32) : Nat :=
  let c0_i32_6280 : BitVec 32 := 0#32
  let c1_i32_6279 : BitVec 32 := 1#32
  let v5232 : BitVec 32 := Scalar.muli v1 c1_i32_6279
  let v5233 : BitVec 32 := Scalar.addi c0_i32_6280 v5232
  v5233.toNat
def k0_dev298 (v2 : BitVec 32) : Nat :=
  let c0_i32_6292 : BitVec 32 := 0#32
  let c1_i32_6291 : BitVec 32 := 1#32
  let v5238 : BitVec 32 := Scalar.muli v2 c1_i32_6291
  let v5239 : BitVec 32 := Scalar.addi c0_i32_6292 v5238
  v5239.toNat
def k0_dev299 (v2 : BitVec 32) : Nat :=
  let c0_i32_6312 : BitVec 32 := 0#32
  let c1_i32_6311 : BitVec 32 := 1#32
  let v5256 : BitVec 32 := Scalar.muli v2 c1_i32_6311
  let v5257 : BitVec 32 := Scalar.addi c0_i32_6312 v5256
  v5257.toNat
def k0_dev300 (v1 : BitVec 32) : Nat :=
  let c0_i32_6324 : BitVec 32 := 0#32
  let c1_i32_6323 : BitVec 32 := 1#32
  let v5262 : BitVec 32 := Scalar.muli v1 c1_i32_6323
  let v5263 : BitVec 32 := Scalar.addi c0_i32_6324 v5262
  v5263.toNat
def k0_dev301 (v2 : BitVec 32) : Nat :=
  let c0_i32_6344 : BitVec 32 := 0#32
  let c1_i32_6343 : BitVec 32 := 1#32
  let v5280 : BitVec 32 := Scalar.muli v2 c1_i32_6343
  let v5281 : BitVec 32 := Scalar.addi c0_i32_6344 v5280
  v5281.toNat
def k0_dev302 (v1 : BitVec 32) : Nat :=
  let c0_i32_6356 : BitVec 32 := 0#32
  let c1_i32_6355 : BitVec 32 := 1#32
  let v5286 : BitVec 32 := Scalar.muli v1 c1_i32_6355
  let v5287 : BitVec 32 := Scalar.addi c0_i32_6356 v5286
  v5287.toNat
def k0_dev303 (v1 : BitVec 32) : Nat :=
  let c0_i32_6376 : BitVec 32 := 0#32
  let c1_i32_6375 : BitVec 32 := 1#32
  let v5304 : BitVec 32 := Scalar.muli v1 c1_i32_6375
  let v5305 : BitVec 32 := Scalar.addi c0_i32_6376 v5304
  v5305.toNat
def k0_dev304 (v2 : BitVec 32) : Nat :=
  let c0_i32_6388 : BitVec 32 := 0#32
  let c1_i32_6387 : BitVec 32 := 1#32
  let v5310 : BitVec 32 := Scalar.muli v2 c1_i32_6387
  let v5311 : BitVec 32 := Scalar.addi c0_i32_6388 v5310
  v5311.toNat
def k0_dev305 (v1 : BitVec 32) : Nat :=
  let c0_i32_6408 : BitVec 32 := 0#32
  let c1_i32_6407 : BitVec 32 := 1#32
  let v5328 : BitVec 32 := Scalar.muli v1 c1_i32_6407
  let v5329 : BitVec 32 := Scalar.addi c0_i32_6408 v5328
  v5329.toNat
def k0_dev306 (v2 : BitVec 32) : Nat :=
  let c0_i32_6420 : BitVec 32 := 0#32
  let c1_i32_6419 : BitVec 32 := 1#32
  let v5334 : BitVec 32 := Scalar.muli v2 c1_i32_6419
  let v5335 : BitVec 32 := Scalar.addi c0_i32_6420 v5334
  v5335.toNat
def k0_dev307 (v2 : BitVec 32) : Nat :=
  let c0_i32_6440 : BitVec 32 := 0#32
  let c1_i32_6439 : BitVec 32 := 1#32
  let v5352 : BitVec 32 := Scalar.muli v2 c1_i32_6439
  let v5353 : BitVec 32 := Scalar.addi c0_i32_6440 v5352
  v5353.toNat
def k0_dev308 (v1 : BitVec 32) : Nat :=
  let c0_i32_6452 : BitVec 32 := 0#32
  let c1_i32_6451 : BitVec 32 := 1#32
  let v5358 : BitVec 32 := Scalar.muli v1 c1_i32_6451
  let v5359 : BitVec 32 := Scalar.addi c0_i32_6452 v5358
  v5359.toNat
def k0_dev309 (v2 : BitVec 32) : Nat :=
  let c0_i32_6472 : BitVec 32 := 0#32
  let c1_i32_6471 : BitVec 32 := 1#32
  let v5376 : BitVec 32 := Scalar.muli v2 c1_i32_6471
  let v5377 : BitVec 32 := Scalar.addi c0_i32_6472 v5376
  v5377.toNat
def k0_dev310 (v1 : BitVec 32) : Nat :=
  let c0_i32_6484 : BitVec 32 := 0#32
  let c1_i32_6483 : BitVec 32 := 1#32
  let v5382 : BitVec 32 := Scalar.muli v1 c1_i32_6483
  let v5383 : BitVec 32 := Scalar.addi c0_i32_6484 v5382
  v5383.toNat
def k0_dev311 (v1 : BitVec 32) : Nat :=
  let c0_i32_6504 : BitVec 32 := 0#32
  let c1_i32_6503 : BitVec 32 := 1#32
  let v5400 : BitVec 32 := Scalar.muli v1 c1_i32_6503
  let v5401 : BitVec 32 := Scalar.addi c0_i32_6504 v5400
  v5401.toNat
def k0_dev312 (v2 : BitVec 32) : Nat :=
  let c0_i32_6516 : BitVec 32 := 0#32
  let c1_i32_6515 : BitVec 32 := 1#32
  let v5406 : BitVec 32 := Scalar.muli v2 c1_i32_6515
  let v5407 : BitVec 32 := Scalar.addi c0_i32_6516 v5406
  v5407.toNat
def k0_dev313 (v1 : BitVec 32) : Nat :=
  let c0_i32_6536 : BitVec 32 := 0#32
  let c1_i32_6535 : BitVec 32 := 1#32
  let v5424 : BitVec 32 := Scalar.muli v1 c1_i32_6535
  let v5425 : BitVec 32 := Scalar.addi c0_i32_6536 v5424
  v5425.toNat
def k0_dev314 (v2 : BitVec 32) : Nat :=
  let c0_i32_6548 : BitVec 32 := 0#32
  let c1_i32_6547 : BitVec 32 := 1#32
  let v5430 : BitVec 32 := Scalar.muli v2 c1_i32_6547
  let v5431 : BitVec 32 := Scalar.addi c0_i32_6548 v5430
  v5431.toNat
def k0_dev315 (v2 : BitVec 32) : Nat :=
  let c0_i32_6568 : BitVec 32 := 0#32
  let c1_i32_6567 : BitVec 32 := 1#32
  let v5448 : BitVec 32 := Scalar.muli v2 c1_i32_6567
  let v5449 : BitVec 32 := Scalar.addi c0_i32_6568 v5448
  v5449.toNat
def k0_dev316 (v1 : BitVec 32) : Nat :=
  let c0_i32_6580 : BitVec 32 := 0#32
  let c1_i32_6579 : BitVec 32 := 1#32
  let v5454 : BitVec 32 := Scalar.muli v1 c1_i32_6579
  let v5455 : BitVec 32 := Scalar.addi c0_i32_6580 v5454
  v5455.toNat
def k0_dev317 (v2 : BitVec 32) : Nat :=
  let c0_i32_6600 : BitVec 32 := 0#32
  let c1_i32_6599 : BitVec 32 := 1#32
  let v5472 : BitVec 32 := Scalar.muli v2 c1_i32_6599
  let v5473 : BitVec 32 := Scalar.addi c0_i32_6600 v5472
  v5473.toNat
def k0_dev318 (v1 : BitVec 32) : Nat :=
  let c0_i32_6612 : BitVec 32 := 0#32
  let c1_i32_6611 : BitVec 32 := 1#32
  let v5478 : BitVec 32 := Scalar.muli v1 c1_i32_6611
  let v5479 : BitVec 32 := Scalar.addi c0_i32_6612 v5478
  v5479.toNat
def k0_dev319 (v1 : BitVec 32) : Nat :=
  let c0_i32_6632 : BitVec 32 := 0#32
  let c1_i32_6631 : BitVec 32 := 1#32
  let v5496 : BitVec 32 := Scalar.muli v1 c1_i32_6631
  let v5497 : BitVec 32 := Scalar.addi c0_i32_6632 v5496
  v5497.toNat
def k0_dev320 (v2 : BitVec 32) : Nat :=
  let c0_i32_6644 : BitVec 32 := 0#32
  let c1_i32_6643 : BitVec 32 := 1#32
  let v5502 : BitVec 32 := Scalar.muli v2 c1_i32_6643
  let v5503 : BitVec 32 := Scalar.addi c0_i32_6644 v5502
  v5503.toNat
def k0_dev321 (v1 : BitVec 32) : Nat :=
  let c0_i32_6664 : BitVec 32 := 0#32
  let c1_i32_6663 : BitVec 32 := 1#32
  let v5520 : BitVec 32 := Scalar.muli v1 c1_i32_6663
  let v5521 : BitVec 32 := Scalar.addi c0_i32_6664 v5520
  v5521.toNat
def k0_dev322 (v2 : BitVec 32) : Nat :=
  let c0_i32_6676 : BitVec 32 := 0#32
  let c1_i32_6675 : BitVec 32 := 1#32
  let v5526 : BitVec 32 := Scalar.muli v2 c1_i32_6675
  let v5527 : BitVec 32 := Scalar.addi c0_i32_6676 v5526
  v5527.toNat
def k0_dev323 (v2 : BitVec 32) : Nat :=
  let c0_i32_6696 : BitVec 32 := 0#32
  let c1_i32_6695 : BitVec 32 := 1#32
  let v5544 : BitVec 32 := Scalar.muli v2 c1_i32_6695
  let v5545 : BitVec 32 := Scalar.addi c0_i32_6696 v5544
  v5545.toNat
def k0_dev324 (v1 : BitVec 32) : Nat :=
  let c0_i32_6708 : BitVec 32 := 0#32
  let c1_i32_6707 : BitVec 32 := 1#32
  let v5550 : BitVec 32 := Scalar.muli v1 c1_i32_6707
  let v5551 : BitVec 32 := Scalar.addi c0_i32_6708 v5550
  v5551.toNat
def k0_dev325 (v2 : BitVec 32) : Nat :=
  let c0_i32_6728 : BitVec 32 := 0#32
  let c1_i32_6727 : BitVec 32 := 1#32
  let v5568 : BitVec 32 := Scalar.muli v2 c1_i32_6727
  let v5569 : BitVec 32 := Scalar.addi c0_i32_6728 v5568
  v5569.toNat
def k0_dev326 (v1 : BitVec 32) : Nat :=
  let c0_i32_6740 : BitVec 32 := 0#32
  let c1_i32_6739 : BitVec 32 := 1#32
  let v5574 : BitVec 32 := Scalar.muli v1 c1_i32_6739
  let v5575 : BitVec 32 := Scalar.addi c0_i32_6740 v5574
  v5575.toNat
def k0_dev327 (v1 : BitVec 32) : Nat :=
  let c0_i32_6760 : BitVec 32 := 0#32
  let c1_i32_6759 : BitVec 32 := 1#32
  let v5592 : BitVec 32 := Scalar.muli v1 c1_i32_6759
  let v5593 : BitVec 32 := Scalar.addi c0_i32_6760 v5592
  v5593.toNat
def k0_dev328 (v2 : BitVec 32) : Nat :=
  let c0_i32_6772 : BitVec 32 := 0#32
  let c1_i32_6771 : BitVec 32 := 1#32
  let v5598 : BitVec 32 := Scalar.muli v2 c1_i32_6771
  let v5599 : BitVec 32 := Scalar.addi c0_i32_6772 v5598
  v5599.toNat
def k0_dev329 (v1 : BitVec 32) : Nat :=
  let c0_i32_6792 : BitVec 32 := 0#32
  let c1_i32_6791 : BitVec 32 := 1#32
  let v5616 : BitVec 32 := Scalar.muli v1 c1_i32_6791
  let v5617 : BitVec 32 := Scalar.addi c0_i32_6792 v5616
  v5617.toNat
def k0_dev330 (v2 : BitVec 32) : Nat :=
  let c0_i32_6804 : BitVec 32 := 0#32
  let c1_i32_6803 : BitVec 32 := 1#32
  let v5622 : BitVec 32 := Scalar.muli v2 c1_i32_6803
  let v5623 : BitVec 32 := Scalar.addi c0_i32_6804 v5622
  v5623.toNat
def k0_dev331 (v2 : BitVec 32) : Nat :=
  let c0_i32_6824 : BitVec 32 := 0#32
  let c1_i32_6823 : BitVec 32 := 1#32
  let v5640 : BitVec 32 := Scalar.muli v2 c1_i32_6823
  let v5641 : BitVec 32 := Scalar.addi c0_i32_6824 v5640
  v5641.toNat
def k0_dev332 (v1 : BitVec 32) : Nat :=
  let c0_i32_6836 : BitVec 32 := 0#32
  let c1_i32_6835 : BitVec 32 := 1#32
  let v5646 : BitVec 32 := Scalar.muli v1 c1_i32_6835
  let v5647 : BitVec 32 := Scalar.addi c0_i32_6836 v5646
  v5647.toNat
def k0_dev333 (v2 : BitVec 32) : Nat :=
  let c0_i32_6856 : BitVec 32 := 0#32
  let c1_i32_6855 : BitVec 32 := 1#32
  let v5664 : BitVec 32 := Scalar.muli v2 c1_i32_6855
  let v5665 : BitVec 32 := Scalar.addi c0_i32_6856 v5664
  v5665.toNat
def k0_dev334 (v1 : BitVec 32) : Nat :=
  let c0_i32_6868 : BitVec 32 := 0#32
  let c1_i32_6867 : BitVec 32 := 1#32
  let v5670 : BitVec 32 := Scalar.muli v1 c1_i32_6867
  let v5671 : BitVec 32 := Scalar.addi c0_i32_6868 v5670
  v5671.toNat
def k0_dev335 (v1 : BitVec 32) : Nat :=
  let c0_i32_6888 : BitVec 32 := 0#32
  let c1_i32_6887 : BitVec 32 := 1#32
  let v5688 : BitVec 32 := Scalar.muli v1 c1_i32_6887
  let v5689 : BitVec 32 := Scalar.addi c0_i32_6888 v5688
  v5689.toNat
def k0_dev336 (v2 : BitVec 32) : Nat :=
  let c0_i32_6900 : BitVec 32 := 0#32
  let c1_i32_6899 : BitVec 32 := 1#32
  let v5694 : BitVec 32 := Scalar.muli v2 c1_i32_6899
  let v5695 : BitVec 32 := Scalar.addi c0_i32_6900 v5694
  v5695.toNat
def k0_dev337 (v1 : BitVec 32) : Nat :=
  let c0_i32_6920 : BitVec 32 := 0#32
  let c1_i32_6919 : BitVec 32 := 1#32
  let v5712 : BitVec 32 := Scalar.muli v1 c1_i32_6919
  let v5713 : BitVec 32 := Scalar.addi c0_i32_6920 v5712
  v5713.toNat
def k0_dev338 (v2 : BitVec 32) : Nat :=
  let c0_i32_6932 : BitVec 32 := 0#32
  let c1_i32_6931 : BitVec 32 := 1#32
  let v5718 : BitVec 32 := Scalar.muli v2 c1_i32_6931
  let v5719 : BitVec 32 := Scalar.addi c0_i32_6932 v5718
  v5719.toNat
def k0_dev339 (v2 : BitVec 32) : Nat :=
  let c0_i32_6952 : BitVec 32 := 0#32
  let c1_i32_6951 : BitVec 32 := 1#32
  let v5736 : BitVec 32 := Scalar.muli v2 c1_i32_6951
  let v5737 : BitVec 32 := Scalar.addi c0_i32_6952 v5736
  v5737.toNat
def k0_dev340 (v1 : BitVec 32) : Nat :=
  let c0_i32_6964 : BitVec 32 := 0#32
  let c1_i32_6963 : BitVec 32 := 1#32
  let v5742 : BitVec 32 := Scalar.muli v1 c1_i32_6963
  let v5743 : BitVec 32 := Scalar.addi c0_i32_6964 v5742
  v5743.toNat
def k0_dev341 (v2 : BitVec 32) : Nat :=
  let c0_i32_6984 : BitVec 32 := 0#32
  let c1_i32_6983 : BitVec 32 := 1#32
  let v5760 : BitVec 32 := Scalar.muli v2 c1_i32_6983
  let v5761 : BitVec 32 := Scalar.addi c0_i32_6984 v5760
  v5761.toNat
def k0_dev342 (v1 : BitVec 32) : Nat :=
  let c0_i32_6996 : BitVec 32 := 0#32
  let c1_i32_6995 : BitVec 32 := 1#32
  let v5766 : BitVec 32 := Scalar.muli v1 c1_i32_6995
  let v5767 : BitVec 32 := Scalar.addi c0_i32_6996 v5766
  v5767.toNat
def k0_dev343 (v1 : BitVec 32) : Nat :=
  let c0_i32_7016 : BitVec 32 := 0#32
  let c1_i32_7015 : BitVec 32 := 1#32
  let v5784 : BitVec 32 := Scalar.muli v1 c1_i32_7015
  let v5785 : BitVec 32 := Scalar.addi c0_i32_7016 v5784
  v5785.toNat
def k0_dev344 (v2 : BitVec 32) : Nat :=
  let c0_i32_7028 : BitVec 32 := 0#32
  let c1_i32_7027 : BitVec 32 := 1#32
  let v5790 : BitVec 32 := Scalar.muli v2 c1_i32_7027
  let v5791 : BitVec 32 := Scalar.addi c0_i32_7028 v5790
  v5791.toNat
def k0_dev345 (v1 : BitVec 32) : Nat :=
  let c0_i32_7048 : BitVec 32 := 0#32
  let c1_i32_7047 : BitVec 32 := 1#32
  let v5808 : BitVec 32 := Scalar.muli v1 c1_i32_7047
  let v5809 : BitVec 32 := Scalar.addi c0_i32_7048 v5808
  v5809.toNat
def k0_dev346 (v2 : BitVec 32) : Nat :=
  let c0_i32_7060 : BitVec 32 := 0#32
  let c1_i32_7059 : BitVec 32 := 1#32
  let v5814 : BitVec 32 := Scalar.muli v2 c1_i32_7059
  let v5815 : BitVec 32 := Scalar.addi c0_i32_7060 v5814
  v5815.toNat
def k0_dev347 (v2 : BitVec 32) : Nat :=
  let c0_i32_7080 : BitVec 32 := 0#32
  let c1_i32_7079 : BitVec 32 := 1#32
  let v5832 : BitVec 32 := Scalar.muli v2 c1_i32_7079
  let v5833 : BitVec 32 := Scalar.addi c0_i32_7080 v5832
  v5833.toNat
def k0_dev348 (v1 : BitVec 32) : Nat :=
  let c0_i32_7092 : BitVec 32 := 0#32
  let c1_i32_7091 : BitVec 32 := 1#32
  let v5838 : BitVec 32 := Scalar.muli v1 c1_i32_7091
  let v5839 : BitVec 32 := Scalar.addi c0_i32_7092 v5838
  v5839.toNat
def k0_dev349 (v2 : BitVec 32) : Nat :=
  let c0_i32_7112 : BitVec 32 := 0#32
  let c1_i32_7111 : BitVec 32 := 1#32
  let v5856 : BitVec 32 := Scalar.muli v2 c1_i32_7111
  let v5857 : BitVec 32 := Scalar.addi c0_i32_7112 v5856
  v5857.toNat
def k0_dev350 (v1 : BitVec 32) : Nat :=
  let c0_i32_7124 : BitVec 32 := 0#32
  let c1_i32_7123 : BitVec 32 := 1#32
  let v5862 : BitVec 32 := Scalar.muli v1 c1_i32_7123
  let v5863 : BitVec 32 := Scalar.addi c0_i32_7124 v5862
  v5863.toNat
def k0_dev351 (v1 : BitVec 32) : Nat :=
  let c0_i32_7144 : BitVec 32 := 0#32
  let c1_i32_7143 : BitVec 32 := 1#32
  let v5880 : BitVec 32 := Scalar.muli v1 c1_i32_7143
  let v5881 : BitVec 32 := Scalar.addi c0_i32_7144 v5880
  v5881.toNat
def k0_dev352 (v2 : BitVec 32) : Nat :=
  let c0_i32_7156 : BitVec 32 := 0#32
  let c1_i32_7155 : BitVec 32 := 1#32
  let v5886 : BitVec 32 := Scalar.muli v2 c1_i32_7155
  let v5887 : BitVec 32 := Scalar.addi c0_i32_7156 v5886
  v5887.toNat
def k0_dev353 (v1 : BitVec 32) : Nat :=
  let c0_i32_7176 : BitVec 32 := 0#32
  let c1_i32_7175 : BitVec 32 := 1#32
  let v5904 : BitVec 32 := Scalar.muli v1 c1_i32_7175
  let v5905 : BitVec 32 := Scalar.addi c0_i32_7176 v5904
  v5905.toNat
def k0_dev354 (v2 : BitVec 32) : Nat :=
  let c0_i32_7188 : BitVec 32 := 0#32
  let c1_i32_7187 : BitVec 32 := 1#32
  let v5910 : BitVec 32 := Scalar.muli v2 c1_i32_7187
  let v5911 : BitVec 32 := Scalar.addi c0_i32_7188 v5910
  v5911.toNat
def k0_dev355 (v2 : BitVec 32) : Nat :=
  let c0_i32_7208 : BitVec 32 := 0#32
  let c1_i32_7207 : BitVec 32 := 1#32
  let v5928 : BitVec 32 := Scalar.muli v2 c1_i32_7207
  let v5929 : BitVec 32 := Scalar.addi c0_i32_7208 v5928
  v5929.toNat
def k0_dev356 (v1 : BitVec 32) : Nat :=
  let c0_i32_7220 : BitVec 32 := 0#32
  let c1_i32_7219 : BitVec 32 := 1#32
  let v5934 : BitVec 32 := Scalar.muli v1 c1_i32_7219
  let v5935 : BitVec 32 := Scalar.addi c0_i32_7220 v5934
  v5935.toNat
def k0_dev357 (v2 : BitVec 32) : Nat :=
  let c0_i32_7240 : BitVec 32 := 0#32
  let c1_i32_7239 : BitVec 32 := 1#32
  let v5952 : BitVec 32 := Scalar.muli v2 c1_i32_7239
  let v5953 : BitVec 32 := Scalar.addi c0_i32_7240 v5952
  v5953.toNat
def k0_dev358 (v1 : BitVec 32) : Nat :=
  let c0_i32_7252 : BitVec 32 := 0#32
  let c1_i32_7251 : BitVec 32 := 1#32
  let v5958 : BitVec 32 := Scalar.muli v1 c1_i32_7251
  let v5959 : BitVec 32 := Scalar.addi c0_i32_7252 v5958
  v5959.toNat
def k0_dev359 (v1 : BitVec 32) : Nat :=
  let c0_i32_7272 : BitVec 32 := 0#32
  let c1_i32_7271 : BitVec 32 := 1#32
  let v5976 : BitVec 32 := Scalar.muli v1 c1_i32_7271
  let v5977 : BitVec 32 := Scalar.addi c0_i32_7272 v5976
  v5977.toNat
def k0_dev360 (v2 : BitVec 32) : Nat :=
  let c0_i32_7284 : BitVec 32 := 0#32
  let c1_i32_7283 : BitVec 32 := 1#32
  let v5982 : BitVec 32 := Scalar.muli v2 c1_i32_7283
  let v5983 : BitVec 32 := Scalar.addi c0_i32_7284 v5982
  v5983.toNat
def k0_dev361 (v1 : BitVec 32) : Nat :=
  let c0_i32_7304 : BitVec 32 := 0#32
  let c1_i32_7303 : BitVec 32 := 1#32
  let v6000 : BitVec 32 := Scalar.muli v1 c1_i32_7303
  let v6001 : BitVec 32 := Scalar.addi c0_i32_7304 v6000
  v6001.toNat
def k0_dev362 (v2 : BitVec 32) : Nat :=
  let c0_i32_7316 : BitVec 32 := 0#32
  let c1_i32_7315 : BitVec 32 := 1#32
  let v6006 : BitVec 32 := Scalar.muli v2 c1_i32_7315
  let v6007 : BitVec 32 := Scalar.addi c0_i32_7316 v6006
  v6007.toNat
def k0_dev363 (v2 : BitVec 32) : Nat :=
  let c0_i32_7336 : BitVec 32 := 0#32
  let c1_i32_7335 : BitVec 32 := 1#32
  let v6024 : BitVec 32 := Scalar.muli v2 c1_i32_7335
  let v6025 : BitVec 32 := Scalar.addi c0_i32_7336 v6024
  v6025.toNat
def k0_dev364 (v1 : BitVec 32) : Nat :=
  let c0_i32_7348 : BitVec 32 := 0#32
  let c1_i32_7347 : BitVec 32 := 1#32
  let v6030 : BitVec 32 := Scalar.muli v1 c1_i32_7347
  let v6031 : BitVec 32 := Scalar.addi c0_i32_7348 v6030
  v6031.toNat
def k0_dev365 (v2 : BitVec 32) : Nat :=
  let c0_i32_7368 : BitVec 32 := 0#32
  let c1_i32_7367 : BitVec 32 := 1#32
  let v6048 : BitVec 32 := Scalar.muli v2 c1_i32_7367
  let v6049 : BitVec 32 := Scalar.addi c0_i32_7368 v6048
  v6049.toNat
def k0_dev366 (v1 : BitVec 32) : Nat :=
  let c0_i32_7380 : BitVec 32 := 0#32
  let c1_i32_7379 : BitVec 32 := 1#32
  let v6054 : BitVec 32 := Scalar.muli v1 c1_i32_7379
  let v6055 : BitVec 32 := Scalar.addi c0_i32_7380 v6054
  v6055.toNat
def k0_dev367 (v1 : BitVec 32) : Nat :=
  let c0_i32_7400 : BitVec 32 := 0#32
  let c1_i32_7399 : BitVec 32 := 1#32
  let v6072 : BitVec 32 := Scalar.muli v1 c1_i32_7399
  let v6073 : BitVec 32 := Scalar.addi c0_i32_7400 v6072
  v6073.toNat
def k0_dev368 (v2 : BitVec 32) : Nat :=
  let c0_i32_7412 : BitVec 32 := 0#32
  let c1_i32_7411 : BitVec 32 := 1#32
  let v6078 : BitVec 32 := Scalar.muli v2 c1_i32_7411
  let v6079 : BitVec 32 := Scalar.addi c0_i32_7412 v6078
  v6079.toNat
def k0_dev369 (v1 : BitVec 32) : Nat :=
  let c0_i32_7432 : BitVec 32 := 0#32
  let c1_i32_7431 : BitVec 32 := 1#32
  let v6096 : BitVec 32 := Scalar.muli v1 c1_i32_7431
  let v6097 : BitVec 32 := Scalar.addi c0_i32_7432 v6096
  v6097.toNat
def k0_dev370 (v2 : BitVec 32) : Nat :=
  let c0_i32_7444 : BitVec 32 := 0#32
  let c1_i32_7443 : BitVec 32 := 1#32
  let v6102 : BitVec 32 := Scalar.muli v2 c1_i32_7443
  let v6103 : BitVec 32 := Scalar.addi c0_i32_7444 v6102
  v6103.toNat
def k0_dev371 (v2 : BitVec 32) : Nat :=
  let c0_i32_7464 : BitVec 32 := 0#32
  let c1_i32_7463 : BitVec 32 := 1#32
  let v6120 : BitVec 32 := Scalar.muli v2 c1_i32_7463
  let v6121 : BitVec 32 := Scalar.addi c0_i32_7464 v6120
  v6121.toNat
def k0_dev372 (v1 : BitVec 32) : Nat :=
  let c0_i32_7476 : BitVec 32 := 0#32
  let c1_i32_7475 : BitVec 32 := 1#32
  let v6126 : BitVec 32 := Scalar.muli v1 c1_i32_7475
  let v6127 : BitVec 32 := Scalar.addi c0_i32_7476 v6126
  v6127.toNat
def k0_dev373 (v2 : BitVec 32) : Nat :=
  let c0_i32_7496 : BitVec 32 := 0#32
  let c1_i32_7495 : BitVec 32 := 1#32
  let v6144 : BitVec 32 := Scalar.muli v2 c1_i32_7495
  let v6145 : BitVec 32 := Scalar.addi c0_i32_7496 v6144
  v6145.toNat
def k0_dev374 (v1 : BitVec 32) : Nat :=
  let c0_i32_7508 : BitVec 32 := 0#32
  let c1_i32_7507 : BitVec 32 := 1#32
  let v6150 : BitVec 32 := Scalar.muli v1 c1_i32_7507
  let v6151 : BitVec 32 := Scalar.addi c0_i32_7508 v6150
  v6151.toNat
def k0_dev375 (v1 : BitVec 32) : Nat :=
  let c0_i32_7528 : BitVec 32 := 0#32
  let c1_i32_7527 : BitVec 32 := 1#32
  let v6168 : BitVec 32 := Scalar.muli v1 c1_i32_7527
  let v6169 : BitVec 32 := Scalar.addi c0_i32_7528 v6168
  v6169.toNat
def k0_dev376 (v2 : BitVec 32) : Nat :=
  let c0_i32_7540 : BitVec 32 := 0#32
  let c1_i32_7539 : BitVec 32 := 1#32
  let v6174 : BitVec 32 := Scalar.muli v2 c1_i32_7539
  let v6175 : BitVec 32 := Scalar.addi c0_i32_7540 v6174
  v6175.toNat
def k0_dev377 (v1 : BitVec 32) : Nat :=
  let c0_i32_7560 : BitVec 32 := 0#32
  let c1_i32_7559 : BitVec 32 := 1#32
  let v6192 : BitVec 32 := Scalar.muli v1 c1_i32_7559
  let v6193 : BitVec 32 := Scalar.addi c0_i32_7560 v6192
  v6193.toNat
def k0_dev378 (v2 : BitVec 32) : Nat :=
  let c0_i32_7572 : BitVec 32 := 0#32
  let c1_i32_7571 : BitVec 32 := 1#32
  let v6198 : BitVec 32 := Scalar.muli v2 c1_i32_7571
  let v6199 : BitVec 32 := Scalar.addi c0_i32_7572 v6198
  v6199.toNat
def k0_dev379 (v2 : BitVec 32) : Nat :=
  let c0_i32_7592 : BitVec 32 := 0#32
  let c1_i32_7591 : BitVec 32 := 1#32
  let v6216 : BitVec 32 := Scalar.muli v2 c1_i32_7591
  let v6217 : BitVec 32 := Scalar.addi c0_i32_7592 v6216
  v6217.toNat
def k0_dev380 (v1 : BitVec 32) : Nat :=
  let c0_i32_7604 : BitVec 32 := 0#32
  let c1_i32_7603 : BitVec 32 := 1#32
  let v6222 : BitVec 32 := Scalar.muli v1 c1_i32_7603
  let v6223 : BitVec 32 := Scalar.addi c0_i32_7604 v6222
  v6223.toNat
def k0_dev381 (v2 : BitVec 32) : Nat :=
  let c0_i32_7624 : BitVec 32 := 0#32
  let c1_i32_7623 : BitVec 32 := 1#32
  let v6240 : BitVec 32 := Scalar.muli v2 c1_i32_7623
  let v6241 : BitVec 32 := Scalar.addi c0_i32_7624 v6240
  v6241.toNat
def k0_dev382 (v1 : BitVec 32) : Nat :=
  let c0_i32_7636 : BitVec 32 := 0#32
  let c1_i32_7635 : BitVec 32 := 1#32
  let v6246 : BitVec 32 := Scalar.muli v1 c1_i32_7635
  let v6247 : BitVec 32 := Scalar.addi c0_i32_7636 v6246
  v6247.toNat
def k0_dev383 (v1 : BitVec 32) : Nat :=
  let c0_i32_7656 : BitVec 32 := 0#32
  let c1_i32_7655 : BitVec 32 := 1#32
  let v6264 : BitVec 32 := Scalar.muli v1 c1_i32_7655
  let v6265 : BitVec 32 := Scalar.addi c0_i32_7656 v6264
  v6265.toNat
def k0_dev384 (v2 : BitVec 32) : Nat :=
  let c0_i32_7668 : BitVec 32 := 0#32
  let c1_i32_7667 : BitVec 32 := 1#32
  let v6270 : BitVec 32 := Scalar.muli v2 c1_i32_7667
  let v6271 : BitVec 32 := Scalar.addi c0_i32_7668 v6270
  v6271.toNat
def k0_dev385 (v1 : BitVec 32) : Nat :=
  let c0_i32_7688 : BitVec 32 := 0#32
  let c1_i32_7687 : BitVec 32 := 1#32
  let v6288 : BitVec 32 := Scalar.muli v1 c1_i32_7687
  let v6289 : BitVec 32 := Scalar.addi c0_i32_7688 v6288
  v6289.toNat
def k0_dev386 (v2 : BitVec 32) : Nat :=
  let c0_i32_7700 : BitVec 32 := 0#32
  let c1_i32_7699 : BitVec 32 := 1#32
  let v6294 : BitVec 32 := Scalar.muli v2 c1_i32_7699
  let v6295 : BitVec 32 := Scalar.addi c0_i32_7700 v6294
  v6295.toNat
def k0_dev387 (v2 : BitVec 32) : Nat :=
  let c0_i32_7720 : BitVec 32 := 0#32
  let c1_i32_7719 : BitVec 32 := 1#32
  let v6312 : BitVec 32 := Scalar.muli v2 c1_i32_7719
  let v6313 : BitVec 32 := Scalar.addi c0_i32_7720 v6312
  v6313.toNat
def k0_dev388 (v1 : BitVec 32) : Nat :=
  let c0_i32_7732 : BitVec 32 := 0#32
  let c1_i32_7731 : BitVec 32 := 1#32
  let v6318 : BitVec 32 := Scalar.muli v1 c1_i32_7731
  let v6319 : BitVec 32 := Scalar.addi c0_i32_7732 v6318
  v6319.toNat
def k0_dev389 (v2 : BitVec 32) : Nat :=
  let c0_i32_7752 : BitVec 32 := 0#32
  let c1_i32_7751 : BitVec 32 := 1#32
  let v6336 : BitVec 32 := Scalar.muli v2 c1_i32_7751
  let v6337 : BitVec 32 := Scalar.addi c0_i32_7752 v6336
  v6337.toNat
def k0_dev390 (v1 : BitVec 32) : Nat :=
  let c0_i32_7764 : BitVec 32 := 0#32
  let c1_i32_7763 : BitVec 32 := 1#32
  let v6342 : BitVec 32 := Scalar.muli v1 c1_i32_7763
  let v6343 : BitVec 32 := Scalar.addi c0_i32_7764 v6342
  v6343.toNat
def k0_dev391 (v1 : BitVec 32) : Nat :=
  let c0_i32_7784 : BitVec 32 := 0#32
  let c1_i32_7783 : BitVec 32 := 1#32
  let v6360 : BitVec 32 := Scalar.muli v1 c1_i32_7783
  let v6361 : BitVec 32 := Scalar.addi c0_i32_7784 v6360
  v6361.toNat
def k0_dev392 (v2 : BitVec 32) : Nat :=
  let c0_i32_7796 : BitVec 32 := 0#32
  let c1_i32_7795 : BitVec 32 := 1#32
  let v6366 : BitVec 32 := Scalar.muli v2 c1_i32_7795
  let v6367 : BitVec 32 := Scalar.addi c0_i32_7796 v6366
  v6367.toNat
def k0_dev393 (v1 : BitVec 32) : Nat :=
  let c0_i32_7816 : BitVec 32 := 0#32
  let c1_i32_7815 : BitVec 32 := 1#32
  let v6384 : BitVec 32 := Scalar.muli v1 c1_i32_7815
  let v6385 : BitVec 32 := Scalar.addi c0_i32_7816 v6384
  v6385.toNat
def k0_dev394 (v2 : BitVec 32) : Nat :=
  let c0_i32_7828 : BitVec 32 := 0#32
  let c1_i32_7827 : BitVec 32 := 1#32
  let v6390 : BitVec 32 := Scalar.muli v2 c1_i32_7827
  let v6391 : BitVec 32 := Scalar.addi c0_i32_7828 v6390
  v6391.toNat
def k0_dev395 (v2 : BitVec 32) : Nat :=
  let c0_i32_7848 : BitVec 32 := 0#32
  let c1_i32_7847 : BitVec 32 := 1#32
  let v6408 : BitVec 32 := Scalar.muli v2 c1_i32_7847
  let v6409 : BitVec 32 := Scalar.addi c0_i32_7848 v6408
  v6409.toNat
def k0_dev396 (v1 : BitVec 32) : Nat :=
  let c0_i32_7860 : BitVec 32 := 0#32
  let c1_i32_7859 : BitVec 32 := 1#32
  let v6414 : BitVec 32 := Scalar.muli v1 c1_i32_7859
  let v6415 : BitVec 32 := Scalar.addi c0_i32_7860 v6414
  v6415.toNat
def k0_dev397 (v2 : BitVec 32) : Nat :=
  let c0_i32_7880 : BitVec 32 := 0#32
  let c1_i32_7879 : BitVec 32 := 1#32
  let v6432 : BitVec 32 := Scalar.muli v2 c1_i32_7879
  let v6433 : BitVec 32 := Scalar.addi c0_i32_7880 v6432
  v6433.toNat
def k0_dev398 (v1 : BitVec 32) : Nat :=
  let c0_i32_7892 : BitVec 32 := 0#32
  let c1_i32_7891 : BitVec 32 := 1#32
  let v6438 : BitVec 32 := Scalar.muli v1 c1_i32_7891
  let v6439 : BitVec 32 := Scalar.addi c0_i32_7892 v6438
  v6439.toNat
def k0_dev399 (v1 : BitVec 32) : Nat :=
  let c0_i32_7912 : BitVec 32 := 0#32
  let c1_i32_7911 : BitVec 32 := 1#32
  let v6456 : BitVec 32 := Scalar.muli v1 c1_i32_7911
  let v6457 : BitVec 32 := Scalar.addi c0_i32_7912 v6456
  v6457.toNat
def k0_dev400 (v2 : BitVec 32) : Nat :=
  let c0_i32_7924 : BitVec 32 := 0#32
  let c1_i32_7923 : BitVec 32 := 1#32
  let v6462 : BitVec 32 := Scalar.muli v2 c1_i32_7923
  let v6463 : BitVec 32 := Scalar.addi c0_i32_7924 v6462
  v6463.toNat
def k0_dev401 (v1 : BitVec 32) : Nat :=
  let c0_i32_7944 : BitVec 32 := 0#32
  let c1_i32_7943 : BitVec 32 := 1#32
  let v6480 : BitVec 32 := Scalar.muli v1 c1_i32_7943
  let v6481 : BitVec 32 := Scalar.addi c0_i32_7944 v6480
  v6481.toNat
def k0_dev402 (v2 : BitVec 32) : Nat :=
  let c0_i32_7956 : BitVec 32 := 0#32
  let c1_i32_7955 : BitVec 32 := 1#32
  let v6486 : BitVec 32 := Scalar.muli v2 c1_i32_7955
  let v6487 : BitVec 32 := Scalar.addi c0_i32_7956 v6486
  v6487.toNat
def k0_dev403 (v2 : BitVec 32) : Nat :=
  let c0_i32_7976 : BitVec 32 := 0#32
  let c1_i32_7975 : BitVec 32 := 1#32
  let v6504 : BitVec 32 := Scalar.muli v2 c1_i32_7975
  let v6505 : BitVec 32 := Scalar.addi c0_i32_7976 v6504
  v6505.toNat
def k0_dev404 (v1 : BitVec 32) : Nat :=
  let c0_i32_7988 : BitVec 32 := 0#32
  let c1_i32_7987 : BitVec 32 := 1#32
  let v6510 : BitVec 32 := Scalar.muli v1 c1_i32_7987
  let v6511 : BitVec 32 := Scalar.addi c0_i32_7988 v6510
  v6511.toNat
def k0_dev405 (v2 : BitVec 32) : Nat :=
  let c0_i32_8008 : BitVec 32 := 0#32
  let c1_i32_8007 : BitVec 32 := 1#32
  let v6528 : BitVec 32 := Scalar.muli v2 c1_i32_8007
  let v6529 : BitVec 32 := Scalar.addi c0_i32_8008 v6528
  v6529.toNat
def k0_dev406 (v1 : BitVec 32) : Nat :=
  let c0_i32_8020 : BitVec 32 := 0#32
  let c1_i32_8019 : BitVec 32 := 1#32
  let v6534 : BitVec 32 := Scalar.muli v1 c1_i32_8019
  let v6535 : BitVec 32 := Scalar.addi c0_i32_8020 v6534
  v6535.toNat
def k0_dev407 (v1 : BitVec 32) : Nat :=
  let c0_i32_8040 : BitVec 32 := 0#32
  let c1_i32_8039 : BitVec 32 := 1#32
  let v6552 : BitVec 32 := Scalar.muli v1 c1_i32_8039
  let v6553 : BitVec 32 := Scalar.addi c0_i32_8040 v6552
  v6553.toNat
def k0_dev408 (v2 : BitVec 32) : Nat :=
  let c0_i32_8052 : BitVec 32 := 0#32
  let c1_i32_8051 : BitVec 32 := 1#32
  let v6558 : BitVec 32 := Scalar.muli v2 c1_i32_8051
  let v6559 : BitVec 32 := Scalar.addi c0_i32_8052 v6558
  v6559.toNat
def k0_dev409 (v1 : BitVec 32) : Nat :=
  let c0_i32_8072 : BitVec 32 := 0#32
  let c1_i32_8071 : BitVec 32 := 1#32
  let v6576 : BitVec 32 := Scalar.muli v1 c1_i32_8071
  let v6577 : BitVec 32 := Scalar.addi c0_i32_8072 v6576
  v6577.toNat
def k0_dev410 (v2 : BitVec 32) : Nat :=
  let c0_i32_8084 : BitVec 32 := 0#32
  let c1_i32_8083 : BitVec 32 := 1#32
  let v6582 : BitVec 32 := Scalar.muli v2 c1_i32_8083
  let v6583 : BitVec 32 := Scalar.addi c0_i32_8084 v6582
  v6583.toNat
def k0_dev411 (v2 : BitVec 32) : Nat :=
  let c0_i32_8104 : BitVec 32 := 0#32
  let c1_i32_8103 : BitVec 32 := 1#32
  let v6600 : BitVec 32 := Scalar.muli v2 c1_i32_8103
  let v6601 : BitVec 32 := Scalar.addi c0_i32_8104 v6600
  v6601.toNat
def k0_dev412 (v1 : BitVec 32) : Nat :=
  let c0_i32_8116 : BitVec 32 := 0#32
  let c1_i32_8115 : BitVec 32 := 1#32
  let v6606 : BitVec 32 := Scalar.muli v1 c1_i32_8115
  let v6607 : BitVec 32 := Scalar.addi c0_i32_8116 v6606
  v6607.toNat
def k0_dev413 (v2 : BitVec 32) : Nat :=
  let c0_i32_8136 : BitVec 32 := 0#32
  let c1_i32_8135 : BitVec 32 := 1#32
  let v6624 : BitVec 32 := Scalar.muli v2 c1_i32_8135
  let v6625 : BitVec 32 := Scalar.addi c0_i32_8136 v6624
  v6625.toNat
def k0_dev414 (v1 : BitVec 32) : Nat :=
  let c0_i32_8148 : BitVec 32 := 0#32
  let c1_i32_8147 : BitVec 32 := 1#32
  let v6630 : BitVec 32 := Scalar.muli v1 c1_i32_8147
  let v6631 : BitVec 32 := Scalar.addi c0_i32_8148 v6630
  v6631.toNat
def k0_dev415 (v1 : BitVec 32) : Nat :=
  let c0_i32_8168 : BitVec 32 := 0#32
  let c1_i32_8167 : BitVec 32 := 1#32
  let v6648 : BitVec 32 := Scalar.muli v1 c1_i32_8167
  let v6649 : BitVec 32 := Scalar.addi c0_i32_8168 v6648
  v6649.toNat
def k0_dev416 (v2 : BitVec 32) : Nat :=
  let c0_i32_8180 : BitVec 32 := 0#32
  let c1_i32_8179 : BitVec 32 := 1#32
  let v6654 : BitVec 32 := Scalar.muli v2 c1_i32_8179
  let v6655 : BitVec 32 := Scalar.addi c0_i32_8180 v6654
  v6655.toNat
def k0_dev417 (v1 : BitVec 32) : Nat :=
  let c0_i32_8200 : BitVec 32 := 0#32
  let c1_i32_8199 : BitVec 32 := 1#32
  let v6672 : BitVec 32 := Scalar.muli v1 c1_i32_8199
  let v6673 : BitVec 32 := Scalar.addi c0_i32_8200 v6672
  v6673.toNat
def k0_dev418 (v2 : BitVec 32) : Nat :=
  let c0_i32_8212 : BitVec 32 := 0#32
  let c1_i32_8211 : BitVec 32 := 1#32
  let v6678 : BitVec 32 := Scalar.muli v2 c1_i32_8211
  let v6679 : BitVec 32 := Scalar.addi c0_i32_8212 v6678
  v6679.toNat
def k0_dev419 (v2 : BitVec 32) : Nat :=
  let c0_i32_8232 : BitVec 32 := 0#32
  let c1_i32_8231 : BitVec 32 := 1#32
  let v6696 : BitVec 32 := Scalar.muli v2 c1_i32_8231
  let v6697 : BitVec 32 := Scalar.addi c0_i32_8232 v6696
  v6697.toNat
def k0_dev420 (v1 : BitVec 32) : Nat :=
  let c0_i32_8244 : BitVec 32 := 0#32
  let c1_i32_8243 : BitVec 32 := 1#32
  let v6702 : BitVec 32 := Scalar.muli v1 c1_i32_8243
  let v6703 : BitVec 32 := Scalar.addi c0_i32_8244 v6702
  v6703.toNat
def k0_dev421 (v2 : BitVec 32) : Nat :=
  let c0_i32_8264 : BitVec 32 := 0#32
  let c1_i32_8263 : BitVec 32 := 1#32
  let v6720 : BitVec 32 := Scalar.muli v2 c1_i32_8263
  let v6721 : BitVec 32 := Scalar.addi c0_i32_8264 v6720
  v6721.toNat
def k0_dev422 (v1 : BitVec 32) : Nat :=
  let c0_i32_8276 : BitVec 32 := 0#32
  let c1_i32_8275 : BitVec 32 := 1#32
  let v6726 : BitVec 32 := Scalar.muli v1 c1_i32_8275
  let v6727 : BitVec 32 := Scalar.addi c0_i32_8276 v6726
  v6727.toNat
def k0_dev423 (v1 : BitVec 32) : Nat :=
  let c0_i32_8296 : BitVec 32 := 0#32
  let c1_i32_8295 : BitVec 32 := 1#32
  let v6744 : BitVec 32 := Scalar.muli v1 c1_i32_8295
  let v6745 : BitVec 32 := Scalar.addi c0_i32_8296 v6744
  v6745.toNat
def k0_dev424 (v2 : BitVec 32) : Nat :=
  let c0_i32_8308 : BitVec 32 := 0#32
  let c1_i32_8307 : BitVec 32 := 1#32
  let v6750 : BitVec 32 := Scalar.muli v2 c1_i32_8307
  let v6751 : BitVec 32 := Scalar.addi c0_i32_8308 v6750
  v6751.toNat
def k0_dev425 (v1 : BitVec 32) : Nat :=
  let c0_i32_8328 : BitVec 32 := 0#32
  let c1_i32_8327 : BitVec 32 := 1#32
  let v6768 : BitVec 32 := Scalar.muli v1 c1_i32_8327
  let v6769 : BitVec 32 := Scalar.addi c0_i32_8328 v6768
  v6769.toNat
def k0_dev426 (v2 : BitVec 32) : Nat :=
  let c0_i32_8340 : BitVec 32 := 0#32
  let c1_i32_8339 : BitVec 32 := 1#32
  let v6774 : BitVec 32 := Scalar.muli v2 c1_i32_8339
  let v6775 : BitVec 32 := Scalar.addi c0_i32_8340 v6774
  v6775.toNat
def k0_dev427 (v2 : BitVec 32) : Nat :=
  let c0_i32_8360 : BitVec 32 := 0#32
  let c1_i32_8359 : BitVec 32 := 1#32
  let v6792 : BitVec 32 := Scalar.muli v2 c1_i32_8359
  let v6793 : BitVec 32 := Scalar.addi c0_i32_8360 v6792
  v6793.toNat
def k0_dev428 (v1 : BitVec 32) : Nat :=
  let c0_i32_8372 : BitVec 32 := 0#32
  let c1_i32_8371 : BitVec 32 := 1#32
  let v6798 : BitVec 32 := Scalar.muli v1 c1_i32_8371
  let v6799 : BitVec 32 := Scalar.addi c0_i32_8372 v6798
  v6799.toNat
def k0_dev429 (v2 : BitVec 32) : Nat :=
  let c0_i32_8392 : BitVec 32 := 0#32
  let c1_i32_8391 : BitVec 32 := 1#32
  let v6816 : BitVec 32 := Scalar.muli v2 c1_i32_8391
  let v6817 : BitVec 32 := Scalar.addi c0_i32_8392 v6816
  v6817.toNat
def k0_dev430 (v1 : BitVec 32) : Nat :=
  let c0_i32_8404 : BitVec 32 := 0#32
  let c1_i32_8403 : BitVec 32 := 1#32
  let v6822 : BitVec 32 := Scalar.muli v1 c1_i32_8403
  let v6823 : BitVec 32 := Scalar.addi c0_i32_8404 v6822
  v6823.toNat
def k0_dev431 (v1 : BitVec 32) : Nat :=
  let c0_i32_8424 : BitVec 32 := 0#32
  let c1_i32_8423 : BitVec 32 := 1#32
  let v6840 : BitVec 32 := Scalar.muli v1 c1_i32_8423
  let v6841 : BitVec 32 := Scalar.addi c0_i32_8424 v6840
  v6841.toNat
def k0_dev432 (v2 : BitVec 32) : Nat :=
  let c0_i32_8436 : BitVec 32 := 0#32
  let c1_i32_8435 : BitVec 32 := 1#32
  let v6846 : BitVec 32 := Scalar.muli v2 c1_i32_8435
  let v6847 : BitVec 32 := Scalar.addi c0_i32_8436 v6846
  v6847.toNat
def k0_dev433 (v1 : BitVec 32) : Nat :=
  let c0_i32_8456 : BitVec 32 := 0#32
  let c1_i32_8455 : BitVec 32 := 1#32
  let v6864 : BitVec 32 := Scalar.muli v1 c1_i32_8455
  let v6865 : BitVec 32 := Scalar.addi c0_i32_8456 v6864
  v6865.toNat
def k0_dev434 (v2 : BitVec 32) : Nat :=
  let c0_i32_8468 : BitVec 32 := 0#32
  let c1_i32_8467 : BitVec 32 := 1#32
  let v6870 : BitVec 32 := Scalar.muli v2 c1_i32_8467
  let v6871 : BitVec 32 := Scalar.addi c0_i32_8468 v6870
  v6871.toNat
def k0_dev435 (v2 : BitVec 32) : Nat :=
  let c0_i32_8488 : BitVec 32 := 0#32
  let c1_i32_8487 : BitVec 32 := 1#32
  let v6888 : BitVec 32 := Scalar.muli v2 c1_i32_8487
  let v6889 : BitVec 32 := Scalar.addi c0_i32_8488 v6888
  v6889.toNat
def k0_dev436 (v1 : BitVec 32) : Nat :=
  let c0_i32_8500 : BitVec 32 := 0#32
  let c1_i32_8499 : BitVec 32 := 1#32
  let v6894 : BitVec 32 := Scalar.muli v1 c1_i32_8499
  let v6895 : BitVec 32 := Scalar.addi c0_i32_8500 v6894
  v6895.toNat
def k0_dev437 (v2 : BitVec 32) : Nat :=
  let c0_i32_8520 : BitVec 32 := 0#32
  let c1_i32_8519 : BitVec 32 := 1#32
  let v6912 : BitVec 32 := Scalar.muli v2 c1_i32_8519
  let v6913 : BitVec 32 := Scalar.addi c0_i32_8520 v6912
  v6913.toNat
def k0_dev438 (v1 : BitVec 32) : Nat :=
  let c0_i32_8532 : BitVec 32 := 0#32
  let c1_i32_8531 : BitVec 32 := 1#32
  let v6918 : BitVec 32 := Scalar.muli v1 c1_i32_8531
  let v6919 : BitVec 32 := Scalar.addi c0_i32_8532 v6918
  v6919.toNat
def k0_dev439 (v1 : BitVec 32) : Nat :=
  let c0_i32_8552 : BitVec 32 := 0#32
  let c1_i32_8551 : BitVec 32 := 1#32
  let v6936 : BitVec 32 := Scalar.muli v1 c1_i32_8551
  let v6937 : BitVec 32 := Scalar.addi c0_i32_8552 v6936
  v6937.toNat
def k0_dev440 (v2 : BitVec 32) : Nat :=
  let c0_i32_8564 : BitVec 32 := 0#32
  let c1_i32_8563 : BitVec 32 := 1#32
  let v6942 : BitVec 32 := Scalar.muli v2 c1_i32_8563
  let v6943 : BitVec 32 := Scalar.addi c0_i32_8564 v6942
  v6943.toNat
def k0_dev441 (v1 : BitVec 32) : Nat :=
  let c0_i32_8584 : BitVec 32 := 0#32
  let c1_i32_8583 : BitVec 32 := 1#32
  let v6960 : BitVec 32 := Scalar.muli v1 c1_i32_8583
  let v6961 : BitVec 32 := Scalar.addi c0_i32_8584 v6960
  v6961.toNat
def k0_dev442 (v2 : BitVec 32) : Nat :=
  let c0_i32_8596 : BitVec 32 := 0#32
  let c1_i32_8595 : BitVec 32 := 1#32
  let v6966 : BitVec 32 := Scalar.muli v2 c1_i32_8595
  let v6967 : BitVec 32 := Scalar.addi c0_i32_8596 v6966
  v6967.toNat
def k0_dev443 (v2 : BitVec 32) : Nat :=
  let c0_i32_8616 : BitVec 32 := 0#32
  let c1_i32_8615 : BitVec 32 := 1#32
  let v6984 : BitVec 32 := Scalar.muli v2 c1_i32_8615
  let v6985 : BitVec 32 := Scalar.addi c0_i32_8616 v6984
  v6985.toNat
def k0_dev444 (v1 : BitVec 32) : Nat :=
  let c0_i32_8628 : BitVec 32 := 0#32
  let c1_i32_8627 : BitVec 32 := 1#32
  let v6990 : BitVec 32 := Scalar.muli v1 c1_i32_8627
  let v6991 : BitVec 32 := Scalar.addi c0_i32_8628 v6990
  v6991.toNat
def k0_dev445 (v2 : BitVec 32) : Nat :=
  let c0_i32_8648 : BitVec 32 := 0#32
  let c1_i32_8647 : BitVec 32 := 1#32
  let v7008 : BitVec 32 := Scalar.muli v2 c1_i32_8647
  let v7009 : BitVec 32 := Scalar.addi c0_i32_8648 v7008
  v7009.toNat
def k0_dev446 (v1 : BitVec 32) : Nat :=
  let c0_i32_8660 : BitVec 32 := 0#32
  let c1_i32_8659 : BitVec 32 := 1#32
  let v7014 : BitVec 32 := Scalar.muli v1 c1_i32_8659
  let v7015 : BitVec 32 := Scalar.addi c0_i32_8660 v7014
  v7015.toNat
def k0_dev447 (v1 : BitVec 32) : Nat :=
  let c0_i32_8680 : BitVec 32 := 0#32
  let c1_i32_8679 : BitVec 32 := 1#32
  let v7032 : BitVec 32 := Scalar.muli v1 c1_i32_8679
  let v7033 : BitVec 32 := Scalar.addi c0_i32_8680 v7032
  v7033.toNat
def k0_dev448 (v2 : BitVec 32) : Nat :=
  let c0_i32_8692 : BitVec 32 := 0#32
  let c1_i32_8691 : BitVec 32 := 1#32
  let v7038 : BitVec 32 := Scalar.muli v2 c1_i32_8691
  let v7039 : BitVec 32 := Scalar.addi c0_i32_8692 v7038
  v7039.toNat
def k0_dev449 (v1 : BitVec 32) : Nat :=
  let c0_i32_8712 : BitVec 32 := 0#32
  let c1_i32_8711 : BitVec 32 := 1#32
  let v7056 : BitVec 32 := Scalar.muli v1 c1_i32_8711
  let v7057 : BitVec 32 := Scalar.addi c0_i32_8712 v7056
  v7057.toNat
def k0_dev450 (v2 : BitVec 32) : Nat :=
  let c0_i32_8724 : BitVec 32 := 0#32
  let c1_i32_8723 : BitVec 32 := 1#32
  let v7062 : BitVec 32 := Scalar.muli v2 c1_i32_8723
  let v7063 : BitVec 32 := Scalar.addi c0_i32_8724 v7062
  v7063.toNat
def k0_dev451 (v2 : BitVec 32) : Nat :=
  let c0_i32_8744 : BitVec 32 := 0#32
  let c1_i32_8743 : BitVec 32 := 1#32
  let v7080 : BitVec 32 := Scalar.muli v2 c1_i32_8743
  let v7081 : BitVec 32 := Scalar.addi c0_i32_8744 v7080
  v7081.toNat
def k0_dev452 (v1 : BitVec 32) : Nat :=
  let c0_i32_8756 : BitVec 32 := 0#32
  let c1_i32_8755 : BitVec 32 := 1#32
  let v7086 : BitVec 32 := Scalar.muli v1 c1_i32_8755
  let v7087 : BitVec 32 := Scalar.addi c0_i32_8756 v7086
  v7087.toNat
def k0_dev453 (v2 : BitVec 32) : Nat :=
  let c0_i32_8776 : BitVec 32 := 0#32
  let c1_i32_8775 : BitVec 32 := 1#32
  let v7104 : BitVec 32 := Scalar.muli v2 c1_i32_8775
  let v7105 : BitVec 32 := Scalar.addi c0_i32_8776 v7104
  v7105.toNat
def k0_dev454 (v1 : BitVec 32) : Nat :=
  let c0_i32_8788 : BitVec 32 := 0#32
  let c1_i32_8787 : BitVec 32 := 1#32
  let v7110 : BitVec 32 := Scalar.muli v1 c1_i32_8787
  let v7111 : BitVec 32 := Scalar.addi c0_i32_8788 v7110
  v7111.toNat
def k0_dev455 (v1 : BitVec 32) : Nat :=
  let c0_i32_8808 : BitVec 32 := 0#32
  let c1_i32_8807 : BitVec 32 := 1#32
  let v7128 : BitVec 32 := Scalar.muli v1 c1_i32_8807
  let v7129 : BitVec 32 := Scalar.addi c0_i32_8808 v7128
  v7129.toNat
def k0_dev456 (v2 : BitVec 32) : Nat :=
  let c0_i32_8820 : BitVec 32 := 0#32
  let c1_i32_8819 : BitVec 32 := 1#32
  let v7134 : BitVec 32 := Scalar.muli v2 c1_i32_8819
  let v7135 : BitVec 32 := Scalar.addi c0_i32_8820 v7134
  v7135.toNat
def k0_dev457 (v1 : BitVec 32) : Nat :=
  let c0_i32_8840 : BitVec 32 := 0#32
  let c1_i32_8839 : BitVec 32 := 1#32
  let v7152 : BitVec 32 := Scalar.muli v1 c1_i32_8839
  let v7153 : BitVec 32 := Scalar.addi c0_i32_8840 v7152
  v7153.toNat
def k0_dev458 (v2 : BitVec 32) : Nat :=
  let c0_i32_8852 : BitVec 32 := 0#32
  let c1_i32_8851 : BitVec 32 := 1#32
  let v7158 : BitVec 32 := Scalar.muli v2 c1_i32_8851
  let v7159 : BitVec 32 := Scalar.addi c0_i32_8852 v7158
  v7159.toNat
def k0_dev459 (v2 : BitVec 32) : Nat :=
  let c0_i32_8872 : BitVec 32 := 0#32
  let c1_i32_8871 : BitVec 32 := 1#32
  let v7176 : BitVec 32 := Scalar.muli v2 c1_i32_8871
  let v7177 : BitVec 32 := Scalar.addi c0_i32_8872 v7176
  v7177.toNat
def k0_dev460 (v1 : BitVec 32) : Nat :=
  let c0_i32_8884 : BitVec 32 := 0#32
  let c1_i32_8883 : BitVec 32 := 1#32
  let v7182 : BitVec 32 := Scalar.muli v1 c1_i32_8883
  let v7183 : BitVec 32 := Scalar.addi c0_i32_8884 v7182
  v7183.toNat
def k0_dev461 (v2 : BitVec 32) : Nat :=
  let c0_i32_8904 : BitVec 32 := 0#32
  let c1_i32_8903 : BitVec 32 := 1#32
  let v7200 : BitVec 32 := Scalar.muli v2 c1_i32_8903
  let v7201 : BitVec 32 := Scalar.addi c0_i32_8904 v7200
  v7201.toNat
def k0_dev462 (v1 : BitVec 32) : Nat :=
  let c0_i32_8916 : BitVec 32 := 0#32
  let c1_i32_8915 : BitVec 32 := 1#32
  let v7206 : BitVec 32 := Scalar.muli v1 c1_i32_8915
  let v7207 : BitVec 32 := Scalar.addi c0_i32_8916 v7206
  v7207.toNat
def k0_dev463 (v1 : BitVec 32) : Nat :=
  let c0_i32_8936 : BitVec 32 := 0#32
  let c1_i32_8935 : BitVec 32 := 1#32
  let v7224 : BitVec 32 := Scalar.muli v1 c1_i32_8935
  let v7225 : BitVec 32 := Scalar.addi c0_i32_8936 v7224
  v7225.toNat
def k0_dev464 (v2 : BitVec 32) : Nat :=
  let c0_i32_8948 : BitVec 32 := 0#32
  let c1_i32_8947 : BitVec 32 := 1#32
  let v7230 : BitVec 32 := Scalar.muli v2 c1_i32_8947
  let v7231 : BitVec 32 := Scalar.addi c0_i32_8948 v7230
  v7231.toNat
def k0_dev465 (v1 : BitVec 32) : Nat :=
  let c0_i32_8968 : BitVec 32 := 0#32
  let c1_i32_8967 : BitVec 32 := 1#32
  let v7248 : BitVec 32 := Scalar.muli v1 c1_i32_8967
  let v7249 : BitVec 32 := Scalar.addi c0_i32_8968 v7248
  v7249.toNat
def k0_dev466 (v2 : BitVec 32) : Nat :=
  let c0_i32_8980 : BitVec 32 := 0#32
  let c1_i32_8979 : BitVec 32 := 1#32
  let v7254 : BitVec 32 := Scalar.muli v2 c1_i32_8979
  let v7255 : BitVec 32 := Scalar.addi c0_i32_8980 v7254
  v7255.toNat
def k0_dev467 (v2 : BitVec 32) : Nat :=
  let c0_i32_9000 : BitVec 32 := 0#32
  let c1_i32_8999 : BitVec 32 := 1#32
  let v7272 : BitVec 32 := Scalar.muli v2 c1_i32_8999
  let v7273 : BitVec 32 := Scalar.addi c0_i32_9000 v7272
  v7273.toNat
def k0_dev468 (v1 : BitVec 32) : Nat :=
  let c0_i32_9012 : BitVec 32 := 0#32
  let c1_i32_9011 : BitVec 32 := 1#32
  let v7278 : BitVec 32 := Scalar.muli v1 c1_i32_9011
  let v7279 : BitVec 32 := Scalar.addi c0_i32_9012 v7278
  v7279.toNat
def k0_dev469 (v2 : BitVec 32) : Nat :=
  let c0_i32_9032 : BitVec 32 := 0#32
  let c1_i32_9031 : BitVec 32 := 1#32
  let v7296 : BitVec 32 := Scalar.muli v2 c1_i32_9031
  let v7297 : BitVec 32 := Scalar.addi c0_i32_9032 v7296
  v7297.toNat
def k0_dev470 (v1 : BitVec 32) : Nat :=
  let c0_i32_9044 : BitVec 32 := 0#32
  let c1_i32_9043 : BitVec 32 := 1#32
  let v7302 : BitVec 32 := Scalar.muli v1 c1_i32_9043
  let v7303 : BitVec 32 := Scalar.addi c0_i32_9044 v7302
  v7303.toNat
def k0_dev471 (v1 : BitVec 32) : Nat :=
  let c0_i32_9064 : BitVec 32 := 0#32
  let c1_i32_9063 : BitVec 32 := 1#32
  let v7320 : BitVec 32 := Scalar.muli v1 c1_i32_9063
  let v7321 : BitVec 32 := Scalar.addi c0_i32_9064 v7320
  v7321.toNat
def k0_dev472 (v2 : BitVec 32) : Nat :=
  let c0_i32_9076 : BitVec 32 := 0#32
  let c1_i32_9075 : BitVec 32 := 1#32
  let v7326 : BitVec 32 := Scalar.muli v2 c1_i32_9075
  let v7327 : BitVec 32 := Scalar.addi c0_i32_9076 v7326
  v7327.toNat
def k0_dev473 (v1 : BitVec 32) : Nat :=
  let c0_i32_9096 : BitVec 32 := 0#32
  let c1_i32_9095 : BitVec 32 := 1#32
  let v7344 : BitVec 32 := Scalar.muli v1 c1_i32_9095
  let v7345 : BitVec 32 := Scalar.addi c0_i32_9096 v7344
  v7345.toNat
def k0_dev474 (v2 : BitVec 32) : Nat :=
  let c0_i32_9108 : BitVec 32 := 0#32
  let c1_i32_9107 : BitVec 32 := 1#32
  let v7350 : BitVec 32 := Scalar.muli v2 c1_i32_9107
  let v7351 : BitVec 32 := Scalar.addi c0_i32_9108 v7350
  v7351.toNat
def k0_dev475 (v2 : BitVec 32) : Nat :=
  let c0_i32_9128 : BitVec 32 := 0#32
  let c1_i32_9127 : BitVec 32 := 1#32
  let v7368 : BitVec 32 := Scalar.muli v2 c1_i32_9127
  let v7369 : BitVec 32 := Scalar.addi c0_i32_9128 v7368
  v7369.toNat
def k0_dev476 (v1 : BitVec 32) : Nat :=
  let c0_i32_9140 : BitVec 32 := 0#32
  let c1_i32_9139 : BitVec 32 := 1#32
  let v7374 : BitVec 32 := Scalar.muli v1 c1_i32_9139
  let v7375 : BitVec 32 := Scalar.addi c0_i32_9140 v7374
  v7375.toNat
def k0_dev477 (v2 : BitVec 32) : Nat :=
  let c0_i32_9160 : BitVec 32 := 0#32
  let c1_i32_9159 : BitVec 32 := 1#32
  let v7392 : BitVec 32 := Scalar.muli v2 c1_i32_9159
  let v7393 : BitVec 32 := Scalar.addi c0_i32_9160 v7392
  v7393.toNat
def k0_dev478 (v1 : BitVec 32) : Nat :=
  let c0_i32_9172 : BitVec 32 := 0#32
  let c1_i32_9171 : BitVec 32 := 1#32
  let v7398 : BitVec 32 := Scalar.muli v1 c1_i32_9171
  let v7399 : BitVec 32 := Scalar.addi c0_i32_9172 v7398
  v7399.toNat
def k0_dev479 (v1 : BitVec 32) : Nat :=
  let c0_i32_9192 : BitVec 32 := 0#32
  let c1_i32_9191 : BitVec 32 := 1#32
  let v7416 : BitVec 32 := Scalar.muli v1 c1_i32_9191
  let v7417 : BitVec 32 := Scalar.addi c0_i32_9192 v7416
  v7417.toNat
def k0_dev480 (v2 : BitVec 32) : Nat :=
  let c0_i32_9204 : BitVec 32 := 0#32
  let c1_i32_9203 : BitVec 32 := 1#32
  let v7422 : BitVec 32 := Scalar.muli v2 c1_i32_9203
  let v7423 : BitVec 32 := Scalar.addi c0_i32_9204 v7422
  v7423.toNat
def k0_dev481 (v1 : BitVec 32) : Nat :=
  let c0_i32_9224 : BitVec 32 := 0#32
  let c1_i32_9223 : BitVec 32 := 1#32
  let v7440 : BitVec 32 := Scalar.muli v1 c1_i32_9223
  let v7441 : BitVec 32 := Scalar.addi c0_i32_9224 v7440
  v7441.toNat
def k0_dev482 (v2 : BitVec 32) : Nat :=
  let c0_i32_9236 : BitVec 32 := 0#32
  let c1_i32_9235 : BitVec 32 := 1#32
  let v7446 : BitVec 32 := Scalar.muli v2 c1_i32_9235
  let v7447 : BitVec 32 := Scalar.addi c0_i32_9236 v7446
  v7447.toNat
def k0_dev483 (v2 : BitVec 32) : Nat :=
  let c0_i32_9256 : BitVec 32 := 0#32
  let c1_i32_9255 : BitVec 32 := 1#32
  let v7464 : BitVec 32 := Scalar.muli v2 c1_i32_9255
  let v7465 : BitVec 32 := Scalar.addi c0_i32_9256 v7464
  v7465.toNat
def k0_dev484 (v1 : BitVec 32) : Nat :=
  let c0_i32_9268 : BitVec 32 := 0#32
  let c1_i32_9267 : BitVec 32 := 1#32
  let v7470 : BitVec 32 := Scalar.muli v1 c1_i32_9267
  let v7471 : BitVec 32 := Scalar.addi c0_i32_9268 v7470
  v7471.toNat
def k0_dev485 (v2 : BitVec 32) : Nat :=
  let c0_i32_9288 : BitVec 32 := 0#32
  let c1_i32_9287 : BitVec 32 := 1#32
  let v7488 : BitVec 32 := Scalar.muli v2 c1_i32_9287
  let v7489 : BitVec 32 := Scalar.addi c0_i32_9288 v7488
  v7489.toNat
def k0_dev486 (v1 : BitVec 32) : Nat :=
  let c0_i32_9300 : BitVec 32 := 0#32
  let c1_i32_9299 : BitVec 32 := 1#32
  let v7494 : BitVec 32 := Scalar.muli v1 c1_i32_9299
  let v7495 : BitVec 32 := Scalar.addi c0_i32_9300 v7494
  v7495.toNat
def k0_dev487 (v2 : BitVec 32) : Nat :=
  let c0_i32_9329 : BitVec 32 := 0#32
  let c1_i32_9328 : BitVec 32 := 1#32
  let v7516 : BitVec 32 := Scalar.muli v2 c1_i32_9328
  let v7517 : BitVec 32 := Scalar.addi c0_i32_9329 v7516
  v7517.toNat
def k0_dev488 (v2 : BitVec 32) : Nat :=
  let c0_i32_9358 : BitVec 32 := 0#32
  let c1_i32_9357 : BitVec 32 := 1#32
  let v7538 : BitVec 32 := Scalar.muli v2 c1_i32_9357
  let v7539 : BitVec 32 := Scalar.addi c0_i32_9358 v7538
  v7539.toNat

def k0_chk2_0 (v2 : BitVec 32) : Prop :=
  ((k0_dev2 v2) < nD) ∧
  ((k0_dev3 v2) < nD) ∧
  ((k0_dev4 v2) < nD) ∧
  ((k0_dev8 v2) < nD) ∧
  ((k0_dev10 v2) < nD) ∧
  ((k0_dev11 v2) < nD) ∧
  ((k0_dev13 v2) < nD) ∧
  ((k0_dev16 v2) < nD) ∧
  ((k0_dev18 v2) < nD) ∧
  ((k0_dev19 v2) < nD) ∧
  ((k0_dev21 v2) < nD) ∧
  ((k0_dev24 v2) < nD) ∧
  ((k0_dev26 v2) < nD) ∧
  ((k0_dev27 v2) < nD) ∧
  ((k0_dev29 v2) < nD) ∧
  ((k0_dev32 v2) < nD) ∧
  ((k0_dev34 v2) < nD) ∧
  ((k0_dev35 v2) < nD) ∧
  ((k0_dev37 v2) < nD) ∧
  ((k0_dev40 v2) < nD) ∧
  ((k0_dev42 v2) < nD) ∧
  ((k0_dev43 v2) < nD) ∧
  ((k0_dev45 v2) < nD) ∧
  ((k0_dev48 v2) < nD) ∧
  ((k0_dev50 v2) < nD) ∧
  ((k0_dev51 v2) < nD) ∧
  ((k0_dev53 v2) < nD) ∧
  ((k0_dev56 v2) < nD) ∧
  ((k0_dev58 v2) < nD) ∧
  ((k0_dev59 v2) < nD) ∧
  ((k0_dev61 v2) < nD) ∧
  ((k0_dev64 v2) < nD)
def k0_chk2_1 (v2 : BitVec 32) : Prop :=
  ((k0_dev66 v2) < nD) ∧
  ((k0_dev67 v2) < nD) ∧
  ((k0_dev69 v2) < nD) ∧
  ((k0_dev72 v2) < nD) ∧
  ((k0_dev74 v2) < nD) ∧
  ((k0_dev75 v2) < nD) ∧
  ((k0_dev77 v2) < nD) ∧
  ((k0_dev80 v2) < nD) ∧
  ((k0_dev82 v2) < nD) ∧
  ((k0_dev83 v2) < nD) ∧
  ((k0_dev85 v2) < nD) ∧
  ((k0_dev88 v2) < nD) ∧
  ((k0_dev90 v2) < nD) ∧
  ((k0_dev91 v2) < nD) ∧
  ((k0_dev93 v2) < nD) ∧
  ((k0_dev96 v2) < nD) ∧
  ((k0_dev98 v2) < nD) ∧
  ((k0_dev99 v2) < nD) ∧
  ((k0_dev101 v2) < nD) ∧
  ((k0_dev104 v2) < nD) ∧
  ((k0_dev106 v2) < nD) ∧
  ((k0_dev107 v2) < nD) ∧
  ((k0_dev109 v2) < nD) ∧
  ((k0_dev112 v2) < nD) ∧
  ((k0_dev114 v2) < nD) ∧
  ((k0_dev115 v2) < nD) ∧
  ((k0_dev117 v2) < nD) ∧
  ((k0_dev120 v2) < nD) ∧
  ((k0_dev122 v2) < nD) ∧
  ((k0_dev123 v2) < nD) ∧
  ((k0_dev125 v2) < nD) ∧
  ((k0_dev128 v2) < nD)
def k0_chk2_2 (v2 : BitVec 32) : Prop :=
  ((k0_dev130 v2) < nD) ∧
  ((k0_dev131 v2) < nD) ∧
  ((k0_dev133 v2) < nD) ∧
  ((k0_dev136 v2) < nD) ∧
  ((k0_dev138 v2) < nD) ∧
  ((k0_dev139 v2) < nD) ∧
  ((k0_dev141 v2) < nD) ∧
  ((k0_dev144 v2) < nD) ∧
  ((k0_dev146 v2) < nD) ∧
  ((k0_dev147 v2) < nD) ∧
  ((k0_dev149 v2) < nD) ∧
  ((k0_dev152 v2) < nD) ∧
  ((k0_dev154 v2) < nD) ∧
  ((k0_dev155 v2) < nD) ∧
  ((k0_dev157 v2) < nD) ∧
  ((k0_dev160 v2) < nD) ∧
  ((k0_dev162 v2) < nD) ∧
  ((k0_dev163 v2) < nD) ∧
  ((k0_dev165 v2) < nD) ∧
  ((k0_dev168 v2) < nD) ∧
  ((k0_dev170 v2) < nD) ∧
  ((k0_dev171 v2) < nD) ∧
  ((k0_dev173 v2) < nD) ∧
  ((k0_dev176 v2) < nD) ∧
  ((k0_dev178 v2) < nD) ∧
  ((k0_dev179 v2) < nD) ∧
  ((k0_dev181 v2) < nD) ∧
  ((k0_dev184 v2) < nD) ∧
  ((k0_dev186 v2) < nD) ∧
  ((k0_dev187 v2) < nD) ∧
  ((k0_dev189 v2) < nD) ∧
  ((k0_dev192 v2) < nD)
def k0_chk2_3 (v2 : BitVec 32) : Prop :=
  ((k0_dev194 v2) < nD) ∧
  ((k0_dev195 v2) < nD) ∧
  ((k0_dev197 v2) < nD) ∧
  ((k0_dev200 v2) < nD) ∧
  ((k0_dev202 v2) < nD) ∧
  ((k0_dev203 v2) < nD) ∧
  ((k0_dev205 v2) < nD) ∧
  ((k0_dev208 v2) < nD) ∧
  ((k0_dev210 v2) < nD) ∧
  ((k0_dev211 v2) < nD) ∧
  ((k0_dev213 v2) < nD) ∧
  ((k0_dev216 v2) < nD) ∧
  ((k0_dev218 v2) < nD) ∧
  ((k0_dev219 v2) < nD) ∧
  ((k0_dev221 v2) < nD) ∧
  ((k0_dev224 v2) < nD) ∧
  ((k0_dev226 v2) < nD) ∧
  ((k0_dev227 v2) < nD) ∧
  ((k0_dev229 v2) < nD) ∧
  ((k0_dev232 v2) < nD) ∧
  ((k0_dev234 v2) < nD) ∧
  ((k0_dev235 v2) < nD) ∧
  ((k0_dev237 v2) < nD) ∧
  ((k0_dev240 v2) < nD) ∧
  ((k0_dev242 v2) < nD) ∧
  ((k0_dev243 v2) < nD) ∧
  ((k0_dev245 v2) < nD) ∧
  ((k0_dev248 v2) < nD) ∧
  ((k0_dev250 v2) < nD) ∧
  ((k0_dev251 v2) < nD) ∧
  ((k0_dev253 v2) < nD) ∧
  ((k0_dev256 v2) < nD)
def k0_chk2_4 (v2 : BitVec 32) : Prop :=
  ((k0_dev258 v2) < nD) ∧
  ((k0_dev259 v2) < nD) ∧
  ((k0_dev261 v2) < nD) ∧
  ((k0_dev264 v2) < nD) ∧
  ((k0_dev266 v2) < nD) ∧
  ((k0_dev267 v2) < nD) ∧
  ((k0_dev269 v2) < nD) ∧
  ((k0_dev272 v2) < nD) ∧
  ((k0_dev274 v2) < nD) ∧
  ((k0_dev275 v2) < nD) ∧
  ((k0_dev277 v2) < nD) ∧
  ((k0_dev280 v2) < nD) ∧
  ((k0_dev282 v2) < nD) ∧
  ((k0_dev283 v2) < nD) ∧
  ((k0_dev285 v2) < nD) ∧
  ((k0_dev288 v2) < nD) ∧
  ((k0_dev290 v2) < nD) ∧
  ((k0_dev291 v2) < nD) ∧
  ((k0_dev293 v2) < nD) ∧
  ((k0_dev296 v2) < nD) ∧
  ((k0_dev298 v2) < nD) ∧
  ((k0_dev299 v2) < nD) ∧
  ((k0_dev301 v2) < nD) ∧
  ((k0_dev304 v2) < nD) ∧
  ((k0_dev306 v2) < nD) ∧
  ((k0_dev307 v2) < nD) ∧
  ((k0_dev309 v2) < nD) ∧
  ((k0_dev312 v2) < nD) ∧
  ((k0_dev314 v2) < nD) ∧
  ((k0_dev315 v2) < nD) ∧
  ((k0_dev317 v2) < nD) ∧
  ((k0_dev320 v2) < nD)
def k0_chk2_5 (v2 : BitVec 32) : Prop :=
  ((k0_dev322 v2) < nD) ∧
  ((k0_dev323 v2) < nD) ∧
  ((k0_dev325 v2) < nD) ∧
  ((k0_dev328 v2) < nD) ∧
  ((k0_dev330 v2) < nD) ∧
  ((k0_dev331 v2) < nD) ∧
  ((k0_dev333 v2) < nD) ∧
  ((k0_dev336 v2) < nD) ∧
  ((k0_dev338 v2) < nD) ∧
  ((k0_dev339 v2) < nD) ∧
  ((k0_dev341 v2) < nD) ∧
  ((k0_dev344 v2) < nD) ∧
  ((k0_dev346 v2) < nD) ∧
  ((k0_dev347 v2) < nD) ∧
  ((k0_dev349 v2) < nD) ∧
  ((k0_dev352 v2) < nD) ∧
  ((k0_dev354 v2) < nD) ∧
  ((k0_dev355 v2) < nD) ∧
  ((k0_dev357 v2) < nD) ∧
  ((k0_dev360 v2) < nD) ∧
  ((k0_dev362 v2) < nD) ∧
  ((k0_dev363 v2) < nD) ∧
  ((k0_dev365 v2) < nD) ∧
  ((k0_dev368 v2) < nD) ∧
  ((k0_dev370 v2) < nD) ∧
  ((k0_dev371 v2) < nD) ∧
  ((k0_dev373 v2) < nD) ∧
  ((k0_dev376 v2) < nD) ∧
  ((k0_dev378 v2) < nD) ∧
  ((k0_dev379 v2) < nD) ∧
  ((k0_dev381 v2) < nD) ∧
  ((k0_dev384 v2) < nD)
def k0_chk2_6 (v2 : BitVec 32) : Prop :=
  ((k0_dev386 v2) < nD) ∧
  ((k0_dev387 v2) < nD) ∧
  ((k0_dev389 v2) < nD) ∧
  ((k0_dev392 v2) < nD) ∧
  ((k0_dev394 v2) < nD) ∧
  ((k0_dev395 v2) < nD) ∧
  ((k0_dev397 v2) < nD) ∧
  ((k0_dev400 v2) < nD) ∧
  ((k0_dev402 v2) < nD) ∧
  ((k0_dev403 v2) < nD) ∧
  ((k0_dev405 v2) < nD) ∧
  ((k0_dev408 v2) < nD) ∧
  ((k0_dev410 v2) < nD) ∧
  ((k0_dev411 v2) < nD) ∧
  ((k0_dev413 v2) < nD) ∧
  ((k0_dev416 v2) < nD) ∧
  ((k0_dev418 v2) < nD) ∧
  ((k0_dev419 v2) < nD) ∧
  ((k0_dev421 v2) < nD) ∧
  ((k0_dev424 v2) < nD) ∧
  ((k0_dev426 v2) < nD) ∧
  ((k0_dev427 v2) < nD) ∧
  ((k0_dev429 v2) < nD) ∧
  ((k0_dev432 v2) < nD) ∧
  ((k0_dev434 v2) < nD) ∧
  ((k0_dev435 v2) < nD) ∧
  ((k0_dev437 v2) < nD) ∧
  ((k0_dev440 v2) < nD) ∧
  ((k0_dev442 v2) < nD) ∧
  ((k0_dev443 v2) < nD) ∧
  ((k0_dev445 v2) < nD) ∧
  ((k0_dev448 v2) < nD)
def k0_chk2_7 (v2 : BitVec 32) : Prop :=
  ((k0_dev450 v2) < nD) ∧
  ((k0_dev451 v2) < nD) ∧
  ((k0_dev453 v2) < nD) ∧
  ((k0_dev456 v2) < nD) ∧
  ((k0_dev458 v2) < nD) ∧
  ((k0_dev459 v2) < nD) ∧
  ((k0_dev461 v2) < nD) ∧
  ((k0_dev464 v2) < nD) ∧
  ((k0_dev466 v2) < nD) ∧
  ((k0_dev467 v2) < nD) ∧
  ((k0_dev469 v2) < nD) ∧
  ((k0_dev472 v2) < nD) ∧
  ((k0_dev474 v2) < nD) ∧
  ((k0_dev475 v2) < nD) ∧
  ((k0_dev477 v2) < nD) ∧
  ((k0_dev480 v2) < nD) ∧
  ((k0_dev482 v2) < nD) ∧
  ((k0_dev483 v2) < nD) ∧
  ((k0_dev485 v2) < nD) ∧
  ((k0_dev487 v2) < nD) ∧
  ((k0_dev488 v2) < nD)
def k0_chk2 (v2 : BitVec 32) : Prop :=
  k0_chk2_0 v2 ∧
  k0_chk2_1 v2 ∧
  k0_chk2_2 v2 ∧
  k0_chk2_3 v2 ∧
  k0_chk2_4 v2 ∧
  k0_chk2_5 v2 ∧
  k0_chk2_6 v2 ∧
  k0_chk2_7 v2
theorem k0_dev2_lt : ∀ (v2 : BitVec 32) (k0_hw2 : k0_chk2 v2), (k0_dev2 v2) < nD := fun v2 k0_hw2 => k0_hw2.1.1
theorem k0_dev3_lt : ∀ (v2 : BitVec 32) (k0_hw2 : k0_chk2 v2), (k0_dev3 v2) < nD := fun v2 k0_hw2 => k0_hw2.1.2.1
theorem k0_dev4_lt : ∀ (v2 : BitVec 32) (k0_hw2 : k0_chk2 v2), (k0_dev4 v2) < nD := fun v2 k0_hw2 => k0_hw2.1.2.2.1
theorem k0_dev8_lt : ∀ (v2 : BitVec 32) (k0_hw2 : k0_chk2 v2), (k0_dev8 v2) < nD := fun v2 k0_hw2 => k0_hw2.1.2.2.2.1
theorem k0_dev10_lt : ∀ (v2 : BitVec 32) (k0_hw2 : k0_chk2 v2), (k0_dev10 v2) < nD := fun v2 k0_hw2 => k0_hw2.1.2.2.2.2.1
theorem k0_dev11_lt : ∀ (v2 : BitVec 32) (k0_hw2 : k0_chk2 v2), (k0_dev11 v2) < nD := fun v2 k0_hw2 => k0_hw2.1.2.2.2.2.2.1
theorem k0_dev13_lt : ∀ (v2 : BitVec 32) (k0_hw2 : k0_chk2 v2), (k0_dev13 v2) < nD := fun v2 k0_hw2 => k0_hw2.1.2.2.2.2.2.2.1
theorem k0_dev16_lt : ∀ (v2 : BitVec 32) (k0_hw2 : k0_chk2 v2), (k0_dev16 v2) < nD := fun v2 k0_hw2 => k0_hw2.1.2.2.2.2.2.2.2.1
theorem k0_dev18_lt : ∀ (v2 : BitVec 32) (k0_hw2 : k0_chk2 v2), (k0_dev18 v2) < nD := fun v2 k0_hw2 => k0_hw2.1.2.2.2.2.2.2.2.2.1
theorem k0_dev19_lt : ∀ (v2 : BitVec 32) (k0_hw2 : k0_chk2 v2), (k0_dev19 v2) < nD := fun v2 k0_hw2 => k0_hw2.1.2.2.2.2.2.2.2.2.2.1
theorem k0_dev21_lt : ∀ (v2 : BitVec 32) (k0_hw2 : k0_chk2 v2), (k0_dev21 v2) < nD := fun v2 k0_hw2 => k0_hw2.1.2.2.2.2.2.2.2.2.2.2.1
theorem k0_dev24_lt : ∀ (v2 : BitVec 32) (k0_hw2 : k0_chk2 v2), (k0_dev24 v2) < nD := fun v2 k0_hw2 => k0_hw2.1.2.2.2.2.2.2.2.2.2.2.2.1
theorem k0_dev26_lt : ∀ (v2 : BitVec 32) (k0_hw2 : k0_chk2 v2), (k0_dev26 v2) < nD := fun v2 k0_hw2 => k0_hw2.1.2.2.2.2.2.2.2.2.2.2.2.2.1
theorem k0_dev27_lt : ∀ (v2 : BitVec 32) (k0_hw2 : k0_chk2 v2), (k0_dev27 v2) < nD := fun v2 k0_hw2 => k0_hw2.1.2.2.2.2.2.2.2.2.2.2.2.2.2.1
theorem k0_dev29_lt : ∀ (v2 : BitVec 32) (k0_hw2 : k0_chk2 v2), (k0_dev29 v2) < nD := fun v2 k0_hw2 => k0_hw2.1.2.2.2.2.2.2.2.2.2.2.2.2.2.2.1
theorem k0_dev32_lt : ∀ (v2 : BitVec 32) (k0_hw2 : k0_chk2 v2), (k0_dev32 v2) < nD := fun v2 k0_hw2 => k0_hw2.1.2.2.2.2.2.2.2.2.2.2.2.2.2.2.2.1
theorem k0_dev34_lt : ∀ (v2 : BitVec 32) (k0_hw2 : k0_chk2 v2), (k0_dev34 v2) < nD := fun v2 k0_hw2 => k0_hw2.1.2.2.2.2.2.2.2.2.2.2.2.2.2.2.2.2.1
theorem k0_dev35_lt : ∀ (v2 : BitVec 32) (k0_hw2 : k0_chk2 v2), (k0_dev35 v2) < nD := fun v2 k0_hw2 => k0_hw2.1.2.2.2.2.2.2.2.2.2.2.2.2.2.2.2.2.2.1
theorem k0_dev37_lt : ∀ (v2 : BitVec 32) (k0_hw2 : k0_chk2 v2), (k0_dev37 v2) < nD := fun v2 k0_hw2 => k0_hw2.1.2.2.2.2.2.2.2.2.2.2.2.2.2.2.2.2.2.2.1
theorem k0_dev40_lt : ∀ (v2 : BitVec 32) (k0_hw2 : k0_chk2 v2), (k0_dev40 v2) < nD := fun v2 k0_hw2 => k0_hw2.1.2.2.2.2.2.2.2.2.2.2.2.2.2.2.2.2.2.2.2.1
theorem k0_dev42_lt : ∀ (v2 : BitVec 32) (k0_hw2 : k0_chk2 v2), (k0_dev42 v2) < nD := fun v2 k0_hw2 => k0_hw2.1.2.2.2.2.2.2.2.2.2.2.2.2.2.2.2.2.2.2.2.2.1
theorem k0_dev43_lt : ∀ (v2 : BitVec 32) (k0_hw2 : k0_chk2 v2), (k0_dev43 v2) < nD := fun v2 k0_hw2 => k0_hw2.1.2.2.2.2.2.2.2.2.2.2.2.2.2.2.2.2.2.2.2.2.2.1
theorem k0_dev45_lt : ∀ (v2 : BitVec 32) (k0_hw2 : k0_chk2 v2), (k0_dev45 v2) < nD := fun v2 k0_hw2 => k0_hw2.1.2.2.2.2.2.2.2.2.2.2.2.2.2.2.2.2.2.2.2.2.2.2.1
theorem k0_dev48_lt : ∀ (v2 : BitVec 32) (k0_hw2 : k0_chk2 v2), (k0_dev48 v2) < nD := fun v2 k0_hw2 => k0_hw2.1.2.2.2.2.2.2.2.2.2.2.2.2.2.2.2.2.2.2.2.2.2.2.2.1
theorem k0_dev50_lt : ∀ (v2 : BitVec 32) (k0_hw2 : k0_chk2 v2), (k0_dev50 v2) < nD := fun v2 k0_hw2 => k0_hw2.1.2.2.2.2.2.2.2.2.2.2.2.2.2.2.2.2.2.2.2.2.2.2.2.2.1
theorem k0_dev51_lt : ∀ (v2 : BitVec 32) (k0_hw2 : k0_chk2 v2), (k0_dev51 v2) < nD := fun v2 k0_hw2 => k0_hw2.1.2.2.2.2.2.2.2.2.2.2.2.2.2.2.2.2.2.2.2.2.2.2.2.2.2.1
theorem k0_dev53_lt : ∀ (v2 : BitVec 32) (k0_hw2 : k0_chk2 v2), (k0_dev53 v2) < nD := fun v2 k0_hw2 => k0_hw2.1.2.2.2.2.2.2.2.2.2.2.2.2.2.2.2.2.2.2.2.2.2.2.2.2.2.2.1
theorem k0_dev56_lt : ∀ (v2 : BitVec 32) (k0_hw2 : k0_chk2 v2), (k0_dev56 v2) < nD := fun v2 k0_hw2 => k0_hw2.1.2.2.2.2.2.2.2.2.2.2.2.2.2.2.2.2.2.2.2.2.2.2.2.2.2.2.2.1
theorem k0_dev58_lt : ∀ (v2 : BitVec 32) (k0_hw2 : k0_chk2 v2), (k0_dev58 v2) < nD := fun v2 k0_hw2 => k0_hw2.1.2.2.2.2.2.2.2.2.2.2.2.2.2.2.2.2.2.2.2.2.2.2.2.2.2.2.2.2.1
theorem k0_dev59_lt : ∀ (v2 : BitVec 32) (k0_hw2 : k0_chk2 v2), (k0_dev59 v2) < nD := fun v2 k0_hw2 => k0_hw2.1.2.2.2.2.2.2.2.2.2.2.2.2.2.2.2.2.2.2.2.2.2.2.2.2.2.2.2.2.2.1
theorem k0_dev61_lt : ∀ (v2 : BitVec 32) (k0_hw2 : k0_chk2 v2), (k0_dev61 v2) < nD := fun v2 k0_hw2 => k0_hw2.1.2.2.2.2.2.2.2.2.2.2.2.2.2.2.2.2.2.2.2.2.2.2.2.2.2.2.2.2.2.2.1
theorem k0_dev64_lt : ∀ (v2 : BitVec 32) (k0_hw2 : k0_chk2 v2), (k0_dev64 v2) < nD := fun v2 k0_hw2 => k0_hw2.1.2.2.2.2.2.2.2.2.2.2.2.2.2.2.2.2.2.2.2.2.2.2.2.2.2.2.2.2.2.2.2
theorem k0_dev66_lt : ∀ (v2 : BitVec 32) (k0_hw2 : k0_chk2 v2), (k0_dev66 v2) < nD := fun v2 k0_hw2 => k0_hw2.2.1.1
theorem k0_dev67_lt : ∀ (v2 : BitVec 32) (k0_hw2 : k0_chk2 v2), (k0_dev67 v2) < nD := fun v2 k0_hw2 => k0_hw2.2.1.2.1
theorem k0_dev69_lt : ∀ (v2 : BitVec 32) (k0_hw2 : k0_chk2 v2), (k0_dev69 v2) < nD := fun v2 k0_hw2 => k0_hw2.2.1.2.2.1
theorem k0_dev72_lt : ∀ (v2 : BitVec 32) (k0_hw2 : k0_chk2 v2), (k0_dev72 v2) < nD := fun v2 k0_hw2 => k0_hw2.2.1.2.2.2.1
theorem k0_dev74_lt : ∀ (v2 : BitVec 32) (k0_hw2 : k0_chk2 v2), (k0_dev74 v2) < nD := fun v2 k0_hw2 => k0_hw2.2.1.2.2.2.2.1
theorem k0_dev75_lt : ∀ (v2 : BitVec 32) (k0_hw2 : k0_chk2 v2), (k0_dev75 v2) < nD := fun v2 k0_hw2 => k0_hw2.2.1.2.2.2.2.2.1
theorem k0_dev77_lt : ∀ (v2 : BitVec 32) (k0_hw2 : k0_chk2 v2), (k0_dev77 v2) < nD := fun v2 k0_hw2 => k0_hw2.2.1.2.2.2.2.2.2.1
theorem k0_dev80_lt : ∀ (v2 : BitVec 32) (k0_hw2 : k0_chk2 v2), (k0_dev80 v2) < nD := fun v2 k0_hw2 => k0_hw2.2.1.2.2.2.2.2.2.2.1
theorem k0_dev82_lt : ∀ (v2 : BitVec 32) (k0_hw2 : k0_chk2 v2), (k0_dev82 v2) < nD := fun v2 k0_hw2 => k0_hw2.2.1.2.2.2.2.2.2.2.2.1
theorem k0_dev83_lt : ∀ (v2 : BitVec 32) (k0_hw2 : k0_chk2 v2), (k0_dev83 v2) < nD := fun v2 k0_hw2 => k0_hw2.2.1.2.2.2.2.2.2.2.2.2.1
theorem k0_dev85_lt : ∀ (v2 : BitVec 32) (k0_hw2 : k0_chk2 v2), (k0_dev85 v2) < nD := fun v2 k0_hw2 => k0_hw2.2.1.2.2.2.2.2.2.2.2.2.2.1
theorem k0_dev88_lt : ∀ (v2 : BitVec 32) (k0_hw2 : k0_chk2 v2), (k0_dev88 v2) < nD := fun v2 k0_hw2 => k0_hw2.2.1.2.2.2.2.2.2.2.2.2.2.2.1
theorem k0_dev90_lt : ∀ (v2 : BitVec 32) (k0_hw2 : k0_chk2 v2), (k0_dev90 v2) < nD := fun v2 k0_hw2 => k0_hw2.2.1.2.2.2.2.2.2.2.2.2.2.2.2.1
theorem k0_dev91_lt : ∀ (v2 : BitVec 32) (k0_hw2 : k0_chk2 v2), (k0_dev91 v2) < nD := fun v2 k0_hw2 => k0_hw2.2.1.2.2.2.2.2.2.2.2.2.2.2.2.2.1
theorem k0_dev93_lt : ∀ (v2 : BitVec 32) (k0_hw2 : k0_chk2 v2), (k0_dev93 v2) < nD := fun v2 k0_hw2 => k0_hw2.2.1.2.2.2.2.2.2.2.2.2.2.2.2.2.2.1
theorem k0_dev96_lt : ∀ (v2 : BitVec 32) (k0_hw2 : k0_chk2 v2), (k0_dev96 v2) < nD := fun v2 k0_hw2 => k0_hw2.2.1.2.2.2.2.2.2.2.2.2.2.2.2.2.2.2.1
theorem k0_dev98_lt : ∀ (v2 : BitVec 32) (k0_hw2 : k0_chk2 v2), (k0_dev98 v2) < nD := fun v2 k0_hw2 => k0_hw2.2.1.2.2.2.2.2.2.2.2.2.2.2.2.2.2.2.2.1
theorem k0_dev99_lt : ∀ (v2 : BitVec 32) (k0_hw2 : k0_chk2 v2), (k0_dev99 v2) < nD := fun v2 k0_hw2 => k0_hw2.2.1.2.2.2.2.2.2.2.2.2.2.2.2.2.2.2.2.2.1
theorem k0_dev101_lt : ∀ (v2 : BitVec 32) (k0_hw2 : k0_chk2 v2), (k0_dev101 v2) < nD := fun v2 k0_hw2 => k0_hw2.2.1.2.2.2.2.2.2.2.2.2.2.2.2.2.2.2.2.2.2.1
theorem k0_dev104_lt : ∀ (v2 : BitVec 32) (k0_hw2 : k0_chk2 v2), (k0_dev104 v2) < nD := fun v2 k0_hw2 => k0_hw2.2.1.2.2.2.2.2.2.2.2.2.2.2.2.2.2.2.2.2.2.2.1
theorem k0_dev106_lt : ∀ (v2 : BitVec 32) (k0_hw2 : k0_chk2 v2), (k0_dev106 v2) < nD := fun v2 k0_hw2 => k0_hw2.2.1.2.2.2.2.2.2.2.2.2.2.2.2.2.2.2.2.2.2.2.2.1
theorem k0_dev107_lt : ∀ (v2 : BitVec 32) (k0_hw2 : k0_chk2 v2), (k0_dev107 v2) < nD := fun v2 k0_hw2 => k0_hw2.2.1.2.2.2.2.2.2.2.2.2.2.2.2.2.2.2.2.2.2.2.2.2.1
theorem k0_dev109_lt : ∀ (v2 : BitVec 32) (k0_hw2 : k0_chk2 v2), (k0_dev109 v2) < nD := fun v2 k0_hw2 => k0_hw2.2.1.2.2.2.2.2.2.2.2.2.2.2.2.2.2.2.2.2.2.2.2.2.2.1
theorem k0_dev112_lt : ∀ (v2 : BitVec 32) (k0_hw2 : k0_chk2 v2), (k0_dev112 v2) < nD := fun v2 k0_hw2 => k0_hw2.2.1.2.2.2.2.2.2.2.2.2.2.2.2.2.2.2.2.2.2.2.2.2.2.2.1
theorem k0_dev114_lt : ∀ (v2 : BitVec 32) (k0_hw2 : k0_chk2 v2), (k0_dev114 v2) < nD := fun v2 k0_hw2 => k0_hw2.2.1.2.2.2.2.2.2.2.2.2.2.2.2.2.2.2.2.2.2.2.2.2.2.2.2.1
theorem k0_dev115_lt : ∀ (v2 : BitVec 32) (k0_hw2 : k0_chk2 v2), (k0_dev115 v2) < nD := fun v2 k0_hw2 => k0_hw2.2.1.2.2.2.2.2.2.2.2.2.2.2.2.2.2.2.2.2.2.2.2.2.2.2.2.2.1
theorem k0_dev117_lt : ∀ (v2 : BitVec 32) (k0_hw2 : k0_chk2 v2), (k0_dev117 v2) < nD := fun v2 k0_hw2 => k0_hw2.2.1.2.2.2.2.2.2.2.2.2.2.2.2.2.2.2.2.2.2.2.2.2.2.2.2.2.2.1
theorem k0_dev120_lt : ∀ (v2 : BitVec 32) (k0_hw2 : k0_chk2 v2), (k0_dev120 v2) < nD := fun v2 k0_hw2 => k0_hw2.2.1.2.2.2.2.2.2.2.2.2.2.2.2.2.2.2.2.2.2.2.2.2.2.2.2.2.2.2.1
theorem k0_dev122_lt : ∀ (v2 : BitVec 32) (k0_hw2 : k0_chk2 v2), (k0_dev122 v2) < nD := fun v2 k0_hw2 => k0_hw2.2.1.2.2.2.2.2.2.2.2.2.2.2.2.2.2.2.2.2.2.2.2.2.2.2.2.2.2.2.2.1
theorem k0_dev123_lt : ∀ (v2 : BitVec 32) (k0_hw2 : k0_chk2 v2), (k0_dev123 v2) < nD := fun v2 k0_hw2 => k0_hw2.2.1.2.2.2.2.2.2.2.2.2.2.2.2.2.2.2.2.2.2.2.2.2.2.2.2.2.2.2.2.2.1
theorem k0_dev125_lt : ∀ (v2 : BitVec 32) (k0_hw2 : k0_chk2 v2), (k0_dev125 v2) < nD := fun v2 k0_hw2 => k0_hw2.2.1.2.2.2.2.2.2.2.2.2.2.2.2.2.2.2.2.2.2.2.2.2.2.2.2.2.2.2.2.2.2.1
theorem k0_dev128_lt : ∀ (v2 : BitVec 32) (k0_hw2 : k0_chk2 v2), (k0_dev128 v2) < nD := fun v2 k0_hw2 => k0_hw2.2.1.2.2.2.2.2.2.2.2.2.2.2.2.2.2.2.2.2.2.2.2.2.2.2.2.2.2.2.2.2.2.2
theorem k0_dev130_lt : ∀ (v2 : BitVec 32) (k0_hw2 : k0_chk2 v2), (k0_dev130 v2) < nD := fun v2 k0_hw2 => k0_hw2.2.2.1.1
theorem k0_dev131_lt : ∀ (v2 : BitVec 32) (k0_hw2 : k0_chk2 v2), (k0_dev131 v2) < nD := fun v2 k0_hw2 => k0_hw2.2.2.1.2.1
theorem k0_dev133_lt : ∀ (v2 : BitVec 32) (k0_hw2 : k0_chk2 v2), (k0_dev133 v2) < nD := fun v2 k0_hw2 => k0_hw2.2.2.1.2.2.1
theorem k0_dev136_lt : ∀ (v2 : BitVec 32) (k0_hw2 : k0_chk2 v2), (k0_dev136 v2) < nD := fun v2 k0_hw2 => k0_hw2.2.2.1.2.2.2.1
theorem k0_dev138_lt : ∀ (v2 : BitVec 32) (k0_hw2 : k0_chk2 v2), (k0_dev138 v2) < nD := fun v2 k0_hw2 => k0_hw2.2.2.1.2.2.2.2.1
theorem k0_dev139_lt : ∀ (v2 : BitVec 32) (k0_hw2 : k0_chk2 v2), (k0_dev139 v2) < nD := fun v2 k0_hw2 => k0_hw2.2.2.1.2.2.2.2.2.1
theorem k0_dev141_lt : ∀ (v2 : BitVec 32) (k0_hw2 : k0_chk2 v2), (k0_dev141 v2) < nD := fun v2 k0_hw2 => k0_hw2.2.2.1.2.2.2.2.2.2.1
theorem k0_dev144_lt : ∀ (v2 : BitVec 32) (k0_hw2 : k0_chk2 v2), (k0_dev144 v2) < nD := fun v2 k0_hw2 => k0_hw2.2.2.1.2.2.2.2.2.2.2.1
theorem k0_dev146_lt : ∀ (v2 : BitVec 32) (k0_hw2 : k0_chk2 v2), (k0_dev146 v2) < nD := fun v2 k0_hw2 => k0_hw2.2.2.1.2.2.2.2.2.2.2.2.1
theorem k0_dev147_lt : ∀ (v2 : BitVec 32) (k0_hw2 : k0_chk2 v2), (k0_dev147 v2) < nD := fun v2 k0_hw2 => k0_hw2.2.2.1.2.2.2.2.2.2.2.2.2.1
theorem k0_dev149_lt : ∀ (v2 : BitVec 32) (k0_hw2 : k0_chk2 v2), (k0_dev149 v2) < nD := fun v2 k0_hw2 => k0_hw2.2.2.1.2.2.2.2.2.2.2.2.2.2.1
theorem k0_dev152_lt : ∀ (v2 : BitVec 32) (k0_hw2 : k0_chk2 v2), (k0_dev152 v2) < nD := fun v2 k0_hw2 => k0_hw2.2.2.1.2.2.2.2.2.2.2.2.2.2.2.1
theorem k0_dev154_lt : ∀ (v2 : BitVec 32) (k0_hw2 : k0_chk2 v2), (k0_dev154 v2) < nD := fun v2 k0_hw2 => k0_hw2.2.2.1.2.2.2.2.2.2.2.2.2.2.2.2.1
theorem k0_dev155_lt : ∀ (v2 : BitVec 32) (k0_hw2 : k0_chk2 v2), (k0_dev155 v2) < nD := fun v2 k0_hw2 => k0_hw2.2.2.1.2.2.2.2.2.2.2.2.2.2.2.2.2.1
theorem k0_dev157_lt : ∀ (v2 : BitVec 32) (k0_hw2 : k0_chk2 v2), (k0_dev157 v2) < nD := fun v2 k0_hw2 => k0_hw2.2.2.1.2.2.2.2.2.2.2.2.2.2.2.2.2.2.1
theorem k0_dev160_lt : ∀ (v2 : BitVec 32) (k0_hw2 : k0_chk2 v2), (k0_dev160 v2) < nD := fun v2 k0_hw2 => k0_hw2.2.2.1.2.2.2.2.2.2.2.2.2.2.2.2.2.2.2.1
theorem k0_dev162_lt : ∀ (v2 : BitVec 32) (k0_hw2 : k0_chk2 v2), (k0_dev162 v2) < nD := fun v2 k0_hw2 => k0_hw2.2.2.1.2.2.2.2.2.2.2.2.2.2.2.2.2.2.2.2.1
theorem k0_dev163_lt : ∀ (v2 : BitVec 32) (k0_hw2 : k0_chk2 v2), (k0_dev163 v2) < nD := fun v2 k0_hw2 => k0_hw2.2.2.1.2.2.2.2.2.2.2.2.2.2.2.2.2.2.2.2.2.1
theorem k0_dev165_lt : ∀ (v2 : BitVec 32) (k0_hw2 : k0_chk2 v2), (k0_dev165 v2) < nD := fun v2 k0_hw2 => k0_hw2.2.2.1.2.2.2.2.2.2.2.2.2.2.2.2.2.2.2.2.2.2.1
theorem k0_dev168_lt : ∀ (v2 : BitVec 32) (k0_hw2 : k0_chk2 v2), (k0_dev168 v2) < nD := fun v2 k0_hw2 => k0_hw2.2.2.1.2.2.2.2.2.2.2.2.2.2.2.2.2.2.2.2.2.2.2.1
theorem k0_dev170_lt : ∀ (v2 : BitVec 32) (k0_hw2 : k0_chk2 v2), (k0_dev170 v2) < nD := fun v2 k0_hw2 => k0_hw2.2.2.1.2.2.2.2.2.2.2.2.2.2.2.2.2.2.2.2.2.2.2.2.1
theorem k0_dev171_lt : ∀ (v2 : BitVec 32) (k0_hw2 : k0_chk2 v2), (k0_dev171 v2) < nD := fun v2 k0_hw2 => k0_hw2.2.2.1.2.2.2.2.2.2.2.2.2.2.2.2.2.2.2.2.2.2.2.2.2.1
theorem k0_dev173_lt : ∀ (v2 : BitVec 32) (k0_hw2 : k0_chk2 v2), (k0_dev173 v2) < nD := fun v2 k0_hw2 => k0_hw2.2.2.1.2.2.2.2.2.2.2.2.2.2.2.2.2.2.2.2.2.2.2.2.2.2.1
theorem k0_dev176_lt : ∀ (v2 : BitVec 32) (k0_hw2 : k0_chk2 v2), (k0_dev176 v2) < nD := fun v2 k0_hw2 => k0_hw2.2.2.1.2.2.2.2.2.2.2.2.2.2.2.2.2.2.2.2.2.2.2.2.2.2.2.1
theorem k0_dev178_lt : ∀ (v2 : BitVec 32) (k0_hw2 : k0_chk2 v2), (k0_dev178 v2) < nD := fun v2 k0_hw2 => k0_hw2.2.2.1.2.2.2.2.2.2.2.2.2.2.2.2.2.2.2.2.2.2.2.2.2.2.2.2.1
theorem k0_dev179_lt : ∀ (v2 : BitVec 32) (k0_hw2 : k0_chk2 v2), (k0_dev179 v2) < nD := fun v2 k0_hw2 => k0_hw2.2.2.1.2.2.2.2.2.2.2.2.2.2.2.2.2.2.2.2.2.2.2.2.2.2.2.2.2.1
theorem k0_dev181_lt : ∀ (v2 : BitVec 32) (k0_hw2 : k0_chk2 v2), (k0_dev181 v2) < nD := fun v2 k0_hw2 => k0_hw2.2.2.1.2.2.2.2.2.2.2.2.2.2.2.2.2.2.2.2.2.2.2.2.2.2.2.2.2.2.1
theorem k0_dev184_lt : ∀ (v2 : BitVec 32) (k0_hw2 : k0_chk2 v2), (k0_dev184 v2) < nD := fun v2 k0_hw2 => k0_hw2.2.2.1.2.2.2.2.2.2.2.2.2.2.2.2.2.2.2.2.2.2.2.2.2.2.2.2.2.2.2.1
theorem k0_dev186_lt : ∀ (v2 : BitVec 32) (k0_hw2 : k0_chk2 v2), (k0_dev186 v2) < nD := fun v2 k0_hw2 => k0_hw2.2.2.1.2.2.2.2.2.2.2.2.2.2.2.2.2.2.2.2.2.2.2.2.2.2.2.2.2.2.2.2.1
theorem k0_dev187_lt : ∀ (v2 : BitVec 32) (k0_hw2 : k0_chk2 v2), (k0_dev187 v2) < nD := fun v2 k0_hw2 => k0_hw2.2.2.1.2.2.2.2.2.2.2.2.2.2.2.2.2.2.2.2.2.2.2.2.2.2.2.2.2.2.2.2.2.1
theorem k0_dev189_lt : ∀ (v2 : BitVec 32) (k0_hw2 : k0_chk2 v2), (k0_dev189 v2) < nD := fun v2 k0_hw2 => k0_hw2.2.2.1.2.2.2.2.2.2.2.2.2.2.2.2.2.2.2.2.2.2.2.2.2.2.2.2.2.2.2.2.2.2.1
theorem k0_dev192_lt : ∀ (v2 : BitVec 32) (k0_hw2 : k0_chk2 v2), (k0_dev192 v2) < nD := fun v2 k0_hw2 => k0_hw2.2.2.1.2.2.2.2.2.2.2.2.2.2.2.2.2.2.2.2.2.2.2.2.2.2.2.2.2.2.2.2.2.2.2
theorem k0_dev194_lt : ∀ (v2 : BitVec 32) (k0_hw2 : k0_chk2 v2), (k0_dev194 v2) < nD := fun v2 k0_hw2 => k0_hw2.2.2.2.1.1
theorem k0_dev195_lt : ∀ (v2 : BitVec 32) (k0_hw2 : k0_chk2 v2), (k0_dev195 v2) < nD := fun v2 k0_hw2 => k0_hw2.2.2.2.1.2.1
theorem k0_dev197_lt : ∀ (v2 : BitVec 32) (k0_hw2 : k0_chk2 v2), (k0_dev197 v2) < nD := fun v2 k0_hw2 => k0_hw2.2.2.2.1.2.2.1
theorem k0_dev200_lt : ∀ (v2 : BitVec 32) (k0_hw2 : k0_chk2 v2), (k0_dev200 v2) < nD := fun v2 k0_hw2 => k0_hw2.2.2.2.1.2.2.2.1
theorem k0_dev202_lt : ∀ (v2 : BitVec 32) (k0_hw2 : k0_chk2 v2), (k0_dev202 v2) < nD := fun v2 k0_hw2 => k0_hw2.2.2.2.1.2.2.2.2.1
theorem k0_dev203_lt : ∀ (v2 : BitVec 32) (k0_hw2 : k0_chk2 v2), (k0_dev203 v2) < nD := fun v2 k0_hw2 => k0_hw2.2.2.2.1.2.2.2.2.2.1
theorem k0_dev205_lt : ∀ (v2 : BitVec 32) (k0_hw2 : k0_chk2 v2), (k0_dev205 v2) < nD := fun v2 k0_hw2 => k0_hw2.2.2.2.1.2.2.2.2.2.2.1
theorem k0_dev208_lt : ∀ (v2 : BitVec 32) (k0_hw2 : k0_chk2 v2), (k0_dev208 v2) < nD := fun v2 k0_hw2 => k0_hw2.2.2.2.1.2.2.2.2.2.2.2.1
theorem k0_dev210_lt : ∀ (v2 : BitVec 32) (k0_hw2 : k0_chk2 v2), (k0_dev210 v2) < nD := fun v2 k0_hw2 => k0_hw2.2.2.2.1.2.2.2.2.2.2.2.2.1
theorem k0_dev211_lt : ∀ (v2 : BitVec 32) (k0_hw2 : k0_chk2 v2), (k0_dev211 v2) < nD := fun v2 k0_hw2 => k0_hw2.2.2.2.1.2.2.2.2.2.2.2.2.2.1
theorem k0_dev213_lt : ∀ (v2 : BitVec 32) (k0_hw2 : k0_chk2 v2), (k0_dev213 v2) < nD := fun v2 k0_hw2 => k0_hw2.2.2.2.1.2.2.2.2.2.2.2.2.2.2.1
theorem k0_dev216_lt : ∀ (v2 : BitVec 32) (k0_hw2 : k0_chk2 v2), (k0_dev216 v2) < nD := fun v2 k0_hw2 => k0_hw2.2.2.2.1.2.2.2.2.2.2.2.2.2.2.2.1
theorem k0_dev218_lt : ∀ (v2 : BitVec 32) (k0_hw2 : k0_chk2 v2), (k0_dev218 v2) < nD := fun v2 k0_hw2 => k0_hw2.2.2.2.1.2.2.2.2.2.2.2.2.2.2.2.2.1
theorem k0_dev219_lt : ∀ (v2 : BitVec 32) (k0_hw2 : k0_chk2 v2), (k0_dev219 v2) < nD := fun v2 k0_hw2 => k0_hw2.2.2.2.1.2.2.2.2.2.2.2.2.2.2.2.2.2.1
theorem k0_dev221_lt : ∀ (v2 : BitVec 32) (k0_hw2 : k0_chk2 v2), (k0_dev221 v2) < nD := fun v2 k0_hw2 => k0_hw2.2.2.2.1.2.2.2.2.2.2.2.2.2.2.2.2.2.2.1
theorem k0_dev224_lt : ∀ (v2 : BitVec 32) (k0_hw2 : k0_chk2 v2), (k0_dev224 v2) < nD := fun v2 k0_hw2 => k0_hw2.2.2.2.1.2.2.2.2.2.2.2.2.2.2.2.2.2.2.2.1
theorem k0_dev226_lt : ∀ (v2 : BitVec 32) (k0_hw2 : k0_chk2 v2), (k0_dev226 v2) < nD := fun v2 k0_hw2 => k0_hw2.2.2.2.1.2.2.2.2.2.2.2.2.2.2.2.2.2.2.2.2.1
theorem k0_dev227_lt : ∀ (v2 : BitVec 32) (k0_hw2 : k0_chk2 v2), (k0_dev227 v2) < nD := fun v2 k0_hw2 => k0_hw2.2.2.2.1.2.2.2.2.2.2.2.2.2.2.2.2.2.2.2.2.2.1
theorem k0_dev229_lt : ∀ (v2 : BitVec 32) (k0_hw2 : k0_chk2 v2), (k0_dev229 v2) < nD := fun v2 k0_hw2 => k0_hw2.2.2.2.1.2.2.2.2.2.2.2.2.2.2.2.2.2.2.2.2.2.2.1
theorem k0_dev232_lt : ∀ (v2 : BitVec 32) (k0_hw2 : k0_chk2 v2), (k0_dev232 v2) < nD := fun v2 k0_hw2 => k0_hw2.2.2.2.1.2.2.2.2.2.2.2.2.2.2.2.2.2.2.2.2.2.2.2.1
theorem k0_dev234_lt : ∀ (v2 : BitVec 32) (k0_hw2 : k0_chk2 v2), (k0_dev234 v2) < nD := fun v2 k0_hw2 => k0_hw2.2.2.2.1.2.2.2.2.2.2.2.2.2.2.2.2.2.2.2.2.2.2.2.2.1
theorem k0_dev235_lt : ∀ (v2 : BitVec 32) (k0_hw2 : k0_chk2 v2), (k0_dev235 v2) < nD := fun v2 k0_hw2 => k0_hw2.2.2.2.1.2.2.2.2.2.2.2.2.2.2.2.2.2.2.2.2.2.2.2.2.2.1
theorem k0_dev237_lt : ∀ (v2 : BitVec 32) (k0_hw2 : k0_chk2 v2), (k0_dev237 v2) < nD := fun v2 k0_hw2 => k0_hw2.2.2.2.1.2.2.2.2.2.2.2.2.2.2.2.2.2.2.2.2.2.2.2.2.2.2.1
theorem k0_dev240_lt : ∀ (v2 : BitVec 32) (k0_hw2 : k0_chk2 v2), (k0_dev240 v2) < nD := fun v2 k0_hw2 => k0_hw2.2.2.2.1.2.2.2.2.2.2.2.2.2.2.2.2.2.2.2.2.2.2.2.2.2.2.2.1
theorem k0_dev242_lt : ∀ (v2 : BitVec 32) (k0_hw2 : k0_chk2 v2), (k0_dev242 v2) < nD := fun v2 k0_hw2 => k0_hw2.2.2.2.1.2.2.2.2.2.2.2.2.2.2.2.2.2.2.2.2.2.2.2.2.2.2.2.2.1
theorem k0_dev243_lt : ∀ (v2 : BitVec 32) (k0_hw2 : k0_chk2 v2), (k0_dev243 v2) < nD := fun v2 k0_hw2 => k0_hw2.2.2.2.1.2.2.2.2.2.2.2.2.2.2.2.2.2.2.2.2.2.2.2.2.2.2.2.2.2.1
theorem k0_dev245_lt : ∀ (v2 : BitVec 32) (k0_hw2 : k0_chk2 v2), (k0_dev245 v2) < nD := fun v2 k0_hw2 => k0_hw2.2.2.2.1.2.2.2.2.2.2.2.2.2.2.2.2.2.2.2.2.2.2.2.2.2.2.2.2.2.2.1
theorem k0_dev248_lt : ∀ (v2 : BitVec 32) (k0_hw2 : k0_chk2 v2), (k0_dev248 v2) < nD := fun v2 k0_hw2 => k0_hw2.2.2.2.1.2.2.2.2.2.2.2.2.2.2.2.2.2.2.2.2.2.2.2.2.2.2.2.2.2.2.2.1
theorem k0_dev250_lt : ∀ (v2 : BitVec 32) (k0_hw2 : k0_chk2 v2), (k0_dev250 v2) < nD := fun v2 k0_hw2 => k0_hw2.2.2.2.1.2.2.2.2.2.2.2.2.2.2.2.2.2.2.2.2.2.2.2.2.2.2.2.2.2.2.2.2.1
theorem k0_dev251_lt : ∀ (v2 : BitVec 32) (k0_hw2 : k0_chk2 v2), (k0_dev251 v2) < nD := fun v2 k0_hw2 => k0_hw2.2.2.2.1.2.2.2.2.2.2.2.2.2.2.2.2.2.2.2.2.2.2.2.2.2.2.2.2.2.2.2.2.2.1
theorem k0_dev253_lt : ∀ (v2 : BitVec 32) (k0_hw2 : k0_chk2 v2), (k0_dev253 v2) < nD := fun v2 k0_hw2 => k0_hw2.2.2.2.1.2.2.2.2.2.2.2.2.2.2.2.2.2.2.2.2.2.2.2.2.2.2.2.2.2.2.2.2.2.2.1
theorem k0_dev256_lt : ∀ (v2 : BitVec 32) (k0_hw2 : k0_chk2 v2), (k0_dev256 v2) < nD := fun v2 k0_hw2 => k0_hw2.2.2.2.1.2.2.2.2.2.2.2.2.2.2.2.2.2.2.2.2.2.2.2.2.2.2.2.2.2.2.2.2.2.2.2
theorem k0_dev258_lt : ∀ (v2 : BitVec 32) (k0_hw2 : k0_chk2 v2), (k0_dev258 v2) < nD := fun v2 k0_hw2 => k0_hw2.2.2.2.2.1.1
theorem k0_dev259_lt : ∀ (v2 : BitVec 32) (k0_hw2 : k0_chk2 v2), (k0_dev259 v2) < nD := fun v2 k0_hw2 => k0_hw2.2.2.2.2.1.2.1
theorem k0_dev261_lt : ∀ (v2 : BitVec 32) (k0_hw2 : k0_chk2 v2), (k0_dev261 v2) < nD := fun v2 k0_hw2 => k0_hw2.2.2.2.2.1.2.2.1
theorem k0_dev264_lt : ∀ (v2 : BitVec 32) (k0_hw2 : k0_chk2 v2), (k0_dev264 v2) < nD := fun v2 k0_hw2 => k0_hw2.2.2.2.2.1.2.2.2.1
theorem k0_dev266_lt : ∀ (v2 : BitVec 32) (k0_hw2 : k0_chk2 v2), (k0_dev266 v2) < nD := fun v2 k0_hw2 => k0_hw2.2.2.2.2.1.2.2.2.2.1
theorem k0_dev267_lt : ∀ (v2 : BitVec 32) (k0_hw2 : k0_chk2 v2), (k0_dev267 v2) < nD := fun v2 k0_hw2 => k0_hw2.2.2.2.2.1.2.2.2.2.2.1
theorem k0_dev269_lt : ∀ (v2 : BitVec 32) (k0_hw2 : k0_chk2 v2), (k0_dev269 v2) < nD := fun v2 k0_hw2 => k0_hw2.2.2.2.2.1.2.2.2.2.2.2.1
theorem k0_dev272_lt : ∀ (v2 : BitVec 32) (k0_hw2 : k0_chk2 v2), (k0_dev272 v2) < nD := fun v2 k0_hw2 => k0_hw2.2.2.2.2.1.2.2.2.2.2.2.2.1
theorem k0_dev274_lt : ∀ (v2 : BitVec 32) (k0_hw2 : k0_chk2 v2), (k0_dev274 v2) < nD := fun v2 k0_hw2 => k0_hw2.2.2.2.2.1.2.2.2.2.2.2.2.2.1
theorem k0_dev275_lt : ∀ (v2 : BitVec 32) (k0_hw2 : k0_chk2 v2), (k0_dev275 v2) < nD := fun v2 k0_hw2 => k0_hw2.2.2.2.2.1.2.2.2.2.2.2.2.2.2.1
theorem k0_dev277_lt : ∀ (v2 : BitVec 32) (k0_hw2 : k0_chk2 v2), (k0_dev277 v2) < nD := fun v2 k0_hw2 => k0_hw2.2.2.2.2.1.2.2.2.2.2.2.2.2.2.2.1
theorem k0_dev280_lt : ∀ (v2 : BitVec 32) (k0_hw2 : k0_chk2 v2), (k0_dev280 v2) < nD := fun v2 k0_hw2 => k0_hw2.2.2.2.2.1.2.2.2.2.2.2.2.2.2.2.2.1
theorem k0_dev282_lt : ∀ (v2 : BitVec 32) (k0_hw2 : k0_chk2 v2), (k0_dev282 v2) < nD := fun v2 k0_hw2 => k0_hw2.2.2.2.2.1.2.2.2.2.2.2.2.2.2.2.2.2.1
theorem k0_dev283_lt : ∀ (v2 : BitVec 32) (k0_hw2 : k0_chk2 v2), (k0_dev283 v2) < nD := fun v2 k0_hw2 => k0_hw2.2.2.2.2.1.2.2.2.2.2.2.2.2.2.2.2.2.2.1
theorem k0_dev285_lt : ∀ (v2 : BitVec 32) (k0_hw2 : k0_chk2 v2), (k0_dev285 v2) < nD := fun v2 k0_hw2 => k0_hw2.2.2.2.2.1.2.2.2.2.2.2.2.2.2.2.2.2.2.2.1
theorem k0_dev288_lt : ∀ (v2 : BitVec 32) (k0_hw2 : k0_chk2 v2), (k0_dev288 v2) < nD := fun v2 k0_hw2 => k0_hw2.2.2.2.2.1.2.2.2.2.2.2.2.2.2.2.2.2.2.2.2.1
theorem k0_dev290_lt : ∀ (v2 : BitVec 32) (k0_hw2 : k0_chk2 v2), (k0_dev290 v2) < nD := fun v2 k0_hw2 => k0_hw2.2.2.2.2.1.2.2.2.2.2.2.2.2.2.2.2.2.2.2.2.2.1
theorem k0_dev291_lt : ∀ (v2 : BitVec 32) (k0_hw2 : k0_chk2 v2), (k0_dev291 v2) < nD := fun v2 k0_hw2 => k0_hw2.2.2.2.2.1.2.2.2.2.2.2.2.2.2.2.2.2.2.2.2.2.2.1
theorem k0_dev293_lt : ∀ (v2 : BitVec 32) (k0_hw2 : k0_chk2 v2), (k0_dev293 v2) < nD := fun v2 k0_hw2 => k0_hw2.2.2.2.2.1.2.2.2.2.2.2.2.2.2.2.2.2.2.2.2.2.2.2.1
theorem k0_dev296_lt : ∀ (v2 : BitVec 32) (k0_hw2 : k0_chk2 v2), (k0_dev296 v2) < nD := fun v2 k0_hw2 => k0_hw2.2.2.2.2.1.2.2.2.2.2.2.2.2.2.2.2.2.2.2.2.2.2.2.2.1
theorem k0_dev298_lt : ∀ (v2 : BitVec 32) (k0_hw2 : k0_chk2 v2), (k0_dev298 v2) < nD := fun v2 k0_hw2 => k0_hw2.2.2.2.2.1.2.2.2.2.2.2.2.2.2.2.2.2.2.2.2.2.2.2.2.2.1
theorem k0_dev299_lt : ∀ (v2 : BitVec 32) (k0_hw2 : k0_chk2 v2), (k0_dev299 v2) < nD := fun v2 k0_hw2 => k0_hw2.2.2.2.2.1.2.2.2.2.2.2.2.2.2.2.2.2.2.2.2.2.2.2.2.2.2.1
theorem k0_dev301_lt : ∀ (v2 : BitVec 32) (k0_hw2 : k0_chk2 v2), (k0_dev301 v2) < nD := fun v2 k0_hw2 => k0_hw2.2.2.2.2.1.2.2.2.2.2.2.2.2.2.2.2.2.2.2.2.2.2.2.2.2.2.2.1
theorem k0_dev304_lt : ∀ (v2 : BitVec 32) (k0_hw2 : k0_chk2 v2), (k0_dev304 v2) < nD := fun v2 k0_hw2 => k0_hw2.2.2.2.2.1.2.2.2.2.2.2.2.2.2.2.2.2.2.2.2.2.2.2.2.2.2.2.2.1
theorem k0_dev306_lt : ∀ (v2 : BitVec 32) (k0_hw2 : k0_chk2 v2), (k0_dev306 v2) < nD := fun v2 k0_hw2 => k0_hw2.2.2.2.2.1.2.2.2.2.2.2.2.2.2.2.2.2.2.2.2.2.2.2.2.2.2.2.2.2.1
theorem k0_dev307_lt : ∀ (v2 : BitVec 32) (k0_hw2 : k0_chk2 v2), (k0_dev307 v2) < nD := fun v2 k0_hw2 => k0_hw2.2.2.2.2.1.2.2.2.2.2.2.2.2.2.2.2.2.2.2.2.2.2.2.2.2.2.2.2.2.2.1
theorem k0_dev309_lt : ∀ (v2 : BitVec 32) (k0_hw2 : k0_chk2 v2), (k0_dev309 v2) < nD := fun v2 k0_hw2 => k0_hw2.2.2.2.2.1.2.2.2.2.2.2.2.2.2.2.2.2.2.2.2.2.2.2.2.2.2.2.2.2.2.2.1
theorem k0_dev312_lt : ∀ (v2 : BitVec 32) (k0_hw2 : k0_chk2 v2), (k0_dev312 v2) < nD := fun v2 k0_hw2 => k0_hw2.2.2.2.2.1.2.2.2.2.2.2.2.2.2.2.2.2.2.2.2.2.2.2.2.2.2.2.2.2.2.2.2.1
theorem k0_dev314_lt : ∀ (v2 : BitVec 32) (k0_hw2 : k0_chk2 v2), (k0_dev314 v2) < nD := fun v2 k0_hw2 => k0_hw2.2.2.2.2.1.2.2.2.2.2.2.2.2.2.2.2.2.2.2.2.2.2.2.2.2.2.2.2.2.2.2.2.2.1
theorem k0_dev315_lt : ∀ (v2 : BitVec 32) (k0_hw2 : k0_chk2 v2), (k0_dev315 v2) < nD := fun v2 k0_hw2 => k0_hw2.2.2.2.2.1.2.2.2.2.2.2.2.2.2.2.2.2.2.2.2.2.2.2.2.2.2.2.2.2.2.2.2.2.2.1
theorem k0_dev317_lt : ∀ (v2 : BitVec 32) (k0_hw2 : k0_chk2 v2), (k0_dev317 v2) < nD := fun v2 k0_hw2 => k0_hw2.2.2.2.2.1.2.2.2.2.2.2.2.2.2.2.2.2.2.2.2.2.2.2.2.2.2.2.2.2.2.2.2.2.2.2.1
theorem k0_dev320_lt : ∀ (v2 : BitVec 32) (k0_hw2 : k0_chk2 v2), (k0_dev320 v2) < nD := fun v2 k0_hw2 => k0_hw2.2.2.2.2.1.2.2.2.2.2.2.2.2.2.2.2.2.2.2.2.2.2.2.2.2.2.2.2.2.2.2.2.2.2.2.2
theorem k0_dev322_lt : ∀ (v2 : BitVec 32) (k0_hw2 : k0_chk2 v2), (k0_dev322 v2) < nD := fun v2 k0_hw2 => k0_hw2.2.2.2.2.2.1.1
theorem k0_dev323_lt : ∀ (v2 : BitVec 32) (k0_hw2 : k0_chk2 v2), (k0_dev323 v2) < nD := fun v2 k0_hw2 => k0_hw2.2.2.2.2.2.1.2.1
theorem k0_dev325_lt : ∀ (v2 : BitVec 32) (k0_hw2 : k0_chk2 v2), (k0_dev325 v2) < nD := fun v2 k0_hw2 => k0_hw2.2.2.2.2.2.1.2.2.1
theorem k0_dev328_lt : ∀ (v2 : BitVec 32) (k0_hw2 : k0_chk2 v2), (k0_dev328 v2) < nD := fun v2 k0_hw2 => k0_hw2.2.2.2.2.2.1.2.2.2.1
theorem k0_dev330_lt : ∀ (v2 : BitVec 32) (k0_hw2 : k0_chk2 v2), (k0_dev330 v2) < nD := fun v2 k0_hw2 => k0_hw2.2.2.2.2.2.1.2.2.2.2.1
theorem k0_dev331_lt : ∀ (v2 : BitVec 32) (k0_hw2 : k0_chk2 v2), (k0_dev331 v2) < nD := fun v2 k0_hw2 => k0_hw2.2.2.2.2.2.1.2.2.2.2.2.1
theorem k0_dev333_lt : ∀ (v2 : BitVec 32) (k0_hw2 : k0_chk2 v2), (k0_dev333 v2) < nD := fun v2 k0_hw2 => k0_hw2.2.2.2.2.2.1.2.2.2.2.2.2.1
theorem k0_dev336_lt : ∀ (v2 : BitVec 32) (k0_hw2 : k0_chk2 v2), (k0_dev336 v2) < nD := fun v2 k0_hw2 => k0_hw2.2.2.2.2.2.1.2.2.2.2.2.2.2.1
theorem k0_dev338_lt : ∀ (v2 : BitVec 32) (k0_hw2 : k0_chk2 v2), (k0_dev338 v2) < nD := fun v2 k0_hw2 => k0_hw2.2.2.2.2.2.1.2.2.2.2.2.2.2.2.1
theorem k0_dev339_lt : ∀ (v2 : BitVec 32) (k0_hw2 : k0_chk2 v2), (k0_dev339 v2) < nD := fun v2 k0_hw2 => k0_hw2.2.2.2.2.2.1.2.2.2.2.2.2.2.2.2.1
theorem k0_dev341_lt : ∀ (v2 : BitVec 32) (k0_hw2 : k0_chk2 v2), (k0_dev341 v2) < nD := fun v2 k0_hw2 => k0_hw2.2.2.2.2.2.1.2.2.2.2.2.2.2.2.2.2.1
theorem k0_dev344_lt : ∀ (v2 : BitVec 32) (k0_hw2 : k0_chk2 v2), (k0_dev344 v2) < nD := fun v2 k0_hw2 => k0_hw2.2.2.2.2.2.1.2.2.2.2.2.2.2.2.2.2.2.1
theorem k0_dev346_lt : ∀ (v2 : BitVec 32) (k0_hw2 : k0_chk2 v2), (k0_dev346 v2) < nD := fun v2 k0_hw2 => k0_hw2.2.2.2.2.2.1.2.2.2.2.2.2.2.2.2.2.2.2.1
theorem k0_dev347_lt : ∀ (v2 : BitVec 32) (k0_hw2 : k0_chk2 v2), (k0_dev347 v2) < nD := fun v2 k0_hw2 => k0_hw2.2.2.2.2.2.1.2.2.2.2.2.2.2.2.2.2.2.2.2.1
theorem k0_dev349_lt : ∀ (v2 : BitVec 32) (k0_hw2 : k0_chk2 v2), (k0_dev349 v2) < nD := fun v2 k0_hw2 => k0_hw2.2.2.2.2.2.1.2.2.2.2.2.2.2.2.2.2.2.2.2.2.1
theorem k0_dev352_lt : ∀ (v2 : BitVec 32) (k0_hw2 : k0_chk2 v2), (k0_dev352 v2) < nD := fun v2 k0_hw2 => k0_hw2.2.2.2.2.2.1.2.2.2.2.2.2.2.2.2.2.2.2.2.2.2.1
theorem k0_dev354_lt : ∀ (v2 : BitVec 32) (k0_hw2 : k0_chk2 v2), (k0_dev354 v2) < nD := fun v2 k0_hw2 => k0_hw2.2.2.2.2.2.1.2.2.2.2.2.2.2.2.2.2.2.2.2.2.2.2.1
theorem k0_dev355_lt : ∀ (v2 : BitVec 32) (k0_hw2 : k0_chk2 v2), (k0_dev355 v2) < nD := fun v2 k0_hw2 => k0_hw2.2.2.2.2.2.1.2.2.2.2.2.2.2.2.2.2.2.2.2.2.2.2.2.1
theorem k0_dev357_lt : ∀ (v2 : BitVec 32) (k0_hw2 : k0_chk2 v2), (k0_dev357 v2) < nD := fun v2 k0_hw2 => k0_hw2.2.2.2.2.2.1.2.2.2.2.2.2.2.2.2.2.2.2.2.2.2.2.2.2.1
theorem k0_dev360_lt : ∀ (v2 : BitVec 32) (k0_hw2 : k0_chk2 v2), (k0_dev360 v2) < nD := fun v2 k0_hw2 => k0_hw2.2.2.2.2.2.1.2.2.2.2.2.2.2.2.2.2.2.2.2.2.2.2.2.2.2.1
theorem k0_dev362_lt : ∀ (v2 : BitVec 32) (k0_hw2 : k0_chk2 v2), (k0_dev362 v2) < nD := fun v2 k0_hw2 => k0_hw2.2.2.2.2.2.1.2.2.2.2.2.2.2.2.2.2.2.2.2.2.2.2.2.2.2.2.1
theorem k0_dev363_lt : ∀ (v2 : BitVec 32) (k0_hw2 : k0_chk2 v2), (k0_dev363 v2) < nD := fun v2 k0_hw2 => k0_hw2.2.2.2.2.2.1.2.2.2.2.2.2.2.2.2.2.2.2.2.2.2.2.2.2.2.2.2.1
theorem k0_dev365_lt : ∀ (v2 : BitVec 32) (k0_hw2 : k0_chk2 v2), (k0_dev365 v2) < nD := fun v2 k0_hw2 => k0_hw2.2.2.2.2.2.1.2.2.2.2.2.2.2.2.2.2.2.2.2.2.2.2.2.2.2.2.2.2.1
theorem k0_dev368_lt : ∀ (v2 : BitVec 32) (k0_hw2 : k0_chk2 v2), (k0_dev368 v2) < nD := fun v2 k0_hw2 => k0_hw2.2.2.2.2.2.1.2.2.2.2.2.2.2.2.2.2.2.2.2.2.2.2.2.2.2.2.2.2.2.1
theorem k0_dev370_lt : ∀ (v2 : BitVec 32) (k0_hw2 : k0_chk2 v2), (k0_dev370 v2) < nD := fun v2 k0_hw2 => k0_hw2.2.2.2.2.2.1.2.2.2.2.2.2.2.2.2.2.2.2.2.2.2.2.2.2.2.2.2.2.2.2.1
theorem k0_dev371_lt : ∀ (v2 : BitVec 32) (k0_hw2 : k0_chk2 v2), (k0_dev371 v2) < nD := fun v2 k0_hw2 => k0_hw2.2.2.2.2.2.1.2.2.2.2.2.2.2.2.2.2.2.2.2.2.2.2.2.2.2.2.2.2.2.2.2.1
theorem k0_dev373_lt : ∀ (v2 : BitVec 32) (k0_hw2 : k0_chk2 v2), (k0_dev373 v2) < nD := fun v2 k0_hw2 => k0_hw2.2.2.2.2.2.1.2.2.2.2.2.2.2.2.2.2.2.2.2.2.2.2.2.2.2.2.2.2.2.2.2.2.1
theorem k0_dev376_lt : ∀ (v2 : BitVec 32) (k0_hw2 : k0_chk2 v2), (k0_dev376 v2) < nD := fun v2 k0_hw2 => k0_hw2.2.2.2.2.2.1.2.2.2.2.2.2.2.2.2.2.2.2.2.2.2.2.2.2.2.2.2.2.2.2.2.2.2.1
theorem k0_dev378_lt : ∀ (v2 : BitVec 32) (k0_hw2 : k0_chk2 v2), (k0_dev378 v2) < nD := fun v2 k0_hw2 => k0_hw2.2.2.2.2.2.1.2.2.2.2.2.2.2.2.2.2.2.2.2.2.2.2.2.2.2.2.2.2.2.2.2.2.2.2.1
theorem k0_dev379_lt : ∀ (v2 : BitVec 32) (k0_hw2 : k0_chk2 v2), (k0_dev379 v2) < nD := fun v2 k0_hw2 => k0_hw2.2.2.2.2.2.1.2.2.2.2.2.2.2.2.2.2.2.2.2.2.2.2.2.2.2.2.2.2.2.2.2.2.2.2.2.1
theorem k0_dev381_lt : ∀ (v2 : BitVec 32) (k0_hw2 : k0_chk2 v2), (k0_dev381 v2) < nD := fun v2 k0_hw2 => k0_hw2.2.2.2.2.2.1.2.2.2.2.2.2.2.2.2.2.2.2.2.2.2.2.2.2.2.2.2.2.2.2.2.2.2.2.2.2.1
theorem k0_dev384_lt : ∀ (v2 : BitVec 32) (k0_hw2 : k0_chk2 v2), (k0_dev384 v2) < nD := fun v2 k0_hw2 => k0_hw2.2.2.2.2.2.1.2.2.2.2.2.2.2.2.2.2.2.2.2.2.2.2.2.2.2.2.2.2.2.2.2.2.2.2.2.2.2
theorem k0_dev386_lt : ∀ (v2 : BitVec 32) (k0_hw2 : k0_chk2 v2), (k0_dev386 v2) < nD := fun v2 k0_hw2 => k0_hw2.2.2.2.2.2.2.1.1
theorem k0_dev387_lt : ∀ (v2 : BitVec 32) (k0_hw2 : k0_chk2 v2), (k0_dev387 v2) < nD := fun v2 k0_hw2 => k0_hw2.2.2.2.2.2.2.1.2.1
theorem k0_dev389_lt : ∀ (v2 : BitVec 32) (k0_hw2 : k0_chk2 v2), (k0_dev389 v2) < nD := fun v2 k0_hw2 => k0_hw2.2.2.2.2.2.2.1.2.2.1
theorem k0_dev392_lt : ∀ (v2 : BitVec 32) (k0_hw2 : k0_chk2 v2), (k0_dev392 v2) < nD := fun v2 k0_hw2 => k0_hw2.2.2.2.2.2.2.1.2.2.2.1
theorem k0_dev394_lt : ∀ (v2 : BitVec 32) (k0_hw2 : k0_chk2 v2), (k0_dev394 v2) < nD := fun v2 k0_hw2 => k0_hw2.2.2.2.2.2.2.1.2.2.2.2.1
theorem k0_dev395_lt : ∀ (v2 : BitVec 32) (k0_hw2 : k0_chk2 v2), (k0_dev395 v2) < nD := fun v2 k0_hw2 => k0_hw2.2.2.2.2.2.2.1.2.2.2.2.2.1
theorem k0_dev397_lt : ∀ (v2 : BitVec 32) (k0_hw2 : k0_chk2 v2), (k0_dev397 v2) < nD := fun v2 k0_hw2 => k0_hw2.2.2.2.2.2.2.1.2.2.2.2.2.2.1
theorem k0_dev400_lt : ∀ (v2 : BitVec 32) (k0_hw2 : k0_chk2 v2), (k0_dev400 v2) < nD := fun v2 k0_hw2 => k0_hw2.2.2.2.2.2.2.1.2.2.2.2.2.2.2.1
theorem k0_dev402_lt : ∀ (v2 : BitVec 32) (k0_hw2 : k0_chk2 v2), (k0_dev402 v2) < nD := fun v2 k0_hw2 => k0_hw2.2.2.2.2.2.2.1.2.2.2.2.2.2.2.2.1
theorem k0_dev403_lt : ∀ (v2 : BitVec 32) (k0_hw2 : k0_chk2 v2), (k0_dev403 v2) < nD := fun v2 k0_hw2 => k0_hw2.2.2.2.2.2.2.1.2.2.2.2.2.2.2.2.2.1
theorem k0_dev405_lt : ∀ (v2 : BitVec 32) (k0_hw2 : k0_chk2 v2), (k0_dev405 v2) < nD := fun v2 k0_hw2 => k0_hw2.2.2.2.2.2.2.1.2.2.2.2.2.2.2.2.2.2.1
theorem k0_dev408_lt : ∀ (v2 : BitVec 32) (k0_hw2 : k0_chk2 v2), (k0_dev408 v2) < nD := fun v2 k0_hw2 => k0_hw2.2.2.2.2.2.2.1.2.2.2.2.2.2.2.2.2.2.2.1
theorem k0_dev410_lt : ∀ (v2 : BitVec 32) (k0_hw2 : k0_chk2 v2), (k0_dev410 v2) < nD := fun v2 k0_hw2 => k0_hw2.2.2.2.2.2.2.1.2.2.2.2.2.2.2.2.2.2.2.2.1
theorem k0_dev411_lt : ∀ (v2 : BitVec 32) (k0_hw2 : k0_chk2 v2), (k0_dev411 v2) < nD := fun v2 k0_hw2 => k0_hw2.2.2.2.2.2.2.1.2.2.2.2.2.2.2.2.2.2.2.2.2.1
theorem k0_dev413_lt : ∀ (v2 : BitVec 32) (k0_hw2 : k0_chk2 v2), (k0_dev413 v2) < nD := fun v2 k0_hw2 => k0_hw2.2.2.2.2.2.2.1.2.2.2.2.2.2.2.2.2.2.2.2.2.2.1
theorem k0_dev416_lt : ∀ (v2 : BitVec 32) (k0_hw2 : k0_chk2 v2), (k0_dev416 v2) < nD := fun v2 k0_hw2 => k0_hw2.2.2.2.2.2.2.1.2.2.2.2.2.2.2.2.2.2.2.2.2.2.2.1
theorem k0_dev418_lt : ∀ (v2 : BitVec 32) (k0_hw2 : k0_chk2 v2), (k0_dev418 v2) < nD := fun v2 k0_hw2 => k0_hw2.2.2.2.2.2.2.1.2.2.2.2.2.2.2.2.2.2.2.2.2.2.2.2.1
theorem k0_dev419_lt : ∀ (v2 : BitVec 32) (k0_hw2 : k0_chk2 v2), (k0_dev419 v2) < nD := fun v2 k0_hw2 => k0_hw2.2.2.2.2.2.2.1.2.2.2.2.2.2.2.2.2.2.2.2.2.2.2.2.2.1
theorem k0_dev421_lt : ∀ (v2 : BitVec 32) (k0_hw2 : k0_chk2 v2), (k0_dev421 v2) < nD := fun v2 k0_hw2 => k0_hw2.2.2.2.2.2.2.1.2.2.2.2.2.2.2.2.2.2.2.2.2.2.2.2.2.2.1
theorem k0_dev424_lt : ∀ (v2 : BitVec 32) (k0_hw2 : k0_chk2 v2), (k0_dev424 v2) < nD := fun v2 k0_hw2 => k0_hw2.2.2.2.2.2.2.1.2.2.2.2.2.2.2.2.2.2.2.2.2.2.2.2.2.2.2.1
theorem k0_dev426_lt : ∀ (v2 : BitVec 32) (k0_hw2 : k0_chk2 v2), (k0_dev426 v2) < nD := fun v2 k0_hw2 => k0_hw2.2.2.2.2.2.2.1.2.2.2.2.2.2.2.2.2.2.2.2.2.2.2.2.2.2.2.2.1
theorem k0_dev427_lt : ∀ (v2 : BitVec 32) (k0_hw2 : k0_chk2 v2), (k0_dev427 v2) < nD := fun v2 k0_hw2 => k0_hw2.2.2.2.2.2.2.1.2.2.2.2.2.2.2.2.2.2.2.2.2.2.2.2.2.2.2.2.2.1
theorem k0_dev429_lt : ∀ (v2 : BitVec 32) (k0_hw2 : k0_chk2 v2), (k0_dev429 v2) < nD := fun v2 k0_hw2 => k0_hw2.2.2.2.2.2.2.1.2.2.2.2.2.2.2.2.2.2.2.2.2.2.2.2.2.2.2.2.2.2.1
theorem k0_dev432_lt : ∀ (v2 : BitVec 32) (k0_hw2 : k0_chk2 v2), (k0_dev432 v2) < nD := fun v2 k0_hw2 => k0_hw2.2.2.2.2.2.2.1.2.2.2.2.2.2.2.2.2.2.2.2.2.2.2.2.2.2.2.2.2.2.2.1
theorem k0_dev434_lt : ∀ (v2 : BitVec 32) (k0_hw2 : k0_chk2 v2), (k0_dev434 v2) < nD := fun v2 k0_hw2 => k0_hw2.2.2.2.2.2.2.1.2.2.2.2.2.2.2.2.2.2.2.2.2.2.2.2.2.2.2.2.2.2.2.2.1
theorem k0_dev435_lt : ∀ (v2 : BitVec 32) (k0_hw2 : k0_chk2 v2), (k0_dev435 v2) < nD := fun v2 k0_hw2 => k0_hw2.2.2.2.2.2.2.1.2.2.2.2.2.2.2.2.2.2.2.2.2.2.2.2.2.2.2.2.2.2.2.2.2.1
theorem k0_dev437_lt : ∀ (v2 : BitVec 32) (k0_hw2 : k0_chk2 v2), (k0_dev437 v2) < nD := fun v2 k0_hw2 => k0_hw2.2.2.2.2.2.2.1.2.2.2.2.2.2.2.2.2.2.2.2.2.2.2.2.2.2.2.2.2.2.2.2.2.2.1
theorem k0_dev440_lt : ∀ (v2 : BitVec 32) (k0_hw2 : k0_chk2 v2), (k0_dev440 v2) < nD := fun v2 k0_hw2 => k0_hw2.2.2.2.2.2.2.1.2.2.2.2.2.2.2.2.2.2.2.2.2.2.2.2.2.2.2.2.2.2.2.2.2.2.2.1
theorem k0_dev442_lt : ∀ (v2 : BitVec 32) (k0_hw2 : k0_chk2 v2), (k0_dev442 v2) < nD := fun v2 k0_hw2 => k0_hw2.2.2.2.2.2.2.1.2.2.2.2.2.2.2.2.2.2.2.2.2.2.2.2.2.2.2.2.2.2.2.2.2.2.2.2.1
theorem k0_dev443_lt : ∀ (v2 : BitVec 32) (k0_hw2 : k0_chk2 v2), (k0_dev443 v2) < nD := fun v2 k0_hw2 => k0_hw2.2.2.2.2.2.2.1.2.2.2.2.2.2.2.2.2.2.2.2.2.2.2.2.2.2.2.2.2.2.2.2.2.2.2.2.2.1
theorem k0_dev445_lt : ∀ (v2 : BitVec 32) (k0_hw2 : k0_chk2 v2), (k0_dev445 v2) < nD := fun v2 k0_hw2 => k0_hw2.2.2.2.2.2.2.1.2.2.2.2.2.2.2.2.2.2.2.2.2.2.2.2.2.2.2.2.2.2.2.2.2.2.2.2.2.2.1
theorem k0_dev448_lt : ∀ (v2 : BitVec 32) (k0_hw2 : k0_chk2 v2), (k0_dev448 v2) < nD := fun v2 k0_hw2 => k0_hw2.2.2.2.2.2.2.1.2.2.2.2.2.2.2.2.2.2.2.2.2.2.2.2.2.2.2.2.2.2.2.2.2.2.2.2.2.2.2
theorem k0_dev450_lt : ∀ (v2 : BitVec 32) (k0_hw2 : k0_chk2 v2), (k0_dev450 v2) < nD := fun v2 k0_hw2 => k0_hw2.2.2.2.2.2.2.2.1
theorem k0_dev451_lt : ∀ (v2 : BitVec 32) (k0_hw2 : k0_chk2 v2), (k0_dev451 v2) < nD := fun v2 k0_hw2 => k0_hw2.2.2.2.2.2.2.2.2.1
theorem k0_dev453_lt : ∀ (v2 : BitVec 32) (k0_hw2 : k0_chk2 v2), (k0_dev453 v2) < nD := fun v2 k0_hw2 => k0_hw2.2.2.2.2.2.2.2.2.2.1
theorem k0_dev456_lt : ∀ (v2 : BitVec 32) (k0_hw2 : k0_chk2 v2), (k0_dev456 v2) < nD := fun v2 k0_hw2 => k0_hw2.2.2.2.2.2.2.2.2.2.2.1
theorem k0_dev458_lt : ∀ (v2 : BitVec 32) (k0_hw2 : k0_chk2 v2), (k0_dev458 v2) < nD := fun v2 k0_hw2 => k0_hw2.2.2.2.2.2.2.2.2.2.2.2.1
theorem k0_dev459_lt : ∀ (v2 : BitVec 32) (k0_hw2 : k0_chk2 v2), (k0_dev459 v2) < nD := fun v2 k0_hw2 => k0_hw2.2.2.2.2.2.2.2.2.2.2.2.2.1
theorem k0_dev461_lt : ∀ (v2 : BitVec 32) (k0_hw2 : k0_chk2 v2), (k0_dev461 v2) < nD := fun v2 k0_hw2 => k0_hw2.2.2.2.2.2.2.2.2.2.2.2.2.2.1
theorem k0_dev464_lt : ∀ (v2 : BitVec 32) (k0_hw2 : k0_chk2 v2), (k0_dev464 v2) < nD := fun v2 k0_hw2 => k0_hw2.2.2.2.2.2.2.2.2.2.2.2.2.2.2.1
theorem k0_dev466_lt : ∀ (v2 : BitVec 32) (k0_hw2 : k0_chk2 v2), (k0_dev466 v2) < nD := fun v2 k0_hw2 => k0_hw2.2.2.2.2.2.2.2.2.2.2.2.2.2.2.2.1
theorem k0_dev467_lt : ∀ (v2 : BitVec 32) (k0_hw2 : k0_chk2 v2), (k0_dev467 v2) < nD := fun v2 k0_hw2 => k0_hw2.2.2.2.2.2.2.2.2.2.2.2.2.2.2.2.2.1
theorem k0_dev469_lt : ∀ (v2 : BitVec 32) (k0_hw2 : k0_chk2 v2), (k0_dev469 v2) < nD := fun v2 k0_hw2 => k0_hw2.2.2.2.2.2.2.2.2.2.2.2.2.2.2.2.2.2.1
theorem k0_dev472_lt : ∀ (v2 : BitVec 32) (k0_hw2 : k0_chk2 v2), (k0_dev472 v2) < nD := fun v2 k0_hw2 => k0_hw2.2.2.2.2.2.2.2.2.2.2.2.2.2.2.2.2.2.2.1
theorem k0_dev474_lt : ∀ (v2 : BitVec 32) (k0_hw2 : k0_chk2 v2), (k0_dev474 v2) < nD := fun v2 k0_hw2 => k0_hw2.2.2.2.2.2.2.2.2.2.2.2.2.2.2.2.2.2.2.2.1
theorem k0_dev475_lt : ∀ (v2 : BitVec 32) (k0_hw2 : k0_chk2 v2), (k0_dev475 v2) < nD := fun v2 k0_hw2 => k0_hw2.2.2.2.2.2.2.2.2.2.2.2.2.2.2.2.2.2.2.2.2.1
theorem k0_dev477_lt : ∀ (v2 : BitVec 32) (k0_hw2 : k0_chk2 v2), (k0_dev477 v2) < nD := fun v2 k0_hw2 => k0_hw2.2.2.2.2.2.2.2.2.2.2.2.2.2.2.2.2.2.2.2.2.2.1
theorem k0_dev480_lt : ∀ (v2 : BitVec 32) (k0_hw2 : k0_chk2 v2), (k0_dev480 v2) < nD := fun v2 k0_hw2 => k0_hw2.2.2.2.2.2.2.2.2.2.2.2.2.2.2.2.2.2.2.2.2.2.2.1
theorem k0_dev482_lt : ∀ (v2 : BitVec 32) (k0_hw2 : k0_chk2 v2), (k0_dev482 v2) < nD := fun v2 k0_hw2 => k0_hw2.2.2.2.2.2.2.2.2.2.2.2.2.2.2.2.2.2.2.2.2.2.2.2.1
theorem k0_dev483_lt : ∀ (v2 : BitVec 32) (k0_hw2 : k0_chk2 v2), (k0_dev483 v2) < nD := fun v2 k0_hw2 => k0_hw2.2.2.2.2.2.2.2.2.2.2.2.2.2.2.2.2.2.2.2.2.2.2.2.2.1
theorem k0_dev485_lt : ∀ (v2 : BitVec 32) (k0_hw2 : k0_chk2 v2), (k0_dev485 v2) < nD := fun v2 k0_hw2 => k0_hw2.2.2.2.2.2.2.2.2.2.2.2.2.2.2.2.2.2.2.2.2.2.2.2.2.2.1
theorem k0_dev487_lt : ∀ (v2 : BitVec 32) (k0_hw2 : k0_chk2 v2), (k0_dev487 v2) < nD := fun v2 k0_hw2 => k0_hw2.2.2.2.2.2.2.2.2.2.2.2.2.2.2.2.2.2.2.2.2.2.2.2.2.2.2.1
theorem k0_dev488_lt : ∀ (v2 : BitVec 32) (k0_hw2 : k0_chk2 v2), (k0_dev488 v2) < nD := fun v2 k0_hw2 => k0_hw2.2.2.2.2.2.2.2.2.2.2.2.2.2.2.2.2.2.2.2.2.2.2.2.2.2.2.2

def k0_dev489 (v1 : BitVec 32) : Nat :=
  let c0_i32_9387 : BitVec 32 := 0#32
  let c1_i32_9386 : BitVec 32 := 1#32
  let v7560 : BitVec 32 := Scalar.muli v1 c1_i32_9386
  let v7561 : BitVec 32 := Scalar.addi c0_i32_9387 v7560
  v7561.toNat
def k0_dev490 (v1 : BitVec 32) : Nat :=
  let c0_i32_9416 : BitVec 32 := 0#32
  let c1_i32_9415 : BitVec 32 := 1#32
  let v7582 : BitVec 32 := Scalar.muli v1 c1_i32_9415
  let v7583 : BitVec 32 := Scalar.addi c0_i32_9416 v7582
  v7583.toNat

def k0_chk1_0 (v1 : BitVec 32) : Prop :=
  ((k0_dev1 v1) < nD) ∧
  ((k0_dev5 v1) < nD) ∧
  ((k0_dev6 v1) < nD) ∧
  ((k0_dev7 v1) < nD) ∧
  ((k0_dev9 v1) < nD) ∧
  ((k0_dev12 v1) < nD) ∧
  ((k0_dev14 v1) < nD) ∧
  ((k0_dev15 v1) < nD) ∧
  ((k0_dev17 v1) < nD) ∧
  ((k0_dev20 v1) < nD) ∧
  ((k0_dev22 v1) < nD) ∧
  ((k0_dev23 v1) < nD) ∧
  ((k0_dev25 v1) < nD) ∧
  ((k0_dev28 v1) < nD) ∧
  ((k0_dev30 v1) < nD) ∧
  ((k0_dev31 v1) < nD) ∧
  ((k0_dev33 v1) < nD) ∧
  ((k0_dev36 v1) < nD) ∧
  ((k0_dev38 v1) < nD) ∧
  ((k0_dev39 v1) < nD) ∧
  ((k0_dev41 v1) < nD) ∧
  ((k0_dev44 v1) < nD) ∧
  ((k0_dev46 v1) < nD) ∧
  ((k0_dev47 v1) < nD) ∧
  ((k0_dev49 v1) < nD) ∧
  ((k0_dev52 v1) < nD) ∧
  ((k0_dev54 v1) < nD) ∧
  ((k0_dev55 v1) < nD) ∧
  ((k0_dev57 v1) < nD) ∧
  ((k0_dev60 v1) < nD) ∧
  ((k0_dev62 v1) < nD) ∧
  ((k0_dev63 v1) < nD)
def k0_chk1_1 (v1 : BitVec 32) : Prop :=
  ((k0_dev65 v1) < nD) ∧
  ((k0_dev68 v1) < nD) ∧
  ((k0_dev70 v1) < nD) ∧
  ((k0_dev71 v1) < nD) ∧
  ((k0_dev73 v1) < nD) ∧
  ((k0_dev76 v1) < nD) ∧
  ((k0_dev78 v1) < nD) ∧
  ((k0_dev79 v1) < nD) ∧
  ((k0_dev81 v1) < nD) ∧
  ((k0_dev84 v1) < nD) ∧
  ((k0_dev86 v1) < nD) ∧
  ((k0_dev87 v1) < nD) ∧
  ((k0_dev89 v1) < nD) ∧
  ((k0_dev92 v1) < nD) ∧
  ((k0_dev94 v1) < nD) ∧
  ((k0_dev95 v1) < nD) ∧
  ((k0_dev97 v1) < nD) ∧
  ((k0_dev100 v1) < nD) ∧
  ((k0_dev102 v1) < nD) ∧
  ((k0_dev103 v1) < nD) ∧
  ((k0_dev105 v1) < nD) ∧
  ((k0_dev108 v1) < nD) ∧
  ((k0_dev110 v1) < nD) ∧
  ((k0_dev111 v1) < nD) ∧
  ((k0_dev113 v1) < nD) ∧
  ((k0_dev116 v1) < nD) ∧
  ((k0_dev118 v1) < nD) ∧
  ((k0_dev119 v1) < nD) ∧
  ((k0_dev121 v1) < nD) ∧
  ((k0_dev124 v1) < nD) ∧
  ((k0_dev126 v1) < nD) ∧
  ((k0_dev127 v1) < nD)
def k0_chk1_2 (v1 : BitVec 32) : Prop :=
  ((k0_dev129 v1) < nD) ∧
  ((k0_dev132 v1) < nD) ∧
  ((k0_dev134 v1) < nD) ∧
  ((k0_dev135 v1) < nD) ∧
  ((k0_dev137 v1) < nD) ∧
  ((k0_dev140 v1) < nD) ∧
  ((k0_dev142 v1) < nD) ∧
  ((k0_dev143 v1) < nD) ∧
  ((k0_dev145 v1) < nD) ∧
  ((k0_dev148 v1) < nD) ∧
  ((k0_dev150 v1) < nD) ∧
  ((k0_dev151 v1) < nD) ∧
  ((k0_dev153 v1) < nD) ∧
  ((k0_dev156 v1) < nD) ∧
  ((k0_dev158 v1) < nD) ∧
  ((k0_dev159 v1) < nD) ∧
  ((k0_dev161 v1) < nD) ∧
  ((k0_dev164 v1) < nD) ∧
  ((k0_dev166 v1) < nD) ∧
  ((k0_dev167 v1) < nD) ∧
  ((k0_dev169 v1) < nD) ∧
  ((k0_dev172 v1) < nD) ∧
  ((k0_dev174 v1) < nD) ∧
  ((k0_dev175 v1) < nD) ∧
  ((k0_dev177 v1) < nD) ∧
  ((k0_dev180 v1) < nD) ∧
  ((k0_dev182 v1) < nD) ∧
  ((k0_dev183 v1) < nD) ∧
  ((k0_dev185 v1) < nD) ∧
  ((k0_dev188 v1) < nD) ∧
  ((k0_dev190 v1) < nD) ∧
  ((k0_dev191 v1) < nD)
def k0_chk1_3 (v1 : BitVec 32) : Prop :=
  ((k0_dev193 v1) < nD) ∧
  ((k0_dev196 v1) < nD) ∧
  ((k0_dev198 v1) < nD) ∧
  ((k0_dev199 v1) < nD) ∧
  ((k0_dev201 v1) < nD) ∧
  ((k0_dev204 v1) < nD) ∧
  ((k0_dev206 v1) < nD) ∧
  ((k0_dev207 v1) < nD) ∧
  ((k0_dev209 v1) < nD) ∧
  ((k0_dev212 v1) < nD) ∧
  ((k0_dev214 v1) < nD) ∧
  ((k0_dev215 v1) < nD) ∧
  ((k0_dev217 v1) < nD) ∧
  ((k0_dev220 v1) < nD) ∧
  ((k0_dev222 v1) < nD) ∧
  ((k0_dev223 v1) < nD) ∧
  ((k0_dev225 v1) < nD) ∧
  ((k0_dev228 v1) < nD) ∧
  ((k0_dev230 v1) < nD) ∧
  ((k0_dev231 v1) < nD) ∧
  ((k0_dev233 v1) < nD) ∧
  ((k0_dev236 v1) < nD) ∧
  ((k0_dev238 v1) < nD) ∧
  ((k0_dev239 v1) < nD) ∧
  ((k0_dev241 v1) < nD) ∧
  ((k0_dev244 v1) < nD) ∧
  ((k0_dev246 v1) < nD) ∧
  ((k0_dev247 v1) < nD) ∧
  ((k0_dev249 v1) < nD) ∧
  ((k0_dev252 v1) < nD) ∧
  ((k0_dev254 v1) < nD) ∧
  ((k0_dev255 v1) < nD)
def k0_chk1_4 (v1 : BitVec 32) : Prop :=
  ((k0_dev257 v1) < nD) ∧
  ((k0_dev260 v1) < nD) ∧
  ((k0_dev262 v1) < nD) ∧
  ((k0_dev263 v1) < nD) ∧
  ((k0_dev265 v1) < nD) ∧
  ((k0_dev268 v1) < nD) ∧
  ((k0_dev270 v1) < nD) ∧
  ((k0_dev271 v1) < nD) ∧
  ((k0_dev273 v1) < nD) ∧
  ((k0_dev276 v1) < nD) ∧
  ((k0_dev278 v1) < nD) ∧
  ((k0_dev279 v1) < nD) ∧
  ((k0_dev281 v1) < nD) ∧
  ((k0_dev284 v1) < nD) ∧
  ((k0_dev286 v1) < nD) ∧
  ((k0_dev287 v1) < nD) ∧
  ((k0_dev289 v1) < nD) ∧
  ((k0_dev292 v1) < nD) ∧
  ((k0_dev294 v1) < nD) ∧
  ((k0_dev295 v1) < nD) ∧
  ((k0_dev297 v1) < nD) ∧
  ((k0_dev300 v1) < nD) ∧
  ((k0_dev302 v1) < nD) ∧
  ((k0_dev303 v1) < nD) ∧
  ((k0_dev305 v1) < nD) ∧
  ((k0_dev308 v1) < nD) ∧
  ((k0_dev310 v1) < nD) ∧
  ((k0_dev311 v1) < nD) ∧
  ((k0_dev313 v1) < nD) ∧
  ((k0_dev316 v1) < nD) ∧
  ((k0_dev318 v1) < nD) ∧
  ((k0_dev319 v1) < nD)
def k0_chk1_5 (v1 : BitVec 32) : Prop :=
  ((k0_dev321 v1) < nD) ∧
  ((k0_dev324 v1) < nD) ∧
  ((k0_dev326 v1) < nD) ∧
  ((k0_dev327 v1) < nD) ∧
  ((k0_dev329 v1) < nD) ∧
  ((k0_dev332 v1) < nD) ∧
  ((k0_dev334 v1) < nD) ∧
  ((k0_dev335 v1) < nD) ∧
  ((k0_dev337 v1) < nD) ∧
  ((k0_dev340 v1) < nD) ∧
  ((k0_dev342 v1) < nD) ∧
  ((k0_dev343 v1) < nD) ∧
  ((k0_dev345 v1) < nD) ∧
  ((k0_dev348 v1) < nD) ∧
  ((k0_dev350 v1) < nD) ∧
  ((k0_dev351 v1) < nD) ∧
  ((k0_dev353 v1) < nD) ∧
  ((k0_dev356 v1) < nD) ∧
  ((k0_dev358 v1) < nD) ∧
  ((k0_dev359 v1) < nD) ∧
  ((k0_dev361 v1) < nD) ∧
  ((k0_dev364 v1) < nD) ∧
  ((k0_dev366 v1) < nD) ∧
  ((k0_dev367 v1) < nD) ∧
  ((k0_dev369 v1) < nD) ∧
  ((k0_dev372 v1) < nD) ∧
  ((k0_dev374 v1) < nD) ∧
  ((k0_dev375 v1) < nD) ∧
  ((k0_dev377 v1) < nD) ∧
  ((k0_dev380 v1) < nD) ∧
  ((k0_dev382 v1) < nD) ∧
  ((k0_dev383 v1) < nD)
def k0_chk1_6 (v1 : BitVec 32) : Prop :=
  ((k0_dev385 v1) < nD) ∧
  ((k0_dev388 v1) < nD) ∧
  ((k0_dev390 v1) < nD) ∧
  ((k0_dev391 v1) < nD) ∧
  ((k0_dev393 v1) < nD) ∧
  ((k0_dev396 v1) < nD) ∧
  ((k0_dev398 v1) < nD) ∧
  ((k0_dev399 v1) < nD) ∧
  ((k0_dev401 v1) < nD) ∧
  ((k0_dev404 v1) < nD) ∧
  ((k0_dev406 v1) < nD) ∧
  ((k0_dev407 v1) < nD) ∧
  ((k0_dev409 v1) < nD) ∧
  ((k0_dev412 v1) < nD) ∧
  ((k0_dev414 v1) < nD) ∧
  ((k0_dev415 v1) < nD) ∧
  ((k0_dev417 v1) < nD) ∧
  ((k0_dev420 v1) < nD) ∧
  ((k0_dev422 v1) < nD) ∧
  ((k0_dev423 v1) < nD) ∧
  ((k0_dev425 v1) < nD) ∧
  ((k0_dev428 v1) < nD) ∧
  ((k0_dev430 v1) < nD) ∧
  ((k0_dev431 v1) < nD) ∧
  ((k0_dev433 v1) < nD) ∧
  ((k0_dev436 v1) < nD) ∧
  ((k0_dev438 v1) < nD) ∧
  ((k0_dev439 v1) < nD) ∧
  ((k0_dev441 v1) < nD) ∧
  ((k0_dev444 v1) < nD) ∧
  ((k0_dev446 v1) < nD) ∧
  ((k0_dev447 v1) < nD)
def k0_chk1_7 (v1 : BitVec 32) : Prop :=
  ((k0_dev449 v1) < nD) ∧
  ((k0_dev452 v1) < nD) ∧
  ((k0_dev454 v1) < nD) ∧
  ((k0_dev455 v1) < nD) ∧
  ((k0_dev457 v1) < nD) ∧
  ((k0_dev460 v1) < nD) ∧
  ((k0_dev462 v1) < nD) ∧
  ((k0_dev463 v1) < nD) ∧
  ((k0_dev465 v1) < nD) ∧
  ((k0_dev468 v1) < nD) ∧
  ((k0_dev470 v1) < nD) ∧
  ((k0_dev471 v1) < nD) ∧
  ((k0_dev473 v1) < nD) ∧
  ((k0_dev476 v1) < nD) ∧
  ((k0_dev478 v1) < nD) ∧
  ((k0_dev479 v1) < nD) ∧
  ((k0_dev481 v1) < nD) ∧
  ((k0_dev484 v1) < nD) ∧
  ((k0_dev486 v1) < nD) ∧
  ((k0_dev489 v1) < nD) ∧
  ((k0_dev490 v1) < nD)
def k0_chk1 (v1 : BitVec 32) : Prop :=
  k0_chk1_0 v1 ∧
  k0_chk1_1 v1 ∧
  k0_chk1_2 v1 ∧
  k0_chk1_3 v1 ∧
  k0_chk1_4 v1 ∧
  k0_chk1_5 v1 ∧
  k0_chk1_6 v1 ∧
  k0_chk1_7 v1
theorem k0_dev1_lt : ∀ (v1 : BitVec 32) (k0_hw1 : k0_chk1 v1), (k0_dev1 v1) < nD := fun v1 k0_hw1 => k0_hw1.1.1
theorem k0_dev5_lt : ∀ (v1 : BitVec 32) (k0_hw1 : k0_chk1 v1), (k0_dev5 v1) < nD := fun v1 k0_hw1 => k0_hw1.1.2.1
theorem k0_dev6_lt : ∀ (v1 : BitVec 32) (k0_hw1 : k0_chk1 v1), (k0_dev6 v1) < nD := fun v1 k0_hw1 => k0_hw1.1.2.2.1
theorem k0_dev7_lt : ∀ (v1 : BitVec 32) (k0_hw1 : k0_chk1 v1), (k0_dev7 v1) < nD := fun v1 k0_hw1 => k0_hw1.1.2.2.2.1
theorem k0_dev9_lt : ∀ (v1 : BitVec 32) (k0_hw1 : k0_chk1 v1), (k0_dev9 v1) < nD := fun v1 k0_hw1 => k0_hw1.1.2.2.2.2.1
theorem k0_dev12_lt : ∀ (v1 : BitVec 32) (k0_hw1 : k0_chk1 v1), (k0_dev12 v1) < nD := fun v1 k0_hw1 => k0_hw1.1.2.2.2.2.2.1
theorem k0_dev14_lt : ∀ (v1 : BitVec 32) (k0_hw1 : k0_chk1 v1), (k0_dev14 v1) < nD := fun v1 k0_hw1 => k0_hw1.1.2.2.2.2.2.2.1
theorem k0_dev15_lt : ∀ (v1 : BitVec 32) (k0_hw1 : k0_chk1 v1), (k0_dev15 v1) < nD := fun v1 k0_hw1 => k0_hw1.1.2.2.2.2.2.2.2.1
theorem k0_dev17_lt : ∀ (v1 : BitVec 32) (k0_hw1 : k0_chk1 v1), (k0_dev17 v1) < nD := fun v1 k0_hw1 => k0_hw1.1.2.2.2.2.2.2.2.2.1
theorem k0_dev20_lt : ∀ (v1 : BitVec 32) (k0_hw1 : k0_chk1 v1), (k0_dev20 v1) < nD := fun v1 k0_hw1 => k0_hw1.1.2.2.2.2.2.2.2.2.2.1
theorem k0_dev22_lt : ∀ (v1 : BitVec 32) (k0_hw1 : k0_chk1 v1), (k0_dev22 v1) < nD := fun v1 k0_hw1 => k0_hw1.1.2.2.2.2.2.2.2.2.2.2.1
theorem k0_dev23_lt : ∀ (v1 : BitVec 32) (k0_hw1 : k0_chk1 v1), (k0_dev23 v1) < nD := fun v1 k0_hw1 => k0_hw1.1.2.2.2.2.2.2.2.2.2.2.2.1
theorem k0_dev25_lt : ∀ (v1 : BitVec 32) (k0_hw1 : k0_chk1 v1), (k0_dev25 v1) < nD := fun v1 k0_hw1 => k0_hw1.1.2.2.2.2.2.2.2.2.2.2.2.2.1
theorem k0_dev28_lt : ∀ (v1 : BitVec 32) (k0_hw1 : k0_chk1 v1), (k0_dev28 v1) < nD := fun v1 k0_hw1 => k0_hw1.1.2.2.2.2.2.2.2.2.2.2.2.2.2.1
theorem k0_dev30_lt : ∀ (v1 : BitVec 32) (k0_hw1 : k0_chk1 v1), (k0_dev30 v1) < nD := fun v1 k0_hw1 => k0_hw1.1.2.2.2.2.2.2.2.2.2.2.2.2.2.2.1
theorem k0_dev31_lt : ∀ (v1 : BitVec 32) (k0_hw1 : k0_chk1 v1), (k0_dev31 v1) < nD := fun v1 k0_hw1 => k0_hw1.1.2.2.2.2.2.2.2.2.2.2.2.2.2.2.2.1
theorem k0_dev33_lt : ∀ (v1 : BitVec 32) (k0_hw1 : k0_chk1 v1), (k0_dev33 v1) < nD := fun v1 k0_hw1 => k0_hw1.1.2.2.2.2.2.2.2.2.2.2.2.2.2.2.2.2.1
theorem k0_dev36_lt : ∀ (v1 : BitVec 32) (k0_hw1 : k0_chk1 v1), (k0_dev36 v1) < nD := fun v1 k0_hw1 => k0_hw1.1.2.2.2.2.2.2.2.2.2.2.2.2.2.2.2.2.2.1
theorem k0_dev38_lt : ∀ (v1 : BitVec 32) (k0_hw1 : k0_chk1 v1), (k0_dev38 v1) < nD := fun v1 k0_hw1 => k0_hw1.1.2.2.2.2.2.2.2.2.2.2.2.2.2.2.2.2.2.2.1
theorem k0_dev39_lt : ∀ (v1 : BitVec 32) (k0_hw1 : k0_chk1 v1), (k0_dev39 v1) < nD := fun v1 k0_hw1 => k0_hw1.1.2.2.2.2.2.2.2.2.2.2.2.2.2.2.2.2.2.2.2.1
theorem k0_dev41_lt : ∀ (v1 : BitVec 32) (k0_hw1 : k0_chk1 v1), (k0_dev41 v1) < nD := fun v1 k0_hw1 => k0_hw1.1.2.2.2.2.2.2.2.2.2.2.2.2.2.2.2.2.2.2.2.2.1
theorem k0_dev44_lt : ∀ (v1 : BitVec 32) (k0_hw1 : k0_chk1 v1), (k0_dev44 v1) < nD := fun v1 k0_hw1 => k0_hw1.1.2.2.2.2.2.2.2.2.2.2.2.2.2.2.2.2.2.2.2.2.2.1
theorem k0_dev46_lt : ∀ (v1 : BitVec 32) (k0_hw1 : k0_chk1 v1), (k0_dev46 v1) < nD := fun v1 k0_hw1 => k0_hw1.1.2.2.2.2.2.2.2.2.2.2.2.2.2.2.2.2.2.2.2.2.2.2.1
theorem k0_dev47_lt : ∀ (v1 : BitVec 32) (k0_hw1 : k0_chk1 v1), (k0_dev47 v1) < nD := fun v1 k0_hw1 => k0_hw1.1.2.2.2.2.2.2.2.2.2.2.2.2.2.2.2.2.2.2.2.2.2.2.2.1
theorem k0_dev49_lt : ∀ (v1 : BitVec 32) (k0_hw1 : k0_chk1 v1), (k0_dev49 v1) < nD := fun v1 k0_hw1 => k0_hw1.1.2.2.2.2.2.2.2.2.2.2.2.2.2.2.2.2.2.2.2.2.2.2.2.2.1
theorem k0_dev52_lt : ∀ (v1 : BitVec 32) (k0_hw1 : k0_chk1 v1), (k0_dev52 v1) < nD := fun v1 k0_hw1 => k0_hw1.1.2.2.2.2.2.2.2.2.2.2.2.2.2.2.2.2.2.2.2.2.2.2.2.2.2.1
theorem k0_dev54_lt : ∀ (v1 : BitVec 32) (k0_hw1 : k0_chk1 v1), (k0_dev54 v1) < nD := fun v1 k0_hw1 => k0_hw1.1.2.2.2.2.2.2.2.2.2.2.2.2.2.2.2.2.2.2.2.2.2.2.2.2.2.2.1
theorem k0_dev55_lt : ∀ (v1 : BitVec 32) (k0_hw1 : k0_chk1 v1), (k0_dev55 v1) < nD := fun v1 k0_hw1 => k0_hw1.1.2.2.2.2.2.2.2.2.2.2.2.2.2.2.2.2.2.2.2.2.2.2.2.2.2.2.2.1
theorem k0_dev57_lt : ∀ (v1 : BitVec 32) (k0_hw1 : k0_chk1 v1), (k0_dev57 v1) < nD := fun v1 k0_hw1 => k0_hw1.1.2.2.2.2.2.2.2.2.2.2.2.2.2.2.2.2.2.2.2.2.2.2.2.2.2.2.2.2.1
theorem k0_dev60_lt : ∀ (v1 : BitVec 32) (k0_hw1 : k0_chk1 v1), (k0_dev60 v1) < nD := fun v1 k0_hw1 => k0_hw1.1.2.2.2.2.2.2.2.2.2.2.2.2.2.2.2.2.2.2.2.2.2.2.2.2.2.2.2.2.2.1
theorem k0_dev62_lt : ∀ (v1 : BitVec 32) (k0_hw1 : k0_chk1 v1), (k0_dev62 v1) < nD := fun v1 k0_hw1 => k0_hw1.1.2.2.2.2.2.2.2.2.2.2.2.2.2.2.2.2.2.2.2.2.2.2.2.2.2.2.2.2.2.2.1
theorem k0_dev63_lt : ∀ (v1 : BitVec 32) (k0_hw1 : k0_chk1 v1), (k0_dev63 v1) < nD := fun v1 k0_hw1 => k0_hw1.1.2.2.2.2.2.2.2.2.2.2.2.2.2.2.2.2.2.2.2.2.2.2.2.2.2.2.2.2.2.2.2
theorem k0_dev65_lt : ∀ (v1 : BitVec 32) (k0_hw1 : k0_chk1 v1), (k0_dev65 v1) < nD := fun v1 k0_hw1 => k0_hw1.2.1.1
theorem k0_dev68_lt : ∀ (v1 : BitVec 32) (k0_hw1 : k0_chk1 v1), (k0_dev68 v1) < nD := fun v1 k0_hw1 => k0_hw1.2.1.2.1
theorem k0_dev70_lt : ∀ (v1 : BitVec 32) (k0_hw1 : k0_chk1 v1), (k0_dev70 v1) < nD := fun v1 k0_hw1 => k0_hw1.2.1.2.2.1
theorem k0_dev71_lt : ∀ (v1 : BitVec 32) (k0_hw1 : k0_chk1 v1), (k0_dev71 v1) < nD := fun v1 k0_hw1 => k0_hw1.2.1.2.2.2.1
theorem k0_dev73_lt : ∀ (v1 : BitVec 32) (k0_hw1 : k0_chk1 v1), (k0_dev73 v1) < nD := fun v1 k0_hw1 => k0_hw1.2.1.2.2.2.2.1
theorem k0_dev76_lt : ∀ (v1 : BitVec 32) (k0_hw1 : k0_chk1 v1), (k0_dev76 v1) < nD := fun v1 k0_hw1 => k0_hw1.2.1.2.2.2.2.2.1
theorem k0_dev78_lt : ∀ (v1 : BitVec 32) (k0_hw1 : k0_chk1 v1), (k0_dev78 v1) < nD := fun v1 k0_hw1 => k0_hw1.2.1.2.2.2.2.2.2.1
theorem k0_dev79_lt : ∀ (v1 : BitVec 32) (k0_hw1 : k0_chk1 v1), (k0_dev79 v1) < nD := fun v1 k0_hw1 => k0_hw1.2.1.2.2.2.2.2.2.2.1
theorem k0_dev81_lt : ∀ (v1 : BitVec 32) (k0_hw1 : k0_chk1 v1), (k0_dev81 v1) < nD := fun v1 k0_hw1 => k0_hw1.2.1.2.2.2.2.2.2.2.2.1
theorem k0_dev84_lt : ∀ (v1 : BitVec 32) (k0_hw1 : k0_chk1 v1), (k0_dev84 v1) < nD := fun v1 k0_hw1 => k0_hw1.2.1.2.2.2.2.2.2.2.2.2.1
theorem k0_dev86_lt : ∀ (v1 : BitVec 32) (k0_hw1 : k0_chk1 v1), (k0_dev86 v1) < nD := fun v1 k0_hw1 => k0_hw1.2.1.2.2.2.2.2.2.2.2.2.2.1
theorem k0_dev87_lt : ∀ (v1 : BitVec 32) (k0_hw1 : k0_chk1 v1), (k0_dev87 v1) < nD := fun v1 k0_hw1 => k0_hw1.2.1.2.2.2.2.2.2.2.2.2.2.2.1
theorem k0_dev89_lt : ∀ (v1 : BitVec 32) (k0_hw1 : k0_chk1 v1), (k0_dev89 v1) < nD := fun v1 k0_hw1 => k0_hw1.2.1.2.2.2.2.2.2.2.2.2.2.2.2.1
theorem k0_dev92_lt : ∀ (v1 : BitVec 32) (k0_hw1 : k0_chk1 v1), (k0_dev92 v1) < nD := fun v1 k0_hw1 => k0_hw1.2.1.2.2.2.2.2.2.2.2.2.2.2.2.2.1
theorem k0_dev94_lt : ∀ (v1 : BitVec 32) (k0_hw1 : k0_chk1 v1), (k0_dev94 v1) < nD := fun v1 k0_hw1 => k0_hw1.2.1.2.2.2.2.2.2.2.2.2.2.2.2.2.2.1
theorem k0_dev95_lt : ∀ (v1 : BitVec 32) (k0_hw1 : k0_chk1 v1), (k0_dev95 v1) < nD := fun v1 k0_hw1 => k0_hw1.2.1.2.2.2.2.2.2.2.2.2.2.2.2.2.2.2.1
theorem k0_dev97_lt : ∀ (v1 : BitVec 32) (k0_hw1 : k0_chk1 v1), (k0_dev97 v1) < nD := fun v1 k0_hw1 => k0_hw1.2.1.2.2.2.2.2.2.2.2.2.2.2.2.2.2.2.2.1
theorem k0_dev100_lt : ∀ (v1 : BitVec 32) (k0_hw1 : k0_chk1 v1), (k0_dev100 v1) < nD := fun v1 k0_hw1 => k0_hw1.2.1.2.2.2.2.2.2.2.2.2.2.2.2.2.2.2.2.2.1
theorem k0_dev102_lt : ∀ (v1 : BitVec 32) (k0_hw1 : k0_chk1 v1), (k0_dev102 v1) < nD := fun v1 k0_hw1 => k0_hw1.2.1.2.2.2.2.2.2.2.2.2.2.2.2.2.2.2.2.2.2.1
theorem k0_dev103_lt : ∀ (v1 : BitVec 32) (k0_hw1 : k0_chk1 v1), (k0_dev103 v1) < nD := fun v1 k0_hw1 => k0_hw1.2.1.2.2.2.2.2.2.2.2.2.2.2.2.2.2.2.2.2.2.2.1
theorem k0_dev105_lt : ∀ (v1 : BitVec 32) (k0_hw1 : k0_chk1 v1), (k0_dev105 v1) < nD := fun v1 k0_hw1 => k0_hw1.2.1.2.2.2.2.2.2.2.2.2.2.2.2.2.2.2.2.2.2.2.2.1
theorem k0_dev108_lt : ∀ (v1 : BitVec 32) (k0_hw1 : k0_chk1 v1), (k0_dev108 v1) < nD := fun v1 k0_hw1 => k0_hw1.2.1.2.2.2.2.2.2.2.2.2.2.2.2.2.2.2.2.2.2.2.2.2.1
theorem k0_dev110_lt : ∀ (v1 : BitVec 32) (k0_hw1 : k0_chk1 v1), (k0_dev110 v1) < nD := fun v1 k0_hw1 => k0_hw1.2.1.2.2.2.2.2.2.2.2.2.2.2.2.2.2.2.2.2.2.2.2.2.2.1
theorem k0_dev111_lt : ∀ (v1 : BitVec 32) (k0_hw1 : k0_chk1 v1), (k0_dev111 v1) < nD := fun v1 k0_hw1 => k0_hw1.2.1.2.2.2.2.2.2.2.2.2.2.2.2.2.2.2.2.2.2.2.2.2.2.2.1
theorem k0_dev113_lt : ∀ (v1 : BitVec 32) (k0_hw1 : k0_chk1 v1), (k0_dev113 v1) < nD := fun v1 k0_hw1 => k0_hw1.2.1.2.2.2.2.2.2.2.2.2.2.2.2.2.2.2.2.2.2.2.2.2.2.2.2.1
theorem k0_dev116_lt : ∀ (v1 : BitVec 32) (k0_hw1 : k0_chk1 v1), (k0_dev116 v1) < nD := fun v1 k0_hw1 => k0_hw1.2.1.2.2.2.2.2.2.2.2.2.2.2.2.2.2.2.2.2.2.2.2.2.2.2.2.2.1
theorem k0_dev118_lt : ∀ (v1 : BitVec 32) (k0_hw1 : k0_chk1 v1), (k0_dev118 v1) < nD := fun v1 k0_hw1 => k0_hw1.2.1.2.2.2.2.2.2.2.2.2.2.2.2.2.2.2.2.2.2.2.2.2.2.2.2.2.2.1
theorem k0_dev119_lt : ∀ (v1 : BitVec 32) (k0_hw1 : k0_chk1 v1), (k0_dev119 v1) < nD := fun v1 k0_hw1 => k0_hw1.2.1.2.2.2.2.2.2.2.2.2.2.2.2.2.2.2.2.2.2.2.2.2.2.2.2.2.2.2.1
theorem k0_dev121_lt : ∀ (v1 : BitVec 32) (k0_hw1 : k0_chk1 v1), (k0_dev121 v1) < nD := fun v1 k0_hw1 => k0_hw1.2.1.2.2.2.2.2.2.2.2.2.2.2.2.2.2.2.2.2.2.2.2.2.2.2.2.2.2.2.2.1
theorem k0_dev124_lt : ∀ (v1 : BitVec 32) (k0_hw1 : k0_chk1 v1), (k0_dev124 v1) < nD := fun v1 k0_hw1 => k0_hw1.2.1.2.2.2.2.2.2.2.2.2.2.2.2.2.2.2.2.2.2.2.2.2.2.2.2.2.2.2.2.2.1
theorem k0_dev126_lt : ∀ (v1 : BitVec 32) (k0_hw1 : k0_chk1 v1), (k0_dev126 v1) < nD := fun v1 k0_hw1 => k0_hw1.2.1.2.2.2.2.2.2.2.2.2.2.2.2.2.2.2.2.2.2.2.2.2.2.2.2.2.2.2.2.2.2.1
theorem k0_dev127_lt : ∀ (v1 : BitVec 32) (k0_hw1 : k0_chk1 v1), (k0_dev127 v1) < nD := fun v1 k0_hw1 => k0_hw1.2.1.2.2.2.2.2.2.2.2.2.2.2.2.2.2.2.2.2.2.2.2.2.2.2.2.2.2.2.2.2.2.2
theorem k0_dev129_lt : ∀ (v1 : BitVec 32) (k0_hw1 : k0_chk1 v1), (k0_dev129 v1) < nD := fun v1 k0_hw1 => k0_hw1.2.2.1.1
theorem k0_dev132_lt : ∀ (v1 : BitVec 32) (k0_hw1 : k0_chk1 v1), (k0_dev132 v1) < nD := fun v1 k0_hw1 => k0_hw1.2.2.1.2.1
theorem k0_dev134_lt : ∀ (v1 : BitVec 32) (k0_hw1 : k0_chk1 v1), (k0_dev134 v1) < nD := fun v1 k0_hw1 => k0_hw1.2.2.1.2.2.1
theorem k0_dev135_lt : ∀ (v1 : BitVec 32) (k0_hw1 : k0_chk1 v1), (k0_dev135 v1) < nD := fun v1 k0_hw1 => k0_hw1.2.2.1.2.2.2.1
theorem k0_dev137_lt : ∀ (v1 : BitVec 32) (k0_hw1 : k0_chk1 v1), (k0_dev137 v1) < nD := fun v1 k0_hw1 => k0_hw1.2.2.1.2.2.2.2.1
theorem k0_dev140_lt : ∀ (v1 : BitVec 32) (k0_hw1 : k0_chk1 v1), (k0_dev140 v1) < nD := fun v1 k0_hw1 => k0_hw1.2.2.1.2.2.2.2.2.1
theorem k0_dev142_lt : ∀ (v1 : BitVec 32) (k0_hw1 : k0_chk1 v1), (k0_dev142 v1) < nD := fun v1 k0_hw1 => k0_hw1.2.2.1.2.2.2.2.2.2.1
theorem k0_dev143_lt : ∀ (v1 : BitVec 32) (k0_hw1 : k0_chk1 v1), (k0_dev143 v1) < nD := fun v1 k0_hw1 => k0_hw1.2.2.1.2.2.2.2.2.2.2.1
theorem k0_dev145_lt : ∀ (v1 : BitVec 32) (k0_hw1 : k0_chk1 v1), (k0_dev145 v1) < nD := fun v1 k0_hw1 => k0_hw1.2.2.1.2.2.2.2.2.2.2.2.1
theorem k0_dev148_lt : ∀ (v1 : BitVec 32) (k0_hw1 : k0_chk1 v1), (k0_dev148 v1) < nD := fun v1 k0_hw1 => k0_hw1.2.2.1.2.2.2.2.2.2.2.2.2.1
theorem k0_dev150_lt : ∀ (v1 : BitVec 32) (k0_hw1 : k0_chk1 v1), (k0_dev150 v1) < nD := fun v1 k0_hw1 => k0_hw1.2.2.1.2.2.2.2.2.2.2.2.2.2.1
theorem k0_dev151_lt : ∀ (v1 : BitVec 32) (k0_hw1 : k0_chk1 v1), (k0_dev151 v1) < nD := fun v1 k0_hw1 => k0_hw1.2.2.1.2.2.2.2.2.2.2.2.2.2.2.1
theorem k0_dev153_lt : ∀ (v1 : BitVec 32) (k0_hw1 : k0_chk1 v1), (k0_dev153 v1) < nD := fun v1 k0_hw1 => k0_hw1.2.2.1.2.2.2.2.2.2.2.2.2.2.2.2.1
theorem k0_dev156_lt : ∀ (v1 : BitVec 32) (k0_hw1 : k0_chk1 v1), (k0_dev156 v1) < nD := fun v1 k0_hw1 => k0_hw1.2.2.1.2.2.2.2.2.2.2.2.2.2.2.2.2.1
theorem k0_dev158_lt : ∀ (v1 : BitVec 32) (k0_hw1 : k0_chk1 v1), (k0_dev158 v1) < nD := fun v1 k0_hw1 => k0_hw1.2.2.1.2.2.2.2.2.2.2.2.2.2.2.2.2.2.1
theorem k0_dev159_lt : ∀ (v1 : BitVec 32) (k0_hw1 : k0_chk1 v1), (k0_dev159 v1) < nD := fun v1 k0_hw1 => k0_hw1.2.2.1.2.2.2.2.2.2.2.2.2.2.2.2.2.2.2.1
theorem k0_dev161_lt : ∀ (v1 : BitVec 32) (k0_hw1 : k0_chk1 v1), (k0_dev161 v1) < nD := fun v1 k0_hw1 => k0_hw1.2.2.1.2.2.2.2.2.2.2.2.2.2.2.2.2.2.2.2.1
theorem k0_dev164_lt : ∀ (v1 : BitVec 32) (k0_hw1 : k0_chk1 v1), (k0_dev164 v1) < nD := fun v1 k0_hw1 => k0_hw1.2.2.1.2.2.2.2.2.2.2.2.2.2.2.2.2.2.2.2.2.1
theorem k0_dev166_lt : ∀ (v1 : BitVec 32) (k0_hw1 : k0_chk1 v1), (k0_dev166 v1) < nD := fun v1 k0_hw1 => k0_hw1.2.2.1.2.2.2.2.2.2.2.2.2.2.2.2.2.2.2.2.2.2.1
theorem k0_dev167_lt : ∀ (v1 : BitVec 32) (k0_hw1 : k0_chk1 v1), (k0_dev167 v1) < nD := fun v1 k0_hw1 => k0_hw1.2.2.1.2.2.2.2.2.2.2.2.2.2.2.2.2.2.2.2.2.2.2.1
theorem k0_dev169_lt : ∀ (v1 : BitVec 32) (k0_hw1 : k0_chk1 v1), (k0_dev169 v1) < nD := fun v1 k0_hw1 => k0_hw1.2.2.1.2.2.2.2.2.2.2.2.2.2.2.2.2.2.2.2.2.2.2.2.1
theorem k0_dev172_lt : ∀ (v1 : BitVec 32) (k0_hw1 : k0_chk1 v1), (k0_dev172 v1) < nD := fun v1 k0_hw1 => k0_hw1.2.2.1.2.2.2.2.2.2.2.2.2.2.2.2.2.2.2.2.2.2.2.2.2.1
theorem k0_dev174_lt : ∀ (v1 : BitVec 32) (k0_hw1 : k0_chk1 v1), (k0_dev174 v1) < nD := fun v1 k0_hw1 => k0_hw1.2.2.1.2.2.2.2.2.2.2.2.2.2.2.2.2.2.2.2.2.2.2.2.2.2.1
theorem k0_dev175_lt : ∀ (v1 : BitVec 32) (k0_hw1 : k0_chk1 v1), (k0_dev175 v1) < nD := fun v1 k0_hw1 => k0_hw1.2.2.1.2.2.2.2.2.2.2.2.2.2.2.2.2.2.2.2.2.2.2.2.2.2.2.1
theorem k0_dev177_lt : ∀ (v1 : BitVec 32) (k0_hw1 : k0_chk1 v1), (k0_dev177 v1) < nD := fun v1 k0_hw1 => k0_hw1.2.2.1.2.2.2.2.2.2.2.2.2.2.2.2.2.2.2.2.2.2.2.2.2.2.2.2.1
theorem k0_dev180_lt : ∀ (v1 : BitVec 32) (k0_hw1 : k0_chk1 v1), (k0_dev180 v1) < nD := fun v1 k0_hw1 => k0_hw1.2.2.1.2.2.2.2.2.2.2.2.2.2.2.2.2.2.2.2.2.2.2.2.2.2.2.2.2.1
theorem k0_dev182_lt : ∀ (v1 : BitVec 32) (k0_hw1 : k0_chk1 v1), (k0_dev182 v1) < nD := fun v1 k0_hw1 => k0_hw1.2.2.1.2.2.2.2.2.2.2.2.2.2.2.2.2.2.2.2.2.2.2.2.2.2.2.2.2.2.1
theorem k0_dev183_lt : ∀ (v1 : BitVec 32) (k0_hw1 : k0_chk1 v1), (k0_dev183 v1) < nD := fun v1 k0_hw1 => k0_hw1.2.2.1.2.2.2.2.2.2.2.2.2.2.2.2.2.2.2.2.2.2.2.2.2.2.2.2.2.2.2.1
theorem k0_dev185_lt : ∀ (v1 : BitVec 32) (k0_hw1 : k0_chk1 v1), (k0_dev185 v1) < nD := fun v1 k0_hw1 => k0_hw1.2.2.1.2.2.2.2.2.2.2.2.2.2.2.2.2.2.2.2.2.2.2.2.2.2.2.2.2.2.2.2.1
theorem k0_dev188_lt : ∀ (v1 : BitVec 32) (k0_hw1 : k0_chk1 v1), (k0_dev188 v1) < nD := fun v1 k0_hw1 => k0_hw1.2.2.1.2.2.2.2.2.2.2.2.2.2.2.2.2.2.2.2.2.2.2.2.2.2.2.2.2.2.2.2.2.1
theorem k0_dev190_lt : ∀ (v1 : BitVec 32) (k0_hw1 : k0_chk1 v1), (k0_dev190 v1) < nD := fun v1 k0_hw1 => k0_hw1.2.2.1.2.2.2.2.2.2.2.2.2.2.2.2.2.2.2.2.2.2.2.2.2.2.2.2.2.2.2.2.2.2.1
theorem k0_dev191_lt : ∀ (v1 : BitVec 32) (k0_hw1 : k0_chk1 v1), (k0_dev191 v1) < nD := fun v1 k0_hw1 => k0_hw1.2.2.1.2.2.2.2.2.2.2.2.2.2.2.2.2.2.2.2.2.2.2.2.2.2.2.2.2.2.2.2.2.2.2
theorem k0_dev193_lt : ∀ (v1 : BitVec 32) (k0_hw1 : k0_chk1 v1), (k0_dev193 v1) < nD := fun v1 k0_hw1 => k0_hw1.2.2.2.1.1
theorem k0_dev196_lt : ∀ (v1 : BitVec 32) (k0_hw1 : k0_chk1 v1), (k0_dev196 v1) < nD := fun v1 k0_hw1 => k0_hw1.2.2.2.1.2.1
theorem k0_dev198_lt : ∀ (v1 : BitVec 32) (k0_hw1 : k0_chk1 v1), (k0_dev198 v1) < nD := fun v1 k0_hw1 => k0_hw1.2.2.2.1.2.2.1
theorem k0_dev199_lt : ∀ (v1 : BitVec 32) (k0_hw1 : k0_chk1 v1), (k0_dev199 v1) < nD := fun v1 k0_hw1 => k0_hw1.2.2.2.1.2.2.2.1
theorem k0_dev201_lt : ∀ (v1 : BitVec 32) (k0_hw1 : k0_chk1 v1), (k0_dev201 v1) < nD := fun v1 k0_hw1 => k0_hw1.2.2.2.1.2.2.2.2.1
theorem k0_dev204_lt : ∀ (v1 : BitVec 32) (k0_hw1 : k0_chk1 v1), (k0_dev204 v1) < nD := fun v1 k0_hw1 => k0_hw1.2.2.2.1.2.2.2.2.2.1
theorem k0_dev206_lt : ∀ (v1 : BitVec 32) (k0_hw1 : k0_chk1 v1), (k0_dev206 v1) < nD := fun v1 k0_hw1 => k0_hw1.2.2.2.1.2.2.2.2.2.2.1
theorem k0_dev207_lt : ∀ (v1 : BitVec 32) (k0_hw1 : k0_chk1 v1), (k0_dev207 v1) < nD := fun v1 k0_hw1 => k0_hw1.2.2.2.1.2.2.2.2.2.2.2.1
theorem k0_dev209_lt : ∀ (v1 : BitVec 32) (k0_hw1 : k0_chk1 v1), (k0_dev209 v1) < nD := fun v1 k0_hw1 => k0_hw1.2.2.2.1.2.2.2.2.2.2.2.2.1
theorem k0_dev212_lt : ∀ (v1 : BitVec 32) (k0_hw1 : k0_chk1 v1), (k0_dev212 v1) < nD := fun v1 k0_hw1 => k0_hw1.2.2.2.1.2.2.2.2.2.2.2.2.2.1
theorem k0_dev214_lt : ∀ (v1 : BitVec 32) (k0_hw1 : k0_chk1 v1), (k0_dev214 v1) < nD := fun v1 k0_hw1 => k0_hw1.2.2.2.1.2.2.2.2.2.2.2.2.2.2.1
theorem k0_dev215_lt : ∀ (v1 : BitVec 32) (k0_hw1 : k0_chk1 v1), (k0_dev215 v1) < nD := fun v1 k0_hw1 => k0_hw1.2.2.2.1.2.2.2.2.2.2.2.2.2.2.2.1
theorem k0_dev217_lt : ∀ (v1 : BitVec 32) (k0_hw1 : k0_chk1 v1), (k0_dev217 v1) < nD := fun v1 k0_hw1 => k0_hw1.2.2.2.1.2.2.2.2.2.2.2.2.2.2.2.2.1
theorem k0_dev220_lt : ∀ (v1 : BitVec 32) (k0_hw1 : k0_chk1 v1), (k0_dev220 v1) < nD := fun v1 k0_hw1 => k0_hw1.2.2.2.1.2.2.2.2.2.2.2.2.2.2.2.2.2.1
theorem k0_dev222_lt : ∀ (v1 : BitVec 32) (k0_hw1 : k0_chk1 v1), (k0_dev222 v1) < nD := fun v1 k0_hw1 => k0_hw1.2.2.2.1.2.2.2.2.2.2.2.2.2.2.2.2.2.2.1
theorem k0_dev223_lt : ∀ (v1 : BitVec 32) (k0_hw1 : k0_chk1 v1), (k0_dev223 v1) < nD := fun v1 k0_hw1 => k0_hw1.2.2.2.1.2.2.2.2.2.2.2.2.2.2.2.2.2.2.2.1
theorem k0_dev225_lt : ∀ (v1 : BitVec 32) (k0_hw1 : k0_chk1 v1), (k0_dev225 v1) < nD := fun v1 k0_hw1 => k0_hw1.2.2.2.1.2.2.2.2.2.2.2.2.2.2.2.2.2.2.2.2.1
theorem k0_dev228_lt : ∀ (v1 : BitVec 32) (k0_hw1 : k0_chk1 v1), (k0_dev228 v1) < nD := fun v1 k0_hw1 => k0_hw1.2.2.2.1.2.2.2.2.2.2.2.2.2.2.2.2.2.2.2.2.2.1
theorem k0_dev230_lt : ∀ (v1 : BitVec 32) (k0_hw1 : k0_chk1 v1), (k0_dev230 v1) < nD := fun v1 k0_hw1 => k0_hw1.2.2.2.1.2.2.2.2.2.2.2.2.2.2.2.2.2.2.2.2.2.2.1
theorem k0_dev231_lt : ∀ (v1 : BitVec 32) (k0_hw1 : k0_chk1 v1), (k0_dev231 v1) < nD := fun v1 k0_hw1 => k0_hw1.2.2.2.1.2.2.2.2.2.2.2.2.2.2.2.2.2.2.2.2.2.2.2.1
theorem k0_dev233_lt : ∀ (v1 : BitVec 32) (k0_hw1 : k0_chk1 v1), (k0_dev233 v1) < nD := fun v1 k0_hw1 => k0_hw1.2.2.2.1.2.2.2.2.2.2.2.2.2.2.2.2.2.2.2.2.2.2.2.2.1
theorem k0_dev236_lt : ∀ (v1 : BitVec 32) (k0_hw1 : k0_chk1 v1), (k0_dev236 v1) < nD := fun v1 k0_hw1 => k0_hw1.2.2.2.1.2.2.2.2.2.2.2.2.2.2.2.2.2.2.2.2.2.2.2.2.2.1
theorem k0_dev238_lt : ∀ (v1 : BitVec 32) (k0_hw1 : k0_chk1 v1), (k0_dev238 v1) < nD := fun v1 k0_hw1 => k0_hw1.2.2.2.1.2.2.2.2.2.2.2.2.2.2.2.2.2.2.2.2.2.2.2.2.2.2.1
theorem k0_dev239_lt : ∀ (v1 : BitVec 32) (k0_hw1 : k0_chk1 v1), (k0_dev239 v1) < nD := fun v1 k0_hw1 => k0_hw1.2.2.2.1.2.2.2.2.2.2.2.2.2.2.2.2.2.2.2.2.2.2.2.2.2.2.2.1
theorem k0_dev241_lt : ∀ (v1 : BitVec 32) (k0_hw1 : k0_chk1 v1), (k0_dev241 v1) < nD := fun v1 k0_hw1 => k0_hw1.2.2.2.1.2.2.2.2.2.2.2.2.2.2.2.2.2.2.2.2.2.2.2.2.2.2.2.2.1
theorem k0_dev244_lt : ∀ (v1 : BitVec 32) (k0_hw1 : k0_chk1 v1), (k0_dev244 v1) < nD := fun v1 k0_hw1 => k0_hw1.2.2.2.1.2.2.2.2.2.2.2.2.2.2.2.2.2.2.2.2.2.2.2.2.2.2.2.2.2.1
theorem k0_dev246_lt : ∀ (v1 : BitVec 32) (k0_hw1 : k0_chk1 v1), (k0_dev246 v1) < nD := fun v1 k0_hw1 => k0_hw1.2.2.2.1.2.2.2.2.2.2.2.2.2.2.2.2.2.2.2.2.2.2.2.2.2.2.2.2.2.2.1
theorem k0_dev247_lt : ∀ (v1 : BitVec 32) (k0_hw1 : k0_chk1 v1), (k0_dev247 v1) < nD := fun v1 k0_hw1 => k0_hw1.2.2.2.1.2.2.2.2.2.2.2.2.2.2.2.2.2.2.2.2.2.2.2.2.2.2.2.2.2.2.2.1
theorem k0_dev249_lt : ∀ (v1 : BitVec 32) (k0_hw1 : k0_chk1 v1), (k0_dev249 v1) < nD := fun v1 k0_hw1 => k0_hw1.2.2.2.1.2.2.2.2.2.2.2.2.2.2.2.2.2.2.2.2.2.2.2.2.2.2.2.2.2.2.2.2.1
theorem k0_dev252_lt : ∀ (v1 : BitVec 32) (k0_hw1 : k0_chk1 v1), (k0_dev252 v1) < nD := fun v1 k0_hw1 => k0_hw1.2.2.2.1.2.2.2.2.2.2.2.2.2.2.2.2.2.2.2.2.2.2.2.2.2.2.2.2.2.2.2.2.2.1
theorem k0_dev254_lt : ∀ (v1 : BitVec 32) (k0_hw1 : k0_chk1 v1), (k0_dev254 v1) < nD := fun v1 k0_hw1 => k0_hw1.2.2.2.1.2.2.2.2.2.2.2.2.2.2.2.2.2.2.2.2.2.2.2.2.2.2.2.2.2.2.2.2.2.2.1
theorem k0_dev255_lt : ∀ (v1 : BitVec 32) (k0_hw1 : k0_chk1 v1), (k0_dev255 v1) < nD := fun v1 k0_hw1 => k0_hw1.2.2.2.1.2.2.2.2.2.2.2.2.2.2.2.2.2.2.2.2.2.2.2.2.2.2.2.2.2.2.2.2.2.2.2
theorem k0_dev257_lt : ∀ (v1 : BitVec 32) (k0_hw1 : k0_chk1 v1), (k0_dev257 v1) < nD := fun v1 k0_hw1 => k0_hw1.2.2.2.2.1.1
theorem k0_dev260_lt : ∀ (v1 : BitVec 32) (k0_hw1 : k0_chk1 v1), (k0_dev260 v1) < nD := fun v1 k0_hw1 => k0_hw1.2.2.2.2.1.2.1
theorem k0_dev262_lt : ∀ (v1 : BitVec 32) (k0_hw1 : k0_chk1 v1), (k0_dev262 v1) < nD := fun v1 k0_hw1 => k0_hw1.2.2.2.2.1.2.2.1
theorem k0_dev263_lt : ∀ (v1 : BitVec 32) (k0_hw1 : k0_chk1 v1), (k0_dev263 v1) < nD := fun v1 k0_hw1 => k0_hw1.2.2.2.2.1.2.2.2.1
theorem k0_dev265_lt : ∀ (v1 : BitVec 32) (k0_hw1 : k0_chk1 v1), (k0_dev265 v1) < nD := fun v1 k0_hw1 => k0_hw1.2.2.2.2.1.2.2.2.2.1
theorem k0_dev268_lt : ∀ (v1 : BitVec 32) (k0_hw1 : k0_chk1 v1), (k0_dev268 v1) < nD := fun v1 k0_hw1 => k0_hw1.2.2.2.2.1.2.2.2.2.2.1
theorem k0_dev270_lt : ∀ (v1 : BitVec 32) (k0_hw1 : k0_chk1 v1), (k0_dev270 v1) < nD := fun v1 k0_hw1 => k0_hw1.2.2.2.2.1.2.2.2.2.2.2.1
theorem k0_dev271_lt : ∀ (v1 : BitVec 32) (k0_hw1 : k0_chk1 v1), (k0_dev271 v1) < nD := fun v1 k0_hw1 => k0_hw1.2.2.2.2.1.2.2.2.2.2.2.2.1
theorem k0_dev273_lt : ∀ (v1 : BitVec 32) (k0_hw1 : k0_chk1 v1), (k0_dev273 v1) < nD := fun v1 k0_hw1 => k0_hw1.2.2.2.2.1.2.2.2.2.2.2.2.2.1
theorem k0_dev276_lt : ∀ (v1 : BitVec 32) (k0_hw1 : k0_chk1 v1), (k0_dev276 v1) < nD := fun v1 k0_hw1 => k0_hw1.2.2.2.2.1.2.2.2.2.2.2.2.2.2.1
theorem k0_dev278_lt : ∀ (v1 : BitVec 32) (k0_hw1 : k0_chk1 v1), (k0_dev278 v1) < nD := fun v1 k0_hw1 => k0_hw1.2.2.2.2.1.2.2.2.2.2.2.2.2.2.2.1
theorem k0_dev279_lt : ∀ (v1 : BitVec 32) (k0_hw1 : k0_chk1 v1), (k0_dev279 v1) < nD := fun v1 k0_hw1 => k0_hw1.2.2.2.2.1.2.2.2.2.2.2.2.2.2.2.2.1
theorem k0_dev281_lt : ∀ (v1 : BitVec 32) (k0_hw1 : k0_chk1 v1), (k0_dev281 v1) < nD := fun v1 k0_hw1 => k0_hw1.2.2.2.2.1.2.2.2.2.2.2.2.2.2.2.2.2.1
theorem k0_dev284_lt : ∀ (v1 : BitVec 32) (k0_hw1 : k0_chk1 v1), (k0_dev284 v1) < nD := fun v1 k0_hw1 => k0_hw1.2.2.2.2.1.2.2.2.2.2.2.2.2.2.2.2.2.2.1
theorem k0_dev286_lt : ∀ (v1 : BitVec 32) (k0_hw1 : k0_chk1 v1), (k0_dev286 v1) < nD := fun v1 k0_hw1 => k0_hw1.2.2.2.2.1.2.2.2.2.2.2.2.2.2.2.2.2.2.2.1
theorem k0_dev287_lt : ∀ (v1 : BitVec 32) (k0_hw1 : k0_chk1 v1), (k0_dev287 v1) < nD := fun v1 k0_hw1 => k0_hw1.2.2.2.2.1.2.2.2.2.2.2.2.2.2.2.2.2.2.2.2.1
theorem k0_dev289_lt : ∀ (v1 : BitVec 32) (k0_hw1 : k0_chk1 v1), (k0_dev289 v1) < nD := fun v1 k0_hw1 => k0_hw1.2.2.2.2.1.2.2.2.2.2.2.2.2.2.2.2.2.2.2.2.2.1
theorem k0_dev292_lt : ∀ (v1 : BitVec 32) (k0_hw1 : k0_chk1 v1), (k0_dev292 v1) < nD := fun v1 k0_hw1 => k0_hw1.2.2.2.2.1.2.2.2.2.2.2.2.2.2.2.2.2.2.2.2.2.2.1
theorem k0_dev294_lt : ∀ (v1 : BitVec 32) (k0_hw1 : k0_chk1 v1), (k0_dev294 v1) < nD := fun v1 k0_hw1 => k0_hw1.2.2.2.2.1.2.2.2.2.2.2.2.2.2.2.2.2.2.2.2.2.2.2.1
theorem k0_dev295_lt : ∀ (v1 : BitVec 32) (k0_hw1 : k0_chk1 v1), (k0_dev295 v1) < nD := fun v1 k0_hw1 => k0_hw1.2.2.2.2.1.2.2.2.2.2.2.2.2.2.2.2.2.2.2.2.2.2.2.2.1
theorem k0_dev297_lt : ∀ (v1 : BitVec 32) (k0_hw1 : k0_chk1 v1), (k0_dev297 v1) < nD := fun v1 k0_hw1 => k0_hw1.2.2.2.2.1.2.2.2.2.2.2.2.2.2.2.2.2.2.2.2.2.2.2.2.2.1
theorem k0_dev300_lt : ∀ (v1 : BitVec 32) (k0_hw1 : k0_chk1 v1), (k0_dev300 v1) < nD := fun v1 k0_hw1 => k0_hw1.2.2.2.2.1.2.2.2.2.2.2.2.2.2.2.2.2.2.2.2.2.2.2.2.2.2.1
theorem k0_dev302_lt : ∀ (v1 : BitVec 32) (k0_hw1 : k0_chk1 v1), (k0_dev302 v1) < nD := fun v1 k0_hw1 => k0_hw1.2.2.2.2.1.2.2.2.2.2.2.2.2.2.2.2.2.2.2.2.2.2.2.2.2.2.2.1
theorem k0_dev303_lt : ∀ (v1 : BitVec 32) (k0_hw1 : k0_chk1 v1), (k0_dev303 v1) < nD := fun v1 k0_hw1 => k0_hw1.2.2.2.2.1.2.2.2.2.2.2.2.2.2.2.2.2.2.2.2.2.2.2.2.2.2.2.2.1
theorem k0_dev305_lt : ∀ (v1 : BitVec 32) (k0_hw1 : k0_chk1 v1), (k0_dev305 v1) < nD := fun v1 k0_hw1 => k0_hw1.2.2.2.2.1.2.2.2.2.2.2.2.2.2.2.2.2.2.2.2.2.2.2.2.2.2.2.2.2.1
theorem k0_dev308_lt : ∀ (v1 : BitVec 32) (k0_hw1 : k0_chk1 v1), (k0_dev308 v1) < nD := fun v1 k0_hw1 => k0_hw1.2.2.2.2.1.2.2.2.2.2.2.2.2.2.2.2.2.2.2.2.2.2.2.2.2.2.2.2.2.2.1
theorem k0_dev310_lt : ∀ (v1 : BitVec 32) (k0_hw1 : k0_chk1 v1), (k0_dev310 v1) < nD := fun v1 k0_hw1 => k0_hw1.2.2.2.2.1.2.2.2.2.2.2.2.2.2.2.2.2.2.2.2.2.2.2.2.2.2.2.2.2.2.2.1
theorem k0_dev311_lt : ∀ (v1 : BitVec 32) (k0_hw1 : k0_chk1 v1), (k0_dev311 v1) < nD := fun v1 k0_hw1 => k0_hw1.2.2.2.2.1.2.2.2.2.2.2.2.2.2.2.2.2.2.2.2.2.2.2.2.2.2.2.2.2.2.2.2.1
theorem k0_dev313_lt : ∀ (v1 : BitVec 32) (k0_hw1 : k0_chk1 v1), (k0_dev313 v1) < nD := fun v1 k0_hw1 => k0_hw1.2.2.2.2.1.2.2.2.2.2.2.2.2.2.2.2.2.2.2.2.2.2.2.2.2.2.2.2.2.2.2.2.2.1
theorem k0_dev316_lt : ∀ (v1 : BitVec 32) (k0_hw1 : k0_chk1 v1), (k0_dev316 v1) < nD := fun v1 k0_hw1 => k0_hw1.2.2.2.2.1.2.2.2.2.2.2.2.2.2.2.2.2.2.2.2.2.2.2.2.2.2.2.2.2.2.2.2.2.2.1
theorem k0_dev318_lt : ∀ (v1 : BitVec 32) (k0_hw1 : k0_chk1 v1), (k0_dev318 v1) < nD := fun v1 k0_hw1 => k0_hw1.2.2.2.2.1.2.2.2.2.2.2.2.2.2.2.2.2.2.2.2.2.2.2.2.2.2.2.2.2.2.2.2.2.2.2.1
theorem k0_dev319_lt : ∀ (v1 : BitVec 32) (k0_hw1 : k0_chk1 v1), (k0_dev319 v1) < nD := fun v1 k0_hw1 => k0_hw1.2.2.2.2.1.2.2.2.2.2.2.2.2.2.2.2.2.2.2.2.2.2.2.2.2.2.2.2.2.2.2.2.2.2.2.2
theorem k0_dev321_lt : ∀ (v1 : BitVec 32) (k0_hw1 : k0_chk1 v1), (k0_dev321 v1) < nD := fun v1 k0_hw1 => k0_hw1.2.2.2.2.2.1.1
theorem k0_dev324_lt : ∀ (v1 : BitVec 32) (k0_hw1 : k0_chk1 v1), (k0_dev324 v1) < nD := fun v1 k0_hw1 => k0_hw1.2.2.2.2.2.1.2.1
theorem k0_dev326_lt : ∀ (v1 : BitVec 32) (k0_hw1 : k0_chk1 v1), (k0_dev326 v1) < nD := fun v1 k0_hw1 => k0_hw1.2.2.2.2.2.1.2.2.1
theorem k0_dev327_lt : ∀ (v1 : BitVec 32) (k0_hw1 : k0_chk1 v1), (k0_dev327 v1) < nD := fun v1 k0_hw1 => k0_hw1.2.2.2.2.2.1.2.2.2.1
theorem k0_dev329_lt : ∀ (v1 : BitVec 32) (k0_hw1 : k0_chk1 v1), (k0_dev329 v1) < nD := fun v1 k0_hw1 => k0_hw1.2.2.2.2.2.1.2.2.2.2.1
theorem k0_dev332_lt : ∀ (v1 : BitVec 32) (k0_hw1 : k0_chk1 v1), (k0_dev332 v1) < nD := fun v1 k0_hw1 => k0_hw1.2.2.2.2.2.1.2.2.2.2.2.1
theorem k0_dev334_lt : ∀ (v1 : BitVec 32) (k0_hw1 : k0_chk1 v1), (k0_dev334 v1) < nD := fun v1 k0_hw1 => k0_hw1.2.2.2.2.2.1.2.2.2.2.2.2.1
theorem k0_dev335_lt : ∀ (v1 : BitVec 32) (k0_hw1 : k0_chk1 v1), (k0_dev335 v1) < nD := fun v1 k0_hw1 => k0_hw1.2.2.2.2.2.1.2.2.2.2.2.2.2.1
theorem k0_dev337_lt : ∀ (v1 : BitVec 32) (k0_hw1 : k0_chk1 v1), (k0_dev337 v1) < nD := fun v1 k0_hw1 => k0_hw1.2.2.2.2.2.1.2.2.2.2.2.2.2.2.1
theorem k0_dev340_lt : ∀ (v1 : BitVec 32) (k0_hw1 : k0_chk1 v1), (k0_dev340 v1) < nD := fun v1 k0_hw1 => k0_hw1.2.2.2.2.2.1.2.2.2.2.2.2.2.2.2.1
theorem k0_dev342_lt : ∀ (v1 : BitVec 32) (k0_hw1 : k0_chk1 v1), (k0_dev342 v1) < nD := fun v1 k0_hw1 => k0_hw1.2.2.2.2.2.1.2.2.2.2.2.2.2.2.2.2.1
theorem k0_dev343_lt : ∀ (v1 : BitVec 32) (k0_hw1 : k0_chk1 v1), (k0_dev343 v1) < nD := fun v1 k0_hw1 => k0_hw1.2.2.2.2.2.1.2.2.2.2.2.2.2.2.2.2.2.1
theorem k0_dev345_lt : ∀ (v1 : BitVec 32) (k0_hw1 : k0_chk1 v1), (k0_dev345 v1) < nD := fun v1 k0_hw1 => k0_hw1.2.2.2.2.2.1.2.2.2.2.2.2.2.2.2.2.2.2.1
theorem k0_dev348_lt : ∀ (v1 : BitVec 32) (k0_hw1 : k0_chk1 v1), (k0_dev348 v1) < nD := fun v1 k0_hw1 => k0_hw1.2.2.2.2.2.1.2.2.2.2.2.2.2.2.2.2.2.2.2.1
theorem k0_dev350_lt : ∀ (v1 : BitVec 32) (k0_hw1 : k0_chk1 v1), (k0_dev350 v1) < nD := fun v1 k0_hw1 => k0_hw1.2.2.2.2.2.1.2.2.2.2.2.2.2.2.2.2.2.2.2.2.1
theorem k0_dev351_lt : ∀ (v1 : BitVec 32) (k0_hw1 : k0_chk1 v1), (k0_dev351 v1) < nD := fun v1 k0_hw1 => k0_hw1.2.2.2.2.2.1.2.2.2.2.2.2.2.2.2.2.2.2.2.2.2.1
theorem k0_dev353_lt : ∀ (v1 : BitVec 32) (k0_hw1 : k0_chk1 v1), (k0_dev353 v1) < nD := fun v1 k0_hw1 => k0_hw1.2.2.2.2.2.1.2.2.2.2.2.2.2.2.2.2.2.2.2.2.2.2.1
theorem k0_dev356_lt : ∀ (v1 : BitVec 32) (k0_hw1 : k0_chk1 v1), (k0_dev356 v1) < nD := fun v1 k0_hw1 => k0_hw1.2.2.2.2.2.1.2.2.2.2.2.2.2.2.2.2.2.2.2.2.2.2.2.1
theorem k0_dev358_lt : ∀ (v1 : BitVec 32) (k0_hw1 : k0_chk1 v1), (k0_dev358 v1) < nD := fun v1 k0_hw1 => k0_hw1.2.2.2.2.2.1.2.2.2.2.2.2.2.2.2.2.2.2.2.2.2.2.2.2.1
theorem k0_dev359_lt : ∀ (v1 : BitVec 32) (k0_hw1 : k0_chk1 v1), (k0_dev359 v1) < nD := fun v1 k0_hw1 => k0_hw1.2.2.2.2.2.1.2.2.2.2.2.2.2.2.2.2.2.2.2.2.2.2.2.2.2.1
theorem k0_dev361_lt : ∀ (v1 : BitVec 32) (k0_hw1 : k0_chk1 v1), (k0_dev361 v1) < nD := fun v1 k0_hw1 => k0_hw1.2.2.2.2.2.1.2.2.2.2.2.2.2.2.2.2.2.2.2.2.2.2.2.2.2.2.1
theorem k0_dev364_lt : ∀ (v1 : BitVec 32) (k0_hw1 : k0_chk1 v1), (k0_dev364 v1) < nD := fun v1 k0_hw1 => k0_hw1.2.2.2.2.2.1.2.2.2.2.2.2.2.2.2.2.2.2.2.2.2.2.2.2.2.2.2.1
theorem k0_dev366_lt : ∀ (v1 : BitVec 32) (k0_hw1 : k0_chk1 v1), (k0_dev366 v1) < nD := fun v1 k0_hw1 => k0_hw1.2.2.2.2.2.1.2.2.2.2.2.2.2.2.2.2.2.2.2.2.2.2.2.2.2.2.2.2.1
theorem k0_dev367_lt : ∀ (v1 : BitVec 32) (k0_hw1 : k0_chk1 v1), (k0_dev367 v1) < nD := fun v1 k0_hw1 => k0_hw1.2.2.2.2.2.1.2.2.2.2.2.2.2.2.2.2.2.2.2.2.2.2.2.2.2.2.2.2.2.1
theorem k0_dev369_lt : ∀ (v1 : BitVec 32) (k0_hw1 : k0_chk1 v1), (k0_dev369 v1) < nD := fun v1 k0_hw1 => k0_hw1.2.2.2.2.2.1.2.2.2.2.2.2.2.2.2.2.2.2.2.2.2.2.2.2.2.2.2.2.2.2.1
theorem k0_dev372_lt : ∀ (v1 : BitVec 32) (k0_hw1 : k0_chk1 v1), (k0_dev372 v1) < nD := fun v1 k0_hw1 => k0_hw1.2.2.2.2.2.1.2.2.2.2.2.2.2.2.2.2.2.2.2.2.2.2.2.2.2.2.2.2.2.2.2.1
theorem k0_dev374_lt : ∀ (v1 : BitVec 32) (k0_hw1 : k0_chk1 v1), (k0_dev374 v1) < nD := fun v1 k0_hw1 => k0_hw1.2.2.2.2.2.1.2.2.2.2.2.2.2.2.2.2.2.2.2.2.2.2.2.2.2.2.2.2.2.2.2.2.1
theorem k0_dev375_lt : ∀ (v1 : BitVec 32) (k0_hw1 : k0_chk1 v1), (k0_dev375 v1) < nD := fun v1 k0_hw1 => k0_hw1.2.2.2.2.2.1.2.2.2.2.2.2.2.2.2.2.2.2.2.2.2.2.2.2.2.2.2.2.2.2.2.2.2.1
theorem k0_dev377_lt : ∀ (v1 : BitVec 32) (k0_hw1 : k0_chk1 v1), (k0_dev377 v1) < nD := fun v1 k0_hw1 => k0_hw1.2.2.2.2.2.1.2.2.2.2.2.2.2.2.2.2.2.2.2.2.2.2.2.2.2.2.2.2.2.2.2.2.2.2.1
theorem k0_dev380_lt : ∀ (v1 : BitVec 32) (k0_hw1 : k0_chk1 v1), (k0_dev380 v1) < nD := fun v1 k0_hw1 => k0_hw1.2.2.2.2.2.1.2.2.2.2.2.2.2.2.2.2.2.2.2.2.2.2.2.2.2.2.2.2.2.2.2.2.2.2.2.1
theorem k0_dev382_lt : ∀ (v1 : BitVec 32) (k0_hw1 : k0_chk1 v1), (k0_dev382 v1) < nD := fun v1 k0_hw1 => k0_hw1.2.2.2.2.2.1.2.2.2.2.2.2.2.2.2.2.2.2.2.2.2.2.2.2.2.2.2.2.2.2.2.2.2.2.2.2.1
theorem k0_dev383_lt : ∀ (v1 : BitVec 32) (k0_hw1 : k0_chk1 v1), (k0_dev383 v1) < nD := fun v1 k0_hw1 => k0_hw1.2.2.2.2.2.1.2.2.2.2.2.2.2.2.2.2.2.2.2.2.2.2.2.2.2.2.2.2.2.2.2.2.2.2.2.2.2
theorem k0_dev385_lt : ∀ (v1 : BitVec 32) (k0_hw1 : k0_chk1 v1), (k0_dev385 v1) < nD := fun v1 k0_hw1 => k0_hw1.2.2.2.2.2.2.1.1
theorem k0_dev388_lt : ∀ (v1 : BitVec 32) (k0_hw1 : k0_chk1 v1), (k0_dev388 v1) < nD := fun v1 k0_hw1 => k0_hw1.2.2.2.2.2.2.1.2.1
theorem k0_dev390_lt : ∀ (v1 : BitVec 32) (k0_hw1 : k0_chk1 v1), (k0_dev390 v1) < nD := fun v1 k0_hw1 => k0_hw1.2.2.2.2.2.2.1.2.2.1
theorem k0_dev391_lt : ∀ (v1 : BitVec 32) (k0_hw1 : k0_chk1 v1), (k0_dev391 v1) < nD := fun v1 k0_hw1 => k0_hw1.2.2.2.2.2.2.1.2.2.2.1
theorem k0_dev393_lt : ∀ (v1 : BitVec 32) (k0_hw1 : k0_chk1 v1), (k0_dev393 v1) < nD := fun v1 k0_hw1 => k0_hw1.2.2.2.2.2.2.1.2.2.2.2.1
theorem k0_dev396_lt : ∀ (v1 : BitVec 32) (k0_hw1 : k0_chk1 v1), (k0_dev396 v1) < nD := fun v1 k0_hw1 => k0_hw1.2.2.2.2.2.2.1.2.2.2.2.2.1
theorem k0_dev398_lt : ∀ (v1 : BitVec 32) (k0_hw1 : k0_chk1 v1), (k0_dev398 v1) < nD := fun v1 k0_hw1 => k0_hw1.2.2.2.2.2.2.1.2.2.2.2.2.2.1
theorem k0_dev399_lt : ∀ (v1 : BitVec 32) (k0_hw1 : k0_chk1 v1), (k0_dev399 v1) < nD := fun v1 k0_hw1 => k0_hw1.2.2.2.2.2.2.1.2.2.2.2.2.2.2.1
theorem k0_dev401_lt : ∀ (v1 : BitVec 32) (k0_hw1 : k0_chk1 v1), (k0_dev401 v1) < nD := fun v1 k0_hw1 => k0_hw1.2.2.2.2.2.2.1.2.2.2.2.2.2.2.2.1
theorem k0_dev404_lt : ∀ (v1 : BitVec 32) (k0_hw1 : k0_chk1 v1), (k0_dev404 v1) < nD := fun v1 k0_hw1 => k0_hw1.2.2.2.2.2.2.1.2.2.2.2.2.2.2.2.2.1
theorem k0_dev406_lt : ∀ (v1 : BitVec 32) (k0_hw1 : k0_chk1 v1), (k0_dev406 v1) < nD := fun v1 k0_hw1 => k0_hw1.2.2.2.2.2.2.1.2.2.2.2.2.2.2.2.2.2.1
theorem k0_dev407_lt : ∀ (v1 : BitVec 32) (k0_hw1 : k0_chk1 v1), (k0_dev407 v1) < nD := fun v1 k0_hw1 => k0_hw1.2.2.2.2.2.2.1.2.2.2.2.2.2.2.2.2.2.2.1
theorem k0_dev409_lt : ∀ (v1 : BitVec 32) (k0_hw1 : k0_chk1 v1), (k0_dev409 v1) < nD := fun v1 k0_hw1 => k0_hw1.2.2.2.2.2.2.1.2.2.2.2.2.2.2.2.2.2.2.2.1
theorem k0_dev412_lt : ∀ (v1 : BitVec 32) (k0_hw1 : k0_chk1 v1), (k0_dev412 v1) < nD := fun v1 k0_hw1 => k0_hw1.2.2.2.2.2.2.1.2.2.2.2.2.2.2.2.2.2.2.2.2.1
theorem k0_dev414_lt : ∀ (v1 : BitVec 32) (k0_hw1 : k0_chk1 v1), (k0_dev414 v1) < nD := fun v1 k0_hw1 => k0_hw1.2.2.2.2.2.2.1.2.2.2.2.2.2.2.2.2.2.2.2.2.2.1
theorem k0_dev415_lt : ∀ (v1 : BitVec 32) (k0_hw1 : k0_chk1 v1), (k0_dev415 v1) < nD := fun v1 k0_hw1 => k0_hw1.2.2.2.2.2.2.1.2.2.2.2.2.2.2.2.2.2.2.2.2.2.2.1
theorem k0_dev417_lt : ∀ (v1 : BitVec 32) (k0_hw1 : k0_chk1 v1), (k0_dev417 v1) < nD := fun v1 k0_hw1 => k0_hw1.2.2.2.2.2.2.1.2.2.2.2.2.2.2.2.2.2.2.2.2.2.2.2.1
theorem k0_dev420_lt : ∀ (v1 : BitVec 32) (k0_hw1 : k0_chk1 v1), (k0_dev420 v1) < nD := fun v1 k0_hw1 => k0_hw1.2.2.2.2.2.2.1.2.2.2.2.2.2.2.2.2.2.2.2.2.2.2.2.2.1
theorem k0_dev422_lt : ∀ (v1 : BitVec 32) (k0_hw1 : k0_chk1 v1), (k0_dev422 v1) < nD := fun v1 k0_hw1 => k0_hw1.2.2.2.2.2.2.1.2.2.2.2.2.2.2.2.2.2.2.2.2.2.2.2.2.2.1
theorem k0_dev423_lt : ∀ (v1 : BitVec 32) (k0_hw1 : k0_chk1 v1), (k0_dev423 v1) < nD := fun v1 k0_hw1 => k0_hw1.2.2.2.2.2.2.1.2.2.2.2.2.2.2.2.2.2.2.2.2.2.2.2.2.2.2.1
theorem k0_dev425_lt : ∀ (v1 : BitVec 32) (k0_hw1 : k0_chk1 v1), (k0_dev425 v1) < nD := fun v1 k0_hw1 => k0_hw1.2.2.2.2.2.2.1.2.2.2.2.2.2.2.2.2.2.2.2.2.2.2.2.2.2.2.2.1
theorem k0_dev428_lt : ∀ (v1 : BitVec 32) (k0_hw1 : k0_chk1 v1), (k0_dev428 v1) < nD := fun v1 k0_hw1 => k0_hw1.2.2.2.2.2.2.1.2.2.2.2.2.2.2.2.2.2.2.2.2.2.2.2.2.2.2.2.2.1
theorem k0_dev430_lt : ∀ (v1 : BitVec 32) (k0_hw1 : k0_chk1 v1), (k0_dev430 v1) < nD := fun v1 k0_hw1 => k0_hw1.2.2.2.2.2.2.1.2.2.2.2.2.2.2.2.2.2.2.2.2.2.2.2.2.2.2.2.2.2.1
theorem k0_dev431_lt : ∀ (v1 : BitVec 32) (k0_hw1 : k0_chk1 v1), (k0_dev431 v1) < nD := fun v1 k0_hw1 => k0_hw1.2.2.2.2.2.2.1.2.2.2.2.2.2.2.2.2.2.2.2.2.2.2.2.2.2.2.2.2.2.2.1
theorem k0_dev433_lt : ∀ (v1 : BitVec 32) (k0_hw1 : k0_chk1 v1), (k0_dev433 v1) < nD := fun v1 k0_hw1 => k0_hw1.2.2.2.2.2.2.1.2.2.2.2.2.2.2.2.2.2.2.2.2.2.2.2.2.2.2.2.2.2.2.2.1
theorem k0_dev436_lt : ∀ (v1 : BitVec 32) (k0_hw1 : k0_chk1 v1), (k0_dev436 v1) < nD := fun v1 k0_hw1 => k0_hw1.2.2.2.2.2.2.1.2.2.2.2.2.2.2.2.2.2.2.2.2.2.2.2.2.2.2.2.2.2.2.2.2.1
theorem k0_dev438_lt : ∀ (v1 : BitVec 32) (k0_hw1 : k0_chk1 v1), (k0_dev438 v1) < nD := fun v1 k0_hw1 => k0_hw1.2.2.2.2.2.2.1.2.2.2.2.2.2.2.2.2.2.2.2.2.2.2.2.2.2.2.2.2.2.2.2.2.2.1
theorem k0_dev439_lt : ∀ (v1 : BitVec 32) (k0_hw1 : k0_chk1 v1), (k0_dev439 v1) < nD := fun v1 k0_hw1 => k0_hw1.2.2.2.2.2.2.1.2.2.2.2.2.2.2.2.2.2.2.2.2.2.2.2.2.2.2.2.2.2.2.2.2.2.2.1
theorem k0_dev441_lt : ∀ (v1 : BitVec 32) (k0_hw1 : k0_chk1 v1), (k0_dev441 v1) < nD := fun v1 k0_hw1 => k0_hw1.2.2.2.2.2.2.1.2.2.2.2.2.2.2.2.2.2.2.2.2.2.2.2.2.2.2.2.2.2.2.2.2.2.2.2.1
theorem k0_dev444_lt : ∀ (v1 : BitVec 32) (k0_hw1 : k0_chk1 v1), (k0_dev444 v1) < nD := fun v1 k0_hw1 => k0_hw1.2.2.2.2.2.2.1.2.2.2.2.2.2.2.2.2.2.2.2.2.2.2.2.2.2.2.2.2.2.2.2.2.2.2.2.2.1
theorem k0_dev446_lt : ∀ (v1 : BitVec 32) (k0_hw1 : k0_chk1 v1), (k0_dev446 v1) < nD := fun v1 k0_hw1 => k0_hw1.2.2.2.2.2.2.1.2.2.2.2.2.2.2.2.2.2.2.2.2.2.2.2.2.2.2.2.2.2.2.2.2.2.2.2.2.2.1
theorem k0_dev447_lt : ∀ (v1 : BitVec 32) (k0_hw1 : k0_chk1 v1), (k0_dev447 v1) < nD := fun v1 k0_hw1 => k0_hw1.2.2.2.2.2.2.1.2.2.2.2.2.2.2.2.2.2.2.2.2.2.2.2.2.2.2.2.2.2.2.2.2.2.2.2.2.2.2
theorem k0_dev449_lt : ∀ (v1 : BitVec 32) (k0_hw1 : k0_chk1 v1), (k0_dev449 v1) < nD := fun v1 k0_hw1 => k0_hw1.2.2.2.2.2.2.2.1
theorem k0_dev452_lt : ∀ (v1 : BitVec 32) (k0_hw1 : k0_chk1 v1), (k0_dev452 v1) < nD := fun v1 k0_hw1 => k0_hw1.2.2.2.2.2.2.2.2.1
theorem k0_dev454_lt : ∀ (v1 : BitVec 32) (k0_hw1 : k0_chk1 v1), (k0_dev454 v1) < nD := fun v1 k0_hw1 => k0_hw1.2.2.2.2.2.2.2.2.2.1
theorem k0_dev455_lt : ∀ (v1 : BitVec 32) (k0_hw1 : k0_chk1 v1), (k0_dev455 v1) < nD := fun v1 k0_hw1 => k0_hw1.2.2.2.2.2.2.2.2.2.2.1
theorem k0_dev457_lt : ∀ (v1 : BitVec 32) (k0_hw1 : k0_chk1 v1), (k0_dev457 v1) < nD := fun v1 k0_hw1 => k0_hw1.2.2.2.2.2.2.2.2.2.2.2.1
theorem k0_dev460_lt : ∀ (v1 : BitVec 32) (k0_hw1 : k0_chk1 v1), (k0_dev460 v1) < nD := fun v1 k0_hw1 => k0_hw1.2.2.2.2.2.2.2.2.2.2.2.2.1
theorem k0_dev462_lt : ∀ (v1 : BitVec 32) (k0_hw1 : k0_chk1 v1), (k0_dev462 v1) < nD := fun v1 k0_hw1 => k0_hw1.2.2.2.2.2.2.2.2.2.2.2.2.2.1
theorem k0_dev463_lt : ∀ (v1 : BitVec 32) (k0_hw1 : k0_chk1 v1), (k0_dev463 v1) < nD := fun v1 k0_hw1 => k0_hw1.2.2.2.2.2.2.2.2.2.2.2.2.2.2.1
theorem k0_dev465_lt : ∀ (v1 : BitVec 32) (k0_hw1 : k0_chk1 v1), (k0_dev465 v1) < nD := fun v1 k0_hw1 => k0_hw1.2.2.2.2.2.2.2.2.2.2.2.2.2.2.2.1
theorem k0_dev468_lt : ∀ (v1 : BitVec 32) (k0_hw1 : k0_chk1 v1), (k0_dev468 v1) < nD := fun v1 k0_hw1 => k0_hw1.2.2.2.2.2.2.2.2.2.2.2.2.2.2.2.2.1
theorem k0_dev470_lt : ∀ (v1 : BitVec 32) (k0_hw1 : k0_chk1 v1), (k0_dev470 v1) < nD := fun v1 k0_hw1 => k0_hw1.2.2.2.2.2.2.2.2.2.2.2.2.2.2.2.2.2.1
theorem k0_dev471_lt : ∀ (v1 : BitVec 32) (k0_hw1 : k0_chk1 v1), (k0_dev471 v1) < nD := fun v1 k0_hw1 => k0_hw1.2.2.2.2.2.2.2.2.2.2.2.2.2.2.2.2.2.2.1
theorem k0_dev473_lt : ∀ (v1 : BitVec 32) (k0_hw1 : k0_chk1 v1), (k0_dev473 v1) < nD := fun v1 k0_hw1 => k0_hw1.2.2.2.2.2.2.2.2.2.2.2.2.2.2.2.2.2.2.2.1
theorem k0_dev476_lt : ∀ (v1 : BitVec 32) (k0_hw1 : k0_chk1 v1), (k0_dev476 v1) < nD := fun v1 k0_hw1 => k0_hw1.2.2.2.2.2.2.2.2.2.2.2.2.2.2.2.2.2.2.2.2.1
theorem k0_dev478_lt : ∀ (v1 : BitVec 32) (k0_hw1 : k0_chk1 v1), (k0_dev478 v1) < nD := fun v1 k0_hw1 => k0_hw1.2.2.2.2.2.2.2.2.2.2.2.2.2.2.2.2.2.2.2.2.2.1
theorem k0_dev479_lt : ∀ (v1 : BitVec 32) (k0_hw1 : k0_chk1 v1), (k0_dev479 v1) < nD := fun v1 k0_hw1 => k0_hw1.2.2.2.2.2.2.2.2.2.2.2.2.2.2.2.2.2.2.2.2.2.2.1
theorem k0_dev481_lt : ∀ (v1 : BitVec 32) (k0_hw1 : k0_chk1 v1), (k0_dev481 v1) < nD := fun v1 k0_hw1 => k0_hw1.2.2.2.2.2.2.2.2.2.2.2.2.2.2.2.2.2.2.2.2.2.2.2.1
theorem k0_dev484_lt : ∀ (v1 : BitVec 32) (k0_hw1 : k0_chk1 v1), (k0_dev484 v1) < nD := fun v1 k0_hw1 => k0_hw1.2.2.2.2.2.2.2.2.2.2.2.2.2.2.2.2.2.2.2.2.2.2.2.2.1
theorem k0_dev486_lt : ∀ (v1 : BitVec 32) (k0_hw1 : k0_chk1 v1), (k0_dev486 v1) < nD := fun v1 k0_hw1 => k0_hw1.2.2.2.2.2.2.2.2.2.2.2.2.2.2.2.2.2.2.2.2.2.2.2.2.2.1
theorem k0_dev489_lt : ∀ (v1 : BitVec 32) (k0_hw1 : k0_chk1 v1), (k0_dev489 v1) < nD := fun v1 k0_hw1 => k0_hw1.2.2.2.2.2.2.2.2.2.2.2.2.2.2.2.2.2.2.2.2.2.2.2.2.2.2.1
theorem k0_dev490_lt : ∀ (v1 : BitVec 32) (k0_hw1 : k0_chk1 v1), (k0_dev490 v1) < nD := fun v1 k0_hw1 => k0_hw1.2.2.2.2.2.2.2.2.2.2.2.2.2.2.2.2.2.2.2.2.2.2.2.2.2.2.2

abbrev stage0_0 : Fin 1 → Memref sig .tc .vmem S4096x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.KernelIdealSteps.lean ====
/- The kernel's body as a PROLOGUE and 248 STEPS. The printed body is one straight line of some eighteen thousand
   statements, because the Python loop over the 62 steps of the four rings is unrolled when the kernel is traced. This
   module writes the line back as the loop it came from: `step W k h` is what ring `k` does at step `h`, and
   `body_eq` says that the printed body is the prologue followed by every step in order. The equation holds by
   unfolding both sides. -/
module

public import proofs.«01_k».proof.Proof.Gen.KernelIdeal
public import Idealize.ShloMosaic.Lib.Pipeline.Regions

@[expose] public section

noncomputable section

namespace Cert.KernelIdeal.Own

open Idealize.ShloMosaic Idealize.SL.Sem
open Cert.KernelIdeal Cert.KernelIdeal.Facts₀ Cert.KernelIdeal.Facts

variable {F : FTy → Type} [FloatOps F]

/-- The row and column where ring `k`'s chunk begins, the chunk named by a word added to the device's ring position. -/
def offs (k : Fin 4) (v0 w : BitVec 32) : Fin 2 → Nat :=
  ![(Scalar.muli (Scalar.remsi (Scalar.addi v0 w) 32#32) 128#32).toNat, 512 * k.val]

/-- The same for a vector load or store, whose row is cast to an index. -/
def offsI (k : Fin 4) (v0 w : BitVec 32) : Fin 2 → Nat :=
  ![(Scalar.indexCast (Scalar.muli (Scalar.remsi (Scalar.addi v0 w) 32#32) 128#32)).toNat, 512 * k.val]

/-- Rings 0 and 1 run clockwise. -/
def isCw (k : Fin 4) : Bool := Nat.blt k.val 2

/-- The word that names the chunk ring `k` sends at step `h`. -/
def sendWord (k : Fin 4) (h : ℕ) : BitVec 32 :=
  bif isCw k then (bif Nat.blt h 31 then BitVec.ofNat 32 (64 - h) else BitVec.ofNat 32 (96 - h)) else BitVec.ofNat 32 h

/-- The word that names the chunk ring `k` adds to at step `h` of the reduce-scatter. -/
def recvWord (k : Fin 4) (h : ℕ) : BitVec 32 :=
  bif isCw k then BitVec.ofNat 32 (63 - h) else BitVec.ofNat 32 (h + 1)

/-- The word that names the device's own chunk. -/
def ownWord (k : Fin 4) : BitVec 32 := bif isCw k then 1#32 else 31#32

/-- The device a word names, as the kernel computes it. -/
def devOf (v : BitVec 32) : Nat := (Scalar.addi 0#32 (Scalar.muli v 1#32)).toNat

/-- What the steps need of the words the body has read: the position, the two neighbours, the scale, and the bounds
    the kernel's side conditions give of them. -/
structure Words (F : FTy → Type) where
  v0 : BitVec 32
  v1 : BitVec 32
  v2 : BitVec 32
  s : F .f32
  hs : ∀ (k : Fin 4) (h : ℕ), h < 62 → ∀ a, offs k v0 (sendWord k h) a + S128x512.size a ≤ S4096x2048.size a
  hr : ∀ (k : Fin 4) (h : ℕ), h < 31 → ∀ a, offsI k v0 (recvWord k h) a + S128x512.size a ≤ S4096x2048.size a
  ho : ∀ (k : Fin 4), ∀ a, offsI k v0 (ownWord k) a + S128x512.size a ≤ S4096x2048.size a
  h1 : devOf v1 < nD
  h2 : devOf v2 < nD

/-- The memrefs and semaphores the steps use. -/
structure Refs where
  out : Memref sig .tc .vmem S4096x2048 .f32
  buf : Fin 4 → Memref sig .tc .vmem S2x128x512 .f32
  snd : DmaSems sig S4x2
  rcv : DmaSems sig S4x2
  crd : Fin 4 → Sems sig S_

namespace Words
variable (W : Words F)
/-- The neighbour ring `k` sends to. -/
def down (k : Fin 4) : Dev nD := bif isCw k then ⟨devOf W.v2, W.h2⟩ else ⟨devOf W.v1, W.h1⟩
/-- The neighbour ring `k` receives from. -/
def up (k : Fin 4) : Dev nD := bif isCw k then ⟨devOf W.v1, W.h1⟩ else ⟨devOf W.v2, W.h2⟩
end Words

/-- The parity of a step. -/
def par (h : ℕ) : Fin 2 := ⟨h % 2, Nat.mod_lt _ (by decide)⟩

theorem inbSem (k : Fin 4) (p : Fin 2) : ∀ a, (![k.val, p.val] : Fin 2 → Nat) a + S1x1.size a ≤ S4x2.size a := by
  revert k p; decide
theorem inbBuf (p : Fin 2) : ∀ a, (![p.val, 0, 0] : Fin 3 → Nat) a + S1x128x512.size a ≤ S2x128x512.size a := by
  revert p; decide

/-- Cell `(k, p)` of a table of DMA semaphores. -/
def semAt (A : DmaSems sig S4x2) (k : Fin 4) (p : Fin 2) : DmaSems sig S_ :=
  (A.slice (Rect.unit (s := S4x2) ![k.val, p.val] S1x1.size (inbSem k p))).squeeze S_ squeezes_S1x1_S_

/-- Half `p` of a ring's landing buffer. -/
def half (b : Memref sig .tc .vmem S2x128x512 .f32) (p : Fin 2) : Memref sig .tc .vmem S128x512 .f32 :=
  (b.slice (Rect.unit (s := S2x128x512) ![p.val, 0, 0] S1x128x512.size (inbBuf p)) (fun _ => rfl)).squeeze S128x512 squeezes_S1x128x512_S128x512

/-- The chunk ring `k` sends at step `h`. -/
def srcAt (R : Refs) (W : Words F) (k : Fin 4) (h : ℕ) (hh : h < 62) : Memref sig .tc .vmem S128x512 .f32 :=
  R.out.slice (Rect.unit (s := S4096x2048) (offs k W.v0 (sendWord k h)) S128x512.size (W.hs k h hh)) (fun _ => rfl)

/-- Word-exactness of a chunk and of half a landing buffer: their elements are words. -/
theorem wx_srcAt (R : Refs) (W : Words F) (k : Fin 4) (h : ℕ) (hh : h < 62) : (srcAt R W k h hh).view.WordExact := View.wordExact_bits rfl
theorem wx_half (b : Memref sig .tc .vmem S2x128x512 .f32) (p : Fin 2) : (half b p).view.WordExact := (View.wordExact_bits rfl).reshape _ _

/-- Start a transfer of `src` into device `n`'s `dst`. -/
def send (src dst : Memref sig .tc .vmem S128x512 .f32) (n : Dev nD) (ss rs : DmaSem sig) (hs : src.view.WordExact) (hd : dst.view.WordExact) :
    Prog (TpuEff nD τ sig (Elt F) Λ₀ .tc) PUnit :=
  Prog.lift (.enqueueDma src (.remote (Dev.tc n) dst (.dma ss)) (.dma rs) hs hd ⟨⟨rfl, Or.inl rfl⟩, trivial⟩)

/-- Start the transfer of step `h` of ring `k`: in the reduce-scatter into the other half of the neighbour's landing
    buffer, in the all-gather into the same chunk of the neighbour's output. -/
def start (R : Refs) (W : Words F) (k : Fin 4) (h : ℕ) (hh : h < 62) : Prog (TpuEff nD τ sig (Elt F) Λ₀ .tc) PUnit :=
  bif Nat.blt h 31 then
    send (srcAt R W k h hh) (half (R.buf k) (par (h + 1))) (W.down k) (semAt R.snd k (par h)).sem (semAt R.rcv k (par (h + 1))).sem
      (wx_srcAt R W k h hh) (wx_half _ _)
  else
    send (srcAt R W k h hh) (srcAt R W k h hh) (W.down k) (semAt R.snd k (par h)).sem (semAt R.rcv k (par (h + 1))).sem
      (wx_srcAt R W k h hh) (wx_srcAt R W k h hh)

/-- Wait for the transfer of step `h` of ring `k`: the outgoing one, then the incoming one. -/
def await (R : Refs) (W : Words F) (k : Fin 4) (h : ℕ) (hh : h < 62) : Prog (TpuEff nD τ sig (Elt F) Λ₀ .tc) PUnit :=
  bif Nat.blt h 31 then do
    Prog.lift (.waitDma2 (semAt R.snd k (par h)).sem (half (R.buf k) (par (h + 1))) (srcAt R W k h hh) (wx_half _ _) (wx_srcAt R W k h hh))
    Prog.lift (.waitDma2 (semAt R.rcv k (par (h + 1))).sem (srcAt R W k h hh) (half (R.buf k) (par (h + 1))) (wx_srcAt R W k h hh) (wx_half _ _))
  else do
    Prog.lift (.waitDma2 (semAt R.snd k (par h)).sem (srcAt R W k h hh) (srcAt R W k h hh) (wx_srcAt R W k h hh) (wx_srcAt R W k h hh))
    Prog.lift (.waitDma2 (semAt R.rcv k (par (h + 1))).sem (srcAt R W k h hh) (srcAt R W k h hh) (wx_srcAt R W k h hh) (wx_srcAt R W k h hh))

/-- The scaled chunk through `y / (1 + exp (-y))`, as the kernel computes it. -/
def siluV (s : F .f32) (x : Vec F S128x512 .f32) : FVec F S128x512 .f32 :=
  divf (mulf (shapeCast S128x512 x shapeCasts_S128x512_S128x512) (broadcast S128x512 s))
    (addf (broadcast S128x512 (Scalar.ofBits .f32 0x3F800000#32)) (exp (subf (broadcast S128x512 (Scalar.ofBits .f32 0x00000000#32))
      (mulf (shapeCast S128x512 x shapeCasts_S128x512_S128x512) (broadcast S128x512 s)))))

/-- The rectangle ring `k` adds to at step `h`. -/
def recvRect (W : Words F) (k : Fin 4) (h : ℕ) (hh : h < 31) : Rect S4096x2048 :=
  Rect.unit (s := S4096x2048) (offsI k W.v0 (recvWord k h)) S128x512.size (W.hr k h hh)

/-- The rectangle of the device's own chunk. -/
def ownRect (W : Words F) (k : Fin 4) : Rect S4096x2048 :=
  Rect.unit (s := S4096x2048) (offsI k W.v0 (ownWord k)) S128x512.size (W.ho k)

/-- Add what arrived at step `h` to the local chunk. -/
def accum (R : Refs) (W : Words F) (k : Fin 4) (h : ℕ) (hh : h < 31) : Prog (TpuEff nD τ sig (Elt F) Λ₀ .tc) PUnit := do
  let a : Vec F S128x512 .f32 ← Prog.lift (.load R.out (Rect.unit (s := S4096x2048) (offsI k W.v0 (recvWord k h)) S128x512.size (W.hr k h hh)).toLoadRect (View.loadsAt_vmem h_S128x512))
  let b : Vec F S1x128x512 .f32 ← Prog.lift (.load (R.buf k) (Rect.unit (s := S2x128x512) ![(par (h + 1)).val, 0, 0] S1x128x512.size (inbBuf (par (h + 1)))).toLoadRect (View.loadsAt_vmem h_S1x128x512))
  let _a : Vec F S128x512 .f32 ← Prog.lift (.load R.out (Rect.unit (s := S4096x2048) (offsI k W.v0 (recvWord k h)) S128x512.size (W.hr k h hh)).toLoadRect (View.loadsAt_vmem h_S128x512))
  Prog.lift (.store R.out (Rect.unit (s := S4096x2048) (offsI k W.v0 (recvWord k h)) S128x512.size (W.hr k h hh)) (addf (shapeCast S128x512 a shapeCasts_S128x512_S128x512 : FVec F S128x512 .f32) (shapeCast S128x512 b shapeCasts_S1x128x512_S128x512)) Finset.univ (View.stores_vmem_bits_univ h_S128x512 rfl) (.inl rfl))

/-- Scale the device's own chunk and put it through the activation. -/
def activate (R : Refs) (W : Words F) (k : Fin 4) : Prog (TpuEff nD τ sig (Elt F) Λ₀ .tc) PUnit := do
  let a : Vec F S128x512 .f32 ← Prog.lift (.load R.out (Rect.unit (s := S4096x2048) (offsI k W.v0 (ownWord k)) S128x512.size (W.ho k)).toLoadRect (View.loadsAt_vmem h_S128x512))
  let _a : Vec F S128x512 .f32 ← Prog.lift (.load R.out (Rect.unit (s := S4096x2048) (offsI k W.v0 (ownWord k)) S128x512.size (W.ho k)).toLoadRect (View.loadsAt_vmem h_S128x512))
  Prog.lift (.store R.out (Rect.unit (s := S4096x2048) (offsI k W.v0 (ownWord k)) S128x512.size (W.ho k)) (siluV W.s a) Finset.univ (View.stores_vmem_bits_univ h_S128x512 rfl) (.inl rfl))

/-- What ring `k` does with what arrived at step `h`: in the reduce-scatter add it in, and after the last addition
    activate the chunk; in the all-gather nothing. -/
def consume (R : Refs) (W : Words F) (k : Fin 4) (h : ℕ) : Prog (TpuEff nD τ sig (Elt F) Λ₀ .tc) PUnit :=
  if hh : h < 31 then
    accum R W k h hh >>= fun _ => bif Nat.beq h 30 then activate R W k else pure ⟨⟩
  else pure ⟨⟩

/-- Go on to the next step: grant the upstream neighbour a credit, take one, start the next transfer. -/
def advance (R : Refs) (W : Words F) (k : Fin 4) (h : ℕ) : Prog (TpuEff nD τ sig (Elt F) Λ₀ .tc) PUnit :=
  (bif Nat.blt h 60 then semSignalWord (W.up k) (R.crd k).sem 1#32 else pure ⟨⟩) >>= fun _ =>
  if hh : h + 1 < 62 then
    (bif Nat.blt h 1 then pure ⟨⟩ else semWaitWord (R.crd k).sem 1#32) >>= fun _ => start R W k (h + 1) hh
  else pure ⟨⟩

/-- Step `h` of ring `k`. -/
def step (R : Refs) (W : Words F) (k : Fin 4) (h : ℕ) (hh : h < 62) : Prog (TpuEff nD τ sig (Elt F) Λ₀ .tc) PUnit :=
  await R W k h hh >>= fun _ => consume R W k h >>= fun _ => advance R W k h

/-- Step `h` of the four rings. -/
def round (R : Refs) (W : Words F) (h : ℕ) (hh : h < 62) : Prog (TpuEff nD τ sig (Elt F) Λ₀ .tc) PUnit :=
  step R W 0 h hh >>= fun _ => step R W 1 h hh >>= fun _ => step R W 2 h hh >>= fun _ => step R W 3 h hh

/-- The last `n` steps. -/
def rounds (R : Refs) (W : Words F) : ℕ → Prog (TpuEff nD τ sig (Elt F) Λ₀ .tc) PUnit
  | 0 => pure ⟨⟩
  | n + 1 => (if hh : 61 - n < 62 then round R W (61 - n) hh else pure ⟨⟩) >>= fun _ => rounds R W n

/-- The words of the clockwise rings' accumulations, read off the table. -/
theorem off5_at : ∀ r : Fin 31, k0_off5_at ⟨r.val, Nat.lt_succ_of_lt r.isLt⟩ = BitVec.ofNat 32 (63 - r.val) := by decide
theorem off6_at : ∀ r : Fin 31, k0_off6_at ⟨r.val, Nat.lt_succ_of_lt r.isLt⟩ = BitVec.ofNat 32 (63 - r.val) := by decide

/-- The words the body has read, with the bounds its side conditions give. -/
def mkWords (v0 v1 v2 : BitVec 32) (s : F .f32) (hw3 : k0_chk3 v0) (hw1 : k0_chk1 v1) (hw2 : k0_chk2 v2) : Words F where
  v0 := v0
  v1 := v1
  v2 := v2
  s := s
  hs := by
    intro k h hh
    have e : ∀ k : Fin 4, isCw k = true → sendWord k h = BitVec.ofNat 32 (34 + (if h < 31 then 30 - h else 62 - h)) := by
      intro k hk
      unfold sendWord
      rw [hk, cond_true]
      by_cases h' : h < 31
      · rw [show Nat.blt h 31 = true by rw [Nat.blt_eq]; exact h', cond_true, if_pos h']; congr 1; omega
      · rw [show Nat.blt h 31 = false by rw [Bool.eq_false_iff]; exact fun x => h' (by rwa [Nat.blt_eq] at x), cond_false, if_neg h']; congr 1; omega
    have hlt : (if h < 31 then 30 - h else 62 - h) < 32 := by split <;> omega
    match k with
    | 0 => rw [e 0 rfl]; exact k0_off1_inb v0 hw3 ⟨_, hlt⟩
    | 1 => rw [e 1 rfl]; exact k0_off2_inb v0 hw3 ⟨_, hlt⟩
    | 2 => exact k0_off3_inb v0 hw3 ⟨h, hh⟩
    | 3 => exact k0_off4_inb v0 hw3 ⟨h, hh⟩
  hr := by
    intro k h hh
    match k with
    | 0 => rw [show recvWord 0 h = _ from (off5_at ⟨h, hh⟩).symm]; exact k0_off5_inb v0 hw3 _
    | 1 => rw [show recvWord 1 h = _ from (off6_at ⟨h, hh⟩).symm]; exact k0_off6_inb v0 hw3 _
    | 2 => rw [show recvWord 2 h = BitVec.ofNat 32 (1 + h) from congrArg (BitVec.ofNat 32) (Nat.add_comm h 1)]; exact k0_off7_inb v0 hw3 ⟨h, hh⟩
    | 3 => rw [show recvWord 3 h = BitVec.ofNat 32 (1 + h) from congrArg (BitVec.ofNat 32) (Nat.add_comm h 1)]; exact k0_off8_inb v0 hw3 ⟨h, hh⟩
  ho := by
    intro k
    match k with
    | 0 => exact k0_off5_inb v0 hw3 31
    | 1 => exact k0_off6_inb v0 hw3 31
    | 2 => exact k0_off7_inb v0 hw3 30
    | 3 => exact k0_off8_inb v0 hw3 30
  h1 := k0_dev1_lt v1 hw1
  h2 := k0_dev2_lt v2 hw2

/-- The memrefs and semaphores of one call of the body. -/
def mkRefs (arg7 : Memref sig .tc .vmem S4096x2048 .f32) (arg8 arg9 arg10 arg11 : Memref sig .tc .vmem S2x128x512 .f32)
    (arg12 arg13 : DmaSems sig S4x2) (arg14 arg15 arg16 arg17 : Sems sig S_) : Refs where
  out := arg7
  buf := fun | 0 => arg8 | 1 => arg9 | 2 => arg10 | 3 => arg11
  snd := arg12
  rcv := arg13
  crd := fun | 0 => arg14 | 1 => arg15 | 2 => arg16 | 3 => arg17

/-- What the body does after reading its words: meet the neighbours, multiply, start the four rings, and run them. -/
def afterWords (arg0 : Memref sig .tc .vmem S4096x128 .i8) (arg1 : Memref sig .tc .vmem S128x2048 .i8)
    (arg2 arg3 : Memref sig .tc .smem S1 .f32) (R : Refs) (v0 v1 v2 : BitVec 32) (hw3 : k0_chk3 v0) (hw1 : k0_chk1 v1) (hw2 : k0_chk2 v2) :
    Prog (TpuEff nD τ sig (Elt F) Λ₀ .tc) PUnit := do
  let b : Sems sig S_ := SemArray.scalar (sig.barrier 0 rfl)
  semSignalWord (⟨devOf v1, k0_dev1_lt v1 hw1⟩ : Dev nD) b.sem 1#32
  semSignalWord (⟨devOf v2, k0_dev2_lt v2 hw2⟩ : Dev nD) b.sem 1#32
  semWaitWord b.sem 2#32
  let x : Vec F S4096x128 .i8 ← Prog.lift (.load arg0 (Rect.unit (s := S4096x128) ![0, 0] S4096x128.size inb_S4096x128_S4096x128_0_0).toLoadRect (View.loadsAt_vmem h_S4096x128))
  let w : Vec F S128x2048 .i8 ← Prog.lift (.load arg1 (Rect.unit (s := S128x2048) ![0, 0] S128x2048.size inb_S128x2048_S128x2048_0_0).toLoadRect (View.loadsAt_vmem h_S128x2048))
  let _o : Vec F S4096x2048 .f32 ← Prog.lift (.load R.out (Rect.unit (s := S4096x2048) ![0, 0] S4096x2048.size inb_S4096x2048_S4096x2048_0_0).toLoadRect (View.loadsAt_vmem h_S4096x2048))
  Prog.lift (.store R.out (Rect.unit (s := S4096x2048) ![0, 0] S4096x2048.size inb_S4096x2048_S4096x2048_0_0)
    (sitofp .f32 (matmulI8 IntMxuNumerics.v7x dot_S4096x128_S128x2048_S4096x2048_1_0_0_1_n_n (shapeCast S4096x128 x shapeCasts_S4096x128_S4096x128) (shapeCast S128x2048 w shapeCasts_S128x2048_S128x2048) (constantI S4096x2048 32 0#32)) : FVec F S4096x2048 .f32)
    Finset.univ (View.stores_vmem_bits_univ h_S4096x2048 rfl) (.inl rfl))
  let sx : Elt F .f32 ← smemLoad arg2 (Rect.unit (s := S1) ![0] S1.size inb_S1_S1_0) numel1_S1 rfl
  let sw : Elt F .f32 ← smemLoad arg3 (Rect.unit (s := S1) ![0] S1.size inb_S1_S1_0) numel1_S1 rfl
  start R (mkWords v0 v1 v2 (Scalar.mulf sx sw) hw3 hw1 hw2) 0 0 (by decide)
  start R (mkWords v0 v1 v2 (Scalar.mulf sx sw) hw3 hw1 hw2) 1 0 (by decide)
  start R (mkWords v0 v1 v2 (Scalar.mulf sx sw) hw3 hw1 hw2) 2 0 (by decide)
  start R (mkWords v0 v1 v2 (Scalar.mulf sx sw) hw3 hw1 hw2) 3 0 (by decide)
  rounds R (mkWords v0 v1 v2 (Scalar.mulf sx sw) hw3 hw1 hw2) 62

/-- The whole body: read the position and the neighbours, then the rest. -/
def body (arg0 : Memref sig .tc .vmem S4096x128 .i8) (arg1 : Memref sig .tc .vmem S128x2048 .i8)
    (arg2 arg3 : Memref sig .tc .smem S1 .f32) (arg4 arg5 arg6 : Memref sig .tc .smem S1 .i32) (R : Refs) :
    Prog (TpuEff nD τ sig (Elt F) Λ₀ .tc) PUnit := do
  let v0 : Elt F .i32 ← smemLoad arg4 (Rect.unit (s := S1) ![0] S1.size inb_S1_S1_0) numel1_S1 rfl
  let hw3 ← Prog.lift (TpuEff.assume (k0_chk3 v0) (k0_chk3.dec v0))
  let v1 : Elt F .i32 ← smemLoad arg5 (Rect.unit (s := S1) ![0] S1.size inb_S1_S1_0) numel1_S1 rfl
  let hw1 ← Prog.lift (TpuEff.assume (k0_chk1 v1) (k0_chk1.dec v1))
  let v2 : Elt F .i32 ← smemLoad arg6 (Rect.unit (s := S1) ![0] S1.size inb_S1_S1_0) numel1_S1 rfl
  let hw2 ← Prog.lift (TpuEff.assume (k0_chk2 v2) (k0_chk2.dec v2))
  afterWords arg0 arg1 arg2 arg3 R v0 v1 v2 hw3.down hw1.down hw2.down

set_option maxRecDepth 100000 in
/-- The printed body is the prologue and the steps. -/
theorem body_eq (arg0 : Memref sig .tc .vmem S4096x128 .i8) (harg0 : arg0.IsWhole) (arg1 : Memref sig .tc .vmem S128x2048 .i8) (harg1 : arg1.IsWhole) (arg2 : Memref sig .tc .smem S1 .f32) (harg2 : arg2.IsWhole) (arg3 : Memref sig .tc .smem S1 .f32) (harg3 : arg3.IsWhole) (arg4 : Memref sig .tc .smem S1 .i32) (harg4 : arg4.IsWhole) (arg5 : Memref sig .tc .smem S1 .i32) (harg5 : arg5.IsWhole) (arg6 : Memref sig .tc .smem S1 .i32) (harg6 : arg6.IsWhole) (arg7 : Memref sig .tc .vmem S4096x2048 .f32) (harg7 : arg7.IsWhole) (arg8 : Memref sig .tc .vmem S2x128x512 .f32) (harg8 : arg8.IsWhole) (arg9 : Memref sig .tc .vmem S2x128x512 .f32) (harg9 : arg9.IsWhole) (arg10 : Memref sig .tc .vmem S2x128x512 .f32) (harg10 : arg10.IsWhole) (arg11 : Memref sig .tc .vmem S2x128x512 .f32) (harg11 : arg11.IsWhole) (arg12 : DmaSems sig S4x2) (arg13 : DmaSems sig S4x2) (arg14 : Sems sig S_) (arg15 : Sems sig S_) (arg16 : Sems sig S_) (arg17 : Sems sig S_) :
    cc0_body (F := F) arg0 harg0 arg1 harg1 arg2 harg2 arg3 harg3 arg4 harg4 arg5 harg5 arg6 harg6 arg7 harg7 arg8 harg8 arg9 harg9 arg10 harg10 arg11 harg11 arg12 arg13 arg14 arg15 arg16 arg17
      = body arg0 arg1 arg2 arg3 arg4 arg5 arg6 (mkRefs arg7 arg8 arg9 arg10 arg11 arg12 arg13 arg14 arg15 arg16 arg17) := by
  chain_rfl

end Cert.KernelIdeal.Own

end
-- ==== Proof.KernelIdealRing.lean ====
/- The two rings the kernel walks, and the places they name: the position and the neighbours of a device as words and as
   devices, the chunk ring `k` sends at step `h`, and the memrefs and cells of chunk and landing buffer. Every equation
   here is between closed numbers of at most 32 devices, 4 rings and 62 steps. -/
module

public import proofs.«01_k».proof.Proof.KernelIdealSteps

@[expose] public section

noncomputable section

namespace Cert.KernelIdeal.Own

open Idealize.ShloMosaic Idealize.ShloMosaic.TcCoe Idealize.SL Idealize.SL.Sem
open Cert.KernelIdeal Cert.KernelIdeal.Facts₀ Cert.KernelIdeal.Facts

variable {F : FTy → Type} [FloatOps F]

/-! ## Positions and neighbours -/

/-- The device's position on the ring, as the kernel's word. -/
def posW (c : Dev nD) : BitVec 32 := lit0 c
/-- The device's position on the ring. -/
def pos (c : Dev nD) : ℕ := (lit0 c).toNat
/-- The device at a position. -/
def devAt (i : Fin 32) : Dev nD := ⟨(lit1 i).toNat % 32, Nat.mod_lt _ (by decide)⟩
/-- The neighbour one position down, and one up. -/
def lft (c : Dev nD) : Dev nD := devAt ⟨(pos c + 31) % 32, Nat.mod_lt _ (by decide)⟩
def rgt (c : Dev nD) : Dev nD := devAt ⟨(pos c + 1) % 32, Nat.mod_lt _ (by decide)⟩
/-- The same neighbours as the kernel's words. -/
def lftW (c : Dev nD) : BitVec 32 := lit1 ⟨(pos c + 31) % 32, Nat.mod_lt _ (by decide)⟩
def rgtW (c : Dev nD) : BitVec 32 := lit1 ⟨(pos c + 1) % 32, Nat.mod_lt _ (by decide)⟩

theorem pos_lt (c : Dev nD) : pos c < 32 := by revert c; decide
theorem posW_eq (c : Dev nD) : posW c = BitVec.ofNat 32 (pos c) := by revert c; decide
theorem lft_rgt (c : Dev nD) : lft (rgt c) = c := by revert c; decide
theorem rgt_lft (c : Dev nD) : rgt (lft c) = c := by revert c; decide
theorem pos_lft (c : Dev nD) : pos (lft c) = (pos c + 31) % 32 := by revert c; decide
theorem pos_rgt (c : Dev nD) : pos (rgt c) = (pos c + 1) % 32 := by revert c; decide
theorem pos_inj : Function.Injective pos := by decide
theorem devOf_lftW (c : Dev nD) : devOf (lftW c) = (lft c).val := by revert c; decide
theorem devOf_rgtW (c : Dev nD) : devOf (rgtW c) = (rgt c).val := by revert c; decide

/-- The neighbour ring `k` sends to, and the one it receives from. -/
def nxt (k : Fin 4) (c : Dev nD) : Dev nD := bif isCw k then rgt c else lft c
def prv (k : Fin 4) (c : Dev nD) : Dev nD := bif isCw k then lft c else rgt c

theorem nxt_prv (k : Fin 4) (c : Dev nD) : nxt k (prv k c) = c := by
  unfold nxt prv; cases isCw k
  · exact lft_rgt c
  · exact rgt_lft c
theorem prv_nxt (k : Fin 4) (c : Dev nD) : prv k (nxt k c) = c := by
  unfold nxt prv; cases isCw k
  · exact rgt_lft c
  · exact lft_rgt c

/-- The chunk ring `k` sends at step `h`: one position back at each step on a clockwise ring, one forward on the other. -/
def qn (k : Fin 4) (c : Dev nD) (h : ℕ) : ℕ := (pos c + (bif isCw k then 31 * h else h)) % 32

theorem qn_lt (k : Fin 4) (c : Dev nD) (h : ℕ) : qn k c h < 32 := Nat.mod_lt _ (by decide)

/-- What the upstream neighbour sends at step `h` is the chunk sent at step `h + 1`. -/
theorem qn_prv (k : Fin 4) (c : Dev nD) (h : ℕ) : qn k (prv k c) h = qn k c (h + 1) := by
  unfold qn prv
  cases isCw k
  · simp only [cond_false]; rw [pos_rgt]; omega
  · simp only [cond_true]; rw [pos_lft]; omega
theorem qn_nxt (k : Fin 4) (c : Dev nD) (h : ℕ) : qn k (nxt k c) (h + 1) = qn k c h := by rw [← qn_prv, prv_nxt]

theorem qn_add32 (k : Fin 4) (c : Dev nD) (h : ℕ) : qn k c (h + 32) = qn k c h := by
  unfold qn; cases isCw k
  · simp only [cond_false]; omega
  · simp only [cond_true]; omega

/-- The steps of 32 in a row name 32 different chunks. -/
theorem qn_inj (k : Fin 4) (c : Dev nD) {i j : ℕ} (h : qn k c i = qn k c j) : i % 32 = j % 32 := by
  have := pos_lt c
  unfold qn at h; cases hk : isCw k <;> rw [hk] at h
  · simp only [cond_false] at h; omega
  · simp only [cond_true] at h; omega

/-! ## The words are these numbers -/

theorem word_val : ∀ (p : Fin 32) (w : Fin 97),
    (Scalar.muli (Scalar.remsi (Scalar.addi (BitVec.ofNat 32 p.val) (BitVec.ofNat 32 w.val)) 32#32) 128#32).toNat = 128 * ((p.val + w.val) % 32) := by
  decide +kernel

theorem offs_val (k : Fin 4) (c : Dev nD) (n : ℕ) (hn : n < 97) : offs k (posW c) (BitVec.ofNat 32 n) = ![128 * ((pos c + n) % 32), 512 * k.val] := by
  unfold offs; rw [posW_eq, word_val ⟨pos c, pos_lt c⟩ ⟨n, hn⟩]
theorem offsI_eq (k : Fin 4) (v w : BitVec 32) : offsI k v w = offs k v w := rfl

theorem isCw_cases (k : Fin 4) : isCw k = true ∨ isCw k = false := by cases isCw k; exacts [.inr rfl, .inl rfl]

/-- The offsets of the chunk sent at step `h`. -/
theorem offs_send (k : Fin 4) (c : Dev nD) (h : ℕ) (hh : h < 62) : offs k (posW c) (sendWord k h) = ![128 * qn k c h, 512 * k.val] := by
  unfold sendWord qn
  cases isCw k
  · simp only [cond_false]; rw [offs_val _ _ _ (by omega)]
  · simp only [cond_true]
    by_cases h' : h < 31
    · rw [show Nat.blt h 31 = true by rw [Nat.blt_eq]; exact h', cond_true, offs_val _ _ _ (by omega), show (pos c + (64 - h)) % 32 = (pos c + 31 * h) % 32 by omega]
    · rw [show Nat.blt h 31 = false by rw [Bool.eq_false_iff]; exact fun x => h' (by rwa [Nat.blt_eq] at x), cond_false, offs_val _ _ _ (by omega),
        show (pos c + (96 - h)) % 32 = (pos c + 31 * h) % 32 by omega]
/-- The offsets of the chunk added to at step `h`: the one sent next. -/
theorem offs_recv (k : Fin 4) (c : Dev nD) (h : ℕ) (hh : h < 31) : offsI k (posW c) (recvWord k h) = ![128 * qn k c (h + 1), 512 * k.val] := by
  rw [offsI_eq]; unfold recvWord qn
  cases isCw k
  · simp only [cond_false]; rw [offs_val _ _ _ (by omega)]
  · simp only [cond_true]; rw [offs_val _ _ _ (by omega), show (pos c + (63 - h)) % 32 = (pos c + 31 * (h + 1)) % 32 by omega]
/-- The offsets of the device's own chunk: the one whose sum is complete after step 30. -/
theorem offs_own (k : Fin 4) (c : Dev nD) : offsI k (posW c) (ownWord k) = ![128 * qn k c 31, 512 * k.val] := by
  rw [offsI_eq]; unfold ownWord qn
  cases isCw k
  · simp only [cond_false]; exact offs_val k c 31 (by decide)
  · simp only [cond_true]; rw [show (1#32) = BitVec.ofNat 32 1 from rfl, offs_val k c 1 (by decide)]; congr 2; omega

/-! ## The side conditions of the words -/

theorem inb_val (k : Fin 4) (i : ℕ) (hi : i < 32) : ∀ a, (![128 * i, 512 * k.val] : Fin 2 → ℕ) a + S128x512.size a ≤ S4096x2048.size a := by
  have := k.isLt
  intro a; fin_cases a
  · show 128 * i + 128 ≤ 4096; omega
  · show 512 * k.val + 512 ≤ 2048; omega
theorem inb_word (k : Fin 4) (c : Dev nD) (n : ℕ) (hn : n < 97) : ∀ a, offs k (posW c) (BitVec.ofNat 32 n) a + S128x512.size a ≤ S4096x2048.size a := by
  rw [offs_val k c n hn]; exact inb_val k _ (Nat.mod_lt _ (by decide))

theorem chk3 (c : Dev nD) : k0_chk3 (posW c) :=
  ⟨fun r => inb_word 0 c _ (by omega), fun r => inb_word 1 c _ (by omega), fun r => inb_word 2 c _ (by omega), fun r => inb_word 3 c _ (by omega),
    fun r => by rw [show k0_off5_at r = BitVec.ofNat 32 (k0_off5_at r).toNat by simp]; exact inb_word 0 c _ (by revert r; decide),
    fun r => by rw [show k0_off6_at r = BitVec.ofNat 32 (k0_off6_at r).toNat by simp]; exact inb_word 1 c _ (by revert r; decide),
    fun r => inb_word 2 c _ (by omega), fun r => inb_word 3 c _ (by omega)⟩
theorem chk1 (c : Dev nD) : k0_chk1 (lftW c) := by revert c; decide
theorem chk2 (c : Dev nD) : k0_chk2 (rgtW c) := by revert c; decide

end Cert.KernelIdeal.Own

end
-- ==== Proof.KernelIdealProtocol.lean ====
/- The protocol of the four rings. At every step a device sends one chunk to the neighbour downstream and receives one
   from the neighbour upstream. This module states, for every counter of every device, what a unit of it hands over
   (`sched`), and in what order the counters are waited on (`lv`).

   * A send counter gives the source chunk back.
   * A receive counter gives the landing place, holding what the upstream neighbour sent.
   * Landing places are lent in advance: every write has its own slot invariant, the owner puts the place in when it may be
     overwritten, the sender takes it out. A credit hands over no memory: only the fact that the places of all writes up to
     some step are in (`ready`). So credits that arrive together do no harm.
   * The barrier hands each neighbour the first of these facts. -/
module

public import proofs.«01_k».proof.Proof.KernelIdealRing
public import Idealize.ShloMosaic.Lib.Rounds
public import Idealize.ShloMosaic.Lib.Release
public import Idealize.ShloMosaic.Lib.Pipeline.Kit
public import Idealize.ShloMosaic.Lib.Pipeline.RegionTalk
public import Idealize.ShloMosaic.Lib.Tactic

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Facts₀ Cert.KernelIdeal.Facts Cert.KernelIdeal.Gen

variable {F : FTy → Type} [FloatOps F]

/-! ## The resource algebra: the pipeline's rounds, this protocol's rounds, and the slots -/

abbrev UD : Type := URounds (GSem nD τ sig) ℕ
/-- A slot is named by its owner, its ring, and the step of the write that fills it. -/
abbrev Key : Type := (Dev nD × Fin 4) × ℕ
abbrev UU : Type := UR sig nD τ × (UD × USlots Key)

local notation "𝕄" => MT nD τ sig ℕ (Elt F) ℕ UU ℕ

abbrev EP : Emb (UR sig nD τ) (MT nD τ sig ℕ (Elt F) ℕ UU ℕ) := embL
abbrev EQ : Emb (UD × USlots Key) (MT nD τ sig ℕ (Elt F) ℕ UU ℕ) := embR
abbrev ER : Emb UD (MT nD τ sig ℕ (Elt F) ℕ UU ℕ) := (Emb.inl : Emb UD (UD × USlots Key)).trans EQ
abbrev ES : Emb (USlots Key) (MT nD τ sig ℕ (Elt F) ℕ UU ℕ) := (Emb.inr : Emb (USlots Key) (UD × USlots Key)).trans EQ

/-! ## Memrefs and cells -/

/-- The output and the four landing buffers, and the semaphores, as the kernel is called with them. -/
abbrev outM : Memref sig .tc .vmem S4096x2048 .f32 := Memref.whole cc0_stg7_0
abbrev RR : Refs := mkRefs outM (Memref.whole cc0_scratch0) (Memref.whole cc0_scratch1) (Memref.whole cc0_scratch2) (Memref.whole cc0_scratch3)
  cc0_scratch4 cc0_scratch5 cc0_scratch6 cc0_scratch7 cc0_scratch8 cc0_scratch9

/-- Chunk `i` of ring `k`: rows `128 i …`, columns `512 k …` of the output. -/
def chunk (k : Fin 4) (i : ℕ) (hi : i < 32) : Memref sig .tc .vmem S128x512 .f32 :=
  outM.slice (Rect.unit (s := S4096x2048) ![128 * i, 512 * k.val] S128x512.size (inb_val k i hi)) (fun _ => rfl)
/-- The chunk device `c` sends on ring `k` at step `h`. -/
abbrev chunkAt (k : Fin 4) (c : Dev nD) (h : ℕ) : Memref sig .tc .vmem S128x512 .f32 := chunk k (qn k c h) (qn_lt k c h)
/-- Where the write of step `h` lands on device `d`. -/
def land (k : Fin 4) (d : Dev nD) (h : ℕ) : Memref sig .tc .vmem S128x512 .f32 :=
  bif Nat.blt h 31 then half (RR.buf k) (par (h + 1)) else chunkAt k d (h + 1)

theorem chunk_congr (k : Fin 4) {i j : ℕ} (e : i = j) (hi : i < 32) (hj : j < 32) : chunk k i hi = chunk k j hj := by subst e; rfl
theorem blt_of_lt {a b : ℕ} (h : a < b) : Nat.blt a b = true := by rw [Nat.blt_eq]; exact h
theorem blt_of_le {a b : ℕ} (h : b ≤ a) : Nat.blt a b = false := by
  rw [Bool.eq_false_iff]; exact fun x => by rw [Nat.blt_eq] at x; omega
theorem land_lt (k : Fin 4) (d : Dev nD) {h : ℕ} (hh : h < 31) : land k d h = half (RR.buf k) (par (h + 1)) := by
  unfold land; rw [blt_of_lt hh]; rfl
theorem land_ge (k : Fin 4) (d : Dev nD) {h : ℕ} (hh : 31 ≤ h) : land k d h = chunkAt k d (h + 1) := by
  unfold land; rw [blt_of_le hh]; rfl
theorem par_add2 (h : ℕ) : par (h + 2) = par h := Fin.ext (by show (h + 2) % 2 = h % 2; omega)

/-- The units a chunk's transfer credits. -/
def N : ℕ := (half (RR.buf 0) 0).view.dmaCredit
theorem N_half (k : Fin 4) (p : Fin 2) : (half (RR.buf k) p).view.dmaCredit = N := by
  match k with
  | 0 => rfl
  | 1 => rfl
  | 2 => rfl
  | 3 => rfl
theorem N_chunk (k : Fin 4) (i : ℕ) (hi : i < 32) : (chunk k i hi).view.dmaCredit = N := rfl
theorem N_land (k : Fin 4) (d : Dev nD) (h : ℕ) : (land k d h).view.dmaCredit = N := by
  rcases Nat.lt_or_ge h 31 with h' | h'
  · rw [land_lt k d h']; exact N_half k _
  · rw [land_ge k d h']; rfl
theorem N_pos : 0 < N := View.dmaCredit_pos _ (by decide)

abbrev sndS (k : Fin 4) (p : Fin 2) : DmaSem sig := (semAt cc0_scratch4 k p).sem
abbrev rcvS (k : Fin 4) (p : Fin 2) : DmaSem sig := (semAt cc0_scratch5 k p).sem
abbrev crdS (k : Fin 4) : Sem sig := (RR.crd k).sem
abbrev barS : Sem sig := (SemArray.scalar (sig.barrier 0 rfl) : Sems sig S_).sem

/-- The cells of step `h` of ring `k` on device `c`: sending, receiving; the ring's credits; the barrier. -/
abbrev sndC (k : Fin 4) (c : Dev nD) (h : ℕ) : GSem nD τ sig := ((c : Thread nD τ), .dma (sndS k (par h)))
abbrev rcvC (k : Fin 4) (c : Dev nD) (h : ℕ) : GSem nD τ sig := ((c : Thread nD τ), .dma (rcvS k (par (h + 1))))
abbrev crdC (k : Fin 4) (c : Dev nD) : GSem nD τ sig := ((c : Thread nD τ), .reg (crdS k))
abbrev barC (c : Dev nD) : GSem nD τ sig := ((c : Thread nD τ), .reg barS)

/-- What a semaphore of the kernel is for. -/
inductive Kd where
  | snd (k : Fin 4) (p : Fin 2)
  | rcv (k : Fin 4) (p : Fin 2)
  | crd (k : Fin 4)
  | bar
  | other
deriving DecidableEq

/-- The semaphores by number: credits 0 to 3, the barrier 4; the staging transfers' 0 to 7, sending 8 to 15, receiving 16 to 23. -/
def kd : SemLoc sig → Kd
  | .reg i => if h : i.val < 4 then .crd ⟨i.val, h⟩ else .bar
  | .dma i =>
    if i.val < 8 then .other
    else if i.val < 16 then .snd ⟨(i.val - 8) / 2 % 4, Nat.mod_lt _ (by decide)⟩ ⟨i.val % 2, Nat.mod_lt _ (by decide)⟩
    else .rcv ⟨(i.val - 16) / 2 % 4, Nat.mod_lt _ (by decide)⟩ ⟨i.val % 2, Nat.mod_lt _ (by decide)⟩

theorem kd_snd (k : Fin 4) (p : Fin 2) : kd (.dma (sndS k p)) = .snd k p := by revert k p; decide
theorem kd_rcv (k : Fin 4) (p : Fin 2) : kd (.dma (rcvS k p)) = .rcv k p := by revert k p; decide
theorem kd_crd (k : Fin 4) : kd (.reg (crdS k)) = .crd k := by revert k; decide
theorem kd_bar : kd (.reg barS) = .bar := by decide

/-! ## Contents -/

/-- Device `c` holds the memref's elements, reading `v`. -/
def holds (c : Dev nD) (M : Memref sig .tc .vmem S128x512 .f32) (v : S128x512.Idx → Elt F .f32) : sProp 𝕄 :=
  iprop(∃ f, (M.view.loc (c : Thread nD τ) ↦[M.view.set]{fullShare} f) ∗ ⌜M.view.read (Elt F) f = v⌝)
/-- Device `c` holds the memref's elements at any contents. -/
abbrev free (c : Dev nD) (M : Memref sig .tc .vmem S128x512 .f32) : sProp 𝕄 := slot (M.view.loc (c : Thread nD τ)) M.view.set

instance holds_storable (c : Dev nD) (M : Memref sig .tc .vmem S128x512 .f32) (v : S128x512.Idx → Elt F .f32) :
    Storable (upEmb : UEmb _ 𝕄) (holds c M v) := by unfold holds; infer_instance

theorem holds_free (c : Dev nD) (M : Memref sig .tc .vmem S128x512 .f32) (v : S128x512.Idx → Elt F .f32) : holds c M v ⊢ (free c M : sProp 𝕄) := by
  unfold holds free slot
  iintro ⟨%f, H, -⟩
  iexists f; iexact H

theorem set_nonempty (M : Memref sig .tc .vmem S128x512 .f32) : M.view.set.Nonempty :=
  ⟨_, M.view.emb_mem_set (Shape.Idx.first (by decide))⟩
theorem free_free (c : Dev nD) (M : Memref sig .tc .vmem S128x512 .f32) : iprop(free c M ∗ free c M) ⊢ (False : sProp 𝕄) :=
  slot_slot_false (set_nonempty M)

/-- The local products of each device, and its scale. -/
structure Par (F : FTy → Type) where
  X : Dev nD → S4096x2048.Idx → Elt F .f32
  s : Dev nD → F .f32

variable (P : Par F)

/-- The local product's chunk of step `h`. -/
def part (k : Fin 4) (c : Dev nD) (h : ℕ) : S128x512.Idx → Elt F .f32 := (chunkAt k c h).view.read (Elt F) (P.X c)

/-- A chunk of local products with the partial sum that arrived added. -/
def added (a b : S128x512.Idx → Elt F .f32) : S128x512.Idx → Elt F .f32 := addf (shapeCast S128x512 a Gen.shapeCasts_S128x512_S128x512 : FVec F S128x512 .f32) b

/-- What device `c` sends on ring `k` at step `h`: its own products at first; then what arrived, its own products added;
    at step 31 the whole sum, activated; then what arrived, passed on. -/
def val (k : Fin 4) : ℕ → Dev nD → S128x512.Idx → Elt F .f32
  | 0, c => part P k c 0
  | h + 1, c =>
    if h < 30 then added (part P k c (h + 1)) (val k h (prv k c))
    else if h = 30 then siluV (P.s c) (added (part P k c (h + 1)) (val k h (prv k c)))
    else val k h (prv k c)

theorem val_zero (k : Fin 4) (c : Dev nD) : val P k 0 c = part P k c 0 := rfl
theorem val_lt (k : Fin 4) (c : Dev nD) {h : ℕ} (hh : h < 30) : val P k (h + 1) c = added (part P k c (h + 1)) (val P k h (prv k c)) := by
  show (if h < 30 then _ else _) = _; rw [if_pos hh]
theorem val_31 (k : Fin 4) (c : Dev nD) : val P k 31 c = siluV (P.s c) (added (part P k c 31) (val P k 30 (prv k c))) := rfl
theorem val_ge (k : Fin 4) (c : Dev nD) {h : ℕ} (hh : 31 ≤ h) : val P k (h + 1) c = val P k h (prv k c) := by
  show (if h < 30 then _ else if h = 30 then _ else _) = _; rw [if_neg (by omega), if_neg (by omega)]

/-! ## The schedule -/

/-- The places of the writes of steps up to `j + 1` on device `d` are in their slots, and its receive counters have come as
    far as those writes need. -/
def ready (k : Fin 4) (d : Dev nD) (j : ℕ) : sProp 𝕄 :=
  iprop((bigSep (Finset.range (j + 2)) fun i => released ES ((d, k), i) 1) ∗ reached ER (rcvC k d j) (j / 2) ∗ reached ER (rcvC k d (j + 1)) ((j + 1) / 2))

instance ready_persistent (k : Fin 4) (d : Dev nD) (j : ℕ) : BI.Persistent (ready k d j : sProp 𝕄) := by unfold ready; infer_instance
instance ready_storable (k : Fin 4) (d : Dev nD) (j : ℕ) : Storable (upEmb : UEmb _ 𝕄) (ready k d j) := by unfold ready; infer_instance

/-- What the barrier's unit from neighbour `d` hands over: on the rings sent that way, `ready`; on the others, that the
    neighbour's credit counter is open. -/
def hello (d : Dev nD) (k : Fin 4) (down : Bool) : sProp 𝕄 := bif down then ready k d 0 else reached ER (crdC k d) 0

instance hello_persistent (d : Dev nD) (k : Fin 4) (b : Bool) : BI.Persistent (hello d k b : sProp 𝕄) := by unfold hello; cases b <;> (simp only [cond_true, cond_false]; infer_instance)
instance hello_storable (d : Dev nD) (k : Fin 4) (b : Bool) : Storable (upEmb : UEmb _ 𝕄) (hello d k b) := by unfold hello; cases b <;> (simp only [cond_true, cond_false]; infer_instance)

/-- What the barrier's unit from the left neighbour (`0`) or the right one hands to device `c`. -/
def barPay (c : Dev nD) (d : ℕ) : sProp 𝕄 :=
  bif Nat.beq d 0 then bigSep Finset.univ fun k : Fin 4 => hello (lft c) k (!isCw k) else bigSep Finset.univ fun k : Fin 4 => hello (rgt c) k (isCw k)

instance barPay_persistent (c : Dev nD) (d : ℕ) : BI.Persistent (barPay c d : sProp 𝕄) := by
  unfold barPay; cases Nat.beq d 0 <;> (simp only [cond_true, cond_false]; infer_instance)
instance barPay_storable (c : Dev nD) (d : ℕ) : Storable (upEmb : UEmb _ 𝕄) (barPay c d) := by
  unfold barPay; cases Nat.beq d 0 <;> (simp only [cond_true, cond_false]; infer_instance)

/-- What duty `d` of round `r` of a cell hands to its owner `c`. -/
def pay (c : Dev nD) (r d : ℕ) : Kd → sProp 𝕄
  | .snd k p => holds c (chunkAt k c (2 * r + p.val)) (val P k (2 * r + p.val) c)
  | .rcv k p => holds c (land k c (2 * r + (1 - p.val))) (val P k (2 * r + (1 - p.val)) (prv k c))
  | .crd k => ready k (nxt k c) (d + 1)
  | .bar => barPay c d
  | .other => iprop(emp)

/-- The duties of round `r` of a cell. -/
def duty (r : ℕ) : Kd → Finset ℕ
  | .snd _ _ => if r < 31 then {0} else ∅
  | .rcv _ _ => if r < 31 then {0} else ∅
  | .crd _ => if r = 0 then Finset.range 60 else ∅
  | .bar => if r = 0 then {0, 1} else ∅
  | .other => ∅

/-- The units of a duty. -/
def units : Kd → ℕ
  | .snd _ _ => N
  | .rcv _ _ => N
  | _ => 1

def sched : Rounds.Schedule (GSem nD τ sig) ℕ 𝕄 where
  duties g r := duty r (kd g.2)
  amount g _ _ := units (kd g.2)
  payload g r d := pay P g.1.1 r d (kd g.2)
  amount_pos g _ _ _ := by
    cases kd g.2 <;> first | exact N_pos | exact Nat.one_pos

instance sched_storable (g : GSem nD τ sig) (r : ℕ) (d : ℕ) : Storable (upEmb : UEmb _ 𝕄) ((sched P).payload g r d) := by
  show Storable (upEmb : UEmb _ 𝕄) (pay P g.1.1 r d (kd g.2))
  cases kd g.2 <;> (dsimp only [pay]; infer_instance)

theorem duties_snd (k : Fin 4) (c : Dev nD) (h : ℕ) (r : ℕ) : (sched P).duties (sndC k c h) r = if r < 31 then {0} else ∅ := by
  show duty r (kd _) = _; rw [kd_snd]; rfl
theorem duties_rcv (k : Fin 4) (c : Dev nD) (h : ℕ) (r : ℕ) : (sched P).duties (rcvC k c h) r = if r < 31 then {0} else ∅ := by
  show duty r (kd _) = _; rw [kd_rcv]; rfl
theorem duties_crd (k : Fin 4) (c : Dev nD) (r : ℕ) : (sched P).duties (crdC k c) r = if r = 0 then Finset.range 60 else ∅ := by
  show duty r (kd _) = _; rw [kd_crd]; rfl
theorem duties_bar (c : Dev nD) (r : ℕ) : (sched P).duties (barC c) r = if r = 0 then {0, 1} else ∅ := by
  show duty r (kd (.reg barS)) = _; rw [kd_bar]; rfl
theorem amount_snd (k : Fin 4) (c : Dev nD) (h r d : ℕ) : (sched P).amount (sndC k c h) r d = N := by
  show units (kd _) = _; rw [kd_snd]; rfl
theorem amount_rcv (k : Fin 4) (c : Dev nD) (h r d : ℕ) : (sched P).amount (rcvC k c h) r d = N := by
  show units (kd _) = _; rw [kd_rcv]; rfl
theorem amount_crd (k : Fin 4) (c : Dev nD) (r d : ℕ) : (sched P).amount (crdC k c) r d = 1 := by
  show units (kd _) = _; rw [kd_crd]; rfl
theorem amount_bar (c : Dev nD) (r d : ℕ) : (sched P).amount (barC c) r d = 1 := by
  show units (kd (.reg barS)) = _; rw [kd_bar]; rfl
theorem pay_snd (k : Fin 4) (c : Dev nD) (h d : ℕ) : (sched P).payload (sndC k c h) (h / 2) d = holds c (chunkAt k c h) (val P k h c) := by
  show pay P _ _ _ (kd _) = _; rw [kd_snd]
  show holds c (chunkAt k c (2 * (h / 2) + h % 2)) (val P k (2 * (h / 2) + h % 2) c) = _
  rw [show 2 * (h / 2) + h % 2 = h by omega]
theorem pay_rcv (k : Fin 4) (c : Dev nD) (h d : ℕ) : (sched P).payload (rcvC k c h) (h / 2) d = holds c (land k c h) (val P k h (prv k c)) := by
  show pay P _ _ _ (kd _) = _; rw [kd_rcv]
  show holds c (land k c (2 * (h / 2) + (1 - (h + 1) % 2))) (val P k (2 * (h / 2) + (1 - (h + 1) % 2)) (prv k c)) = _
  rw [show 2 * (h / 2) + (1 - (h + 1) % 2) = h by omega]
theorem pay_crd (k : Fin 4) (c : Dev nD) (r d : ℕ) : (sched P).payload (crdC k c) r d = ready k (nxt k c) (d + 1) := by
  show pay P _ _ _ (kd _) = _; rw [kd_crd]; rfl
theorem pay_bar (c : Dev nD) (r d : ℕ) : (sched P).payload (barC c) r d = barPay c d := by
  show pay P c r d (kd (.reg barS)) = _; rw [kd_bar]; rfl

theorem expect_snd (k : Fin 4) (c : Dev nD) (h : ℕ) {r : ℕ} (hr : r < 31) : (sched P).expect (sndC k c h) r = N := by
  rw [Schedule.expect, Schedule.amountOf, duties_snd, if_pos hr, Finset.sum_singleton, amount_snd]
theorem expect_rcv (k : Fin 4) (c : Dev nD) (h : ℕ) {r : ℕ} (hr : r < 31) : (sched P).expect (rcvC k c h) r = N := by
  rw [Schedule.expect, Schedule.amountOf, duties_rcv, if_pos hr, Finset.sum_singleton, amount_rcv]
theorem expect_crd (k : Fin 4) (c : Dev nD) : (sched P).expect (crdC k c) 0 = 60 := by
  rw [Schedule.expect, Schedule.amountOf, duties_crd, if_pos rfl, Finset.sum_congr rfl (fun d _ => amount_crd P k c 0 d)]; rfl
theorem expect_bar (c : Dev nD) : (sched P).expect (barC c) 0 = 2 := by
  rw [Schedule.expect, Schedule.amountOf, duties_bar, if_pos rfl, Finset.sum_congr rfl (fun d _ => amount_bar P c 0 d)]; rfl

/-! ## Levels -/

/-- Every wait is on a lower level than everything still owed: the barrier first, then the transfer of a step, then its credit. -/
def lv (g : GSem nD τ sig) (i : ℕ) : ℕ :=
  match kd g.2 with
  | .snd _ _ => 2 * i + 2
  | .rcv _ _ => 2 * i + 2
  | .crd _ => 2 * i + 3
  | .bar => 1
  | .other => 0
def L (g : GSem nD τ sig) : Finset ℕ := if g.1.2 = .tc then Finset.range 64 else ∅

theorem L_of_ne (g : GSem nD τ sig) (h : g.1.2 ≠ .tc) : L g = ∅ := if_neg h
theorem mem_L (c : Dev nD) (sm : SemLoc sig) {i : ℕ} (hi : i < 64) : i ∈ L ((c : Thread nD τ), sm) := by
  unfold L; rw [if_pos rfl]; exact Finset.mem_range.mpr hi
theorem lv_snd (k : Fin 4) (c : Dev nD) (h i : ℕ) : lv (sndC k c h) i = 2 * i + 2 := by unfold lv; rw [kd_snd]
theorem lv_rcv (k : Fin 4) (c : Dev nD) (h i : ℕ) : lv (rcvC k c h) i = 2 * i + 2 := by unfold lv; rw [kd_rcv]
theorem lv_crd (k : Fin 4) (c : Dev nD) (i : ℕ) : lv (crdC k c) i = 2 * i + 3 := by unfold lv; rw [kd_crd]
theorem lv_bar (c : Dev nD) (i : ℕ) : lv (barC c) i = 1 := by unfold lv; rw [kd_bar]

/-- Everything owed is above level `b`. -/
def Above (b : ℕ) (O : CellTallies nD τ sig ℕ) : Prop := ∀ g i, 0 < O g i → i ∈ L g ∧ b < lv g i

theorem above_zero (b : ℕ) : Above b 0 := fun g i h => absurd h (Nat.lt_irrefl 0)
theorem above_add {b : ℕ} {O O' : CellTallies nD τ sig ℕ} (h : Above b O) (h' : Above b O') : Above b (O + O') := fun g i hg => by
  rw [Pi.add_apply, Finsupp.add_apply] at hg
  rcases Nat.add_pos_iff_pos_or_pos.mp hg with hg | hg
  · exact h g i hg
  · exact h' g i hg
theorem above_mono {b b' : ℕ} {O : CellTallies nD τ sig ℕ} (hb : b' ≤ b) (h : Above b O) : Above b' O := fun g i hg =>
  ⟨(h g i hg).1, Nat.lt_of_le_of_lt hb (h g i hg).2⟩
theorem above_tally {b : ℕ} (c : Dev nD) (sm : SemLoc sig) {i : ℕ} (n : ℕ) (hi : i < 64) (hb : b < lv ((c : Thread nD τ), sm) i) :
    Above b (tallyAt ((c : Thread nD τ), sm) i n) := fun g j hg => by
  rw [tallyAt_apply] at hg
  split at hg
  · next e => rw [e.1, e.2]; exact ⟨mem_L c sm hi, hb⟩
  · exact absurd hg (Nat.lt_irrefl 0)
theorem above_sum {b : ℕ} (T : Finset ℕ) (f : ℕ → CellTallies nD τ sig ℕ) (h : ∀ j ∈ T, Above b (f j)) : Above b (∑ j ∈ T, f j) := by
  induction T using Finset.induction_on with
  | empty => exact above_zero b
  | insert a T ha ih =>
    rw [Finset.sum_insert ha]
    exact above_add (h a (Finset.mem_insert_self _ _)) (ih fun j hj => h j (Finset.mem_insert_of_mem hj))

theorem Ico_bot {a b : ℕ} (h : a < b) : Finset.Ico a b = insert a (Finset.Ico (a + 1) b) := by
  ext i; simp only [Finset.mem_insert, Finset.mem_Ico]; omega
theorem Ico_top {a b : ℕ} (h : a ≤ b) : Finset.Ico a (b + 1) = insert b (Finset.Ico a b) := by
  ext i; simp only [Finset.mem_insert, Finset.mem_Ico]; omega

/-- What device `c` owes on ring `k`: the transfers of steps from `h` on, and the credits from `h` on. -/
def rO (k : Fin 4) (c : Dev nD) (h : ℕ) : CellTallies nD τ sig ℕ := ∑ j ∈ Finset.Ico h 62, tallyAt (rcvC k (nxt k c) j) j N
def cO (k : Fin 4) (c : Dev nD) (h : ℕ) : CellTallies nD τ sig ℕ := ∑ j ∈ Finset.Ico h 60, tallyAt (crdC k (prv k c)) j 1

theorem rO_head (k : Fin 4) (c : Dev nD) {h : ℕ} (hh : h < 62) : rO k c h = rO k c (h + 1) + tallyAt (rcvC k (nxt k c) h) h N := by
  unfold rO; rw [Ico_bot hh, Finset.sum_insert (by simp), add_comm]
theorem cO_head (k : Fin 4) (c : Dev nD) {h : ℕ} (hh : h < 60) : cO k c h = cO k c (h + 1) + tallyAt (crdC k (prv k c)) h 1 := by
  unfold cO; rw [Ico_bot hh, Finset.sum_insert (by simp), add_comm]
theorem rO_end (k : Fin 4) (c : Dev nD) {h : ℕ} (hh : 62 ≤ h) : rO k c h = 0 := by
  unfold rO; rw [Finset.Ico_eq_empty (by omega)]; rfl
theorem cO_end (k : Fin 4) (c : Dev nD) {h : ℕ} (hh : 60 ≤ h) : cO k c h = 0 := by
  unfold cO; rw [Finset.Ico_eq_empty (by omega)]; rfl

theorem above_rO (k : Fin 4) (c : Dev nD) {h b : ℕ} (hb : b < 2 * h + 2) : Above b (rO k c h) :=
  above_sum _ _ fun j hj => by
    have := Finset.mem_Ico.mp hj
    exact above_tally _ _ _ (by omega) (by rw [lv_rcv]; omega)
theorem above_cO (k : Fin 4) (c : Dev nD) {h b : ℕ} (hb : b < 2 * h + 3) : Above b (cO k c h) :=
  above_sum _ _ fun j hj => by
    have := Finset.mem_Ico.mp hj
    exact above_tally _ _ _ (by omega) (by rw [lv_crd]; omega)

/-- A wait is allowed when all that is owed is above its level. -/
theorem mayWait (c : Dev nD) (sm : SemLoc sig) {i : ℕ} (hi : i < 64) {O : CellTallies nD τ sig ℕ} (hO : Above (lv ((c : Thread nD τ), sm) i) O) :
    (levAts L lv : sProp 𝕄) ⊢ MayWait (c : Thread nD τ) sm i O :=
  MayOwe.of_cut (L := L) (lev := lv) (lv ((c : Thread nD τ), sm) i) (fun p hp => by rw [Finset.mem_singleton.mp hp]; exact mem_L c sm hi)
    (fun g u hg => (hO g u hg).1) (fun p hp => by rw [Finset.mem_singleton.mp hp]) (fun g u hg => (hO g u hg).2)

/-! ## Big conjunctions over steps -/

theorem Ico_head {a b : ℕ} (h : a < b) (Φ : ℕ → sProp 𝕄) : bigSep (Finset.Ico a b) Φ = iprop(Φ a ∗ bigSep (Finset.Ico (a + 1) b) Φ) := by
  rw [Ico_bot h, bigSep_insert (by simp)]; rfl
theorem Ico_snoc {a b : ℕ} (h : a ≤ b) (Φ : ℕ → sProp 𝕄) : bigSep (Finset.Ico a (b + 1)) Φ = iprop(Φ b ∗ bigSep (Finset.Ico a b) Φ) := by
  rw [Ico_top h, bigSep_insert (by simp)]; rfl
theorem Ico_none {a b : ℕ} (h : b ≤ a) (Φ : ℕ → sProp 𝕄) : bigSep (Finset.Ico a b) Φ = (BI.emp : sProp 𝕄) := by
  rw [Finset.Ico_eq_empty (by omega), bigSep_empty]

/-! ## What `ready` gives -/

theorem rcvC_add2 (k : Fin 4) (c : Dev nD) (h : ℕ) : rcvC k c (h + 2) = rcvC k c h := by
  show ((c : Thread nD τ), SemLoc.dma (rcvS k (par (h + 2 + 1)))) = _; rw [show h + 2 + 1 = h + 1 + 2 by omega, par_add2]
theorem sndC_add2 (k : Fin 4) (c : Dev nD) (h : ℕ) : sndC k c (h + 2) = sndC k c h := by
  show ((c : Thread nD τ), SemLoc.dma (sndS k (par (h + 2)))) = _; rw [par_add2]
theorem rcvC_par (k : Fin 4) (c : Dev nD) {i j : ℕ} (h : i % 2 = j % 2) : rcvC k c i = rcvC k c j := by
  have : par (i + 1) = par (j + 1) := Fin.ext (by show (i + 1) % 2 = (j + 1) % 2; omega)
  unfold rcvC; rw [this]

/-- With the places up to step `j + 1` in, the write of any step up to there may start. -/
theorem ready_use (k : Fin 4) (d : Dev nD) {i j : ℕ} (h : i ≤ j + 1) :
    ready k d j ⊢ (iprop(released ES ((d, k), i) 1 ∗ reached ER (rcvC k d i) (i / 2)) : sProp 𝕄) := by
  have e : (bigSep (Finset.range (j + 2)) fun i => (released ES ((d, k), i) 1 : sProp 𝕄)) ⊢ released ES ((d, k), i) 1 :=
    bigSep_elim (Φ := fun i => (released ES ((d, k), i) 1 : sProp 𝕄)) (Finset.mem_range.mpr (show i < j + 2 by omega))
  unfold ready
  iintro ⟨#Hr, #Ha, #Hb⟩
  isplitr
  · iapply e; iexact Hr
  rcases Nat.mod_two_eq_zero_or_one (i + j) with h2 | h2
  · rw [rcvC_par k d (show i % 2 = j % 2 by omega)]
    iapply (reached_mono ER (show i / 2 ≤ j / 2 by omega)); iexact Ha
  · rw [rcvC_par k d (show i % 2 = (j + 1) % 2 by omega)]
    iapply (reached_mono ER (show i / 2 ≤ (j + 1) / 2 by omega)); iexact Hb

end Cert.KernelIdeal.Own

end
-- ==== Proof.KernelIdealMoves.lean ====
/- The moves of one step, each proved once at a symbolic device, ring and step: start a transfer, wait for one, use what
   arrived, grant the next place upstream, take a credit. -/
module

public import proofs.«01_k».proof.Proof.KernelIdealProtocol

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Facts₀ Cert.KernelIdeal.Facts Cert.KernelIdeal.Gen

variable {F : FTy → Type} [FloatOps F]

local notation "𝕄" => MT nD τ sig ℕ (Elt F) ℕ UU ℕ

abbrev 𝒱₀ : Variants := Variants.none
/-- Device `c` runs `p`, and then `Kt`. -/
abbrev run (c : Dev nD) (p : Prog (TpuEff nD τ sig (Elt F) Λ₀ .tc) PUnit) (Kt : PUnit → sProp 𝕄) : sProp 𝕄 :=
  wp frame (wpE (defs₀ (F := F)) 𝒱₀ (c : Thread nD τ) none) Set.univ p Kt

/-! ## The invariants -/

/-- The counters the kernel owns for the length of its call: credits, sending, receiving. -/
def osem : Fin 4 × Fin 5 → SemLoc sig := fun x =>
  match x.2 with
  | 0 => .reg (crdS x.1)
  | 1 => .dma (sndS x.1 0)
  | 2 => .dma (sndS x.1 1)
  | 3 => .dma (rcvS x.1 0)
  | 4 => .dma (rcvS x.1 1)

theorem osem_inj : Function.Injective osem := by decide

def barCells : Finset (GSem nD τ sig) := Finset.univ.image barC
def ownCells : Finset (GSem nD τ sig) := Finset.univ.image fun x : Dev nD × (Fin 4 × Fin 5) => ((x.1 : Thread nD τ), osem x.2)
def keys : Finset Key := Finset.univ ×ˢ Finset.range 62

theorem bar_mem (c : Dev nD) : barC c ∈ barCells ∪ ownCells :=
  Finset.mem_union_left _ (Finset.mem_image.mpr ⟨c, Finset.mem_univ _, rfl⟩)
theorem crd_mem (k : Fin 4) (c : Dev nD) : crdC k c ∈ barCells ∪ ownCells :=
  Finset.mem_union_right _ (Finset.mem_image.mpr ⟨(c, (k, 0)), Finset.mem_univ _, rfl⟩)
theorem par_cases (h : ℕ) : par h = 0 ∨ par h = 1 := by
  rcases Nat.mod_two_eq_zero_or_one h with e | e
  · exact .inl (Fin.ext e)
  · exact .inr (Fin.ext e)
theorem snd_mem (k : Fin 4) (c : Dev nD) (h : ℕ) : sndC k c h ∈ barCells ∪ ownCells := by
  apply Finset.mem_union_right
  rcases par_cases h with e | e
  · exact Finset.mem_image.mpr ⟨(c, (k, 1)), Finset.mem_univ _, by unfold sndC; rw [e]; rfl⟩
  · exact Finset.mem_image.mpr ⟨(c, (k, 2)), Finset.mem_univ _, by unfold sndC; rw [e]; rfl⟩
theorem rcv_mem (k : Fin 4) (c : Dev nD) (h : ℕ) : rcvC k c h ∈ barCells ∪ ownCells := by
  apply Finset.mem_union_right
  rcases par_cases (h + 1) with e | e
  · exact Finset.mem_image.mpr ⟨(c, (k, 3)), Finset.mem_univ _, by unfold rcvC; rw [e]; rfl⟩
  · exact Finset.mem_image.mpr ⟨(c, (k, 4)), Finset.mem_univ _, by unfold rcvC; rw [e]; rfl⟩
theorem key_mem (d : Dev nD) (k : Fin 4) {i : ℕ} (hi : i < 62) : ((d, k), i) ∈ keys :=
  Finset.mem_product.mpr ⟨Finset.mem_univ _, Finset.mem_range.mpr hi⟩

variable (P : Par F) (K : GSem nD τ sig → ℕ) (I : Key → ℕ)

/-- The slot of a key: its landing place. -/
def place (x : Key) : sProp 𝕄 := free x.1.1 (land x.1.2 x.1.1 x.2)
instance place_storable (x : Key) : Storable (upEmb : UEmb _ 𝕄) (place x) := by unfold place; infer_instance

/-- Every counter's and every slot's invariant. -/
def recs : sProp 𝕄 :=
  iprop((bigSep (barCells ∪ ownCells) fun g => cellInv ER (sched P) (K g) g) ∗ bigSep keys fun x => slotInv ES (I x) x (place x))
instance recs_persistent : BI.Persistent (recs P K I : sProp 𝕄) := by unfold recs; infer_instance

theorem recs_cell {g : GSem nD τ sig} (hg : g ∈ barCells ∪ ownCells) : recs P K I ⊢ (cellInv ER (sched P) (K g) g : sProp 𝕄) := by
  have e : (bigSep (barCells ∪ ownCells) fun g => (cellInv ER (sched P) (K g) g : sProp 𝕄)) ⊢ cellInv ER (sched P) (K g) g :=
    bigSep_elim (Φ := fun g => (cellInv ER (sched P) (K g) g : sProp 𝕄)) hg
  unfold recs
  iintro ⟨#H, -⟩
  iapply e; iexact H
theorem recs_slot {x : Key} (hx : x ∈ keys) : recs P K I ⊢ (slotInv ES (I x) x (place x) : sProp 𝕄) := by
  have e : (bigSep keys fun x => (slotInv ES (I x) x (place x) : sProp 𝕄)) ⊢ slotInv ES (I x) x (place x) :=
    bigSep_elim (Φ := fun x => (slotInv ES (I x) x (place x) : sProp 𝕄)) hx
  unfold recs
  iintro ⟨-, #H⟩
  iapply e; iexact H

/-- Device `c` owes `O`. -/
def owing (c : Dev nD) (O : CellTallies nD τ sig ℕ) : sProp 𝕄 := iprop(∃ W, owes (c : Thread nD τ) O W)

/-! ## The words and the offsets -/

/-- The words of device `c`, with scale `s`. -/
abbrev Wc (c : Dev nD) (s : F .f32) : Words F := mkWords (posW c) (lftW c) (rgtW c) s (chk3 c) (chk1 c) (chk2 c)

theorem down_eq (c : Dev nD) (s : F .f32) (k : Fin 4) : (Wc c s).down k = nxt k c := by
  unfold Words.down nxt
  cases isCw k
  · exact Fin.ext (devOf_lftW c)
  · exact Fin.ext (devOf_rgtW c)
theorem up_eq (c : Dev nD) (s : F .f32) (k : Fin 4) : (Wc c s).up k = prv k c := by
  unfold Words.up prv
  cases isCw k
  · exact Fin.ext (devOf_rgtW c)
  · exact Fin.ext (devOf_lftW c)

theorem slice_congr {o o' : Fin 2 → ℕ} (e : o = o') (ho : ∀ a, o a + S128x512.size a ≤ S4096x2048.size a) (ho' : ∀ a, o' a + S128x512.size a ≤ S4096x2048.size a) :
    outM.slice (Rect.unit (s := S4096x2048) o S128x512.size ho) (fun _ => rfl) = outM.slice (Rect.unit (s := S4096x2048) o' S128x512.size ho') (fun _ => rfl) := by
  subst e; rfl
theorem srcAt_eq (c : Dev nD) (s : F .f32) (k : Fin 4) (h : ℕ) (hh : h < 62) : srcAt RR (Wc c s) k h hh = chunkAt k c h :=
  slice_congr (offs_send k c h hh) _ _

theorem wx_land (k : Fin 4) (d : Dev nD) (h : ℕ) : (land k d h).view.WordExact := by
  rcases Nat.lt_or_ge h 31 with h' | h'
  · rw [land_lt k d h']; exact wx_half _ _
  · rw [land_ge k d h']; exact View.wordExact_bits rfl
theorem wx_chunk (k : Fin 4) (i : ℕ) (hi : i < 32) : (chunk k i hi).view.WordExact := View.wordExact_bits rfl

theorem send_congr {src src' dst dst' : Memref sig .tc .vmem S128x512 .f32} {n n' : Dev nD} (e₁ : src = src') (e₂ : dst = dst') (e₃ : n = n')
    (ss rs : DmaSem sig) (hs : src.view.WordExact) (hd : dst.view.WordExact) (hs' : src'.view.WordExact) (hd' : dst'.view.WordExact) :
    (send src dst n ss rs hs hd : Prog (TpuEff nD τ sig (Elt F) Λ₀ .tc) PUnit) = send src' dst' n' ss rs hs' hd' := by
  subst e₁ e₂ e₃; rfl

/-- A chunk sent at step `h ≥ 31` lands at the same chunk downstream. -/
theorem land_nxt (k : Fin 4) (c : Dev nD) {h : ℕ} (hh : 31 ≤ h) : land k (nxt k c) h = chunkAt k c h := by
  rw [land_ge k _ hh]; exact chunk_congr k (qn_nxt k c h) _ _

theorem start_eq (c : Dev nD) (s : F .f32) (k : Fin 4) (h : ℕ) (hh : h < 62) :
    start RR (Wc c s) k h hh = send (chunkAt k c h) (land k (nxt k c) h) (nxt k c) (sndS k (par h)) (rcvS k (par (h + 1))) (wx_chunk k _ _) (wx_land k _ h) := by
  unfold start
  rcases Nat.lt_or_ge h 31 with h' | h'
  · rw [blt_of_lt h', cond_true]
    exact send_congr (srcAt_eq c s k h hh) (land_lt k _ h').symm (down_eq c s k) _ _ _ _ _ _
  · rw [blt_of_le h', cond_false]
    exact send_congr (srcAt_eq c s k h hh) ((srcAt_eq c s k h hh).trans (land_nxt k c h').symm) (down_eq c s k) _ _ _ _ _ _

/-- Wait on a transfer's counter, the transfer being from `src` to `dst`. -/
def wait (sm : DmaSem sig) (src dst : Memref sig .tc .vmem S128x512 .f32) (hs : src.view.WordExact) (hd : dst.view.WordExact) :
    Prog (TpuEff nD τ sig (Elt F) Λ₀ .tc) PUnit :=
  Prog.lift (.waitDma2 sm src dst hs hd)

theorem wait_congr {src src' dst dst' : Memref sig .tc .vmem S128x512 .f32} (e₁ : src = src') (e₂ : dst = dst') (sm : DmaSem sig)
    (hs : src.view.WordExact) (hd : dst.view.WordExact) (hs' : src'.view.WordExact) (hd' : dst'.view.WordExact) :
    (Prog.lift (.waitDma2 sm src dst hs hd) : Prog (TpuEff nD τ sig (Elt F) Λ₀ .tc) PUnit) = wait sm src' dst' hs' hd' := by
  subst e₁ e₂; rfl

theorem land_own (k : Fin 4) (c : Dev nD) {h : ℕ} (hh : h < 31) : land k (nxt k c) h = land k c h := by rw [land_lt k _ hh, land_lt k _ hh]

theorem await_eq (c : Dev nD) (s : F .f32) (k : Fin 4) (h : ℕ) (hh : h < 62) :
    await RR (Wc c s) k h hh = (wait (sndS k (par h)) (land k (nxt k c) h) (chunkAt k c h) (wx_land k _ h) (wx_chunk k _ _) >>= fun _ =>
      wait (rcvS k (par (h + 1))) (chunkAt k c h) (land k (nxt k c) h) (wx_chunk k _ _) (wx_land k _ h)) := by
  unfold await
  rcases Nat.lt_or_ge h 31 with h' | h'
  · rw [blt_of_lt h', cond_true]
    exact congrArg₂ (fun (a b : Prog (TpuEff nD τ sig (Elt F) Λ₀ .tc) PUnit) => a >>= fun _ => b)
      (wait_congr (land_lt k _ h').symm (srcAt_eq c s k h hh) _ _ _ _ _) (wait_congr (srcAt_eq c s k h hh) (land_lt k _ h').symm _ _ _ _ _)
  · rw [blt_of_le h', cond_false]
    have e := (srcAt_eq c s k h hh).trans (land_nxt k c h').symm
    exact congrArg₂ (fun (a b : Prog (TpuEff nD τ sig (Elt F) Λ₀ .tc) PUnit) => a >>= fun _ => b)
      (wait_congr e (srcAt_eq c s k h hh) _ _ _ _ _) (wait_congr (srcAt_eq c s k h hh) e _ _ _ _ _)

/-! ## Starting a transfer -/

/-- Start the transfer of step `h`: the chunk goes with it, the landing place is taken from its slot, the unit at the
    receiver is owed no longer, and the send counter may be waited on. -/
theorem start_run (c : Dev nD) (k : Fin 4) (h : ℕ) (hh : h < 62) (O : CellTallies nD τ sig ℕ) (Kt : PUnit → sProp 𝕄) :
    iprop(recs P K I ∗ holds c (chunkAt k c h) (val P k h c) ∗ released ES ((nxt k c, k), h) 1 ∗ reached ER (rcvC k (nxt k c) h) (h / 2)
        ∗ reached ER (sndC k c h) (h / 2)
        ∗ (dutyTok ER (sndC k c h) (h / 2) 0 ∗ dutyTok ER (rcvC k (nxt k c) h) (h / 2) 0 ∗ writeTok ES ((nxt k c, k), h) 1)
        ∗ owing c (O + tallyAt (rcvC k (nxt k c) h) h N)
        ∗ ((cred (tallyAt (sndC k c h) h N) ∗ owing c O) -∗ Kt ⟨⟩))
      ⊢ run c (start RR (Wc c (P.s c)) k h hh) Kt := by
  rw [start_eq]
  unfold send holds owing
  iintro ⟨#HR, ⟨%fs, Hsrc, %hfs⟩, #Hrel, #Hrr, #Hrs, ⟨Hts, Htr, Htw⟩, ⟨%W, HO⟩, Hk⟩
  ihave #Hsl := (recs_slot P K I (key_mem (nxt k c) k hh)) $$ HR
  ihave #His := (recs_cell P K I (snd_mem k c h)) $$ HR
  ihave #Hir := (recs_cell P K I (rcv_mem k (nxt k c) h)) $$ HR
  imod (slot_take ES (Set.mem_univ (I ((nxt k c, k), h))) 1) $$ [Htw] with Hd
  · isplitr; · iexact Hsl
    isplitr; · iexact Hrel
    iexact Htw
  unfold place free slot
  icases Hd with ⟨%fd, Hdst⟩
  iapply (Rounds.wp_send_pointsTo 𝒱₀ ER (sched P) (c : Thread nD τ) none (c' := (nxt k c : Thread nD τ)) (src := chunkAt k c h) (dst := land k (nxt k c) h)
      (sS := .dma (sndS k (par h))) (sem := .dma (rcvS k (par (h + 1)))) (q := fullShare) (fs := fs) (fd := fd) (r₁ := h / 2) (r₂ := h / 2) (d₁ := 0) (d₂ := 0)
      (κ₁ := K (sndC k c h)) (κ₂ := K (rcvC k (nxt k c) h))
      (by rw [duties_snd, if_pos (by omega)]; exact Finset.mem_singleton_self _) (by rw [duties_rcv, if_pos (by omega)]; exact Finset.mem_singleton_self _)
      h h N (N_land k _ h) (amount_snd P k c h _ _) (amount_rcv P k _ h _ _) O rfl (W := W)
      (by rw [pay_snd]; unfold holds; iintro H; iexists fs; isplitl [H]; · iexact H
          ipureintro; exact hfs)
      (by rw [pay_rcv, prv_nxt]; unfold holds; iintro H; iexists _; isplitl [H]; · iexact H
          ipureintro; rw [View.read_write_univ]; exact hfs)) $$ [Hsrc Hdst HO Hts Htr]
  · isplitr; · iexact His
    isplitr; · iexact Hir
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hc, HO⟩
  rw [wp_ret]; imodintro
  iapply Hk
  isplitl [Hc]; · iexact Hc
  iexists W; iexact HO

/-! ## Waiting for one -/

theorem pay_snd_rest (k : Fin 4) (c : Dev nD) {h : ℕ} (hh : h < 62) :
    (bigSep ((sched P).duties (sndC k c h) (h / 2) \ ∅) fun d => (sched P).payload (sndC k c h) (h / 2) d) = holds c (chunkAt k c h) (val P k h c) := by
  rw [Finset.sdiff_empty, duties_snd, if_pos (by omega), bigSep_singleton, pay_snd]
theorem pay_rcv_rest (k : Fin 4) (c : Dev nD) {h : ℕ} (hh : h < 62) :
    (bigSep ((sched P).duties (rcvC k c h) (h / 2) \ ∅) fun d => (sched P).payload (rcvC k c h) (h / 2) d) = holds c (land k c h) (val P k h (prv k c)) := by
  rw [Finset.sdiff_empty, duties_rcv, if_pos (by omega), bigSep_singleton, pay_rcv]

/-- Wait for step `h`: the chunk comes back, and the landing place comes with what the upstream neighbour sent. -/
theorem await_run (c : Dev nD) (k : Fin 4) (h : ℕ) (hh : h < 62) (O : CellTallies nD τ sig ℕ) (hO : Above (2 * h + 2) O) (Kt : PUnit → sProp 𝕄) :
    iprop(recs P K I ∗ levAts L lv ∗ cred (tallyAt (sndC k c h) h N) ∗ cred (tallyAt (rcvC k c h) h N)
        ∗ atPos ER (sndC k c h) (h / 2) ∅ 0 ∗ atPos ER (rcvC k c h) (h / 2) ∅ 0 ∗ owing c O
        ∗ ((holds c (chunkAt k c h) (val P k h c) ∗ holds c (land k c h) (val P k h (prv k c))
            ∗ (atPos ER (sndC k c h) (h / 2 + 1) ∅ 0 ∗ reached ER (sndC k c h) (h / 2 + 1))
            ∗ (atPos ER (rcvC k c h) (h / 2 + 1) ∅ 0 ∗ reached ER (rcvC k c h) (h / 2 + 1)) ∗ owing c O) -∗ Kt ⟨⟩))
      ⊢ run c (await RR (Wc c (P.s c)) k h hh) Kt := by
  rw [await_eq]
  unfold wait owing
  simp only [Prog.lift, Prog.bind_op, Prog.bind_ret]
  iintro ⟨#HR, #Hlev, Hcs, Hcr, Has, Har, ⟨%W, HO⟩, Hk⟩
  ihave #His := (recs_cell P K I (snd_mem k c h)) $$ HR
  ihave #Hir := (recs_cell P K I (rcv_mem k c h)) $$ HR
  iapply (Rounds.wp_wait_rest_token 𝒱₀ ER (sched P) (c : Thread nD τ) none (κ := K (sndC k c h)) (k' := N) (sm := .dma (sndS k (par h)))
      (wpE_waitDma2_eq (src := land k (nxt k c) h) (dst := chunkAt k c h) 𝒱₀ (c : Thread nD τ) none Set.univ) (Set.mem_univ _) h (O := O) (W := W)
      (R := h / 2) (m := 0) (T := ∅) ((Nat.zero_add _).trans (expect_snd P k c h (by omega)).symm)) $$ [Hcs HO Has]
  · isplitr; · iexact His
    isplitl [Hcs]; · iexact Hcs
    isplitl [HO]; · iexact HO
    isplitr
    · iapply (mayWait c (.dma (sndS k (par h))) (by omega) (by rw [lv_snd]; exact hO)); iexact Hlev
    iexact Has
  rw [pay_snd_rest P k c hh]
  iintro ⟨HO, Has, #Hs1, Hch⟩
  iapply (Rounds.wp_wait_rest_token 𝒱₀ ER (sched P) (c : Thread nD τ) none (κ := K (rcvC k c h)) (k' := N) (sm := .dma (rcvS k (par (h + 1))))
      (fun Q => (wpE_waitDma2_eq (src := chunkAt k c h) (dst := land k (nxt k c) h) 𝒱₀ (c : Thread nD τ) none Set.univ Q).trans (by rw [N_land])) (Set.mem_univ _) h (O := O)
      (R := h / 2) (m := 0) (T := ∅) ((Nat.zero_add _).trans (expect_rcv P k c h (by omega)).symm)) $$ [Hcr HO Har]
  · isplitr; · iexact Hir
    isplitl [Hcr]; · iexact Hcr
    isplitl [HO]; · iexact HO
    isplitr
    · iapply (mayWait c (.dma (rcvS k (par (h + 1)))) (by omega) (by rw [lv_rcv]; exact hO)); iexact Hlev
    iexact Har
  rw [pay_rcv_rest P k c hh]
  iintro ⟨HO, Har, #Hr1, Hla⟩
  rw [wp_ret]; imodintro
  iapply Hk
  isplitl [Hch]; · iexact Hch
  isplitl [Hla]; · iexact Hla
  isplitl [Has]
  · isplitl [Has]; · iexact Has
    iexact Hs1
  isplitl [Har]
  · isplitl [Har]; · iexact Har
    iexact Hr1
  iexists _; iexact HO

/-! ## Granting the next place, taking a credit -/

theorem ready_step (k : Fin 4) (d : Dev nD) (h : ℕ) :
    iprop(ready k d h ∗ released ES ((d, k), h + 2) 1 ∗ reached ER (rcvC k d h) (h / 2 + 1)) ⊢ (ready k d (h + 1) : sProp 𝕄) := by
  have e : (bigSep (Finset.range (h + 1 + 2)) fun i => (released ES ((d, k), i) 1 : sProp 𝕄))
      = iprop(released ES ((d, k), h + 2) 1 ∗ bigSep (Finset.range (h + 2)) fun i => released ES ((d, k), i) 1) := by
    rw [show h + 1 + 2 = h + 2 + 1 by omega, Finset.range_add_one (n := h + 2), bigSep_insert Finset.notMem_range_self]; rfl
  unfold ready
  rw [e, rcvC_par k d (show (h + 1 + 1) % 2 = h % 2 by omega),
    show (h + 1 + 1) / 2 = h / 2 + 1 by omega]
  iintro ⟨⟨#Ha, -, #Hb⟩, #Hc, #Hd⟩
  isplitr
  · isplitr; · iexact Hc
    iexact Ha
  isplitr; · iexact Hb
  iexact Hd

/-- Before the credit of step `h` the place of the write of step `h + 2` goes into its slot; the credit says so. -/
theorem grant_run (c : Dev nD) (k : Fin 4) (h : ℕ) (hh : h < 60) (O : CellTallies nD τ sig ℕ) (Kt : PUnit → sProp 𝕄) :
    iprop(recs P K I ∗ ready k c h ∗ reached ER (rcvC k c h) (h / 2 + 1) ∗ reached ER (crdC k (prv k c)) 0
        ∗ free c (land k c (h + 2)) ∗ readerAt ES ((c, k), h + 2) 0 ∗ dutyTok ER (crdC k (prv k c)) 0 h
        ∗ owing c (O + tallyAt (crdC k (prv k c)) h 1) ∗ ((ready k c (h + 1) ∗ owing c O) -∗ Kt ⟨⟩))
      ⊢ run c (semSignalWord ((Wc c (P.s c)).up k) (RR.crd k).sem 1#32) Kt := by
  rw [up_eq]
  unfold owing
  iintro ⟨#HR, #Hrdy, #Hre, #Hrc, Hfree, Hread, Htok, ⟨%W, HO⟩, Hk⟩
  ihave #Hsl := (recs_slot P K I (key_mem c k (show h + 2 < 62 by omega))) $$ HR
  ihave #Hic := (recs_cell P K I (crd_mem k (prv k c))) $$ HR
  imod (slot_release ES (Set.mem_univ (I ((c, k), h + 2))) (free_free c (land k c (h + 2))) 0) $$ [Hfree Hread] with ⟨-, #Hrel⟩
  · isplitr; · iexact Hsl
    isplitl [Hread]; · iexact Hread
    iexact Hfree
  ihave #Hn := (ready_step k c h) $$ []
  · isplitr; · iexact Hrdy
    isplitr; · iexact Hrel
    iexact Hre
  iapply (Rounds.wp_signal 𝒱₀ ER (sched P) (c : Thread nD τ) none (dst := (prv k c : Thread nD τ)) (sem := crdS k) (r := 0) (d := h) (k' := 1) (κ := K (crdC k (prv k c)))
      (by rw [duties_crd, if_pos rfl]; exact Finset.mem_range.mpr hh) (amount_crd P k _ _ _) h O rfl (W := W)) $$ [HO Htok]
  · isplitr; · iexact Hic
    isplitl [HO]; · iexact HO
    isplitl [Htok]; · iexact Htok
    isplitr
    · rw [pay_crd, nxt_prv]; iexact Hn
    iexact Hrc
  iintro HO
  rw [wp_ret]; imodintro
  iapply Hk
  isplitr; · iexact Hn
  iexists W; iexact HO

/-- The ring's credit counter after `n` waits: at least `n` credits have come. -/
def credits (k : Fin 4) (c : Dev nD) (n : ℕ) : sProp 𝕄 :=
  iprop(∃ T : Finset ℕ, ⌜T ⊆ Finset.range 60 ∧ n ≤ T.card⌝ ∗ atPos ER (crdC k c) 0 T n ∗ bigSep T fun d => ready k (nxt k c) (d + 1))

theorem exists_ge {T : Finset ℕ} {n : ℕ} (h : n + 1 ≤ T.card) : ∃ d ∈ T, n ≤ d := by
  by_contra hc
  push Not at hc
  have : T ⊆ Finset.range n := fun d hd => Finset.mem_range.mpr (hc d hd)
  have := Finset.card_le_card this
  rw [Finset.card_range] at this
  omega

theorem credits_use (k : Fin 4) (c : Dev nD) {T : Finset ℕ} {n : ℕ} (h : n + 1 ≤ T.card) :
    (bigSep T fun d => ready k (nxt k c) (d + 1)) ⊢ (iprop(released ES ((nxt k c, k), n + 2) 1 ∗ reached ER (rcvC k (nxt k c) (n + 2)) ((n + 2) / 2)) : sProp 𝕄) := by
  obtain ⟨d, hd, hn⟩ := exists_ge h
  exact (bigSep_elim (Φ := fun d => (ready k (nxt k c) (d + 1) : sProp 𝕄)) hd).trans (ready_use k (nxt k c) (by omega))

/-- The wait for a credit: then the write two steps on may start, whichever credits have come. -/
theorem credit_run (c : Dev nD) (k : Fin 4) (n : ℕ) (hn : n < 60) (O : CellTallies nD τ sig ℕ) (hO : Above (2 * n + 3) O) (Kt : PUnit → sProp 𝕄) :
    iprop(recs P K I ∗ levAts L lv ∗ credits k c n ∗ cred (tallyAt (crdC k c) n 1) ∗ owing c O
        ∗ ((credits k c (n + 1) ∗ released ES ((nxt k c, k), n + 2) 1 ∗ reached ER (rcvC k (nxt k c) (n + 2)) ((n + 2) / 2) ∗ owing c O) -∗ Kt ⟨⟩))
      ⊢ run c (semWaitWord (RR.crd k).sem 1#32) Kt := by
  unfold owing credits
  iintro ⟨#HR, #Hlev, ⟨%T, %hT, Hat, #Hev⟩, Hc, ⟨%W, HO⟩, Hk⟩
  ihave #Hic := (recs_cell P K I (crd_mem k c)) $$ HR
  iapply (Rounds.wp_wait 𝒱₀ ER (sched P) (c : Thread nD τ) none (κ := K (crdC k c)) (k' := 1) (sm := .reg (crdS k))
      (wpE_semWait_eq 𝒱₀ (c : Thread nD τ) none Set.univ) (Set.mem_univ _) (cr := Finsupp.single n 1) (O := O) (W := W) {(.reg (crdS k), n)}
      (R := 0) (m := n) (T := T) (by rw [Util.total_single]) (image_single_subset _ n 1)) $$ [Hc HO Hat]
  · isplitr; · iexact Hic
    isplitl [Hc]; · iexact Hc
    isplitl [HO]; · iexact HO
    isplitr
    · iapply (mayWait c (.reg (crdS k)) (by omega) (by rw [lv_crd]; exact hO)); iexact Hlev
    iexact Hat
  iintro %T' ⟨%hT', HO, Hat, Hnew⟩
  rw [duties_crd, if_pos rfl, expect_crd] at hT'
  obtain ⟨hsub, hsub', hcard⟩ := hT'
  have hc1 : n + 1 ≤ T'.card := by
    have := Finset.card_sdiff_add_card_eq_card hsub'
    rw [Finset.card_range] at this
    omega
  ihave #Hnew := (show (bigSep (T' \ T) fun d => (sched P).payload ((c : Thread nD τ), .reg (crdS k)) 0 d) ⊢ (bigSep (T' \ T) fun d => ready k (nxt k c) (d + 1) : sProp 𝕄) from
    Entails.of_eq (bigSep_congr fun d _ => pay_crd P k c 0 d)) $$ Hnew
  ihave #Hall := (show iprop((bigSep T fun d => ready k (nxt k c) (d + 1)) ∗ bigSep (T' \ T) fun d => ready k (nxt k c) (d + 1))
      ⊢ (bigSep T' fun d => ready k (nxt k c) (d + 1) : sProp 𝕄) from by
    rw [bigSep_sdiff_split hsub]; exact Entails.rfl) $$ []
  · isplitr; · iexact Hev
    iexact Hnew
  ihave #Huse := (credits_use k c hc1) $$ Hall
  icases Huse with ⟨#Hu1, #Hu2⟩
  rw [wp_ret]; imodintro
  iapply Hk
  isplitl [Hat]
  · iexists T'
    isplitr; · ipureintro; exact ⟨hsub', hc1⟩
    isplitl [Hat]; · iexact Hat
    iexact Hall
  isplitr; · iexact Hu1
  isplitr; · iexact Hu2
  iexists _; iexact HO

end Cert.KernelIdeal.Own

end
-- ==== Proof.KernelIdealRun.lean ====
/- One step of a ring and the 62 steps of the four: what a device holds between steps, the step proved once, and the run
   of all steps by induction. -/
module

public import proofs.«01_k».proof.Proof.KernelIdealMoves

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Facts₀ Cert.KernelIdeal.Facts Cert.KernelIdeal.Gen

variable {F : FTy → Type} [FloatOps F]

local notation "𝕄" => MT nD τ sig ℕ (Elt F) ℕ UU ℕ

/-! ## Using what arrived -/

/-- The rectangle of a chunk, and of half a landing buffer. -/
abbrev chunkR (k : Fin 4) (i : ℕ) (hi : i < 32) : Rect S4096x2048 := Rect.unit (s := S4096x2048) ![128 * i, 512 * k.val] S128x512.size (inb_val k i hi)
abbrev halfR (p : Fin 2) : Rect S2x128x512 := Rect.unit (s := S2x128x512) ![p.val, 0, 0] S1x128x512.size (inbBuf p)

/-- The addition into chunk `i` of half `p`, and the activation of chunk `i`. -/
def accumAt (k : Fin 4) (i : ℕ) (hi : i < 32) (p : Fin 2) : Prog (TpuEff nD τ sig (Elt F) Λ₀ .tc) PUnit := do
  let a : Vec F S128x512 .f32 ← Prog.lift (.load outM (chunkR k i hi).toLoadRect (View.loadsAt_vmem Gen.h_S128x512))
  let b : Vec F S1x128x512 .f32 ← Prog.lift (.load (RR.buf k) (halfR p).toLoadRect (View.loadsAt_vmem Gen.h_S1x128x512))
  let _a : Vec F S128x512 .f32 ← Prog.lift (.load outM (chunkR k i hi).toLoadRect (View.loadsAt_vmem Gen.h_S128x512))
  Prog.lift (.store outM (chunkR k i hi) (added a (shapeCast S128x512 b Gen.shapeCasts_S1x128x512_S128x512)) Finset.univ (View.stores_vmem_bits_univ Gen.h_S128x512 rfl) (.inl rfl))
def activateAt (s : F .f32) (k : Fin 4) (i : ℕ) (hi : i < 32) : Prog (TpuEff nD τ sig (Elt F) Λ₀ .tc) PUnit := do
  let a : Vec F S128x512 .f32 ← Prog.lift (.load outM (chunkR k i hi).toLoadRect (View.loadsAt_vmem Gen.h_S128x512))
  let _a : Vec F S128x512 .f32 ← Prog.lift (.load outM (chunkR k i hi).toLoadRect (View.loadsAt_vmem Gen.h_S128x512))
  Prog.lift (.store outM (chunkR k i hi) (siluV s a) Finset.univ (View.stores_vmem_bits_univ Gen.h_S128x512 rfl) (.inl rfl))

theorem accum_eq (c : Dev nD) (s : F .f32) (k : Fin 4) (h : ℕ) (hh : h < 31) :
    accum RR (Wc c s) k h hh = accumAt k (qn k c (h + 1)) (qn_lt k c _) (par (h + 1)) := by
  have e := offs_recv k c h hh
  unfold accum
  show _ = accumAt k (qn k c (h + 1)) (qn_lt k c _) (par (h + 1))
  unfold accumAt chunkR
  have g : ∀ (o o' : Fin 2 → ℕ) (eo : o = o') (ho : ∀ a, o a + S128x512.size a ≤ S4096x2048.size a) (ho' : ∀ a, o' a + S128x512.size a ≤ S4096x2048.size a),
      (do
        let a : Vec F S128x512 .f32 ← Prog.lift (.load outM (Rect.unit (s := S4096x2048) o S128x512.size ho).toLoadRect (View.loadsAt_vmem Gen.h_S128x512))
        let b : Vec F S1x128x512 .f32 ← Prog.lift (.load (RR.buf k) (halfR (par (h + 1))).toLoadRect (View.loadsAt_vmem Gen.h_S1x128x512))
        let _a : Vec F S128x512 .f32 ← Prog.lift (.load outM (Rect.unit (s := S4096x2048) o S128x512.size ho).toLoadRect (View.loadsAt_vmem Gen.h_S128x512))
        Prog.lift (.store outM (Rect.unit (s := S4096x2048) o S128x512.size ho) (added a (shapeCast S128x512 b Gen.shapeCasts_S1x128x512_S128x512)) Finset.univ (View.stores_vmem_bits_univ Gen.h_S128x512 rfl) (.inl rfl))
        : Prog (TpuEff nD τ sig (Elt F) Λ₀ .tc) PUnit)
      = (do
        let a : Vec F S128x512 .f32 ← Prog.lift (.load outM (Rect.unit (s := S4096x2048) o' S128x512.size ho').toLoadRect (View.loadsAt_vmem Gen.h_S128x512))
        let b : Vec F S1x128x512 .f32 ← Prog.lift (.load (RR.buf k) (halfR (par (h + 1))).toLoadRect (View.loadsAt_vmem Gen.h_S1x128x512))
        let _a : Vec F S128x512 .f32 ← Prog.lift (.load outM (Rect.unit (s := S4096x2048) o' S128x512.size ho').toLoadRect (View.loadsAt_vmem Gen.h_S128x512))
        Prog.lift (.store outM (Rect.unit (s := S4096x2048) o' S128x512.size ho') (added a (shapeCast S128x512 b Gen.shapeCasts_S1x128x512_S128x512)) Finset.univ (View.stores_vmem_bits_univ Gen.h_S128x512 rfl) (.inl rfl))) := by
    intro o o' eo ho ho'; subst eo; rfl
  exact g _ _ e _ _

theorem activate_eq (c : Dev nD) (s : F .f32) (k : Fin 4) : activate RR (Wc c s) k = activateAt s k (qn k c 31) (qn_lt k c _) := by
  have e := offs_own k c
  unfold activate activateAt chunkR
  have g : ∀ (o o' : Fin 2 → ℕ) (eo : o = o') (ho : ∀ a, o a + S128x512.size a ≤ S4096x2048.size a) (ho' : ∀ a, o' a + S128x512.size a ≤ S4096x2048.size a),
      (do
        let a : Vec F S128x512 .f32 ← Prog.lift (.load outM (Rect.unit (s := S4096x2048) o S128x512.size ho).toLoadRect (View.loadsAt_vmem Gen.h_S128x512))
        let _a : Vec F S128x512 .f32 ← Prog.lift (.load outM (Rect.unit (s := S4096x2048) o S128x512.size ho).toLoadRect (View.loadsAt_vmem Gen.h_S128x512))
        Prog.lift (.store outM (Rect.unit (s := S4096x2048) o S128x512.size ho) (siluV s a) Finset.univ (View.stores_vmem_bits_univ Gen.h_S128x512 rfl) (.inl rfl))
        : Prog (TpuEff nD τ sig (Elt F) Λ₀ .tc) PUnit)
      = (do
        let a : Vec F S128x512 .f32 ← Prog.lift (.load outM (Rect.unit (s := S4096x2048) o' S128x512.size ho').toLoadRect (View.loadsAt_vmem Gen.h_S128x512))
        let _a : Vec F S128x512 .f32 ← Prog.lift (.load outM (Rect.unit (s := S4096x2048) o' S128x512.size ho').toLoadRect (View.loadsAt_vmem Gen.h_S128x512))
        Prog.lift (.store outM (Rect.unit (s := S4096x2048) o' S128x512.size ho') (siluV s a) Finset.univ (View.stores_vmem_bits_univ Gen.h_S128x512 rfl) (.inl rfl))) := by
    intro o o' eo ho ho'; subst eo; rfl
  exact g _ _ e _ _

theorem half_set (k : Fin 4) (p : Fin 2) : ((RR.buf k).access (halfR p)).set = (half (RR.buf k) p).view.set := (View.set_reshape _ _).symm

/-- Half a landing buffer, read by rows, is what a load of it gives with the leading axis dropped. -/
theorem half_read (k : Fin 4) (p : Fin 2) (f : (half (RR.buf k) p).view.ty.Contents (Elt F)) :
    shapeCast S128x512 (((RR.buf k).access (halfR p)).read (Elt F) f : Vec F S1x128x512 .f32) Gen.shapeCasts_S1x128x512_S128x512
      = (half (RR.buf k) p).view.read (Elt F) f := rfl

theorem accum_run (c : Dev nD) (k : Fin 4) (i : ℕ) (hi : i < 32) (p : Fin 2) (a b : S128x512.Idx → Elt F .f32) (Kt : PUnit → sProp 𝕄) :
    iprop(holds c (chunk k i hi) a ∗ holds c (half (RR.buf k) p) b
        ∗ ((holds c (chunk k i hi) (added a b) ∗ free c (half (RR.buf k) p)) -∗ Kt ⟨⟩))
      ⊢ run c (accumAt k i hi p) Kt := by
  unfold accumAt holds
  simp only [Prog.lift, Prog.bind_op, Prog.bind_ret]
  iintro ⟨⟨%f, Hf, %ef⟩, ⟨%g, Hg, %eg⟩, Hk⟩
  subst ef eg
  iapply (wp_load_rect 𝒱₀ (c : Thread nD τ) none Set.univ (m := outM) (r := chunkR k i hi) (S := (chunk k i hi).view.set) (q := fullShare) (f := f) (Finset.Subset.refl _)) $$ [Hf]
  · iexact Hf
  iintro Hf
  iapply (wp_load_rect 𝒱₀ (c : Thread nD τ) none Set.univ (m := RR.buf k) (r := halfR p) (S := (half (RR.buf k) p).view.set) (q := fullShare) (f := g)
    (by rw [half_set]; exact Finset.Subset.refl _)) $$ [Hg]
  · iexact Hg
  iintro Hg
  iapply (wp_load_rect 𝒱₀ (c : Thread nD τ) none Set.univ (m := outM) (r := chunkR k i hi) (S := (chunk k i hi).view.set) (q := fullShare) (f := f) (Finset.Subset.refl _)) $$ [Hf]
  · iexact Hf
  iintro Hf
  iapply (wp_store 𝒱₀ (c : Thread nD τ) none Set.univ (m := outM) (r := chunkR k i hi) (S := (chunk k i hi).view.set) (f := f) (Finset.Subset.refl _)) $$ [Hf]
  · iexact Hf
  iintro Hf
  rw [wp_ret]; imodintro
  iapply Hk
  isplitl [Hf]
  · iexists _
    isplitl [Hf]; · iexact Hf
    ipureintro
    exact View.read_write_univ _ _
  unfold free slot
  iexists g; iexact Hg

theorem activate_run (c : Dev nD) (s : F .f32) (k : Fin 4) (i : ℕ) (hi : i < 32) (a : S128x512.Idx → Elt F .f32) (Kt : PUnit → sProp 𝕄) :
    iprop(holds c (chunk k i hi) a ∗ (holds c (chunk k i hi) (siluV s a) -∗ Kt ⟨⟩)) ⊢ run c (activateAt s k i hi) Kt := by
  unfold activateAt holds
  simp only [Prog.lift, Prog.bind_op, Prog.bind_ret]
  iintro ⟨⟨%f, Hf, %ef⟩, Hk⟩
  subst ef
  iapply (wp_load_rect 𝒱₀ (c : Thread nD τ) none Set.univ (m := outM) (r := chunkR k i hi) (S := (chunk k i hi).view.set) (q := fullShare) (f := f) (Finset.Subset.refl _)) $$ [Hf]
  · iexact Hf
  iintro Hf
  iapply (wp_load_rect 𝒱₀ (c : Thread nD τ) none Set.univ (m := outM) (r := chunkR k i hi) (S := (chunk k i hi).view.set) (q := fullShare) (f := f) (Finset.Subset.refl _)) $$ [Hf]
  · iexact Hf
  iintro Hf
  iapply (wp_store 𝒱₀ (c : Thread nD τ) none Set.univ (m := outM) (r := chunkR k i hi) (S := (chunk k i hi).view.set) (f := f) (Finset.Subset.refl _)) $$ [Hf]
  · iexact Hf
  iintro Hf
  rw [wp_ret]; imodintro
  iapply Hk
  iexists _
  isplitl [Hf]; · iexact Hf
  ipureintro
  exact View.read_write_univ _ _

variable (P : Par F) (K : GSem nD τ sig → ℕ) (I : Key → ℕ)

theorem run_bind (c : Dev nD) (p : Prog (TpuEff nD τ sig (Elt F) Λ₀ .tc) PUnit) (k : PUnit → Prog (TpuEff nD τ sig (Elt F) Λ₀ .tc) PUnit) (Kt : PUnit → sProp 𝕄) :
    run c (p >>= k) Kt = run c p fun a => run c (k a) Kt := wp_bind _ _ _ _ _ _
theorem run_pure (c : Dev nD) (Kt : PUnit → sProp 𝕄) :
    run c (pure ⟨⟩ : Prog (TpuEff nD τ sig (Elt F) Λ₀ .tc) PUnit) Kt = (iprop(|={Set.univ}=> Kt ⟨⟩) : sProp 𝕄) := wp_ret _ _ _ _ _

/-- The chunks not yet added to: local products. -/
def locals (k : Fin 4) (c : Dev nD) (h : ℕ) : sProp 𝕄 := bigSep (Finset.Ico (h + 1) 32) fun j => holds c (chunkAt k c j) (part P k c j)
/-- The landing half of a step of the reduce-scatter, emptied. -/
def left (k : Fin 4) (c : Dev nD) (h : ℕ) : sProp 𝕄 := if h < 31 then free c (half (RR.buf k) (par (h + 1))) else iprop(emp)

/-- After step `h` the chunk sent next is complete. -/
theorem consume_run (c : Dev nD) (k : Fin 4) (h : ℕ) (Kt : PUnit → sProp 𝕄) :
    iprop(holds c (land k c h) (val P k h (prv k c)) ∗ locals P k c h
        ∗ ((holds c (chunkAt k c (h + 1)) (val P k (h + 1) c) ∗ left k c h ∗ locals P k c (h + 1)) -∗ Kt ⟨⟩))
      ⊢ run c (consume RR (Wc c (P.s c)) k h) Kt := by
  unfold consume locals left
  rcases Nat.lt_or_ge h 31 with hh | hh
  · rw [dif_pos hh, if_pos hh, accum_eq, run_bind, land_lt k c hh, Ico_head (show h + 1 < 32 by omega)]
    iintro ⟨Hla, ⟨Hch, Hlo⟩, Hk⟩
    iapply (accum_run c k (qn k c (h + 1)) (qn_lt k c _) (par (h + 1)) (part P k c (h + 1)) (val P k h (prv k c)))
    isplitl [Hch]; · iexact Hch
    isplitl [Hla]; · iexact Hla
    iintro ⟨Hch, Hfr⟩
    rcases Nat.lt_or_ge h 30 with h' | h'
    · rw [show Nat.beq h 30 = false from Bool.eq_false_iff.mpr fun x => by have := Nat.eq_of_beq_eq_true x; omega, val_lt P k c h']
      rw [cond_false, run_pure]
      imodintro
      iapply Hk
      isplitl [Hch]; · iexact Hch
      isplitl [Hfr]; · iexact Hfr
      iexact Hlo
    · obtain rfl : h = 30 := by omega
      rw [show Nat.beq 30 30 = true from rfl, cond_true, activate_eq]
      iapply (activate_run c (P.s c) k (qn k c 31) (qn_lt k c 31) (added (part P k c 31) (val P k 30 (prv k c))))
      isplitl [Hch]; · iexact Hch
      iintro Hch
      iapply Hk
      isplitl [Hch]; · rw [val_31]; iexact Hch
      isplitl [Hfr]; · iexact Hfr
      iexact Hlo
  · rw [dif_neg (by omega), if_neg (by omega), Ico_none (show 32 ≤ h + 1 by omega), Ico_none (show 32 ≤ h + 1 + 1 by omega), land_ge k c hh, val_ge P k c hh,
      run_pure]
    iintro ⟨Hla, He, Hk⟩
    imodintro
    iapply Hk
    isplitl [Hla]; · iexact Hla
    isplitr; · iempintro
    iexact He

/-! ## What is held beside -/

/-- Chunks already sent and not yet lent again; chunks complete for good; landing halves not lent again. -/
def rest (k : Fin 4) (c : Dev nD) (h : ℕ) : sProp 𝕄 :=
  iprop((bigSep (Finset.Ico (h - 29) (min h 31)) fun j => free c (chunkAt k c j))
    ∗ (bigSep (Finset.Ico 31 h) fun j => holds c (chunkAt k c j) (val P k j c))
    ∗ bigSep (Finset.Ico 29 (min h 31)) fun j => free c (half (RR.buf k) (par (j + 1))))

/-- The place lent upstream after step `h`. -/
def lend (k : Fin 4) (c : Dev nD) (h : ℕ) : sProp 𝕄 := if h < 60 then free c (land k c (h + 2)) else iprop(emp)

theorem chunkAt_back (k : Fin 4) (c : Dev nD) {h : ℕ} (hh : 29 ≤ h) : land k c (h + 2) = chunkAt k c (h - 29) := by
  rw [land_ge k c (by omega)]
  exact chunk_congr k (by rw [show h + 2 + 1 = h - 29 + 32 by omega, qn_add32]) _ _

/-- After step `h`: the place of the write of step `h + 2` can be lent. -/
theorem rest_step (k : Fin 4) (c : Dev nD) (h : ℕ) :
    iprop(rest P k c h ∗ holds c (chunkAt k c h) (val P k h c) ∗ left k c h) ⊢ (iprop(lend k c h ∗ rest P k c (h + 1)) : sProp 𝕄) := by
  have hf : holds c (chunkAt k c h) (val P k h c) ⊢ (free c (chunkAt k c h) : sProp 𝕄) := holds_free c _ _
  unfold rest lend left
  by_cases h1 : h < 29
  · rw [if_pos (by omega), if_pos (by omega), land_lt k c (show h + 2 < 31 by omega), show par (h + 2 + 1) = par (h + 1) from par_add2 (h + 1),
      show h - 29 = 0 by omega, show h + 1 - 29 = 0 by omega, show min h 31 = h by omega, show min (h + 1) 31 = h + 1 by omega, Ico_snoc (Nat.zero_le h),
      Ico_none (show h ≤ 31 by omega), Ico_none (show h + 1 ≤ 31 by omega), Ico_none (show h ≤ 29 by omega), Ico_none (show h + 1 ≤ 29 by omega)]
    iintro ⟨⟨Hg, -, -⟩, Hch, Hl⟩
    isplitl [Hl]; · iexact Hl
    isplitl [Hg Hch]
    · isplitl [Hch]; · iapply hf; iexact Hch
      iexact Hg
    isplitr <;> iempintro
  by_cases h2 : h < 31
  · rw [if_pos (by omega), if_pos (by omega), chunkAt_back k c (show 29 ≤ h by omega), show h + 1 - 29 = h - 29 + 1 by omega, show min h 31 = h by omega,
      show min (h + 1) 31 = h + 1 by omega, Ico_none (show h ≤ 31 by omega), Ico_none (show h + 1 ≤ 31 by omega), Ico_snoc (show 29 ≤ h by omega),
      Ico_head (show h - 29 < h by omega), Ico_snoc (show h - 29 + 1 ≤ h by omega)]
    iintro ⟨⟨⟨Hg0, Hg⟩, -, Hkp⟩, Hch, Hl⟩
    isplitl [Hg0]; · iexact Hg0
    isplitl [Hg Hch]
    · isplitl [Hch]; · iapply hf; iexact Hch
      iexact Hg
    isplitr; · iempintro
    isplitl [Hl]; · iexact Hl
    iexact Hkp
  by_cases h3 : h < 60
  · rw [if_pos h3, if_neg h2, chunkAt_back k c (show 29 ≤ h by omega), show h + 1 - 29 = h - 29 + 1 by omega, show min h 31 = 31 by omega,
      show min (h + 1) 31 = 31 by omega, Ico_snoc (show 31 ≤ h by omega), Ico_head (show h - 29 < 31 by omega)]
    iintro ⟨⟨⟨Hg0, Hg⟩, Hfi, Hkp⟩, Hch, -⟩
    isplitl [Hg0]; · iexact Hg0
    isplitl [Hg]; · iexact Hg
    isplitl [Hfi Hch]
    · isplitl [Hch]; · iexact Hch
      iexact Hfi
    iexact Hkp
  · rw [if_neg h3, if_neg h2, show min h 31 = 31 by omega, show min (h + 1) 31 = 31 by omega, Ico_snoc (show 31 ≤ h by omega),
      Ico_none (show 31 ≤ h - 29 by omega), Ico_none (show 31 ≤ h + 1 - 29 by omega)]
    iintro ⟨⟨He, Hfi, Hkp⟩, Hch, -⟩
    isplitr; · iempintro
    isplitl [He]; · iexact He
    isplitl [Hfi Hch]
    · isplitl [Hch]; · iexact Hch
      iexact Hfi
    iexact Hkp

/-! ## The state between steps -/

/-- The positions of the send counters and of the receive counters. -/
def marks (k : Fin 4) (c : Dev nD) (h : ℕ) : sProp 𝕄 :=
  iprop((atPos ER (sndC k c h) (h / 2) ∅ 0 ∗ atPos ER (sndC k c (h + 1)) ((h + 1) / 2) ∅ 0 ∗ reached ER (sndC k c (h + 1)) ((h + 1) / 2))
    ∗ (atPos ER (rcvC k c h) (h / 2) ∅ 0 ∗ atPos ER (rcvC k c (h + 1)) ((h + 1) / 2) ∅ 0))
/-- What the transfers from step `h` on need. -/
def toSend (k : Fin 4) (c : Dev nD) (h : ℕ) : sProp 𝕄 :=
  bigSep (Finset.Ico h 62) fun j => iprop(dutyTok ER (sndC k c j) (j / 2) 0 ∗ dutyTok ER (rcvC k (nxt k c) j) (j / 2) 0 ∗ writeTok ES ((nxt k c, k), j) 1)
/-- What the grants from step `h` on need. -/
def toGrant (k : Fin 4) (c : Dev nD) (h : ℕ) : sProp 𝕄 :=
  bigSep (Finset.Ico h 60) fun j => iprop(dutyTok ER (crdC k (prv k c)) 0 j ∗ readerAt ES ((c, k), j + 2) 0)
/-- The rights to wait for the arrivals from step `h` on, and for the credits from the `n`-th on. -/
def toRecv (k : Fin 4) (c : Dev nD) (h : ℕ) : sProp 𝕄 := bigSep (Finset.Ico h 62) fun j => cred (tallyAt (rcvC k c j) j N)
def toTake (k : Fin 4) (c : Dev nD) (n : ℕ) : sProp 𝕄 := bigSep (Finset.Ico n 60) fun j => cred (tallyAt (crdC k c) j 1)
/-- The transfer under way; after the last step, the chunk that arrived last. -/
def flight (k : Fin 4) (c : Dev nD) (h : ℕ) : sProp 𝕄 :=
  if h < 62 then cred (tallyAt (sndC k c h) h N) else holds c (chunkAt k c h) (val P k h c)

/-- Ring `k` of device `c` before step `h`, the transfer of step `h` under way. -/
def state (k : Fin 4) (c : Dev nD) (h : ℕ) : sProp 𝕄 :=
  iprop(flight P k c h ∗ locals P k c h ∗ rest P k c h ∗ marks k c h ∗ toSend k c (h + 1) ∗ toGrant k c h ∗ toRecv k c h
    ∗ toTake k c (h - 1) ∗ credits k c (min (h - 1) 60) ∗ ready k c (min h 60))

/-- What a device knows throughout. -/
def known (k : Fin 4) (c : Dev nD) : sProp 𝕄 :=
  iprop(recs P K I ∗ levAts L lv ∗ reached ER (crdC k (prv k c)) 0 ∗ ready k (nxt k c) 0)
instance known_persistent (k : Fin 4) (c : Dev nD) : BI.Persistent (known P K I k c : sProp 𝕄) := by unfold known; infer_instance

theorem flight_lt (k : Fin 4) (c : Dev nD) {h : ℕ} (hh : h < 62) : flight P k c h = cred (tallyAt (sndC k c h) h N) := by
  unfold flight; rw [if_pos hh]
theorem flight_end (k : Fin 4) (c : Dev nD) : flight P k c 62 = holds c (chunkAt k c 62) (val P k 62 c) := by
  unfold flight; rw [if_neg (by omega)]
theorem known_recs (k : Fin 4) (c : Dev nD) : known P K I k c ⊢ (recs P K I : sProp 𝕄) := by
  unfold known; iintro ⟨#H, -⟩; iexact H
theorem known_split (k : Fin 4) (c : Dev nD) : known P K I k c
    ⊢ (iprop(recs P K I ∗ levAts L lv ∗ reached ER (crdC k (prv k c)) 0 ∗ ready k (nxt k c) 0) : sProp 𝕄) := by
  unfold known; exact Entails.rfl

theorem marks_step (k : Fin 4) (c : Dev nD) (h : ℕ) :
    iprop((atPos ER (sndC k c h) (h / 2 + 1) ∅ 0 ∗ reached ER (sndC k c h) (h / 2 + 1)) ∗ atPos ER (sndC k c (h + 1)) ((h + 1) / 2) ∅ 0
        ∗ atPos ER (rcvC k c h) (h / 2 + 1) ∅ 0 ∗ atPos ER (rcvC k c (h + 1)) ((h + 1) / 2) ∅ 0) ⊢ (marks k c (h + 1) : sProp 𝕄) := by
  unfold marks
  rw [show h + 1 + 1 = h + 2 from rfl, sndC_add2, rcvC_add2, show (h + 2) / 2 = h / 2 + 1 by omega]
  iintro ⟨⟨Ha, #Hr⟩, Hb, Hc, Hd⟩
  isplitl [Ha Hb]
  · isplitl [Hb]; · iexact Hb
    isplitl [Ha]; · iexact Ha
    iexact Hr
  isplitl [Hd]; · iexact Hd
  iexact Hc

/-- The grant of a step, when there is one. -/
theorem grant_step (c : Dev nD) (k : Fin 4) (h : ℕ) (O : CellTallies nD τ sig ℕ) (Kt : PUnit → sProp 𝕄) :
    iprop(known P K I k c ∗ ready k c (min h 60) ∗ reached ER (rcvC k c h) (h / 2 + 1) ∗ lend k c h ∗ toGrant k c h ∗ owing c (O + cO k c h)
        ∗ ((ready k c (min (h + 1) 60) ∗ toGrant k c (h + 1) ∗ owing c (O + cO k c (h + 1))) -∗ Kt ⟨⟩))
      ⊢ run c (bif Nat.blt h 60 then semSignalWord ((Wc c (P.s c)).up k) (RR.crd k).sem 1#32 else pure ⟨⟩) Kt := by
  unfold known lend toGrant
  rcases Nat.lt_or_ge h 60 with hh | hh
  · rw [blt_of_lt hh, cond_true, if_pos hh, show min h 60 = h by omega, show min (h + 1) 60 = h + 1 by omega, Ico_head hh, cO_head k c hh, ← add_assoc]
    iintro ⟨⟨#HR, -, #Hrc, -⟩, #Hrdy, #Hre, Hl, ⟨⟨Ht, Hread⟩, Hg⟩, HO, Hk⟩
    iapply (grant_run P K I c k h hh (O + cO k c (h + 1)))
    isplitr; · iexact HR
    isplitr; · iexact Hrdy
    isplitr; · iexact Hre
    isplitr; · iexact Hrc
    isplitl [Hl]; · iexact Hl
    isplitl [Hread]; · iexact Hread
    isplitl [Ht]; · iexact Ht
    isplitl [HO]; · iexact HO
    iintro ⟨#Hn, HO⟩
    iapply Hk
    isplitr; · iexact Hn
    isplitl [Hg]; · iexact Hg
    iexact HO
  · rw [blt_of_le hh, cond_false, if_neg (by omega), show min h 60 = 60 by omega, show min (h + 1) 60 = 60 by omega, Ico_none hh, Ico_none (show 60 ≤ h + 1 by omega),
      cO_end k c hh, cO_end k c (show 60 ≤ h + 1 by omega), run_pure]
    iintro ⟨-, #Hrdy, -, -, He, HO, Hk⟩
    imodintro
    iapply Hk
    isplitr; · iexact Hrdy
    isplitl [He]; · iexact He
    iexact HO

/-- The credit of a step, when there is one: then the next write may start. -/
theorem credit_step (c : Dev nD) (k : Fin 4) (h : ℕ) (hh : h + 1 < 62) (O : CellTallies nD τ sig ℕ) (hO : Above (2 * h + 2) O) (Kt : PUnit → sProp 𝕄) :
    iprop(known P K I k c ∗ credits k c (min (h - 1) 60) ∗ toTake k c (h - 1) ∗ owing c O
        ∗ ((credits k c (min h 60) ∗ toTake k c h ∗ released ES ((nxt k c, k), h + 1) 1 ∗ reached ER (rcvC k (nxt k c) (h + 1)) ((h + 1) / 2)
          ∗ owing c O) -∗ Kt ⟨⟩))
      ⊢ run c (bif Nat.blt h 1 then pure ⟨⟩ else semWaitWord (RR.crd k).sem 1#32) Kt := by
  unfold known toTake
  rcases Nat.lt_or_ge h 1 with h0 | h0
  · obtain rfl : h = 0 := by omega
    rw [blt_of_lt h0, cond_true, run_pure]
    iintro ⟨⟨-, -, -, #Hrdy⟩, Hc, Ht, HO, Hk⟩
    ihave #Hu := (ready_use k (nxt k c) (show 1 ≤ 0 + 1 by omega)) $$ Hrdy
    icases Hu with ⟨#Hu1, #Hu2⟩
    imodintro
    iapply Hk
    isplitl [Hc]; · iexact Hc
    isplitl [Ht]; · iexact Ht
    isplitr; · iexact Hu1
    isplitr; · iexact Hu2
    iexact HO
  · obtain ⟨n, rfl⟩ : ∃ n, h = n + 1 := ⟨h - 1, by omega⟩
    rw [blt_of_le h0, cond_false, show n + 1 - 1 = n by omega, show min n 60 = n by omega, show min (n + 1) 60 = n + 1 by omega, Ico_head (show n < 60 by omega)]
    iintro ⟨⟨#HR, #Hlev, -, -⟩, Hc, ⟨Ht0, Ht⟩, HO, Hk⟩
    iapply (credit_run P K I c k n (by omega) O (above_mono (by omega) hO))
    isplitr; · iexact HR
    isplitr; · iexact Hlev
    isplitl [Hc]; · iexact Hc
    isplitl [Ht0]; · iexact Ht0
    isplitl [HO]; · iexact HO
    iintro ⟨Hc, #Hu1, #Hu2, HO⟩
    iapply Hk
    isplitl [Hc]; · iexact Hc
    isplitl [Ht]; · iexact Ht
    isplitr; · iexact Hu1
    isplitr; · iexact Hu2
    iexact HO

/-- The next transfer, when there is one. -/
theorem next_step (c : Dev nD) (k : Fin 4) (h : ℕ) (hl : h < 62) (O : CellTallies nD τ sig ℕ) (hO : Above (2 * h + 2) O) (Kt : PUnit → sProp 𝕄) :
    iprop(known P K I k c ∗ holds c (chunkAt k c (h + 1)) (val P k (h + 1) c) ∗ credits k c (min (h - 1) 60) ∗ toTake k c (h - 1) ∗ toSend k c (h + 1)
        ∗ reached ER (sndC k c (h + 1)) ((h + 1) / 2) ∗ owing c (rO k c (h + 1) + O)
        ∗ ((flight P k c (h + 1) ∗ credits k c (min h 60) ∗ toTake k c h ∗ toSend k c (h + 2) ∗ owing c (rO k c (h + 2) + O)) -∗ Kt ⟨⟩))
      ⊢ run c (if hh : h + 1 < 62 then
          (bif Nat.blt h 1 then pure ⟨⟩ else semWaitWord (RR.crd k).sem 1#32) >>= fun _ => start RR (Wc c (P.s c)) k (h + 1) hh
        else pure ⟨⟩) Kt := by
  unfold flight
  rcases Nat.lt_or_ge (h + 1) 62 with hh | hh
  · rw [dif_pos hh, if_pos hh, run_bind]
    unfold toSend
    rw [Ico_head hh]
    iintro ⟨#HK, Hch, Hc, Ht, ⟨Hs0, Hs⟩, #Hrs, HO, Hk⟩
    iapply (credit_step P K I c k h hh (rO k c (h + 1) + O) (above_add (above_rO k c (by omega)) hO))
    isplitr; · iexact HK
    isplitl [Hc]; · iexact Hc
    isplitl [Ht]; · iexact Ht
    isplitl [HO]; · iexact HO
    iintro ⟨Hc, Ht, #Hu1, #Hu2, HO⟩
    iapply (start_run P K I c k (h + 1) hh (rO k c (h + 2) + O))
    ihave #HR := (known_recs P K I k c) $$ HK
    isplitr; · iexact HR
    isplitl [Hch]; · iexact Hch
    isplitr; · iexact Hu1
    isplitr; · iexact Hu2
    isplitr; · iexact Hrs
    isplitl [Hs0]; · iexact Hs0
    isplitl [HO]
    · rw [rO_head k c hh, add_right_comm]; iexact HO
    iintro ⟨Hf, HO⟩
    iapply Hk
    isplitl [Hf]; · iexact Hf
    isplitl [Hc]; · iexact Hc
    isplitl [Ht]; · iexact Ht
    isplitl [Hs]; · iexact Hs
    iexact HO
  · obtain rfl : h = 61 := by omega
    rw [dif_neg (by omega), if_neg (by omega), run_pure]
    unfold toTake toSend
    rw [Ico_none (show 60 ≤ 61 - 1 by omega), Ico_none (show 60 ≤ 61 by omega), Ico_none (show 62 ≤ 61 + 1 by omega), Ico_none (show 62 ≤ 61 + 2 by omega),
      rO_end k c (show 62 ≤ 61 + 1 by omega), rO_end k c (show 62 ≤ 61 + 2 by omega)]
    iintro ⟨-, Hch, Hc, Ht, Hs, -, HO, Hk⟩
    imodintro
    iapply Hk
    isplitl [Hch]; · iexact Hch
    isplitl [Hc]; · iexact Hc
    isplitl [Ht]; · iexact Ht
    isplitl [Hs]; · iexact Hs
    iexact HO

/-- What ring `k` of device `c` owes before step `h`. -/
def debt (k : Fin 4) (c : Dev nD) (h : ℕ) : CellTallies nD τ sig ℕ := rO k c (h + 1) + cO k c h

theorem above_debt (k : Fin 4) (c : Dev nD) {h b : ℕ} (hb : b ≤ 2 * h + 2) : Above b (debt k c h) :=
  above_add (above_rO k c (by omega)) (above_cO k c (by omega))

/-- One step of one ring. -/
theorem step_run (c : Dev nD) (k : Fin 4) (h : ℕ) (hh : h < 62) (O : CellTallies nD τ sig ℕ) (hO : Above (2 * h + 2) O) (Kt : PUnit → sProp 𝕄) :
    iprop(known P K I k c ∗ state P k c h ∗ owing c (debt k c h + O) ∗ ((state P k c (h + 1) ∗ owing c (debt k c (h + 1) + O)) -∗ Kt ⟨⟩))
      ⊢ run c (step RR (Wc c (P.s c)) k h hh) Kt := by
  have hOd : Above (2 * h + 2) (debt k c h + O) := above_add (above_debt k c le_rfl) hO
  have hOc : Above (2 * h + 2) (cO k c (h + 1) + O) := above_add (above_cO k c (by omega)) hO
  have e1 : debt k c h + O = (rO k c (h + 1) + O) + cO k c h := by unfold debt; rw [add_right_comm]
  have e2 : (rO k c (h + 1) + O) + cO k c (h + 1) = rO k c (h + 1) + (cO k c (h + 1) + O) := by rw [add_assoc, add_comm O]
  have e3 : debt k c (h + 1) + O = rO k c (h + 2) + (cO k c (h + 1) + O) := by unfold debt; rw [add_assoc]
  unfold step state
  rw [run_bind, run_bind]
  unfold advance
  rw [run_bind, flight_lt P k c hh, e3]
  iintro ⟨#HK, ⟨Hfl, Hlo, Hre, Hma, Hse, Hgr, Hrc, Htk, Hcr, #Hrdy⟩, HO, Hk⟩
  ihave #HK' := (known_split P K I k c) $$ HK
  icases HK' with ⟨#HR, #Hlev, -, -⟩
  ihave Hma := (show marks k c h ⊢ (iprop((atPos ER (sndC k c h) (h / 2) ∅ 0 ∗ atPos ER (sndC k c (h + 1)) ((h + 1) / 2) ∅ 0
      ∗ reached ER (sndC k c (h + 1)) ((h + 1) / 2)) ∗ (atPos ER (rcvC k c h) (h / 2) ∅ 0 ∗ atPos ER (rcvC k c (h + 1)) ((h + 1) / 2) ∅ 0)) : sProp 𝕄)
    from Entails.rfl) $$ Hma
  icases Hma with ⟨⟨Hs0, Hs1, #Hrs1⟩, Hr0, Hr1⟩
  ihave Hrc := (show toRecv k c h ⊢ (iprop(cred (tallyAt (rcvC k c h) h N) ∗ toRecv k c (h + 1)) : sProp 𝕄) from Entails.of_eq (Ico_head hh _)) $$ Hrc
  icases Hrc with ⟨Hc0, Hrc⟩
  iapply (await_run P K I c k h hh (debt k c h + O) hOd)
  isplitr; · iexact HR
  isplitr; · iexact Hlev
  isplitl [Hfl]; · iexact Hfl
  isplitl [Hc0]; · iexact Hc0
  isplitl [Hs0]; · iexact Hs0
  isplitl [Hr0]; · iexact Hr0
  isplitl [HO]; · iexact HO
  iintro ⟨Hch, Hla, Hs0, ⟨Hr0, #Hrr⟩, HO⟩
  iapply (consume_run P c k h)
  isplitl [Hla]; · iexact Hla
  isplitl [Hlo]; · iexact Hlo
  iintro ⟨Hnx, Hle, Hlo⟩
  ihave Hre := (rest_step P k c h) $$ [Hre Hch Hle]
  · isplitl [Hre]; · iexact Hre
    isplitl [Hch]; · iexact Hch
    iexact Hle
  icases Hre with ⟨Hld, Hre⟩
  rw [e1]
  iapply (grant_step P K I c k h (rO k c (h + 1) + O))
  isplitr; · iexact HK
  isplitr; · iexact Hrdy
  isplitr; · iexact Hrr
  isplitl [Hld]; · iexact Hld
  isplitl [Hgr]; · iexact Hgr
  isplitl [HO]; · iexact HO
  iintro ⟨#Hrdy', Hgr, HO⟩
  rw [e2]
  iapply (next_step P K I c k h hh (cO k c (h + 1) + O) hOc)
  isplitr; · iexact HK
  isplitl [Hnx]; · iexact Hnx
  isplitl [Hcr]; · iexact Hcr
  isplitl [Htk]; · iexact Htk
  isplitl [Hse]; · iexact Hse
  isplitr; · iexact Hrs1
  isplitl [HO]; · iexact HO
  iintro ⟨Hfl, Hcr, Htk, Hse, HO⟩
  iapply Hk
  isplitr [HO]
  · isplitl [Hfl]; · iexact Hfl
    isplitl [Hlo]; · iexact Hlo
    isplitl [Hre]; · iexact Hre
    isplitl [Hs0 Hs1 Hr0 Hr1]
    · iapply (marks_step k c h)
      isplitl [Hs0]; · iexact Hs0
      isplitl [Hs1]; · iexact Hs1
      isplitl [Hr0]; · iexact Hr0
      iexact Hr1
    isplitl [Hse]; · iexact Hse
    isplitl [Hgr]; · iexact Hgr
    isplitl [Hrc]; · iexact Hrc
    isplitl [Htk]; · iexact Htk
    isplitl [Hcr]; · iexact Hcr
    iexact Hrdy'
  iexact HO

/-! ## The four rings together -/

/-- The four rings before step `h`. -/
def states (c : Dev nD) (h : ℕ) : sProp 𝕄 := iprop(state P 0 c h ∗ state P 1 c h ∗ state P 2 c h ∗ state P 3 c h)
def debts (c : Dev nD) (h : ℕ) : CellTallies nD τ sig ℕ := debt 0 c h + (debt 1 c h + (debt 2 c h + debt 3 c h))
def knowns (c : Dev nD) : sProp 𝕄 := iprop(known P K I 0 c ∗ known P K I 1 c ∗ known P K I 2 c ∗ known P K I 3 c)
instance knowns_persistent (c : Dev nD) : BI.Persistent (knowns P K I c : sProp 𝕄) := by unfold knowns; infer_instance

theorem round_run (c : Dev nD) (h : ℕ) (hh : h < 62) (Kt : PUnit → sProp 𝕄) :
    iprop(knowns P K I c ∗ states P c h ∗ owing c (debts c h) ∗ ((states P c (h + 1) ∗ owing c (debts c (h + 1))) -∗ Kt ⟨⟩))
      ⊢ run c (round RR (Wc c (P.s c)) h hh) Kt := by
  have ab : ∀ k (n : ℕ), h ≤ n → Above (2 * h + 2) (debt k c n) := fun k n hn => above_debt k c (by omega)
  have r1 : debt 0 c (h + 1) + (debt 1 c h + (debt 2 c h + debt 3 c h)) = debt 1 c h + (debt 0 c (h + 1) + (debt 2 c h + debt 3 c h)) := by ac_rfl
  have r2 : debt 1 c (h + 1) + (debt 0 c (h + 1) + (debt 2 c h + debt 3 c h)) = debt 2 c h + (debt 0 c (h + 1) + (debt 1 c (h + 1) + debt 3 c h)) := by ac_rfl
  have r3 : debt 2 c (h + 1) + (debt 0 c (h + 1) + (debt 1 c (h + 1) + debt 3 c h)) = debt 3 c h + (debt 0 c (h + 1) + (debt 1 c (h + 1) + debt 2 c (h + 1))) := by ac_rfl
  have r4 : debts c (h + 1) = debt 3 c (h + 1) + (debt 0 c (h + 1) + (debt 1 c (h + 1) + debt 2 c (h + 1))) := by unfold debts; ac_rfl
  unfold round
  rw [run_bind, run_bind, run_bind, r4]
  unfold knowns states debts
  iintro ⟨⟨#K0, #K1, #K2, #K3⟩, ⟨H0, H1, H2, H3⟩, HO, Hk⟩
  iapply (step_run P K I c 0 h hh _ (above_add (ab 1 h le_rfl) (above_add (ab 2 h le_rfl) (ab 3 h le_rfl))))
  isplitr; · iexact K0
  isplitl [H0]; · iexact H0
  isplitl [HO]; · iexact HO
  iintro ⟨H0, HO⟩
  rw [r1]
  iapply (step_run P K I c 1 h hh _ (above_add (ab 0 (h + 1) (by omega)) (above_add (ab 2 h le_rfl) (ab 3 h le_rfl))))
  isplitr; · iexact K1
  isplitl [H1]; · iexact H1
  isplitl [HO]; · iexact HO
  iintro ⟨H1, HO⟩
  rw [r2]
  iapply (step_run P K I c 2 h hh _ (above_add (ab 0 (h + 1) (by omega)) (above_add (ab 1 (h + 1) (by omega)) (ab 3 h le_rfl))))
  isplitr; · iexact K2
  isplitl [H2]; · iexact H2
  isplitl [HO]; · iexact HO
  iintro ⟨H2, HO⟩
  rw [r3]
  iapply (step_run P K I c 3 h hh _ (above_add (ab 0 (h + 1) (by omega)) (above_add (ab 1 (h + 1) (by omega)) (ab 2 (h + 1) (by omega)))))
  isplitr; · iexact K3
  isplitl [H3]; · iexact H3
  isplitl [HO]; · iexact HO
  iintro ⟨H3, HO⟩
  iapply Hk
  isplitr [HO]
  · isplitl [H0]; · iexact H0
    isplitl [H1]; · iexact H1
    isplitl [H2]; · iexact H2
    iexact H3
  iexact HO

/-- All the steps that are left. -/
theorem rounds_run (c : Dev nD) (n : ℕ) (hn : n ≤ 62) (Kt : PUnit → sProp 𝕄) :
    iprop(knowns P K I c ∗ states P c (62 - n) ∗ owing c (debts c (62 - n)) ∗ ((states P c 62 ∗ owing c (debts c 62)) -∗ Kt ⟨⟩))
      ⊢ run c (rounds RR (Wc c (P.s c)) n) Kt := by
  induction n with
  | zero =>
    unfold rounds
    rw [run_pure]
    iintro ⟨-, Hs, HO, Hk⟩
    imodintro
    iapply Hk
    isplitl [Hs]; · iexact Hs
    iexact HO
  | succ n ih =>
    unfold rounds
    rw [dif_pos (show 61 - n < 62 by omega), run_bind, show 62 - (n + 1) = 61 - n by omega]
    iintro ⟨#HK, Hs, HO, Hk⟩
    iapply (round_run P K I c (61 - n) _)
    isplitr; · iexact HK
    isplitl [Hs]; · iexact Hs
    isplitl [HO]; · iexact HO
    rw [show 61 - n + 1 = 62 - n by omega]
    iintro ⟨Hs, HO⟩
    iapply (ih (by omega))
    isplitr; · iexact HK
    isplitl [Hs]; · iexact Hs
    isplitl [HO]; · iexact HO
    iexact Hk

theorem debts_end (c : Dev nD) : debts c 62 = 0 := by
  unfold debts debt
  simp only [rO_end _ c (show 62 ≤ 62 + 1 by omega), cO_end _ c (show 60 ≤ 62 by omega), add_zero]

end Cert.KernelIdeal.Own

end
-- ==== Proof.KernelIdealMemory.lean ====
/- The output and the landing buffers in pieces: the output is its 4 by 32 chunks, a landing buffer is its two halves; and
   what the chunks hold when the rings have come round, as one array that is the same on every device. -/
module

public import proofs.«01_k».proof.Proof.KernelIdealRun
public import Idealize.ShloMosaic.Lib.Pipeline.ValueKit.Geometry

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Facts₀ Cert.KernelIdeal.Facts Cert.KernelIdeal.Gen

variable {F : FTy → Type} [FloatOps F]

local notation "𝕄" => MT nD τ sig ℕ (Elt F) ℕ UU ℕ

/-! ## Chunks of the output -/

theorem chunk_set (k : Fin 4) (i : ℕ) (hi : i < 32) : (chunk k i hi).view.set = (chunkR k i hi).set := View.set_slice_whole _ _

theorem mem_chunk {k : Fin 4} {i : ℕ} {hi : i < 32} {x : S4096x2048.Idx} :
    x ∈ (chunkR k i hi).set ↔ (x 0).val / 128 = i ∧ (x 1).val / 512 = k.val := by
  rw [Rect.mem_set_unit, Fin.forall_fin_two]
  show (128 * i ≤ (x 0).val ∧ (x 0).val < 128 * i + 128) ∧ (512 * k.val ≤ (x 1).val ∧ (x 1).val < 512 * k.val + 512) ↔ _
  omega

/-- Ring `k`'s band of columns. -/
def band (k : Fin 4) : Finset S4096x2048.Idx := Finset.univ.filter fun x => (x 1).val / 512 = k.val

theorem row_lt (x : S4096x2048.Idx) : (x 0).val / 128 < 32 := by
  have : (x 0).val < 4096 := (x 0).isLt
  omega
theorem col_lt (x : S4096x2048.Idx) : (x 1).val / 512 < 4 := by
  have : (x 1).val < 2048 := (x 1).isLt
  omega

theorem bands_disj (k k' : Fin 4) (h : k ≠ k') : Disjoint (band k) (band k') :=
  Finset.disjoint_left.mpr fun x hx hx' => h (Fin.ext ((Finset.mem_filter.mp hx).2.symm.trans (Finset.mem_filter.mp hx').2))
theorem bands_all : (Finset.univ.biUnion band : Finset S4096x2048.Idx) = Finset.univ := by
  ext x
  simp only [Finset.mem_biUnion, Finset.mem_univ, true_and, iff_true]
  exact ⟨⟨_, col_lt x⟩, Finset.mem_filter.mpr ⟨Finset.mem_univ _, rfl⟩⟩

/-- Every chunk is met among 32 steps in a row. -/
theorem qn_surj (k : Fin 4) (c : Dev nD) (a i : ℕ) (hi : i < 32) : ∃ j ∈ Finset.Ico a (a + 32), qn k c j = i := by
  have := pos_lt c
  unfold qn
  cases isCw k
  · refine ⟨a + (i + 64 - pos c - a % 32) % 32, Finset.mem_Ico.mpr ⟨by omega, by omega⟩, ?_⟩
    simp only [cond_false]; omega
  · refine ⟨a + (pos c + 64 - i - a % 32) % 32, Finset.mem_Ico.mpr ⟨by omega, by omega⟩, ?_⟩
    simp only [cond_true]; omega

/-- The elements of the chunk of step `j`. -/
abbrev stepSet (k : Fin 4) (c : Dev nD) (j : ℕ) : Finset S4096x2048.Idx := (chunkR k (qn k c j) (qn_lt k c j)).set

theorem steps_disj (k : Fin 4) (c : Dev nD) (a : ℕ) (j : ℕ) (hj : j ∈ Finset.Ico a (a + 32)) (j' : ℕ) (hj' : j' ∈ Finset.Ico a (a + 32)) (h : j ≠ j') :
    Disjoint (stepSet k c j) (stepSet k c j') :=
  Finset.disjoint_left.mpr fun x hx hx' => h (by
    have e := qn_inj k c ((mem_chunk.mp hx).1.symm.trans (mem_chunk.mp hx').1)
    have := Finset.mem_Ico.mp hj
    have := Finset.mem_Ico.mp hj'
    omega)
theorem steps_all (k : Fin 4) (c : Dev nD) (a : ℕ) : (Finset.Ico a (a + 32)).biUnion (stepSet k c) = band k := by
  ext x
  rw [Finset.mem_biUnion]
  constructor
  · rintro ⟨j, -, hx⟩
    exact Finset.mem_filter.mpr ⟨Finset.mem_univ _, (mem_chunk.mp hx).2⟩
  · intro hx
    obtain ⟨j, hj, e⟩ := qn_surj k c a _ (row_lt x)
    exact ⟨j, hj, mem_chunk.mpr ⟨e.symm, (Finset.mem_filter.mp hx).2⟩⟩

/-- The output whole is its chunks, those of 32 steps in a row on each ring. -/
theorem out_chunks (c : Dev nD) (a : ℕ) (f : S4096x2048.Idx → Elt F .f32) :
    ((c : Thread nD τ).loc cc0_stg7_0 ↦{fullShare} f : sProp 𝕄)
      = bigSep Finset.univ fun k : Fin 4 => bigSep (Finset.Ico a (a + 32)) fun j => (c : Thread nD τ).loc cc0_stg7_0 ↦[stepSet k c j]{fullShare} f := by
  have e1 : ((c : Thread nD τ).loc cc0_stg7_0 ↦{fullShare} f : sProp 𝕄)
      = bigSep Finset.univ fun k : Fin 4 => (c : Thread nD τ).loc cc0_stg7_0 ↦[band k]{fullShare} f := by
    rw [← pointsTo_biUnion (ℓ := (c : Thread nD τ).loc cc0_stg7_0) Finset.univ band fun k _ k' _ h => bands_disj k k' h]
    exact congrArg (fun S => ((c : Thread nD τ).loc cc0_stg7_0 ↦[S]{fullShare} f : sProp 𝕄)) bands_all.symm
  rw [e1]
  refine bigSep_congr fun k _ => ?_
  rw [← steps_all k c a]
  exact pointsTo_biUnion (ℓ := (c : Thread nD τ).loc cc0_stg7_0) (Finset.Ico a (a + 32)) (stepSet k c) (steps_disj k c a)

/-! ## Halves of a landing buffer -/

theorem halves_disj : Disjoint (halfR 0).set (halfR 1).set :=
  Rect.unit_disjoint 0 (.inl (by decide))
theorem halves_all : (halfR 0).set ∪ (halfR 1).set = Finset.univ := by
  ext x
  have h0 : (x 0).val < 2 := (x 0).isLt
  have h1 : (x 1).val < 128 := (x 1).isLt
  have h2 : (x 2).val < 512 := (x 2).isLt
  rw [Finset.mem_union, Rect.mem_set_unit, Rect.mem_set_unit, Fin.forall_fin_succ, Fin.forall_fin_two, Fin.forall_fin_succ, Fin.forall_fin_two]
  show ((0 ≤ (x 0).val ∧ (x 0).val < 0 + 1) ∧ (0 ≤ (x 1).val ∧ (x 1).val < 0 + 128) ∧ (0 ≤ (x 2).val ∧ (x 2).val < 0 + 512)
    ∨ (1 ≤ (x 0).val ∧ (x 0).val < 1 + 1) ∧ (0 ≤ (x 1).val ∧ (x 1).val < 0 + 128) ∧ (0 ≤ (x 2).val ∧ (x 2).val < 0 + 512)) ↔ _
  simp only [Finset.mem_univ, iff_true]
  omega

theorem slot_halves {ℓ : Loc nD τ sig} {A B : Finset (Idx ℓ)} (hd : Disjoint A B) (hu : A ∪ B = Finset.univ) :
    (slot ℓ Finset.univ : sProp 𝕄) ⊣⊢ iprop(slot ℓ A ∗ slot ℓ B) := by
  unfold slot
  constructor
  · iintro ⟨%f, H⟩
    ihave H := (show (ℓ ↦[Finset.univ]{fullShare} f : sProp 𝕄) ⊢ iprop((ℓ ↦[A]{fullShare} f) ∗ ℓ ↦[B]{fullShare} f) from by
      rw [← hu]; exact (pointsTo_union hd).1) $$ H
    icases H with ⟨Ha, Hb⟩
    isplitl [Ha]
    · iexists f; iexact Ha
    iexists f; iexact Hb
  · iintro ⟨⟨%f, Ha⟩, ⟨%g, Hb⟩⟩
    ihave H := (show iprop((ℓ ↦[A]{fullShare} f) ∗ ℓ ↦[B]{fullShare} g) ⊢ (ℓ ↦[Finset.univ]{fullShare} B.piecewise g f : sProp 𝕄) from by
      rw [← hu]; exact pointsTo_join hd) $$ [Ha Hb]
    · isplitl [Ha] <;> iassumption
    iexists _; iexact H

/-- The landing buffer of a ring at any contents, whole and in halves. -/
def landing (k : Fin 4) (c : Dev nD) : sProp 𝕄 := slot ((RR.buf k).view.loc (c : Thread nD τ)) Finset.univ

theorem landing_halves (k : Fin 4) (c : Dev nD) : (landing k c : sProp 𝕄) ⊣⊢ iprop(free c (half (RR.buf k) 0) ∗ free c (half (RR.buf k) 1)) := by
  have e : ∀ p, (half (RR.buf k) p).view.set = ((RR.buf k).access (halfR p)).set := fun p => (half_set k p).symm
  unfold landing free
  refine slot_halves ?_ ?_
  · rw [e, e]
    match k with
    | 0 => exact (congrArg₂ (fun A B : Finset S2x128x512.Idx => Disjoint A B) (View.set_slice_whole cc0_scratch0 (halfR 0)) (View.set_slice_whole cc0_scratch0 (halfR 1))).mpr halves_disj
    | 1 => exact (congrArg₂ (fun A B : Finset S2x128x512.Idx => Disjoint A B) (View.set_slice_whole cc0_scratch1 (halfR 0)) (View.set_slice_whole cc0_scratch1 (halfR 1))).mpr halves_disj
    | 2 => exact (congrArg₂ (fun A B : Finset S2x128x512.Idx => Disjoint A B) (View.set_slice_whole cc0_scratch2 (halfR 0)) (View.set_slice_whole cc0_scratch2 (halfR 1))).mpr halves_disj
    | 3 => exact (congrArg₂ (fun A B : Finset S2x128x512.Idx => Disjoint A B) (View.set_slice_whole cc0_scratch3 (halfR 0)) (View.set_slice_whole cc0_scratch3 (halfR 1))).mpr halves_disj
  · rw [e, e]
    match k with
    | 0 => exact (congrArg₂ (· ∪ ·) (View.set_slice_whole cc0_scratch0 (halfR 0)) (View.set_slice_whole cc0_scratch0 (halfR 1))).trans halves_all
    | 1 => exact (congrArg₂ (· ∪ ·) (View.set_slice_whole cc0_scratch1 (halfR 0)) (View.set_slice_whole cc0_scratch1 (halfR 1))).trans halves_all
    | 2 => exact (congrArg₂ (· ∪ ·) (View.set_slice_whole cc0_scratch2 (halfR 0)) (View.set_slice_whole cc0_scratch2 (halfR 1))).trans halves_all
    | 3 => exact (congrArg₂ (· ∪ ·) (View.set_slice_whole cc0_scratch3 (halfR 0)) (View.set_slice_whole cc0_scratch3 (halfR 1))).trans halves_all

/-! ## The result -/

/-- The device whose own chunk on ring `k` is chunk `i`. -/
def owner (k : Fin 4) (i : ℕ) : Dev nD := devAt ⟨(i + bif isCw k then 31 else 1) % 32, Nat.mod_lt _ (by decide)⟩

theorem owner_qn (k : Fin 4) (c : Dev nD) : owner k (qn k c 31) = c := by revert k c; decide
theorem qn_owner (k : Fin 4) (i : Fin 32) : qn k (owner k i) 31 = i := by revert k i; decide

variable (P : Par F)

/-- From step 31 on what is sent is the finished chunk of its owner. -/
theorem val_done (k : Fin 4) (n : ℕ) (c : Dev nD) : val P k (31 + n) c = val P k 31 (owner k (qn k c (31 + n))) := by
  induction n generalizing c with
  | zero => rw [Nat.add_zero, owner_qn]
  | succ n ih => rw [← Nat.add_assoc, val_ge P k c (by omega), ih, qn_prv]

/-- The row and the column of an element within its chunk. -/
def inner (x : S4096x2048.Idx) : S128x512.Idx :=
  Fin.cons (⟨(x 0).val % 128, Nat.mod_lt _ (by decide)⟩ : Fin 128) (Fin.cons (⟨(x 1).val % 512, Nat.mod_lt _ (by decide)⟩ : Fin 512) fun i => i.elim0)

/-- The array every device ends with. -/
def Out (x : S4096x2048.Idx) : Elt F .f32 :=
  val P ⟨(x 1).val / 512, col_lt x⟩ 31 (owner ⟨(x 1).val / 512, col_lt x⟩ ((x 0).val / 128)) (inner x)

theorem chunk_emb (k : Fin 4) (i : ℕ) (hi : i < 32) (y : S128x512.Idx) (x : S4096x2048.Idx) (hx : x = (chunk k i hi).view.emb y) :
    (x 0).val = 128 * i + (y 0).val ∧ (x 1).val = 512 * k.val + (y 1).val := by
  subst hx
  exact ⟨ValueKit.view_emb_slice_whole_unit_val cc0_stg7_0 _ _ _ y 0, ValueKit.view_emb_slice_whole_unit_val cc0_stg7_0 _ _ _ y 1⟩

/-- On a chunk of a finished step, `Out` reads what the step sends. -/
theorem Out_emb (k : Fin 4) (c : Dev nD) (n : ℕ) (y : S128x512.Idx) :
    Out P ((chunkAt k c (31 + n)).view.emb y : S4096x2048.Idx) = val P k (31 + n) c y := by
  obtain ⟨e0, e1⟩ := chunk_emb k (qn k c (31 + n)) (qn_lt k c _) y _ rfl
  have y0 : (y 0).val < 128 := (y 0).isLt
  have y1 : (y 1).val < 512 := (y 1).isLt
  have hk : ∀ x : S4096x2048.Idx, (x 0).val = 128 * qn k c (31 + n) + (y 0).val → (x 1).val = 512 * k.val + (y 1).val → Out P x = val P k (31 + n) c y := by
    intro x h0 h1
    have ek : (⟨(x 1).val / 512, col_lt x⟩ : Fin 4) = k := Fin.ext (by show (x 1).val / 512 = k.val; omega)
    have ei : inner x = y := by
      funext a
      match a with
      | 0 => exact Fin.ext (by show (x 0).val % 128 = (y 0).val; omega)
      | 1 => exact Fin.ext (by show (x 1).val % 512 = (y 1).val; omega)
    unfold Out
    rw [ek, ei, show (x 0).val / 128 = qn k c (31 + n) by omega, val_done]
  exact hk _ e0 e1

/-- The output in the chunks of the first 32 steps, each reading its local products. -/
theorem out_split (c : Dev nD) : ((c : Thread nD τ).loc cc0_stg7_0 ↦{fullShare} P.X c : sProp 𝕄)
    ⊢ bigSep Finset.univ fun k : Fin 4 => bigSep (Finset.Ico 0 32) fun j => holds c (chunkAt k c j) (part P k c j) := by
  rw [out_chunks c 0]
  refine bigSep_mono fun k _ => bigSep_mono fun j _ => ?_
  show ((c : Thread nD τ).loc cc0_stg7_0 ↦[stepSet k c j]{fullShare} P.X c : sProp 𝕄) ⊢ holds c (chunkAt k c j) (part P k c j)
  unfold holds
  rw [chunk_set]
  iintro H
  iexists P.X c
  isplitl [H]; · iexact H
  ipureintro; rfl

theorem holds_exact (c : Dev nD) (M : Memref sig .tc .vmem S128x512 .f32) (v : S128x512.Idx → Elt F .f32) (g : Buf (Elt F) (M.view.loc (c : Thread nD τ)))
    (h : M.view.read (Elt F) g = v) : holds c M v ⊢ (M.view.loc (c : Thread nD τ) ↦[M.view.set]{fullShare} g : sProp 𝕄) := by
  unfold holds
  iintro ⟨%f, H, %e⟩
  iapply (Entails.of_eq (pointsTo_congr (ℓ := M.view.loc (c : Thread nD τ)) (I := M.view.set) (f := f) (g := g) fun x hx => by
    obtain ⟨y, -, rfl⟩ := Finset.mem_map.mp hx
    exact (cast_inj _).mp (congrFun (e.trans h.symm) y)))
  iexact H

/-- The chunks of the last 32 steps make up the result. -/
theorem out_join (c : Dev nD) : (bigSep Finset.univ fun k : Fin 4 => bigSep (Finset.Ico 31 (31 + 32)) fun j => holds c (chunkAt k c j) (val P k j c))
    ⊢ ((c : Thread nD τ).loc cc0_stg7_0 ↦{fullShare} Out P : sProp 𝕄) := by
  rw [out_chunks c 31]
  refine bigSep_mono fun k _ => bigSep_mono fun j hj => ?_
  obtain ⟨n, rfl⟩ : ∃ n, j = 31 + n := ⟨j - 31, by have := Finset.mem_Ico.mp hj; omega⟩
  have e := holds_exact c (chunkAt k c (31 + n)) (val P k (31 + n) c) (Out P) (funext fun y => Out_emb P k c n y)
  rw [chunk_set] at e
  exact e

end Cert.KernelIdeal.Own

end
-- ==== Proof.KernelIdealBody.lean ====
module

public import proofs.«01_k».proof.Proof.KernelIdealMemory

/-! # The body of the kernel on one device

From the counters, the duty tokens and the landing buffers, the body meets its neighbours at the barrier, multiplies,
starts the four rings, runs them, and ends with every counter at zero and the whole result in the output's staging buffer. -/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Facts₀ Cert.KernelIdeal.Facts Cert.KernelIdeal.Gen

variable {F : FTy → Type} [FloatOps F]

local notation "𝕄" => MT nD τ sig ℕ (Elt F) ℕ UU ℕ

variable (P : Par F) (K : GSem nD τ sig → ℕ) (I : Key → ℕ)

/-! ## The counters -/

/-- A counter at its first round, nothing taken. -/
def fresh (g : GSem nD τ sig) : sProp 𝕄 := iprop(atPos ER g 0 ∅ 0 ∗ reached ER g 0)
/-- The five counters of a ring at their first rounds. -/
def counters (k : Fin 4) (c : Dev nD) : sProp 𝕄 :=
  iprop(fresh (crdC k c) ∗ fresh (sndC k c 0) ∗ fresh (sndC k c 1) ∗ fresh (rcvC k c 1) ∗ fresh (rcvC k c 0))
/-- The five counters of a ring at zero. -/
def zeros (k : Fin 4) (c : Dev nD) : sProp 𝕄 := bigSep Finset.univ fun i : Fin 5 => semVal ((c : Thread nD τ), osem (k, i)) 0

/-- Take the five counters of a ring into the protocol. -/
theorem counters_open (k : Fin 4) (c : Dev nD) :
    iprop(recs P K I ∗ zeros k c ∗ bigSep Finset.univ fun i : Fin 5 => openTok ER ((c : Thread nD τ), osem (k, i))) ⊢ (iprop(|={Set.univ}=> counters k c) : sProp 𝕄) := by
  have e : ∀ g : GSem nD τ sig, g ∈ barCells ∪ ownCells → iprop(recs P K I ∗ semVal g 0 ∗ openTok ER g) ⊢ (iprop(|={Set.univ}=> fresh g) : sProp 𝕄) := fun g hg => by
    unfold fresh
    iintro ⟨#HR, Hv, Ht⟩
    ihave #Hi := (recs_cell P K I hg) $$ HR
    imod (Rounds.cell_open ER (sched P) (g := g) (Set.mem_univ (K g))) $$ [Hv Ht] with ⟨Ha, #Hr⟩
    · isplitr; · iexact Hi
      isplitl [Ht]; · iexact Ht
      iexact Hv
    imodintro
    isplitl [Ha]; · iexact Ha
    iexact Hr
  have five : ∀ Φ : Fin 5 → sProp 𝕄, bigSep Finset.univ Φ = iprop(Φ 0 ∗ Φ 1 ∗ Φ 2 ∗ Φ 3 ∗ Φ 4) := fun Φ => by
    rw [show (Finset.univ : Finset (Fin 5)) = {0, 1, 2, 3, 4} from rfl, bigSep_insert (by decide), bigSep_insert (by decide), bigSep_insert (by decide), bigSep_insert (by decide), bigSep_singleton]; rfl
  unfold zeros counters
  rw [five, five]
  iintro ⟨#HR, ⟨V0, V1, V2, V3, V4⟩, ⟨T0, T1, T2, T3, T4⟩⟩
  imod (e (crdC k c) (crd_mem k c)) $$ [V0 T0] with H0
  · isplitr; · iexact HR
    isplitl [V0]; · iexact V0
    iexact T0
  imod (e (sndC k c 0) (snd_mem k c 0)) $$ [V1 T1] with H1
  · isplitr; · iexact HR
    isplitl [V1]; · iexact V1
    iexact T1
  imod (e (sndC k c 1) (snd_mem k c 1)) $$ [V2 T2] with H2
  · isplitr; · iexact HR
    isplitl [V2]; · iexact V2
    iexact T2
  imod (e (rcvC k c 1) (rcv_mem k c 1)) $$ [V3 T3] with H3
  · isplitr; · iexact HR
    isplitl [V3]; · iexact V3
    iexact T3
  imod (e (rcvC k c 0) (rcv_mem k c 0)) $$ [V4 T4] with H4
  · isplitr; · iexact HR
    isplitl [V4]; · iexact V4
    iexact T4
  imodintro
  isplitl [H0]; · iexact H0
  isplitl [H1]; · iexact H1
  isplitl [H2]; · iexact H2
  isplitl [H3]; · iexact H3
  iexact H4

/-! ## Before the barrier: the first two places are lent -/

/-- The two landing halves go into their slots: the upstream neighbour may start the first two writes. -/
theorem lend_first (k : Fin 4) (c : Dev nD) :
    iprop(recs P K I ∗ readerAt ES ((c, k), 0) 0 ∗ readerAt ES ((c, k), 1) 0 ∗ landing k c ∗ reached ER (rcvC k c 0) 0 ∗ reached ER (rcvC k c 1) 0)
      ⊢ (iprop(|={Set.univ}=> ready k c 0) : sProp 𝕄) := by
  have e0 : land k c 0 = half (RR.buf k) 1 := land_lt k c (by omega)
  have e1 : land k c 1 = half (RR.buf k) 0 := land_lt k c (by omega)
  have two : ∀ Φ : ℕ → sProp 𝕄, bigSep (Finset.range (0 + 2)) Φ = iprop(Φ 0 ∗ Φ 1) := fun Φ => by
    rw [show Finset.range (0 + 2) = {0, 1} from rfl, bigSep_insert (by decide), bigSep_singleton]; rfl
  have hl := (landing_halves (F := F) k c).1
  iintro ⟨#HR, Hr0, Hr1, Hl, #Ha, #Hb⟩
  ihave Hl := hl $$ Hl
  icases Hl with ⟨Hf0, Hf1⟩
  ihave #Hs0 := (recs_slot P K I (key_mem c k (show 0 < 62 by omega))) $$ HR
  ihave #Hs1 := (recs_slot P K I (key_mem c k (show 1 < 62 by omega))) $$ HR
  imod (slot_release ES (Set.mem_univ (I ((c, k), 0))) (free_free c (land k c 0)) 0) $$ [Hf1 Hr0] with ⟨-, #Hrel0⟩
  · isplitr; · iexact Hs0
    isplitl [Hr0]; · iexact Hr0
    rw [e0]; iexact Hf1
  imod (slot_release ES (Set.mem_univ (I ((c, k), 1))) (free_free c (land k c 1)) 0) $$ [Hf0 Hr1] with ⟨-, #Hrel1⟩
  · isplitr; · iexact Hs1
    isplitl [Hr1]; · iexact Hr1
    rw [e1]; iexact Hf0
  imodintro
  unfold ready
  rw [two]
  isplitr
  · isplitr; · iexact Hrel0
    iexact Hrel1
  isplitr; · iexact Ha
  iexact Hb

/-! ## The barrier -/

/-- A unit to a neighbour's barrier hands over what this device's neighbour needs to know. -/
theorem greet_run (c d : Dev nD) (i : ℕ) (hi : i ∈ ({0, 1} : Finset ℕ)) (O : CellTallies nD τ sig ℕ) (Kt : PUnit → sProp 𝕄) :
    iprop(recs P K I ∗ barPay d i ∗ reached ER (barC d) 0 ∗ dutyTok ER (barC d) 0 i ∗ owing c (O + tallyAt (barC d) 0 1) ∗ (owing c O -∗ Kt ⟨⟩))
      ⊢ run c (semSignalWord d barS 1#32) Kt := by
  unfold owing
  iintro ⟨#HR, #Hp, #Hre, Htok, ⟨%W, HO⟩, Hk⟩
  ihave #Hic := (recs_cell P K I (bar_mem d)) $$ HR
  iapply (Rounds.wp_signal 𝒱₀ ER (sched P) (c : Thread nD τ) none (dst := (d : Thread nD τ)) (sem := barS) (r := 0) (d := i) (k' := 1) (κ := K (barC d))
      (by rw [duties_bar, if_pos rfl]; exact hi) (amount_bar P _ _ _) 0 O rfl (W := W)) $$ [HO Htok]
  · isplitr; · iexact Hic
    isplitl [HO]; · iexact HO
    isplitl [Htok]; · iexact Htok
    isplitr
    · rw [pay_bar]; iexact Hp
    iexact Hre
  iintro HO
  rw [wp_ret]; imodintro
  iapply Hk
  iexists W; iexact HO

theorem pay_bar_rest (c : Dev nD) :
    (bigSep ((sched P).duties (barC c) 0 \ ∅) fun d => (sched P).payload (barC c) 0 d) = (iprop(barPay c 0 ∗ barPay c 1) : sProp 𝕄) := by
  rw [Finset.sdiff_empty, duties_bar, if_pos rfl, bigSep_insert (by decide), bigSep_singleton, pay_bar, pay_bar]; rfl

/-- The wait at the barrier for both neighbours. -/
theorem meet_run (c : Dev nD) (O : CellTallies nD τ sig ℕ) (hO : Above 1 O) (Kt : PUnit → sProp 𝕄) :
    iprop(recs P K I ∗ levAts L lv ∗ cred (tallyAt (barC c) 0 2) ∗ atPos ER (barC c) 0 ∅ 0 ∗ owing c O
        ∗ ((barPay c 0 ∗ barPay c 1 ∗ atPos ER (barC c) 1 ∅ 0 ∗ owing c O) -∗ Kt ⟨⟩))
      ⊢ run c (semWaitWord barS 2#32) Kt := by
  unfold owing
  iintro ⟨#HR, #Hlev, Hc, Hat, ⟨%W, HO⟩, Hk⟩
  ihave #Hic := (recs_cell P K I (bar_mem c)) $$ HR
  iapply (Rounds.wp_wait_rest_token 𝒱₀ ER (sched P) (c : Thread nD τ) none (κ := K (barC c)) (k' := 2) (sm := .reg barS)
      (wpE_semWait_eq 𝒱₀ (c : Thread nD τ) none Set.univ) (Set.mem_univ _) 0 (O := O) (W := W)
      (R := 0) (m := 0) (T := ∅) ((Nat.zero_add _).trans (expect_bar P c).symm)) $$ [Hc HO Hat]
  · isplitr; · iexact Hic
    isplitl [Hc]; · iexact Hc
    isplitl [HO]; · iexact HO
    isplitr
    · iapply (mayWait c (.reg barS) (by omega) (by rw [lv_bar]; exact hO)); iexact Hlev
    iexact Hat
  rw [pay_bar_rest P c]
  iintro ⟨HO, Hat, -, #Hp0, #Hp1⟩
  rw [wp_ret]; imodintro
  iapply Hk
  isplitr; · iexact Hp0
  isplitr; · iexact Hp1
  isplitl [Hat]; · iexact Hat
  iexists _; iexact HO

/-- What both neighbours said, for each ring. -/
theorem met (k : Fin 4) (c : Dev nD) :
    iprop(barPay c 0 ∗ barPay c 1) ⊢ (iprop(reached ER (crdC k (prv k c)) 0 ∗ ready k (nxt k c) 0) : sProp 𝕄) := by
  have e : ∀ (d : Dev nD) (b : Fin 4 → Bool), (bigSep Finset.univ fun k : Fin 4 => (hello d k (b k) : sProp 𝕄)) ⊢ hello d k (b k) := fun d b =>
    bigSep_elim (Φ := fun k : Fin 4 => (hello d k (b k) : sProp 𝕄)) (Finset.mem_univ k)
  have h0 : barPay c 0 ⊢ (hello (lft c) k (!isCw k) : sProp 𝕄) := e (lft c) fun k => !isCw k
  have h1 : barPay c 1 ⊢ (hello (rgt c) k (isCw k) : sProp 𝕄) := e (rgt c) isCw
  have key : iprop(hello (lft c) k (!isCw k) ∗ hello (rgt c) k (isCw k)) ⊢ (iprop(reached ER (crdC k (prv k c)) 0 ∗ ready k (nxt k c) 0) : sProp 𝕄) := by
    unfold hello nxt prv
    cases isCw k
    · simp only [Bool.not_false, cond_true, cond_false]
      iintro ⟨#H0, #H1⟩
      isplitr; · iexact H1
      iexact H0
    · simp only [Bool.not_true, cond_true, cond_false]
      iintro ⟨#H0, #H1⟩
      isplitr; · iexact H0
      iexact H1
  exact (BI.sep_mono h0 h1).trans key

/-- What this device says to each neighbour. -/
theorem greeting (c : Dev nD) :
    iprop((bigSep Finset.univ fun k : Fin 4 => ready k c 0) ∗ bigSep Finset.univ fun k : Fin 4 => reached ER (crdC k c) 0)
      ⊢ (iprop(barPay (lft c) 1 ∗ barPay (rgt c) 0) : sProp 𝕄) := by
  have e : ∀ (k : Fin 4) (b : Bool), iprop(ready k c 0 ∗ reached ER (crdC k c) 0) ⊢ (hello c k b : sProp 𝕄) := fun k b => by
    unfold hello
    cases b
    · simp only [cond_false]; iintro ⟨-, #H⟩; iexact H
    · simp only [cond_true]; iintro ⟨#H, -⟩; iexact H
  have h1 : (bigSep Finset.univ fun k : Fin 4 => iprop(ready k c 0 ∗ reached ER (crdC k c) 0)) ⊢ (barPay (lft c) 1 : sProp 𝕄) := by
    show _ ⊢ bigSep Finset.univ fun k : Fin 4 => hello (rgt (lft c)) k (isCw k)
    rw [rgt_lft]; exact bigSep_mono fun k _ => e k _
  have h0 : (bigSep Finset.univ fun k : Fin 4 => iprop(ready k c 0 ∗ reached ER (crdC k c) 0)) ⊢ (barPay (rgt c) 0 : sProp 𝕄) := by
    show _ ⊢ bigSep Finset.univ fun k : Fin 4 => hello (lft (rgt c)) k (!isCw k)
    rw [lft_rgt]; exact bigSep_mono fun k _ => e k _
  iintro ⟨#Ha, #Hb⟩
  ihave #H := (show iprop((bigSep Finset.univ fun k : Fin 4 => (ready k c 0 : sProp 𝕄)) ∗ bigSep Finset.univ fun k : Fin 4 => reached ER (crdC k c) 0)
      ⊢ (bigSep Finset.univ fun k : Fin 4 => iprop(ready k c 0 ∗ reached ER (crdC k c) 0) : sProp 𝕄) from Entails.of_eq (bigSep_sep _ _ _).symm) $$ []
  · isplitr; · iexact Ha
    iexact Hb
  isplitr
  · iapply h1; iexact H
  iapply h0; iexact H

/-! ## The first transfer and the end of a ring -/

/-- What a ring needs besides its counters: the tokens of its duties and slots, and the rights to wait. -/
def tokens (k : Fin 4) (c : Dev nD) : sProp 𝕄 := iprop(toSend k c 0 ∗ toGrant k c 0 ∗ toRecv k c 0 ∗ toTake k c 0)

/-- Start ring `k`: the device's own chunk goes out, and the ring is in its first state. -/
theorem begin_run (c : Dev nD) (k : Fin 4) (O : CellTallies nD τ sig ℕ) (Kt : PUnit → sProp 𝕄) :
    iprop(known P K I k c ∗ ready k c 0 ∗ counters k c ∗ tokens k c ∗ (bigSep (Finset.Ico 0 32) fun j => holds c (chunkAt k c j) (part P k c j))
        ∗ owing c (O + (rO k c 0 + cO k c 0))
        ∗ ((state P k c 0 ∗ owing c (O + debt k c 0)) -∗ Kt ⟨⟩))
      ⊢ run c (start RR (Wc c (P.s c)) k 0 (by decide)) Kt := by
  have ec : rcvC k c 0 = rcvC k c (0 + 0) := rfl
  have eo : O + (rO k c 0 + cO k c 0) = (O + debt k c 0) + tallyAt (rcvC k (nxt k c) 0) 0 N := by
    unfold debt
    rw [rO_head k c (show 0 < 62 by omega)]
    ac_rfl
  rw [eo]
  unfold known counters tokens fresh state flight locals rest marks credits
  rw [if_pos (show 0 < 62 by omega), Ico_head (show 0 < 32 by omega), show min (0 - 1) 60 = 0 by omega, show min 0 31 = 0 by omega,
    Ico_none (show 0 ≤ 0 - 29 by omega), Ico_none (show 0 ≤ 31 by omega), Ico_none (show 0 ≤ 29 by omega)]
  have es : toSend k c 0 = (iprop((dutyTok ER (sndC k c 0) (0 / 2) 0 ∗ dutyTok ER (rcvC k (nxt k c) 0) (0 / 2) 0 ∗ writeTok ES ((nxt k c, k), 0) 1)
      ∗ toSend k c (0 + 1)) : sProp 𝕄) := by unfold toSend; rw [Ico_head (show 0 < 62 by omega)]
  rw [es]
  iintro ⟨⟨#HR, -, -, #Hnx⟩, #Hrdy, ⟨⟨Hc, -⟩, ⟨Hs0, #Hrs0⟩, ⟨Hs1, #Hrs1⟩, ⟨Hr1, #-⟩, ⟨Hr0, #-⟩⟩, ⟨⟨Ht, Hts⟩, Htg, Htr, Htt⟩, ⟨Hch, Hlo⟩, HO, Hk⟩
  ihave #Hu := (ready_use k (nxt k c) (show 0 ≤ 0 + 1 by omega)) $$ Hnx
  icases Hu with ⟨#Hu1, #Hu2⟩
  iapply (start_run P K I c k 0 _ (O + debt k c 0))
  isplitr; · iexact HR
  isplitl [Hch]; · iexact Hch
  isplitr; · iexact Hu1
  isplitr; · iexact Hu2
  isplitr; · iexact Hrs0
  isplitl [Ht]; · iexact Ht
  isplitl [HO]; · iexact HO
  iintro ⟨Hcr, HO⟩
  iapply Hk
  isplitr [HO]
  · isplitl [Hcr]; · iexact Hcr
    isplitl [Hlo]; · iexact Hlo
    isplitr
    · isplitr; · iempintro
      isplitr; · iempintro
      iempintro
    isplitl [Hs0 Hs1 Hr0 Hr1]
    · isplitl [Hs0 Hs1]
      · isplitl [Hs0]; · iexact Hs0
        isplitl [Hs1]; · iexact Hs1
        iexact Hrs1
      isplitl [Hr0]; · iexact Hr0
      iexact Hr1
    isplitl [Hts]; · iexact Hts
    isplitl [Htg]; · iexact Htg
    isplitl [Htr]; · iexact Htr
    isplitl [Htt]; · iexact Htt
    isplitl [Hc]
    · iexists ∅
      isplitr; · ipureintro; exact ⟨Finset.empty_subset _, le_refl _⟩
      isplitl [Hc]; · iexact Hc
      rw [bigSep_empty]; iempintro
    iexact Hrdy
  iexact HO

/-- A ring run to its end: its counters are closed at zero, its landing buffer is whole again, and every chunk is final. -/
theorem ring_end (k : Fin 4) (c : Dev nD) :
    iprop(recs P K I ∗ state P k c 62)
      ⊢ (iprop(|={Set.univ}=> (zeros k c ∗ landing k c ∗ bigSep (Finset.Ico 31 (31 + 32)) fun j => holds c (chunkAt k c j) (val P k j c))) : sProp 𝕄) := by
  have five : ∀ Φ : Fin 5 → sProp 𝕄, bigSep Finset.univ Φ = iprop(Φ 0 ∗ Φ 1 ∗ Φ 2 ∗ Φ 3 ∗ Φ 4) := fun Φ => by
    rw [show (Finset.univ : Finset (Fin 5)) = {0, 1, 2, 3, 4} from rfl, bigSep_insert (by decide), bigSep_insert (by decide), bigSep_insert (by decide), bigSep_insert (by decide), bigSep_singleton]; rfl
  have cl : ∀ (g : GSem nD τ sig) (n : ℕ), g ∈ barCells ∪ ownCells → (∀ r, n ≤ r → (sched P).duties g r = ∅) →
      iprop(recs P K I ∗ atPos ER g n ∅ 0) ⊢ (iprop(|={Set.univ}=> semVal g 0) : sProp 𝕄) := fun g n hg hd => by
    iintro ⟨#HR, Ha⟩
    ihave #Hi := (recs_cell P K I hg) $$ HR
    imod (Rounds.cell_close ER (sched P) (g := g) (Set.mem_univ (K g)) (fun h => h) (R := n) hd) $$ [Ha] with Hv
    · isplitr; · iexact Hi
      iexact Ha
    imodintro; iexact Hv
  have hs : ∀ h r, 31 ≤ r → (sched P).duties (sndC k c h) r = ∅ := fun h r hr => by rw [duties_snd, if_neg (by omega)]
  have hr : ∀ h r, 31 ≤ r → (sched P).duties (rcvC k c h) r = ∅ := fun h r hr => by rw [duties_rcv, if_neg (by omega)]
  have hcr : ∀ r, 1 ≤ r → (sched P).duties (crdC k c) r = ∅ := fun r hr => by rw [duties_crd, if_neg (by omega)]
  have hl := (landing_halves (F := F) k c).2
  unfold state rest marks credits zeros locals
  rw [flight_end, five, show min (62 - 1) 60 = 60 by omega, show min 62 31 = 31 by omega, Ico_none (show 32 ≤ 62 + 1 by omega), Ico_none (show 31 ≤ 62 - 29 by omega),
    Ico_head (show 29 < 31 by omega), Ico_head (show 29 + 1 < 31 by omega), Ico_none (show 31 ≤ 29 + 1 + 1 by omega), Ico_snoc (show 31 ≤ 31 + 31 by omega)]
  iintro ⟨#HR, Hlast, -, ⟨-, Hfin, Hh0, Hh1, -⟩, ⟨⟨Hs0, Hs1, -⟩, Hr0, Hr1⟩, -, -, -, -, ⟨%T, %hT, Hc, -⟩, -⟩
  obtain rfl : T = Finset.range 60 := Finset.eq_of_subset_of_card_le hT.1 (by rw [Finset.card_range]; exact hT.2)
  ihave #Hic := (recs_cell P K I (crd_mem k c)) $$ HR
  imod (Rounds.fupd_skip ER (sched P) (g := crdC k c) (R := 0) (T := Finset.range 60) (m := 60) (by rw [duties_crd, if_pos rfl]) (expect_crd P k c).symm (Set.mem_univ (K (crdC k c)))) $$ [Hc] with ⟨Hc, -⟩
  · isplitr; · iexact Hic
    iexact Hc
  imod (cl (crdC k c) 1 (crd_mem k c) hcr) $$ [Hc] with Z0
  · isplitr; · iexact HR
    iexact Hc
  imod (cl (sndC k c 62) 31 (snd_mem k c 62) (hs 62)) $$ [Hs0] with Z1
  · isplitr; · iexact HR
    iexact Hs0
  imod (cl (sndC k c (62 + 1)) 31 (snd_mem k c (62 + 1)) (hs (62 + 1))) $$ [Hs1] with Z2
  · isplitr; · iexact HR
    iexact Hs1
  imod (cl (rcvC k c (62 + 1)) 31 (rcv_mem k c (62 + 1)) (hr (62 + 1))) $$ [Hr1] with Z3
  · isplitr; · iexact HR
    iexact Hr1
  imod (cl (rcvC k c 62) 31 (rcv_mem k c 62) (hr 62)) $$ [Hr0] with Z4
  · isplitr; · iexact HR
    iexact Hr0
  imodintro
  isplitl [Z0 Z1 Z2 Z3 Z4]
  · isplitl [Z0]; · iexact Z0
    isplitl [Z1]; · iexact Z1
    isplitl [Z2]; · iexact Z2
    isplitl [Z3]; · iexact Z3
    iexact Z4
  isplitl [Hh0 Hh1]
  · iapply hl
    isplitl [Hh0]; · iexact Hh0
    iexact Hh1
  isplitl [Hlast]; · iexact Hlast
  iexact Hfin

/-! ## The whole body -/

theorem four (Φ : Fin 4 → sProp 𝕄) : bigSep Finset.univ Φ = iprop(Φ 0 ∗ Φ 1 ∗ Φ 2 ∗ Φ 3) := by
  rw [show (Finset.univ : Finset (Fin 4)) = {0, 1, 2, 3} from rfl, bigSep_insert (by decide), bigSep_insert (by decide), bigSep_insert (by decide), bigSep_singleton]; rfl

/-- The first two reader positions of a ring's slots. -/
def readers (k : Fin 4) (c : Dev nD) : sProp 𝕄 := iprop(readerAt ES ((c, k), 0) 0 ∗ readerAt ES ((c, k), 1) 0)

/-- The first two places of every ring are lent. -/
theorem lend_all (c : Dev nD) :
    iprop(recs P K I ∗ bigSep Finset.univ fun k : Fin 4 => iprop(counters k c ∗ readers k c ∗ landing k c))
      ⊢ (iprop(|={Set.univ}=> bigSep Finset.univ fun k : Fin 4 => iprop(counters k c ∗ ready k c 0 ∗ reached ER (crdC k c) 0)) : sProp 𝕄) := by
  have one : ∀ k ∈ (Finset.univ : Finset (Fin 4)), iprop(recs P K I ∗ counters k c ∗ readers k c ∗ landing k c)
      ⊢ (iprop(|={Set.univ}=> (counters k c ∗ ready k c 0 ∗ reached ER (crdC k c) 0)) : sProp 𝕄) := fun k _ => by
    unfold counters readers fresh
    iintro ⟨#HR, ⟨⟨Hc, #Hrc⟩, Hs0, Hs1, ⟨Hr1, #Hrr1⟩, ⟨Hr0, #Hrr0⟩⟩, ⟨Hd0, Hd1⟩, Hl⟩
    imod (lend_first P K I k c) $$ [Hd0 Hd1 Hl] with #Hrdy
    · isplitr; · iexact HR
      isplitl [Hd0]; · iexact Hd0
      isplitl [Hd1]; · iexact Hd1
      isplitl [Hl]; · iexact Hl
      isplitr; · iexact Hrr0
      iexact Hrr1
    imodintro
    isplitl
    · isplitl [Hc]
      · isplitl [Hc]; · iexact Hc
        iexact Hrc
      isplitl [Hs0]; · iexact Hs0
      isplitl [Hs1]; · iexact Hs1
      isplitl [Hr1]
      · isplitl [Hr1]; · iexact Hr1
        iexact Hrr1
      isplitl [Hr0]; · iexact Hr0
      iexact Hrr0
    isplitr; · iexact Hrdy
    iexact Hrc
  exact (bigSep_with_persistent one).trans (bigSep_fupd _ _)

/-- What a device owes on one ring, and at the start of the kernel. -/
def ringDue (k : Fin 4) (c : Dev nD) : CellTallies nD τ sig ℕ := rO k c 0 + cO k c 0
def ringsDue (c : Dev nD) : CellTallies nD τ sig ℕ := ringDue 0 c + (ringDue 1 c + (ringDue 2 c + ringDue 3 c))
def due (c : Dev nD) : CellTallies nD τ sig ℕ := (ringsDue c + tallyAt (barC (rgt c)) 0 1) + tallyAt (barC (lft c)) 0 1

theorem above_ringsDue (c : Dev nD) : Above 1 (ringsDue c) := by
  have a : ∀ k, Above 1 (ringDue k c) := fun k => above_add (above_rO k c (by omega)) (above_cO k c (by omega))
  exact above_add (a 0) (above_add (a 1) (above_add (a 2) (a 3)))

/-- What a device has at the barrier. -/
def barrier (c : Dev nD) : sProp 𝕄 :=
  iprop(atPos ER (barC c) 0 ∅ 0 ∗ cred (tallyAt (barC c) 0 2) ∗ (dutyTok ER (barC (lft c)) 0 1 ∗ dutyTok ER (barC (rgt c)) 0 0)
    ∗ reached ER (barC (lft c)) 0 ∗ reached ER (barC (rgt c)) 0)

/-- The words a device has staged are `a` throughout. -/
theorem word_run (c : Dev nD) {e : EltTy} (m : Memref sig .tc .smem S1 e) (hp : e.packing = 1) (f : m.view.ty.Contents (Elt F)) (a : Elt F e)
    (ha : ∀ x, m.view.read (Elt F) f x = a) (k : Elt F e → Prog (TpuEff nD τ sig (Elt F) Λ₀ .tc) PUnit) (Kt : PUnit → sProp 𝕄) :
    iprop((m.view.loc (c : Thread nD τ) ↦{fullShare} f) ∗ ((m.view.loc (c : Thread nD τ) ↦{fullShare} f) -∗ run c (k a) Kt))
      ⊢ run c (smemLoad m (Rect.unit (s := S1) ![0] S1.size Gen.inb_S1_S1_0) Gen.numel1_S1 hp >>= k) Kt := by
  simp only [smemLoad, smemLoadElt, Prog.bind_op, Prog.bind_ret]
  iintro ⟨Hf, Hk⟩
  iapply (wp_load_rect 𝒱₀ (c : Thread nD τ) none Set.univ (m := m) (r := Rect.unit (s := S1) ![0] S1.size Gen.inb_S1_S1_0) (q := fullShare) (f := f) (Finset.subset_univ _)) $$ [Hf]
  · iexact Hf
  iintro Hf
  rw [show (m.access (Rect.unit (s := S1) ![0] S1.size Gen.inb_S1_S1_0)).read (Elt F) f (Shape.Idx.first (Gen.numel1_S1.symm ▸ Nat.one_pos)) = a from ha _]
  iapply Hk; iexact Hf

/-- The local products: the int32 products of the two staged blocks, as floats. -/
def prodV (x : S4096x128.Idx → Elt F .i8) (w : S128x2048.Idx → Elt F .i8) : S4096x2048.Idx → Elt F .f32 :=
  (sitofp .f32 (matmulI8 IntMxuNumerics.v7x dot_S4096x128_S128x2048_S4096x2048_1_0_0_1_n_n (shapeCast S4096x128 (x : Vec F S4096x128 .i8) Gen.shapeCasts_S4096x128_S4096x128)
    (shapeCast S128x2048 (w : Vec F S128x2048 .i8) Gen.shapeCasts_S128x2048_S128x2048) (constantI S4096x2048 32 0#32)) : FVec F S4096x2048 .f32)

theorem hz : (![0, 0] : Fin 2 → Nat) = fun _ => 0 := by funext a; fin_cases a <;> rfl

theorem chain_bind {α β : Type} (p : Prog (TpuEff nD τ sig (Elt F) Λ₀ .tc) α) (k : α → Prog (TpuEff nD τ sig (Elt F) Λ₀ .tc) β) (c : Dev nD) (Kt : β → sProp 𝕄) :
    wp frame (wpE (defs₀ (F := F)) 𝒱₀ (c : Thread nD τ) none) Set.univ (p >>= k) Kt
      = wp frame (wpE (defs₀ (F := F)) 𝒱₀ (c : Thread nD τ) none) Set.univ p fun a => wp frame (wpE (defs₀ (F := F)) 𝒱₀ (c : Thread nD τ) none) Set.univ (k a) Kt := wp_bind _ _ _ _ _ _

/-- The staged inputs: the two blocks, the two scales, the position and the two neighbours. -/
def inputs (c : Dev nD) (x : S4096x128.Idx → Elt F .i8) (w : S128x2048.Idx → Elt F .i8) (sx sw : S1.Idx → Elt F .f32) (p l r : S1.Idx → Elt F .i32) : sProp 𝕄 :=
  iprop(((c : Thread nD τ).loc cc0_stg0_0 ↦{fullShare} x) ∗ ((c : Thread nD τ).loc cc0_stg1_0 ↦{fullShare} w)
    ∗ ((c : Thread nD τ).loc cc0_stg2_0 ↦{fullShare} sx) ∗ ((c : Thread nD τ).loc cc0_stg3_0 ↦{fullShare} sw)
    ∗ ((c : Thread nD τ).loc cc0_stg4_0 ↦{fullShare} p) ∗ ((c : Thread nD τ).loc cc0_stg5_0 ↦{fullShare} l) ∗ ((c : Thread nD τ).loc cc0_stg6_0 ↦{fullShare} r))

/-- What a device brings to the kernel, apart from its staged inputs and the output's buffer. -/
def before (c : Dev nD) : sProp 𝕄 :=
  iprop(recs P K I ∗ levAts L lv ∗ (bigSep Finset.univ fun k : Fin 4 => iprop(counters k c ∗ readers k c ∗ landing k c))
    ∗ (bigSep Finset.univ fun k : Fin 4 => tokens k c) ∗ barrier c)
/-- What it takes away: its counters at zero, its landing buffers, the barrier's counter at zero. -/
def after (c : Dev nD) : sProp 𝕄 :=
  iprop((bigSep Finset.univ fun k : Fin 4 => zeros k c) ∗ (bigSep Finset.univ fun k : Fin 4 => landing k c) ∗ semVal (barC c) 0)

theorem after_intro (c : Dev nD) :
    iprop((zeros 0 c ∗ zeros 1 c ∗ zeros 2 c ∗ zeros 3 c) ∗ (landing 0 c ∗ landing 1 c ∗ landing 2 c ∗ landing 3 c) ∗ semVal (barC c) 0)
      ⊢ (after c : sProp 𝕄) := by
  unfold after
  rw [four, four]

set_option maxHeartbeats 2000000 in
/-- The body after its words: barrier, product, the rings, the counters closed. -/
theorem after_run (c : Dev nD) (x : S4096x128.Idx → Elt F .i8) (w : S128x2048.Idx → Elt F .i8) (sx sw : S1.Idx → Elt F .f32) (p l r : S1.Idx → Elt F .i32)
    (sx₀ sw₀ : F .f32) (hX : P.X c = prodV x w) (hsx : ∀ i, sx i = sx₀) (hsw : ∀ i, sw i = sw₀) (hs : P.s c = Scalar.mulf sx₀ sw₀)
    (o : S4096x2048.Idx → Elt F .f32) (Kt : PUnit → sProp 𝕄) :
    iprop(before P K I c ∗ inputs c x w sx sw p l r ∗ ((c : Thread nD τ).loc cc0_stg7_0 ↦{fullShare} o) ∗ owing c (due c)
        ∗ ((after c ∗ inputs c x w sx sw p l r ∗ ((c : Thread nD τ).loc cc0_stg7_0 ↦{fullShare} Out P) ∗ owing c 0) -∗ Kt ⟨⟩))
      ⊢ run c (afterWords (Memref.whole cc0_stg0_0) (Memref.whole cc0_stg1_0) (Memref.whole cc0_stg2_0) (Memref.whole cc0_stg3_0) RR
          (posW c) (lftW c) (rgtW c) (chk3 c) (chk1 c) (chk2 c)) Kt := by
  have d1 : (⟨devOf (lftW c), k0_dev1_lt (lftW c) (chk1 c)⟩ : Dev nD) = lft c := Fin.ext (devOf_lftW c)
  have d2 : (⟨devOf (rgtW c), k0_dev2_lt (rgtW c) (chk2 c)⟩ : Dev nD) = rgt c := Fin.ext (devOf_rgtW c)
  have rx : ∀ f : S4096x128.Idx → Elt F .i8, (Memref.whole cc0_stg0_0 : Memref sig .tc .vmem S4096x128 .i8).view.readAt (Elt F)
      (Rect.unit (s := S4096x128) ![0, 0] S4096x128.size Gen.inb_S4096x128_S4096x128_0_0).toLoadRect f = f := fun f => Memref.readAt_unit_zero (Elt F) cc0_stg0_0 hz _ f
  have rw' : ∀ f : S128x2048.Idx → Elt F .i8, (Memref.whole cc0_stg1_0 : Memref sig .tc .vmem S128x2048 .i8).view.readAt (Elt F)
      (Rect.unit (s := S128x2048) ![0, 0] S128x2048.size Gen.inb_S128x2048_S128x2048_0_0).toLoadRect f = f := fun f => Memref.readAt_unit_zero (Elt F) cc0_stg1_0 hz _ f
  have wo : ∀ f g : S4096x2048.Idx → Elt F .f32, ((outM : Memref sig .tc .vmem S4096x2048 .f32).access
      (Rect.unit (s := S4096x2048) ![0, 0] S4096x2048.size Gen.inb_S4096x2048_S4096x2048_0_0) : View sig .tc _ _ _).write (Elt F) f g Finset.univ = g :=
    fun f g => Memref.write_access_unit_zero_univ (Elt F) cc0_stg7_0 hz _ f g
  unfold afterWords before
  simp only [d1, d2]
  iintro ⟨⟨#HR, #Hlev, Hall, Htok, Hbar⟩, Hin, Hout, HO, Hk⟩
  imod (lend_all P K I c) $$ [Hall] with Hall
  · isplitr; · iexact HR
    iexact Hall
  ihave Hall := (show (bigSep Finset.univ fun k : Fin 4 => iprop(counters k c ∗ ready k c 0 ∗ reached ER (crdC k c) 0))
      ⊢ (iprop((bigSep Finset.univ fun k : Fin 4 => counters k c) ∗ (bigSep Finset.univ fun k : Fin 4 => ready k c 0)
          ∗ bigSep Finset.univ fun k : Fin 4 => reached ER (crdC k c) 0) : sProp 𝕄) from by
    rw [bigSep_sep', bigSep_sep']) $$ Hall
  icases Hall with ⟨Hcn, #Hrdy, #Hrc⟩
  ihave #Hg := (greeting (F := F) c) $$ []
  · isplitr; · iexact Hrdy
    iexact Hrc
  icases Hg with ⟨#Hg1, #Hg0⟩
  unfold barrier
  icases Hbar with ⟨Hat, Hcb, ⟨Htl, Htr⟩, #Hrl, #Hrr⟩
  unfold due
  rw [chain_bind]
  iapply (greet_run P K I c (lft c) 1 (by decide) (ringsDue c + tallyAt (barC (rgt c)) 0 1))
  isplitr; · iexact HR
  isplitr; · iexact Hg1
  isplitr; · iexact Hrl
  isplitl [Htl]; · iexact Htl
  isplitl [HO]; · iexact HO
  iintro HO
  rw [chain_bind]
  iapply (greet_run P K I c (rgt c) 0 (by decide) (ringsDue c))
  isplitr; · iexact HR
  isplitr; · iexact Hg0
  isplitr; · iexact Hrr
  isplitl [Htr]; · iexact Htr
  isplitl [HO]; · iexact HO
  iintro HO
  rw [chain_bind]
  iapply (meet_run P K I c (ringsDue c) (above_ringsDue c))
  isplitr; · iexact HR
  isplitr; · iexact Hlev
  isplitl [Hcb]; · iexact Hcb
  isplitl [Hat]; · iexact Hat
  isplitl [HO]; · iexact HO
  iintro ⟨#Hp0, #Hp1, Hat, HO⟩
  have kn : ∀ k : Fin 4, iprop(recs P K I ∗ levAts L lv ∗ barPay c 0 ∗ barPay c 1) ⊢ (known P K I k c : sProp 𝕄) := fun k => by
    unfold known
    iintro ⟨#HR, #Hlev, #Hp0, #Hp1⟩
    isplitr; · iexact HR
    isplitr; · iexact Hlev
    iapply (met k c)
    isplitr; · iexact Hp0
    iexact Hp1
  have kns : iprop(recs P K I ∗ levAts L lv ∗ barPay c 0 ∗ barPay c 1) ⊢ (knowns P K I c : sProp 𝕄) := by
    unfold knowns
    iintro #H
    isplitr; · iapply (kn 0); iexact H
    isplitr; · iapply (kn 1); iexact H
    isplitr; · iapply (kn 2); iexact H
    iapply (kn 3); iexact H
  ihave #Hkn := kns $$ []
  · isplitr; · iexact HR
    isplitr; · iexact Hlev
    isplitr; · iexact Hp0
    iexact Hp1
  unfold inputs
  icases Hin with ⟨Hx, Hw, Hsx, Hsw, Hp, Hl, Hr⟩
  simp only [Prog.lift, Prog.bind_op, Prog.bind_ret]
  iapply (wp_load 𝒱₀ (c : Thread nD τ) none Set.univ (m := (Memref.whole cc0_stg0_0 : Memref sig .tc .vmem S4096x128 .i8)) (Finset.subset_univ _)) $$ Hx; iintro Hx
  rw [rx]
  iapply (wp_load 𝒱₀ (c : Thread nD τ) none Set.univ (m := (Memref.whole cc0_stg1_0 : Memref sig .tc .vmem S128x2048 .i8)) (Finset.subset_univ _)) $$ Hw; iintro Hw
  rw [rw']
  iapply (wp_load 𝒱₀ (c : Thread nD τ) none Set.univ (m := outM) (Finset.subset_univ _)) $$ Hout; iintro Hout
  iapply (wp_store 𝒱₀ (c : Thread nD τ) none Set.univ (m := outM) (r := Rect.unit (s := S4096x2048) ![0, 0] S4096x2048.size Gen.inb_S4096x2048_S4096x2048_0_0)
    (Mk := Finset.univ) (Finset.subset_univ _)) $$ Hout; iintro Hout
  rw [wo, show (sitofp .f32 (matmulI8 IntMxuNumerics.v7x dot_S4096x128_S128x2048_S4096x2048_1_0_0_1_n_n (shapeCast S4096x128 (x : Vec F S4096x128 .i8) Gen.shapeCasts_S4096x128_S4096x128)
    (shapeCast S128x2048 (w : Vec F S128x2048 .i8) Gen.shapeCasts_S128x2048_S128x2048) (constantI S4096x2048 32 0#32)) : FVec F S4096x2048 .f32) = P.X c from hX.symm]
  ihave Hout := (show ((outM.access (Rect.unit (s := S4096x2048) ![0, 0] S4096x2048.size Gen.inb_S4096x2048_S4096x2048_0_0)).loc (c : Thread nD τ) ↦{fullShare} P.X c : sProp 𝕄)
      ⊢ (bigSep Finset.univ fun k : Fin 4 => bigSep (Finset.Ico 0 32) fun j => holds c (chunkAt k c j) (part P k c j)) from out_split P c) $$ Hout
  iapply (word_run c (Memref.whole cc0_stg2_0 : Memref sig .tc .smem S1 .f32) rfl sx sx₀ hsx)
  isplitl [Hsx]; · iexact Hsx
  iintro Hsx
  iapply (word_run c (Memref.whole cc0_stg3_0 : Memref sig .tc .smem S1 .f32) rfl sw sw₀ hsw)
  isplitl [Hsw]; · iexact Hsw
  iintro Hsw
  rw [← hs]
  ihave Hcn := (show (bigSep Finset.univ fun k : Fin 4 => counters k c) ⊢ (iprop(counters 0 c ∗ counters 1 c ∗ counters 2 c ∗ counters 3 c) : sProp 𝕄) from Entails.of_eq (four _)) $$ Hcn
  ihave Htok := (show (bigSep Finset.univ fun k : Fin 4 => tokens k c) ⊢ (iprop(tokens 0 c ∗ tokens 1 c ∗ tokens 2 c ∗ tokens 3 c) : sProp 𝕄) from Entails.of_eq (four _)) $$ Htok
  ihave #Hrdy4 := (show (bigSep Finset.univ fun k : Fin 4 => ready k c 0) ⊢ (iprop(ready 0 c 0 ∗ ready 1 c 0 ∗ ready 2 c 0 ∗ ready 3 c 0) : sProp 𝕄) from Entails.of_eq (four _)) $$ Hrdy
  ihave Hout := (Entails.of_eq (four fun k : Fin 4 => bigSep (Finset.Ico 0 32) fun j => holds c (chunkAt k c j) (part P k c j))) $$ Hout
  icases Hcn with ⟨Hn0, Hn1, Hn2, Hn3⟩
  icases Htok with ⟨Ht0, Ht1, Ht2, Ht3⟩
  icases Hrdy4 with ⟨#Hy0, #Hy1, #Hy2, #Hy3⟩
  icases Hout with ⟨Ho0, Ho1, Ho2, Ho3⟩
  have o0 : ringsDue c = (ringDue 1 c + (ringDue 2 c + ringDue 3 c)) + (rO 0 c 0 + cO 0 c 0) := by unfold ringsDue ringDue; ac_rfl
  have o1 : (ringDue 1 c + (ringDue 2 c + ringDue 3 c)) + debt 0 c 0 = (debt 0 c 0 + (ringDue 2 c + ringDue 3 c)) + (rO 1 c 0 + cO 1 c 0) := by unfold ringDue; ac_rfl
  have o2 : (debt 0 c 0 + (ringDue 2 c + ringDue 3 c)) + debt 1 c 0 = (debt 0 c 0 + (debt 1 c 0 + ringDue 3 c)) + (rO 2 c 0 + cO 2 c 0) := by unfold ringDue; ac_rfl
  have o3 : (debt 0 c 0 + (debt 1 c 0 + ringDue 3 c)) + debt 2 c 0 = (debt 0 c 0 + (debt 1 c 0 + debt 2 c 0)) + (rO 3 c 0 + cO 3 c 0) := by unfold ringDue; ac_rfl
  have o4 : (debt 0 c 0 + (debt 1 c 0 + debt 2 c 0)) + debt 3 c 0 = debts c (62 - 62) := by unfold debts; ac_rfl
  rw [o0, run_bind]
  iapply (begin_run P K I c 0 (ringDue 1 c + (ringDue 2 c + ringDue 3 c)))
  isplitr
  · iapply (kn 0); isplitr; · iexact HR
    isplitr; · iexact Hlev
    isplitr; · iexact Hp0
    iexact Hp1
  isplitr; · iexact Hy0
  isplitl [Hn0]; · iexact Hn0
  isplitl [Ht0]; · iexact Ht0
  isplitl [Ho0]; · iexact Ho0
  isplitl [HO]; · iexact HO
  iintro ⟨S0, HO⟩
  rw [o1, run_bind]
  iapply (begin_run P K I c 1 (debt 0 c 0 + (ringDue 2 c + ringDue 3 c)))
  isplitr
  · iapply (kn 1); isplitr; · iexact HR
    isplitr; · iexact Hlev
    isplitr; · iexact Hp0
    iexact Hp1
  isplitr; · iexact Hy1
  isplitl [Hn1]; · iexact Hn1
  isplitl [Ht1]; · iexact Ht1
  isplitl [Ho1]; · iexact Ho1
  isplitl [HO]; · iexact HO
  iintro ⟨S1, HO⟩
  rw [o2, run_bind]
  iapply (begin_run P K I c 2 (debt 0 c 0 + (debt 1 c 0 + ringDue 3 c)))
  isplitr
  · iapply (kn 2); isplitr; · iexact HR
    isplitr; · iexact Hlev
    isplitr; · iexact Hp0
    iexact Hp1
  isplitr; · iexact Hy2
  isplitl [Hn2]; · iexact Hn2
  isplitl [Ht2]; · iexact Ht2
  isplitl [Ho2]; · iexact Ho2
  isplitl [HO]; · iexact HO
  iintro ⟨S2, HO⟩
  rw [o3, run_bind]
  iapply (begin_run P K I c 3 (debt 0 c 0 + (debt 1 c 0 + debt 2 c 0)))
  isplitr
  · iapply (kn 3); isplitr; · iexact HR
    isplitr; · iexact Hlev
    isplitr; · iexact Hp0
    iexact Hp1
  isplitr; · iexact Hy3
  isplitl [Hn3]; · iexact Hn3
  isplitl [Ht3]; · iexact Ht3
  isplitl [Ho3]; · iexact Ho3
  isplitl [HO]; · iexact HO
  iintro ⟨S3, HO⟩
  rw [o4]
  rw [show rounds RR (Wc c (P.s c)) 62 = (rounds RR (Wc c (P.s c)) 62 >>= fun _ => (pure ⟨⟩ : Prog (TpuEff nD τ sig (Elt F) Λ₀ .tc) PUnit)) from (bind_pure _).symm, run_bind]
  iapply (rounds_run P K I c 62 (by omega))
  isplitr; · iexact Hkn
  isplitl [S0 S1 S2 S3]
  · unfold states
    isplitl [S0]; · iexact S0
    isplitl [S1]; · iexact S1
    isplitl [S2]; · iexact S2
    iexact S3
  isplitl [HO]; · iexact HO
  unfold states
  rw [debts_end]
  iintro ⟨⟨S0, S1, S2, S3⟩, HO⟩
  rw [run_pure]
  imod (ring_end P K I 0 c) $$ [S0] with ⟨Z0, L0, C0⟩
  · isplitr; · iexact HR
    iexact S0
  imod (ring_end P K I 1 c) $$ [S1] with ⟨Z1, L1, C1⟩
  · isplitr; · iexact HR
    iexact S1
  imod (ring_end P K I 2 c) $$ [S2] with ⟨Z2, L2, C2⟩
  · isplitr; · iexact HR
    iexact S2
  imod (ring_end P K I 3 c) $$ [S3] with ⟨Z3, L3, C3⟩
  · isplitr; · iexact HR
    iexact S3
  ihave #Hib := (recs_cell P K I (bar_mem c)) $$ HR
  imod (Rounds.cell_close ER (sched P) (g := barC c) (Set.mem_univ (K (barC c))) (fun h => h) (R := 1) (fun r hr => by rw [duties_bar, if_neg (by omega)])) $$ [Hat] with Zb
  · isplitr; · iexact Hib
    iexact Hat
  ihave Ho := (show iprop((bigSep (Finset.Ico 31 (31 + 32)) fun j => holds c (chunkAt 0 c j) (val P 0 j c)) ∗ (bigSep (Finset.Ico 31 (31 + 32)) fun j => holds c (chunkAt 1 c j) (val P 1 j c))
      ∗ (bigSep (Finset.Ico 31 (31 + 32)) fun j => holds c (chunkAt 2 c j) (val P 2 j c)) ∗ (bigSep (Finset.Ico 31 (31 + 32)) fun j => holds c (chunkAt 3 c j) (val P 3 j c)))
      ⊢ ((c : Thread nD τ).loc cc0_stg7_0 ↦{fullShare} Out P : sProp 𝕄) from
      (Entails.of_eq (four fun k : Fin 4 => bigSep (Finset.Ico 31 (31 + 32)) fun j => holds c (chunkAt k c j) (val P k j c)).symm).trans (out_join P c)) $$ [C0 C1 C2 C3]
  · isplitl [C0]; · iexact C0
    isplitl [C1]; · iexact C1
    isplitl [C2]; · iexact C2
    iexact C3
  imodintro
  iapply Hk
  isplitl [Z0 Z1 Z2 Z3 L0 L1 L2 L3 Zb]
  · iapply (after_intro c)
    isplitl [Z0 Z1 Z2 Z3]
    · isplitl [Z0]; · iexact Z0
      isplitl [Z1]; · iexact Z1
      isplitl [Z2]; · iexact Z2
      iexact Z3
    isplitl [L0 L1 L2 L3]
    · isplitl [L0]; · iexact L0
      isplitl [L1]; · iexact L1
      isplitl [L2]; · iexact L2
      iexact L3
    iexact Zb
  isplitl [Hx Hw Hsx Hsw Hp Hl Hr]
  · isplitl [Hx]; · iexact Hx
    isplitl [Hw]; · iexact Hw
    isplitl [Hsx]; · iexact Hsx
    isplitl [Hsw]; · iexact Hsw
    isplitl [Hp]; · iexact Hp
    isplitl [Hl]; · iexact Hl
    iexact Hr
  isplitl [Ho]; · iexact Ho
  iexact HO

/-- The whole body of the kernel on device `c`. -/
theorem body_run (c : Dev nD) (x : S4096x128.Idx → Elt F .i8) (w : S128x2048.Idx → Elt F .i8) (sx sw : S1.Idx → Elt F .f32) (p l r : S1.Idx → Elt F .i32)
    (sx₀ sw₀ : F .f32) (hX : P.X c = prodV x w) (hsx : ∀ i, sx i = sx₀) (hsw : ∀ i, sw i = sw₀) (hs : P.s c = Scalar.mulf sx₀ sw₀)
    (hp : ∀ i, p i = posW c) (hl : ∀ i, l i = lftW c) (hr : ∀ i, r i = rgtW c)
    (o : S4096x2048.Idx → Elt F .f32) (Kt : PUnit → sProp 𝕄) :
    iprop(before P K I c ∗ inputs c x w sx sw p l r ∗ ((c : Thread nD τ).loc cc0_stg7_0 ↦{fullShare} o) ∗ owing c (due c)
        ∗ ((after c ∗ inputs c x w sx sw p l r ∗ ((c : Thread nD τ).loc cc0_stg7_0 ↦{fullShare} Out P) ∗ owing c 0) -∗ Kt ⟨⟩))
      ⊢ run c (body (Memref.whole cc0_stg0_0) (Memref.whole cc0_stg1_0) (Memref.whole cc0_stg2_0) (Memref.whole cc0_stg3_0)
          (Memref.whole cc0_stg4_0) (Memref.whole cc0_stg5_0) (Memref.whole cc0_stg6_0) RR) Kt := by
  unfold body
  iintro ⟨Hb, Hin, Hout, HO, Hk⟩
  ihave Hin := (show inputs c x w sx sw p l r ⊢ (iprop(((c : Thread nD τ).loc cc0_stg0_0 ↦{fullShare} x) ∗ ((c : Thread nD τ).loc cc0_stg1_0 ↦{fullShare} w)
    ∗ ((c : Thread nD τ).loc cc0_stg2_0 ↦{fullShare} sx) ∗ ((c : Thread nD τ).loc cc0_stg3_0 ↦{fullShare} sw)
    ∗ ((c : Thread nD τ).loc cc0_stg4_0 ↦{fullShare} p) ∗ ((c : Thread nD τ).loc cc0_stg5_0 ↦{fullShare} l) ∗ ((c : Thread nD τ).loc cc0_stg6_0 ↦{fullShare} r)) : sProp 𝕄) from Entails.rfl) $$ Hin
  icases Hin with ⟨Hx, Hw, Hsx, Hsw, Hp, Hl, Hr⟩
  iapply (word_run c (Memref.whole cc0_stg4_0 : Memref sig .tc .smem S1 .i32) rfl p (posW c) hp)
  isplitl [Hp]; · iexact Hp
  iintro Hp
  simp only [Prog.lift, Prog.bind_op, Prog.bind_ret]
  iapply (wp_assume 𝒱₀ (c : Thread nD τ) none Set.univ (chk3 c))
  iapply (word_run c (Memref.whole cc0_stg5_0 : Memref sig .tc .smem S1 .i32) rfl l (lftW c) hl)
  isplitl [Hl]; · iexact Hl
  iintro Hl
  iapply (wp_assume 𝒱₀ (c : Thread nD τ) none Set.univ (chk1 c))
  iapply (word_run c (Memref.whole cc0_stg6_0 : Memref sig .tc .smem S1 .i32) rfl r (rgtW c) hr)
  isplitl [Hr]; · iexact Hr
  iintro Hr
  iapply (wp_assume 𝒱₀ (c : Thread nD τ) none Set.univ (chk2 c))
  iapply (after_run P K I c x w sx sw p l r sx₀ sw₀ hX hsx hsw hs o Kt)
  isplitl [Hb]; · iexact Hb
  isplitr [Hout HO Hk]
  · unfold inputs
    isplitl [Hx]; · iexact Hx
    isplitl [Hw]; · iexact Hw
    isplitl [Hsx]; · iexact Hsx
    isplitl [Hsw]; · iexact Hsw
    isplitl [Hp]; · iexact Hp
    isplitl [Hl]; · iexact Hl
    iexact Hr
  isplitl [Hout]; · iexact Hout
  isplitl [HO]; · iexact HO
  iexact Hk

end Cert.KernelIdeal.Own

end
-- ==== Proof.KernelIdealDeal.lean ====
module

public import proofs.«01_k».proof.Proof.KernelIdealBody
public import Idealize.ShloMosaic.Lib.Ring

/-! # Dealing the launch's tokens

The launch makes every token of the protocol at once, over the whole machine. Here they are enumerated and dealt: each device
gets the duty tokens of the signals and transfers it performs, the write tokens of the landing places it writes, the counts of its
own landing places, and the credits of the waits it will make. -/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Facts₀ Cert.KernelIdeal.Facts Cert.KernelIdeal.Gen

variable {F : FTy → Type} [FloatOps F]

local notation "𝕄" => MT nD τ sig ℕ (Elt F) ℕ UU ℕ

/-! ## Enumerating the tokens -/

/-- The tokens: two per barrier counter; per ring of a device, one per transfer's start, one per arrival, one per credit. -/
abbrev TokIx := (Dev nD × Fin 2) ⊕ ((Dev nD × Fin 4) × (Fin 62 ⊕ (Fin 62 ⊕ Fin 60)))

/-- The token of an index: the counter, the round and the duty. -/
def tokOf : TokIx → GSem nD τ sig × ℕ × ℕ
  | .inl (c, i) => (barC c, 0, i.val)
  | .inr (x, .inl j) => (sndC x.2 x.1 j.val, j.val / 2, 0)
  | .inr (x, .inr (.inl j)) => (rcvC x.2 x.1 j.val, j.val / 2, 0)
  | .inr (x, .inr (.inr j)) => (crdC x.2 x.1, 0, j.val)

/-- A token's device, kind of counter, round and duty. -/
def tokCode (t : GSem nD τ sig × ℕ × ℕ) : Dev nD × Kd × ℕ × ℕ := (t.1.1.1, kd t.1.2, t.2.1, t.2.2)

theorem code_bar (c : Dev nD) (i : Fin 2) : tokCode (tokOf (.inl (c, i))) = (c, .bar, 0, i.val) := by
  unfold tokCode tokOf; dsimp only; rw [kd_bar]
theorem code_snd (x : Dev nD × Fin 4) (j : Fin 62) : tokCode (tokOf (.inr (x, .inl j))) = (x.1, .snd x.2 (par j.val), j.val / 2, 0) := by
  unfold tokCode tokOf; dsimp only; rw [kd_snd]
theorem code_rcv (x : Dev nD × Fin 4) (j : Fin 62) :
    tokCode (tokOf (.inr (x, .inr (.inl j)))) = (x.1, .rcv x.2 (par (j.val + 1)), j.val / 2, 0) := by
  unfold tokCode tokOf; dsimp only; rw [kd_rcv]
theorem code_crd (x : Dev nD × Fin 4) (j : Fin 60) : tokCode (tokOf (.inr (x, .inr (.inr j)))) = (x.1, .crd x.2, 0, j.val) := by
  unfold tokCode tokOf; dsimp only; rw [kd_crd]

theorem par_half {i j : ℕ} (h : par i = par j) (h' : i / 2 = j / 2) : i = j := by
  have := congrArg Fin.val h
  change i % 2 = j % 2 at this
  omega
theorem par_succ_half {i j : ℕ} (h : par (i + 1) = par (j + 1)) (h' : i / 2 = j / 2) : i = j := by
  have := congrArg Fin.val h
  change (i + 1) % 2 = (j + 1) % 2 at this
  omega

/-- Distinct indices name distinct tokens. -/
theorem tokOf_inj : Function.Injective tokOf := by
  intro a b h
  have h := congrArg tokCode h
  rcases a with ⟨c, i⟩ | ⟨⟨c, k⟩, i | i | i⟩ <;> rcases b with ⟨c', j⟩ | ⟨⟨c', k'⟩, j | j | j⟩ <;>
    simp only [code_bar, code_snd, code_rcv, code_crd, Prod.mk.injEq, Kd.snd.injEq, Kd.rcv.injEq, Kd.crd.injEq, reduceCtorEq,
      false_and, and_false, true_and, and_true] at h
  · obtain ⟨rfl, e⟩ := h; rw [Fin.ext e]
  · obtain ⟨rfl, ⟨rfl, e⟩, e'⟩ := h; rw [Fin.ext (par_half e e')]
  · obtain ⟨rfl, ⟨rfl, e⟩, e'⟩ := h; rw [Fin.ext (par_succ_half e e')]
  · obtain ⟨rfl, rfl, e⟩ := h; rw [Fin.ext e]

/-- All the tokens. -/
def toks : Finset (GSem nD τ sig × ℕ × ℕ) := Finset.univ.map ⟨tokOf, tokOf_inj⟩

/-- The two barrier tokens, and the rings' tokens, apart. -/
theorem toks_split : (bigSep toks fun x => (dutyTok ER x.1 x.2.1 x.2.2 : sProp 𝕄))
    = iprop((bigSep Finset.univ fun x : Dev nD × Fin 2 => dutyTok ER (barC x.1) 0 x.2.val)
      ∗ (bigSep Finset.univ fun x : Dev nD × Fin 4 => bigSep (Finset.Ico 0 62) fun j => dutyTok ER (sndC x.2 x.1 j) (j / 2) 0)
      ∗ (bigSep Finset.univ fun x : Dev nD × Fin 4 => bigSep (Finset.Ico 0 62) fun j => dutyTok ER (rcvC x.2 x.1 j) (j / 2) 0)
      ∗ (bigSep Finset.univ fun x : Dev nD × Fin 4 => bigSep (Finset.Ico 0 60) fun j => dutyTok ER (crdC x.2 x.1) 0 j)) := by
  unfold toks
  rw [bigSep_map, bigSep_univ_sum, bigSep_univ_prod (α := Dev nD × Fin 4) (β := Fin 62 ⊕ (Fin 62 ⊕ Fin 60))]
  have e (x : Dev nD × Fin 4) : (bigSep Finset.univ fun b : Fin 62 ⊕ (Fin 62 ⊕ Fin 60) =>
      (dutyTok ER (tokOf (.inr (x, b))).1 (tokOf (.inr (x, b))).2.1 (tokOf (.inr (x, b))).2.2 : sProp 𝕄))
      = iprop((bigSep (Finset.Ico 0 62) fun j => dutyTok ER (sndC x.2 x.1 j) (j / 2) 0)
        ∗ (bigSep (Finset.Ico 0 62) fun j => dutyTok ER (rcvC x.2 x.1 j) (j / 2) 0)
        ∗ (bigSep (Finset.Ico 0 60) fun j => dutyTok ER (crdC x.2 x.1) 0 j)) := by
    rw [bigSep_univ_sum, bigSep_univ_sum,
      Ring.bigSep_fin_eq_range 62 _ (fun j => (dutyTok ER (sndC x.2 x.1 j) (j / 2) 0 : sProp 𝕄)) (fun _ _ => rfl),
      Ring.bigSep_fin_eq_range 62 _ (fun j => (dutyTok ER (rcvC x.2 x.1 j) (j / 2) 0 : sProp 𝕄)) (fun _ _ => rfl),
      Ring.bigSep_fin_eq_range 60 _ (fun j => (dutyTok ER (crdC x.2 x.1) 0 j : sProp 𝕄)) (fun _ _ => rfl),
      Finset.range_eq_Ico]
    rfl
  have e' := congrArg (bigSep (Finset.univ : Finset (Dev nD × Fin 4))) (funext e)
  rw [bigSep_sep', bigSep_sep'] at e'
  exact congrArg₂ BI.sep rfl e'

/-! ## Rotating a ring -/

/-- One place down every ring. -/
def turn : (Dev nD × Fin 4) ≃ (Dev nD × Fin 4) where
  toFun x := (nxt x.2 x.1, x.2)
  invFun x := (prv x.2 x.1, x.2)
  left_inv x := Prod.ext (prv_nxt x.2 x.1) rfl
  right_inv x := Prod.ext (nxt_prv x.2 x.1) rfl
/-- Each device's right neighbour. -/
def turnR : Dev nD ≃ Dev nD where
  toFun := rgt
  invFun := lft
  left_inv := lft_rgt
  right_inv := rgt_lft

/-- What a device gets of a ring. -/
def dealt (x : Dev nD × Fin 4) : sProp 𝕄 := iprop(toSend x.2 x.1 0 ∗ toGrant x.2 x.1 0 ∗ readers x.2 x.1)

theorem keys_eq : keys = (Finset.univ : Finset ((Dev nD × Fin 4) × Fin 62)).map
    ⟨fun x : (Dev nD × Fin 4) × Fin 62 => ((x.1, x.2.val) : Key), fun a b h => Prod.ext (congrArg (fun y : Key => y.1) h) (Fin.ext (congrArg (fun y : Key => y.2) h))⟩ := by
  ext ⟨x, i⟩
  unfold keys
  simp only [Finset.mem_product, Finset.mem_univ, true_and, Finset.mem_range, Finset.mem_map, Function.Embedding.coeFn_mk]
  constructor
  · intro h; exact ⟨(x, ⟨i, h⟩), rfl⟩
  · rintro ⟨⟨y, j⟩, h⟩
    have e : j.val = i := congrArg (fun y : Key => y.2) h
    omega

/-- A product over the keys, ring by ring. -/
theorem keys_split (Φ : Key → sProp 𝕄) :
    bigSep keys Φ = bigSep Finset.univ fun x : Dev nD × Fin 4 => bigSep (Finset.Ico 0 62) fun j => Φ (x, j) := by
  rw [keys_eq, bigSep_map, bigSep_univ_prod]
  refine congrArg (bigSep Finset.univ) (funext fun x => ?_)
  rw [← Finset.range_eq_Ico]
  exact Ring.bigSep_fin_eq_range 62 _ (fun j => Φ (x, j)) (fun _ _ => rfl)

theorem sep_assoc_eq (A B C : sProp 𝕄) : iprop((A ∗ B) ∗ C) = iprop(A ∗ B ∗ C) := BI.sep_assoc.antisymm BI.sep_assoc'

/-- The first two of a run, and the rest renumbered. -/
theorem first_two (Φ : ℕ → sProp 𝕄) :
    bigSep (Finset.Ico 0 62) Φ = iprop((Φ 0 ∗ Φ 1) ∗ bigSep (Finset.Ico 0 60) fun j => Φ (j + 2)) := by
  let f : ℕ ↪ ℕ := ⟨fun j => j + 2, fun a b h => Nat.add_right_cancel h⟩
  have hm (i : ℕ) : i ∈ (Finset.Ico 0 60).map f ↔ 2 ≤ i ∧ i < 62 := by
    rw [Finset.mem_map]
    constructor
    · rintro ⟨j, hj, rfl⟩; rw [Finset.mem_Ico] at hj; change 2 ≤ j + 2 ∧ j + 2 < 62; omega
    · intro h; exact ⟨i - 2, by rw [Finset.mem_Ico]; omega, by change i - 2 + 2 = i; omega⟩
  have e : Finset.Ico 0 62 = insert 0 (insert 1 ((Finset.Ico 0 60).map f)) := by
    ext i; rw [Finset.mem_insert, Finset.mem_insert, hm, Finset.mem_Ico]; omega
  rw [e, bigSep_insert (by rw [Finset.mem_insert, hm]; omega), bigSep_insert (by rw [hm]; omega), bigSep_map]
  exact (sep_assoc_eq _ _ _).symm

/-- The tokens and the slots' counts, dealt ring by ring. -/
theorem deal_rings :
    iprop((bigSep Finset.univ fun x : Dev nD × Fin 4 => bigSep (Finset.Ico 0 62) fun j => dutyTok ER (sndC x.2 x.1 j) (j / 2) 0)
      ∗ (bigSep Finset.univ fun x : Dev nD × Fin 4 => bigSep (Finset.Ico 0 62) fun j => dutyTok ER (rcvC x.2 x.1 j) (j / 2) 0)
      ∗ (bigSep Finset.univ fun x : Dev nD × Fin 4 => bigSep (Finset.Ico 0 60) fun j => dutyTok ER (crdC x.2 x.1) 0 j)
      ∗ (bigSep keys fun x => readerAt ES x 0) ∗ bigSep (keys ×ˢ Finset.range 1) fun x => writeTok ES x.1 (x.2 + 1))
    ⊢ (bigSep Finset.univ fun x : Dev nD × Fin 4 => dealt x : sProp 𝕄) := by
  have hw : (bigSep (keys ×ˢ Finset.range 1) fun x => (writeTok ES x.1 (x.2 + 1) : sProp 𝕄))
      = bigSep Finset.univ fun x : Dev nD × Fin 4 => bigSep (Finset.Ico 0 62) fun j => writeTok ES ((nxt x.2 x.1, x.2), j) 1 := by
    rw [Finset.range_one, Finset.product_singleton, bigSep_map]
    dsimp only [Function.Embedding.coeFn_mk]
    rw [keys_split (fun x => (writeTok ES x (0 + 1) : sProp 𝕄)), bigSep_univ_equiv turn]
    rfl
  have hr : (bigSep Finset.univ fun x : Dev nD × Fin 4 => bigSep (Finset.Ico 0 62) fun j => (dutyTok ER (rcvC x.2 x.1 j) (j / 2) 0 : sProp 𝕄))
      = bigSep Finset.univ fun x : Dev nD × Fin 4 => bigSep (Finset.Ico 0 62) fun j => dutyTok ER (rcvC x.2 (nxt x.2 x.1) j) (j / 2) 0 := by
    rw [bigSep_univ_equiv turn]; rfl
  have hc : (bigSep Finset.univ fun x : Dev nD × Fin 4 => bigSep (Finset.Ico 0 60) fun j => (dutyTok ER (crdC x.2 x.1) 0 j : sProp 𝕄))
      = bigSep Finset.univ fun x : Dev nD × Fin 4 => bigSep (Finset.Ico 0 60) fun j => dutyTok ER (crdC x.2 (prv x.2 x.1)) 0 j := by
    rw [bigSep_univ_equiv turn.symm]; rfl
  have hk : (bigSep keys fun x => (readerAt ES x 0 : sProp 𝕄)) = bigSep Finset.univ fun x : Dev nD × Fin 4 =>
      iprop(readers x.2 x.1 ∗ bigSep (Finset.Ico 0 60) fun j => readerAt ES ((x.1, x.2), j + 2) 0) := by
    rw [keys_split]
    exact congrArg (bigSep Finset.univ) (funext fun x => first_two _)
  rw [hw, hr, hc, hk, ← bigSep_sep', ← bigSep_sep', ← bigSep_sep', ← bigSep_sep']
  refine bigSep_mono fun x _ => ?_
  have key : iprop((bigSep (Finset.Ico 0 62) fun j => dutyTok ER (sndC x.2 x.1 j) (j / 2) 0)
      ∗ (bigSep (Finset.Ico 0 62) fun j => dutyTok ER (rcvC x.2 (nxt x.2 x.1) j) (j / 2) 0)
      ∗ (bigSep (Finset.Ico 0 60) fun j => dutyTok ER (crdC x.2 (prv x.2 x.1)) 0 j)
      ∗ (readers x.2 x.1 ∗ bigSep (Finset.Ico 0 60) fun j => readerAt ES ((x.1, x.2), j + 2) 0)
      ∗ (bigSep (Finset.Ico 0 62) fun j => writeTok ES ((nxt x.2 x.1, x.2), j) 1)) ⊢ (dealt x : sProp 𝕄) := by
    unfold dealt toSend toGrant
    rw [bigSep_sep', bigSep_sep', bigSep_sep']
    iintro ⟨HS, HR, HC, ⟨Hrd, Hrs⟩, HW⟩
    isplitl [HS HR HW]
    · isplitl [HS]; · iexact HS
      isplitl [HR]; · iexact HR
      iexact HW
    isplitl [HC Hrs]
    · isplitl [HC]; · iexact HC
      iexact Hrs
    iexact Hrd
  exact key

/-! ## The barrier's tokens -/

/-- What a device gets of the barrier. -/
def dealtBar (c : Dev nD) : sProp 𝕄 :=
  iprop(atPos ER (barC c) 0 ∅ 0 ∗ (dutyTok ER (barC (lft c)) 0 1 ∗ dutyTok ER (barC (rgt c)) 0 0)
    ∗ reached ER (barC (lft c)) 0 ∗ reached ER (barC (rgt c)) 0)

theorem barC_inj : Function.Injective barC := fun a b h => congrArg (fun g : GSem nD τ sig => g.1.1) h

/-- A product over the barrier counters, device by device. -/
theorem bars_split (Φ : GSem nD τ sig → sProp 𝕄) : bigSep barCells Φ = bigSep Finset.univ fun c : Dev nD => Φ (barC c) := by
  unfold barCells; exact bigSep_image_of_injOn (barC_inj.injOn) _

theorem deal_bar :
    iprop((bigSep barCells fun g => reached ER g 0) ∗ (bigSep barCells fun g => atPos ER g 0 ∅ 0)
      ∗ (bigSep Finset.univ fun x : Dev nD × Fin 2 => dutyTok ER (barC x.1) 0 x.2.val))
    ⊢ (bigSep Finset.univ fun c : Dev nD => dealtBar c : sProp 𝕄) := by
  have hl (Φ : Dev nD → sProp 𝕄) : bigSep Finset.univ Φ = bigSep Finset.univ fun c => Φ (lft c) := bigSep_univ_equiv turnR.symm _
  have hr (Φ : Dev nD → sProp 𝕄) : bigSep Finset.univ Φ = bigSep Finset.univ fun c => Φ (rgt c) := bigSep_univ_equiv turnR _
  have hd : (bigSep Finset.univ fun x : Dev nD × Fin 2 => (dutyTok ER (barC x.1) 0 x.2.val : sProp 𝕄))
      = iprop((bigSep Finset.univ fun c : Dev nD => dutyTok ER (barC (rgt c)) 0 0) ∗ bigSep Finset.univ fun c : Dev nD => dutyTok ER (barC (lft c)) 0 1) := by
    rw [bigSep_univ_prod, ← hl (fun c => (dutyTok ER (barC c) 0 1 : sProp 𝕄)), ← hr (fun c => (dutyTok ER (barC c) 0 0 : sProp 𝕄)), ← bigSep_sep']
    exact congrArg (bigSep Finset.univ) (funext fun c => bigSep_fin_two _)
  rw [hd, bars_split, bars_split]
  have hg : (bigSep Finset.univ fun c : Dev nD => dealtBar c : sProp 𝕄)
      = iprop((bigSep Finset.univ fun c : Dev nD => atPos ER (barC c) 0 ∅ 0)
        ∗ ((bigSep Finset.univ fun c : Dev nD => dutyTok ER (barC (lft c)) 0 1) ∗ bigSep Finset.univ fun c : Dev nD => dutyTok ER (barC (rgt c)) 0 0)
        ∗ (bigSep Finset.univ fun c : Dev nD => reached ER (barC (lft c)) 0) ∗ bigSep Finset.univ fun c : Dev nD => reached ER (barC (rgt c)) 0) := by
    unfold dealtBar
    rw [bigSep_sep', bigSep_sep', bigSep_sep', bigSep_sep']
  have hrl : (bigSep Finset.univ fun c : Dev nD => (reached ER (barC c) 0 : sProp 𝕄)) ⊢ bigSep Finset.univ fun c : Dev nD => reached ER (barC (lft c)) 0 :=
    Entails.of_eq (hl _)
  have hrr : (bigSep Finset.univ fun c : Dev nD => (reached ER (barC c) 0 : sProp 𝕄)) ⊢ bigSep Finset.univ fun c : Dev nD => reached ER (barC (rgt c)) 0 :=
    Entails.of_eq (hr _)
  rw [hg]
  iintro ⟨#HR, HA, HD0, HD1⟩
  isplitl [HA]; · iexact HA
  isplitl [HD0 HD1]
  · isplitl [HD1]; · iexact HD1
    iexact HD0
  isplitl []
  · iapply hrl; iexact HR
  iapply hrr; iexact HR

/-! ## The counters opened at the kernel's start -/

theorem own_inj : Function.Injective (fun x : Dev nD × (Fin 4 × Fin 5) => (((x.1 : Thread nD τ), osem x.2) : GSem nD τ sig)) := fun a b h =>
  Prod.ext (congrArg (fun g : GSem nD τ sig => g.1.1) h) (osem_inj (congrArg (fun g : GSem nD τ sig => g.2) h))

theorem own_split (Φ : GSem nD τ sig → sProp 𝕄) : bigSep ownCells Φ
    = bigSep Finset.univ fun c : Dev nD => bigSep Finset.univ fun k : Fin 4 => bigSep Finset.univ fun i : Fin 5 => Φ ((c : Thread nD τ), osem (k, i)) := by
  unfold ownCells
  rw [bigSep_image_of_injOn own_inj.injOn, bigSep_univ_prod]
  exact congrArg (bigSep Finset.univ) (funext fun c => bigSep_univ_prod _)

theorem cells_disjoint : Disjoint barCells ownCells := by
  rw [Finset.disjoint_left]
  intro g h h'
  obtain ⟨c, -, rfl⟩ := Finset.mem_image.mp h
  obtain ⟨⟨d, x⟩, -, e⟩ := Finset.mem_image.mp h'
  have hne : ∀ x, osem x ≠ (.reg barS : SemLoc sig) := by decide
  exact hne x (congrArg (fun g : GSem nD τ sig => g.2) e)

/-- What a device gets at the launch. -/
def share (c : Dev nD) : sProp 𝕄 :=
  iprop((bigSep Finset.univ fun k : Fin 4 => bigSep Finset.univ fun i : Fin 5 => openTok ER ((c : Thread nD τ), osem (k, i)))
    ∗ (bigSep Finset.univ fun k : Fin 4 => dealt (c, k)) ∗ dealtBar c)

variable (P : Par F)

/-- The shares together. -/
theorem shares_eq : (bigSep Finset.univ fun c : Dev nD => share c : sProp 𝕄)
    = iprop((bigSep ownCells fun g => openTok ER g) ∗ (bigSep Finset.univ fun x : Dev nD × Fin 4 => dealt x) ∗ bigSep Finset.univ fun c : Dev nD => dealtBar c) := by
  rw [own_split, bigSep_univ_prod (α := Dev nD) (β := Fin 4)]
  unfold share
  rw [bigSep_sep', bigSep_sep']

theorem not_unitless (g : GSem nD τ sig) : ¬(sched P).unitless g := fun h => h

/-- The counters' invariants, and what comes with them. -/
theorem init_cells :
    iprop((bigSep barCells fun g => (semVal g 0 : sProp 𝕄)) ∗ BI.own (ER (launchOf barCells ownCells toks)))
    ⊢ (|={Set.univ}=> ∃ κ : GSem nD τ sig → ℕ, ⌜Set.InjOn κ (barCells ∪ ownCells : Finset (GSem nD τ sig)) ∧ ∀ g ∈ barCells ∪ ownCells, κ g ∉ (∅ : Finset ℕ)⌝
      ∗ bigSep (barCells ∪ ownCells) (fun g => cellInv ER (sched P) (κ g) g)
      ∗ bigSep barCells (fun g => reached ER g 0) ∗ bigSep barCells (fun g => atPos ER g 0 ∅ 0)
      ∗ bigSep ownCells (fun g => openTok ER g) ∗ bigSep toks (fun x => dutyTok ER x.1 x.2.1 x.2.2) : sProp 𝕄) :=
  fund_launch ER (sched P) cells_disjoint (fun g _ => not_unitless P g) toks

/-- The slots' invariants, and what comes with them. -/
theorem init_slots : BI.own (ES (initSlots keys 1))
    ⊢ (|={Set.univ}=> ∃ ιs : Key → ℕ, ⌜Set.InjOn ιs keys ∧ ∀ k ∈ keys, ιs k ∉ (∅ : Finset ℕ)⌝
      ∗ bigSep keys (fun k => slotInv ES (ιs k) k (place k)) ∗ bigSep keys (fun k => readerAt ES k 0)
      ∗ bigSep (keys ×ˢ Finset.range 1) (fun x => writeTok ES x.1 (x.2 + 1)) : sProp 𝕄) :=
  slots_init ES keys 1 place

/-- Two updates, and what follows from both. -/
theorem two_updates {A B X Y Z : sProp 𝕄} (hA : A ⊢ |={Set.univ}=> X) (hB : B ⊢ |={Set.univ}=> Y) (h : iprop(X ∗ Y) ⊢ Z) :
    iprop(A ∗ B) ⊢ |={Set.univ}=> Z := by
  iintro ⟨HA, HB⟩
  imod hA $$ HA with HX
  imod hB $$ HB with HY
  imodintro
  iapply h
  isplitl [HX]; · iexact HX
  iexact HY

/-- Gather what the two updates made: the invariants, the rights to open, the rings' dealings and the barrier's. -/
theorem gather {κ ι : Type} {p : κ → Prop} {q : ι → Prop} {C : κ → sProp 𝕄} {S : ι → sProp 𝕄} {Z : κ → ι → sProp 𝕄}
    {R A O D B T₁ T₂ T₃ N W Y₁ Y₂ : sProp 𝕄} (hZ : ∀ K I, iprop(C K ∗ S I) ⊢ Z K I) (hD : D ⊢ iprop(B ∗ T₁ ∗ T₂ ∗ T₃))
    (h₁ : iprop(T₁ ∗ T₂ ∗ T₃ ∗ N ∗ W) ⊢ Y₁) (h₂ : iprop(R ∗ A ∗ B) ⊢ Y₂) :
    iprop((∃ K, ⌜p K⌝ ∗ C K ∗ R ∗ A ∗ O ∗ D) ∗ (∃ I, ⌜q I⌝ ∗ S I ∗ N ∗ W)) ⊢ iprop(∃ K I, Z K I ∗ O ∗ Y₁ ∗ Y₂) := by
  iintro ⟨⟨%K, -, HC, HR, HA, HO, HD⟩, ⟨%I, -, HS, HN, HW⟩⟩
  ihave HD := hD $$ HD
  icases HD with ⟨HB, H1, H2, H3⟩
  iexists K, I
  isplitl [HC HS]
  · iapply hZ
    isplitl [HC]; · iexact HC
    iexact HS
  isplitl [HO]; · iexact HO
  isplitl [H1 H2 H3 HN HW]
  · iapply h₁
    isplitl [H1]; · iexact H1
    isplitl [H2]; · iexact H2
    isplitl [H3]; · iexact H3
    isplitl [HN]; · iexact HN
    iexact HW
  iapply h₂
  isplitl [HR]; · iexact HR
  isplitl [HA]; · iexact HA
  iexact HB

theorem recs_intro (K : GSem nD τ sig → ℕ) (I : Key → ℕ) :
    iprop((bigSep (barCells ∪ ownCells) fun g => cellInv ER (sched P) (K g) g) ∗ bigSep keys fun x => slotInv ES (I x) x (place x)) ⊢ (recs P K I : sProp 𝕄) := by
  unfold recs; exact .rfl

/-- The launch: from the barrier counters at zero and the launch's elements, every invariant and every device's share. -/
theorem deal :
    iprop(((bigSep barCells fun g => semVal g 0) ∗ BI.own (ER (launchOf barCells ownCells toks))) ∗ BI.own (ES (initSlots keys 1)))
    ⊢ (|={Set.univ}=> ∃ K I, recs P K I ∗ bigSep Finset.univ fun c : Dev nD => share c : sProp 𝕄) := by
  rw [shares_eq]
  exact two_updates (init_cells P) init_slots (gather (recs_intro P) (Entails.of_eq toks_split) deal_rings deal_bar)

/-! ## The credits -/

/-- The credits of every wait a device makes, from what the others owe it. -/
theorem launch_credits (c : Dev nD) : Pipeline.launchCred due c
    ⊢ (iprop((bigSep Finset.univ fun k : Fin 4 => iprop(toRecv k c 0 ∗ toTake k c 0)) ∗ cred (tallyAt (barC c) 0 2)) : sProp 𝕄) := by
  have hr (k : Fin 4) : (Pipeline.launchCred (fun d => rO k d 0) c : sProp 𝕄) ⊢ toRecv k c 0 := by
    unfold rO toRecv
    rw [Pipeline.launchCred_sum]
    exact bigSep_mono fun j _ => Pipeline.launchCred_tallyAt (.dma (rcvS k (par (j + 1)))) (nxt k) (prv k) (nxt_prv k) (prv_nxt k) j N c
  have hc (k : Fin 4) : (Pipeline.launchCred (fun d => cO k d 0) c : sProp 𝕄) ⊢ toTake k c 0 := by
    unfold cO toTake
    rw [Pipeline.launchCred_sum]
    exact bigSep_mono fun j _ => Pipeline.launchCred_tallyAt (.reg (crdS k)) (prv k) (nxt k) (prv_nxt k) (nxt_prv k) j 1 c
  have hk (k : Fin 4) : (Pipeline.launchCred (ringDue k) c : sProp 𝕄) ⊢ iprop(toRecv k c 0 ∗ toTake k c 0) := by
    have e : (Pipeline.launchCred (ringDue k) c : sProp 𝕄) = BI.sep (Pipeline.launchCred (fun d => rO k d 0) c) (Pipeline.launchCred (fun d => cO k d 0) c) :=
      Pipeline.launchCred_add (fun d => rO k d 0) (fun d => cO k d 0) c
    rw [e]; exact BI.sep_mono (hr k) (hc k)
  have hb1 : (Pipeline.launchCred (fun d => tallyAt (barC (rgt d)) 0 1) c : sProp 𝕄) ⊢ cred (tallyAt (barC c) 0 1) :=
    Pipeline.launchCred_tallyAt (.reg barS) rgt lft rgt_lft lft_rgt 0 1 c
  have hb2 : (Pipeline.launchCred (fun d => tallyAt (barC (lft d)) 0 1) c : sProp 𝕄) ⊢ cred (tallyAt (barC c) 0 1) :=
    Pipeline.launchCred_tallyAt (.reg barS) lft rgt lft_rgt rgt_lft 0 1 c
  have e : (Pipeline.launchCred due c : sProp 𝕄)
      = iprop(((Pipeline.launchCred (ringDue 0) c ∗ Pipeline.launchCred (ringDue 1) c ∗ Pipeline.launchCred (ringDue 2) c ∗ Pipeline.launchCred (ringDue 3) c)
        ∗ Pipeline.launchCred (fun d => tallyAt (barC (rgt d)) 0 1) c) ∗ Pipeline.launchCred (fun d => tallyAt (barC (lft d)) 0 1) c) := by
    have e1 : (due : Dev nD → _) = fun d => (fun d => (fun d => ringDue 0 d + (fun d => ringDue 1 d + (fun d => ringDue 2 d + ringDue 3 d) d) d) d
      + tallyAt (barC (rgt d)) 0 1) d + tallyAt (barC (lft d)) 0 1 := rfl
    rw [e1, Pipeline.launchCred_add, Pipeline.launchCred_add, Pipeline.launchCred_add, Pipeline.launchCred_add, Pipeline.launchCred_add]
  have h2 : iprop(cred (tallyAt (barC c) 0 1) ∗ cred (tallyAt (barC c) 0 1)) ⊢ (cred (tallyAt (barC c) 0 2) : sProp 𝕄) := by
    have := (cred_add (Val := Elt F) (Name := ℕ) (U := UU) (Lvl := ℕ) (tallyAt (barC c) 0 1) (tallyAt (barC c) 0 1)).2
    rwa [tallyAt_add] at this
  rw [e]
  iintro ⟨⟨⟨H0, H1, H2, H3⟩, Hb1⟩, Hb2⟩
  isplitl [H0 H1 H2 H3]
  · have e4 := Entails.of_eq (four fun k => iprop(toRecv k c 0 ∗ toTake k c 0) : _ = (_ : sProp 𝕄)).symm
    iapply e4
    isplitl [H0]; · iapply (hk 0); iexact H0
    isplitl [H1]; · iapply (hk 1); iexact H1
    isplitl [H2]; · iapply (hk 2); iexact H2
    iapply (hk 3); iexact H3
  iapply h2
  isplitl [Hb1]; · iapply hb1; iexact Hb1
  iapply hb2; iexact Hb2

end Cert.KernelIdeal.Own

end
-- ==== Proof.KernelIdealWords.lean ====
module

public import proofs.«01_k».proof.Proof.KernelIdealDeal
public import proofs.«01_k».proof.Proof.Gen.KernelIdeal.Regions
public import Idealize.ShloMosaic.Lib.StableHlo.Run
public import Idealize.ShloMosaic.Lib.StableHlo.RunRead
public import Idealize.ShloMosaic.Lib.Pointwise.ShapeOpsCore

/-! # The words the host hands the kernel

Before the call the host computes, from the device's number, its position in the ring and its two neighbours. -/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Facts₀ Cert.KernelIdeal.Facts Cert.KernelIdeal.Gen

variable {F : FTy → Type} [FloatOps F]

variable (m : (ℓ : Loc nD τ sig) → Buf (Elt F) ℓ)

/-- The index of a table of 32 at a number. -/
def ixAt (n : Fin 32) : S32.Idx := fun a => ⟨n.val, by
  obtain rfl : a = 0 := Subsingleton.elim _ _
  exact n.isLt⟩

theorem rowMajor_ixAt : ∀ n : Fin 32, (S32.rowMajor (ixAt n)).val = n.val := by decide

/-- One element of a table of 32, at a place within it. -/
theorem table_at (x : S32.Idx → BitVec 32) (st : Fin S32.rank → ℤ) (n : Fin 32) (h : st 0 = n.val) :
    Host.dynamicSlice S1 x st Gen.sliceFits_S32_S1 = fun _ => x (ixAt n) := by
  funext j
  rw [Host.dynamicSlice_apply]
  refine congrArg x (funext fun a => Fin.ext ?_)
  obtain rfl : a = 0 := Subsingleton.elim _ _
  have hj : (j 0).val = 0 := by have := (j 0).isLt; exact Nat.lt_one_iff.1 this
  have hc : Host.clampedStart S32 S1 rfl st 0 = n.val :=
    Host.clampedStart_of_le (s := S32) (t := S1) rfl st 0 n.val h (by have := n.isLt; show n.val + 1 ≤ 32; omega)
  show Host.clampedStart S32 S1 rfl st 0 + (j 0).val = n.val
  omega

/-- A device's number modulo the ring's length, as the host computes it. -/
def numW (w : BitVec 32) : BitVec 32 :=
  let q := IntOp.remui .host (IntOp.divui .host w 1#32) 32#32
  Scalar.select (IntOp.cmpi .slt q 0#32) (IntOp.addi q 32#32) q

theorem numW_word : ∀ c : Dev nD, (numW (Dev.word c)).toInt = c.val := by
  intro c
  unfold numW IntOp.remui IntOp.divui
  rw [if_neg (by decide), if_neg (by decide)]
  revert c
  decide

/-- A signed remainder of the ring's length, brought to its least non-negative value. -/
def remW (w : BitVec 32) : BitVec 32 :=
  let q := IntOp.remsi .host w 32#32
  Scalar.select (IntOp.cmpi .slt q 0#32) (IntOp.addi q 32#32) q

theorem rgtW_val : ∀ c : Dev nD, (remW (IntOp.addi (posW c) 1#32)).toInt = (pos c + 1) % 32 := by
  intro c
  unfold remW IntOp.remsi
  rw [if_neg (by revert c; decide)]
  revert c
  decide

theorem lftW_val : ∀ c : Dev nD,
    (remW (IntOp.subi (IntOp.addi (posW c) 32#32) 1#32)).toInt = (pos c + 31) % 32 := by
  intro c
  unfold remW IntOp.remsi
  rw [if_neg (by revert c; decide)]
  revert c
  decide

/-- The host's first table is read at the device's number. -/
theorem num_val (c : Dev nD) (i : S_.Idx) : ((StableHlo.upto (hostOps0 c) (V0 m c) 13 (Proc.devRef .tc main_v7) : S_.Idx → BitVec 32) i).toInt = c.val := by
  after_reads_simp
  exact numW_word c

/-- The fifth operand is the device's position. -/
theorem word_pos (c : Dev nD) : V1 m c main_v25 = fun _ => posW c := by
  unfold V1
  after_reads_simp
  rw [table_at _ _ c (by exact num_val m c _)]
  funext i
  exact congrArg lit0 (Fin.ext (rowMajor_ixAt c))

/-- The second table is read at the position after. -/
theorem rgt_val (c : Dev nD) (i : S_.Idx) :
    ((StableHlo.upto (hostOps0 c) (V0 m c) 24 (Proc.devRef .tc main_v14) : S_.Idx → BitVec 32) i).toInt = (pos c + 1) % 32 := by
  after_reads_simp
  rw [table_at _ _ c (by exact num_val m c _),
    show lit0 (S32.rowMajor (ixAt c)) = posW c from congrArg lit0 (Fin.ext (rowMajor_ixAt c))]
  exact rgtW_val c

/-- The second table is read at the position before. -/
theorem lft_val (c : Dev nD) (i : S_.Idx) :
    ((StableHlo.upto (hostOps0 c) (V0 m c) 37 (Proc.devRef .tc main_v22) : S_.Idx → BitVec 32) i).toInt = (pos c + 31) % 32 := by
  after_reads_simp
  rw [table_at _ _ c (by exact num_val m c _),
    show lit0 (S32.rowMajor (ixAt c)) = posW c from congrArg lit0 (Fin.ext (rowMajor_ixAt c))]
  exact lftW_val c

/-- The sixth operand is the left neighbour. -/
theorem word_lft (c : Dev nD) : V1 m c main_v26 = fun _ => lftW c := by
  unfold V1
  after_reads_simp
  rw [table_at _ _ ⟨(pos c + 31) % 32, Nat.mod_lt _ (by decide)⟩ (by exact lft_val m c _)]
  funext i
  exact congrArg lit1 (Fin.ext (rowMajor_ixAt _))

/-- The seventh operand is the right neighbour. -/
theorem word_rgt (c : Dev nD) : V1 m c main_v27 = fun _ => rgtW c := by
  unfold V1
  after_reads_simp
  rw [table_at _ _ ⟨(pos c + 1) % 32, Nat.mod_lt _ (by decide)⟩ (by exact rgt_val m c _)]
  funext i
  exact congrArg lit1 (Fin.ext (rowMajor_ixAt _))

end Cert.KernelIdeal.Own

end
-- ==== Proof.KernelIdealLaunch.lean ====
module

public import proofs.«01_k».proof.Proof.KernelIdealWords
public import proofs.«01_k».proof.Proof.Gen.KernelIdeal.Points

/-! # The launch

The kernel's region as a record of the launch kit, and the whole run: every device terminates, the arguments are as they were, every
counter is at zero, and every device's result is `Out`, the same array everywhere. -/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds Idealize.ShloMosaic.Release
open Cert.KernelIdeal Cert.KernelIdeal.Facts₀ Cert.KernelIdeal.Facts Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The arguments and the result -/

/-- Device `c`'s two operands and two scales. -/
abbrev argX (c : Dev nD) : S4096x128.Idx → Elt F .i8 := m ((c : Thread nD τ).loc main_arg0)
abbrev argW (c : Dev nD) : S128x2048.Idx → Elt F .i8 := m ((c : Thread nD τ).loc main_arg1)
abbrev argSx (c : Dev nD) : S1.Idx → F .f32 := m ((c : Thread nD τ).loc main_arg2)
abbrev argSw (c : Dev nD) : S1.Idx → F .f32 := m ((c : Thread nD τ).loc main_arg3)

/-- The one index of a vector of one. -/
abbrev i1 : S1.Idx := fun _ => ⟨0, by decide +revert⟩

theorem eq_i1 (i : S1.Idx) : i = i1 := by
  funext a
  refine Fin.ext ?_
  have h1 := (i a).isLt
  have h2 := (i1 a).isLt
  obtain rfl : a = 0 := Subsingleton.elim _ _
  exact (Nat.lt_one_iff.1 h1).trans (Nat.lt_one_iff.1 h2).symm

/-- What every device brings: its product, and its scale. -/
def given : Par F where
  X c := prodV (argX m c) (argW m c)
  s c := Scalar.mulf (argSx m c i1) (argSw m c i1)

/-- What the region leaves: `Out` on every device. -/
def outs : Gen.Outs (F := F) := fun _ r c => if h : r = main_v28 then h ▸ (Out (given m) : S4096x2048.Idx → Elt F .f32) else m ((c : Thread nD τ).loc r)

/-! ## The region's data -/

def datΦ (c : Dev nD) : Fin (cfg0.N + 1) → sProp 𝕄
  | ⟨0, _⟩ => iprop((∃ K I, before (given m) K I c) ∗ ∃ r, prngReg c r)
  | ⟨_ + 1, _⟩ => iprop(after c ∗ ∃ r, prngReg c r)

def datOwed (c : Dev nD) : Fin (cfg0.N + 1) → CellTallies nD τ sig ℕ
  | ⟨0, _⟩ => due c
  | ⟨_ + 1, _⟩ => 0

def dats (_ : Fin 1) (c : Dev nD) : Dat τ (Elt F) ℕ ℕ UU ℕ cfg0 c where
  A w := V1 m c (Proc.devRef .tc (Pipeline.arrRef spec0 w))
  after w _ := match w with
    | ⟨0, _⟩ => argX m c
    | ⟨1, _⟩ => argW m c
    | ⟨2, _⟩ => argSx m c
    | ⟨3, _⟩ => argSw m c
    | ⟨4, _⟩ => V1 m c main_v25
    | ⟨5, _⟩ => V1 m c main_v26
    | ⟨6, _⟩ => V1 m c main_v27
    | ⟨7, _⟩ => Out (given m)
  Φ := datΦ m c
  q _ := fullShare
  owed := datOwed c

/-- An argument's array at the region's entry is the argument. -/
theorem entry_arg (c : Dev nD) (r : Ref sig .tc) (h : r ∉ hostOps0_W) : V1 m c r = m ((c : Thread nD τ).loc r) := (V1_of m c r h).trans rfl

/-! A window's block is its whole array, so what the body finds staged of an input is the array. -/

theorem read0 (t : Fin cfg0.N) (f) : (win0_0.blk t).view.read (Elt F) f = f :=
  Memref.read_access_unit_zero (Elt F) main_arg0 (funext fun a => Nat.zero_mul _) (fun a => by fin_cases a <;> decide) f
theorem read1 (t : Fin cfg0.N) (f) : (win0_1.blk t).view.read (Elt F) f = f :=
  Memref.read_access_unit_zero (Elt F) main_arg1 (funext fun a => Nat.zero_mul _) (fun a => by fin_cases a <;> decide) f
theorem read2 (t : Fin cfg0.N) (f) : (win0_2.blk t).view.read (Elt F) f = f :=
  Memref.read_access_unit_zero (Elt F) main_arg2 (funext fun a => Nat.zero_mul _) (fun a => by fin_cases a <;> decide) f
theorem read3 (t : Fin cfg0.N) (f) : (win0_3.blk t).view.read (Elt F) f = f :=
  Memref.read_access_unit_zero (Elt F) main_arg3 (funext fun a => Nat.zero_mul _) (fun a => by fin_cases a <;> decide) f
theorem read4 (t : Fin cfg0.N) (f) : (win0_4.blk t).view.read (Elt F) f = f :=
  Memref.read_access_unit_zero (Elt F) main_v25 (funext fun a => Nat.zero_mul _) (fun a => by fin_cases a <;> decide) f
theorem read5 (t : Fin cfg0.N) (f) : (win0_5.blk t).view.read (Elt F) f = f :=
  Memref.read_access_unit_zero (Elt F) main_v26 (funext fun a => Nat.zero_mul _) (fun a => by fin_cases a <;> decide) f
theorem read6 (t : Fin cfg0.N) (f) : (win0_6.blk t).view.read (Elt F) f = f :=
  Memref.read_access_unit_zero (Elt F) main_v27 (funext fun a => Nat.zero_mul _) (fun a => by fin_cases a <;> decide) f

theorem before0 (c : Dev nD) (t : Fin cfg0.N) (d) : (dats m 0 c).before 0 t d = argX m c := by
  unfold Dat.before
  rw [if_pos (fetch0_0 t)]
  exact (read0 t _).trans (entry_arg m c main_arg0 (by decide))
theorem before1 (c : Dev nD) (t : Fin cfg0.N) (d) : (dats m 0 c).before 1 t d = argW m c := by
  unfold Dat.before
  rw [if_pos (fetch0_1 t)]
  exact (read1 t _).trans (entry_arg m c main_arg1 (by decide))
theorem before2 (c : Dev nD) (t : Fin cfg0.N) (d) : (dats m 0 c).before 2 t d = argSx m c := by
  unfold Dat.before
  rw [if_pos (fetch0_2 t)]
  exact (read2 t _).trans (entry_arg m c main_arg2 (by decide))
theorem before3 (c : Dev nD) (t : Fin cfg0.N) (d) : (dats m 0 c).before 3 t d = argSw m c := by
  unfold Dat.before
  rw [if_pos (fetch0_3 t)]
  exact (read3 t _).trans (entry_arg m c main_arg3 (by decide))
theorem before4 (c : Dev nD) (t : Fin cfg0.N) (d) : (dats m 0 c).before 4 t d = V1 m c main_v25 := by
  unfold Dat.before
  rw [if_pos (fetch0_4 t)]
  exact read4 t (V1 m c main_v25)
theorem before5 (c : Dev nD) (t : Fin cfg0.N) (d) : (dats m 0 c).before 5 t d = V1 m c main_v26 := by
  unfold Dat.before
  rw [if_pos (fetch0_5 t)]
  exact read5 t (V1 m c main_v26)
theorem before6 (c : Dev nD) (t : Fin cfg0.N) (d) : (dats m 0 c).before 6 t d = V1 m c main_v27 := by
  unfold Dat.before
  rw [if_pos (fetch0_6 t)]
  exact read6 t (V1 m c main_v27)

/-! ## The body's obligation -/

theorem owesAt_intro (c : Dev nD) (t : Fin (cfg0.N + 1)) (O : CellTallies nD τ sig ℕ) (h0 : (dats m 0 c).owed t = O) :
    (owing c O : sProp 𝕄) ⊢ ((dats m 0 c).owesAt 0 t : sProp 𝕄) := by
  unfold owing Dat.owesAt Pipeline.owesWithin Dat.bound
  rw [h0]
  iintro ⟨%W, HO⟩
  iexists W
  isplitr
  · ipureintro; exact fun _ _ => Or.inl trivial
  iexact HO
theorem owesAt_elim (c : Dev nD) (t : Fin (cfg0.N + 1)) (O : CellTallies nD τ sig ℕ) (h0 : (dats m 0 c).owed t = O) :
    ((dats m 0 c).owesAt 0 t : sProp 𝕄) ⊢ (owing c O : sProp 𝕄) := by
  unfold owing Dat.owesAt Pipeline.owesWithin
  rw [h0]
  iintro ⟨%W, -, HO⟩
  iexists W
  iexact HO

/-- A staging buffer held at `X`. -/
theorem stage_elim (c : Dev nD) (b : Ref sig .tc) {ι : Type} (X : ι → b.ty.Contents (Elt F)) (Y : b.ty.Contents (Elt F)) (h : ∀ d, X d = Y) :
    iprop(∃ d, owns (c : Thread nD τ) (Memref.whole b) fullShare (X d)) ⊢ (((c : Thread nD τ).loc b ↦{fullShare} Y) : sProp 𝕄) := by
  simp only [h, owns_whole_eq]
  iintro ⟨%d, %f, %hf, H⟩
  subst hf
  iexact H
theorem stage_any (c : Dev nD) (b : Ref sig .tc) {ι : Type} (X : ι → b.ty.Contents (Elt F)) :
    iprop(∃ d, owns (c : Thread nD τ) (Memref.whole b) fullShare (X d)) ⊢ (iprop(∃ f, ((c : Thread nD τ).loc b ↦{fullShare} f)) : sProp 𝕄) := by
  simp only [owns_whole_eq]
  iintro ⟨%d, %f, %hf, H⟩
  iexists f
  iexact H
theorem stage_intro (c : Dev nD) (b : Ref sig .tc) (Y : b.ty.Contents (Elt F)) :
    (((c : Thread nD τ).loc b ↦{fullShare} Y) : sProp 𝕄) ⊢ owns (c : Thread nD τ) (Memref.whole b) fullShare Y := by
  rw [owns_whole_eq]
  iintro H
  iexists Y
  isplitr
  · ipureintro; rfl
  iexact H

/-- What the body leaves. -/
def leaves (c : Dev nD) : sProp 𝕄 :=
  iprop((after c ∗ ∃ r, prngReg c r) ∗ (dats m 0 c).owesAt 0 t0_0.succ ∗ owns (c : Thread nD τ) (Memref.whole cc0_stg0_0) fullShare (argX m c) ∗ owns (c : Thread nD τ) (Memref.whole cc0_stg1_0) fullShare (argW m c) ∗ owns (c : Thread nD τ) (Memref.whole cc0_stg2_0) fullShare (argSx m c) ∗ owns (c : Thread nD τ) (Memref.whole cc0_stg3_0) fullShare (argSw m c) ∗ owns (c : Thread nD τ) (Memref.whole cc0_stg4_0) fullShare (V1 m c main_v25) ∗ owns (c : Thread nD τ) (Memref.whole cc0_stg5_0) fullShare (V1 m c main_v26) ∗ owns (c : Thread nD τ) (Memref.whole cc0_stg6_0) fullShare (V1 m c main_v27) ∗ owns (c : Thread nD τ) (Memref.whole cc0_stg7_0) fullShare (Out (given m)))

theorem body_staged (c : Dev nD) :
    iprop(((∃ K I, before (given m) K I c) ∗ ∃ r, prngReg c r) ∗ (dats m 0 c).owesAt 0 t0_0.castSucc ∗ (∃ d, owns (c : Thread nD τ) (Memref.whole cc0_stg0_0) fullShare ((dats m 0 c).before 0 t0_0 d)) ∗ (∃ d, owns (c : Thread nD τ) (Memref.whole cc0_stg1_0) fullShare ((dats m 0 c).before 1 t0_0 d)) ∗ (∃ d, owns (c : Thread nD τ) (Memref.whole cc0_stg2_0) fullShare ((dats m 0 c).before 2 t0_0 d)) ∗ (∃ d, owns (c : Thread nD τ) (Memref.whole cc0_stg3_0) fullShare ((dats m 0 c).before 3 t0_0 d)) ∗ (∃ d, owns (c : Thread nD τ) (Memref.whole cc0_stg4_0) fullShare ((dats m 0 c).before 4 t0_0 d)) ∗ (∃ d, owns (c : Thread nD τ) (Memref.whole cc0_stg5_0) fullShare ((dats m 0 c).before 5 t0_0 d)) ∗ (∃ d, owns (c : Thread nD τ) (Memref.whole cc0_stg6_0) fullShare ((dats m 0 c).before 6 t0_0 d)) ∗ (∃ d, owns (c : Thread nD τ) (Memref.whole cc0_stg7_0) fullShare ((dats m 0 c).before 7 t0_0 d)))
      ⊢ run c (body (Memref.whole cc0_stg0_0) (Memref.whole cc0_stg1_0) (Memref.whole cc0_stg2_0) (Memref.whole cc0_stg3_0)
          (Memref.whole cc0_stg4_0) (Memref.whole cc0_stg5_0) (Memref.whole cc0_stg6_0) RR) fun _ => leaves m c := by
  iintro ⟨⟨⟨%K, %I, Hb⟩, Hp⟩, HO, H0, H1, H2, H3, H4, H5, H6, H7⟩
  ihave H0 := (stage_elim c cc0_stg0_0 _ _ (before0 m c t0_0)) $$ H0
  ihave H1 := (stage_elim c cc0_stg1_0 _ _ (before1 m c t0_0)) $$ H1
  ihave H2 := (stage_elim c cc0_stg2_0 _ _ (before2 m c t0_0)) $$ H2
  ihave H3 := (stage_elim c cc0_stg3_0 _ _ (before3 m c t0_0)) $$ H3
  ihave H4 := (stage_elim c cc0_stg4_0 _ _ (before4 m c t0_0)) $$ H4
  ihave H5 := (stage_elim c cc0_stg5_0 _ _ (before5 m c t0_0)) $$ H5
  ihave H6 := (stage_elim c cc0_stg6_0 _ _ (before6 m c t0_0)) $$ H6
  ihave H7 := (stage_any c cc0_stg7_0 _) $$ H7
  icases H7 with ⟨%o, H7⟩
  ihave HO := (owesAt_elim m c t0_0.castSucc (due c) rfl) $$ HO
  iapply (body_run (given m) K I c (argX m c) (argW m c) (argSx m c) (argSw m c) (V1 m c main_v25) (V1 m c main_v26) (V1 m c main_v27)
    (argSx m c i1) (argSw m c i1) rfl (fun i => congrArg (argSx m c) (eq_i1 i)) (fun i => congrArg (argSw m c) (eq_i1 i)) rfl
    (fun i => congrFun (word_pos m c) i) (fun i => congrFun (word_lft m c) i) (fun i => congrFun (word_rgt m c) i) o (fun _ => leaves m c))
  isplitl [Hb]; · iexact Hb
  isplitl [H0 H1 H2 H3 H4 H5 H6]
  · unfold inputs
    isplitl [H0]; · iexact H0
    isplitl [H1]; · iexact H1
    isplitl [H2]; · iexact H2
    isplitl [H3]; · iexact H3
    isplitl [H4]; · iexact H4
    isplitl [H5]; · iexact H5
    iexact H6
  isplitl [H7]; · iexact H7
  isplitl [HO]; · iexact HO
  unfold inputs leaves
  iintro ⟨Ha, ⟨H0, H1, H2, H3, H4, H5, H6⟩, H7, HO⟩
  isplitl [Ha Hp]
  · isplitl [Ha]; · iexact Ha
    iexact Hp
  isplitl [HO]; · iapply (owesAt_intro m c t0_0.succ 0 rfl); iexact HO
  isplitl [H0]; · iapply (stage_intro c cc0_stg0_0 _); iexact H0
  isplitl [H1]; · iapply (stage_intro c cc0_stg1_0 _); iexact H1
  isplitl [H2]; · iapply (stage_intro c cc0_stg2_0 _); iexact H2
  isplitl [H3]; · iapply (stage_intro c cc0_stg3_0 _); iexact H3
  isplitl [H4]; · iapply (stage_intro c cc0_stg4_0 _); iexact H4
  isplitl [H5]; · iapply (stage_intro c cc0_stg5_0 _); iexact H5
  isplitl [H6]; · iapply (stage_intro c cc0_stg6_0 _); iexact H6
  iapply (stage_intro c cc0_stg7_0 _); iexact H7

/-- The printed body at buffers that are the staging buffers is the body as read back. -/
theorem body_at (a0 : Memref sig .tc .vmem S4096x128 .i8) (h0 : a0.IsWhole) (a1 : Memref sig .tc .vmem S128x2048 .i8) (h1 : a1.IsWhole) (a2 : Memref sig .tc .smem S1 .f32) (h2 : a2.IsWhole) (a3 : Memref sig .tc .smem S1 .f32) (h3 : a3.IsWhole) (a4 : Memref sig .tc .smem S1 .i32) (h4 : a4.IsWhole) (a5 : Memref sig .tc .smem S1 .i32) (h5 : a5.IsWhole) (a6 : Memref sig .tc .smem S1 .i32) (h6 : a6.IsWhole) (a7 : Memref sig .tc .vmem S4096x2048 .f32) (h7 : a7.IsWhole) (e0 : a0 = Memref.whole cc0_stg0_0) (e1 : a1 = Memref.whole cc0_stg1_0) (e2 : a2 = Memref.whole cc0_stg2_0) (e3 : a3 = Memref.whole cc0_stg3_0) (e4 : a4 = Memref.whole cc0_stg4_0) (e5 : a5 = Memref.whole cc0_stg5_0) (e6 : a6 = Memref.whole cc0_stg6_0) (e7 : a7 = Memref.whole cc0_stg7_0) :
    cc0_body (F := F) a0 h0 a1 h1 a2 h2 a3 h3 a4 h4 a5 h5 a6 h6 a7 h7 (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 cc0_scratch8 cc0_scratch9 = body (Memref.whole cc0_stg0_0) (Memref.whole cc0_stg1_0) (Memref.whole cc0_stg2_0) (Memref.whole cc0_stg3_0) (Memref.whole cc0_stg4_0) (Memref.whole cc0_stg5_0) (Memref.whole cc0_stg6_0) RR := by
  subst e0 e1 e2 e3 e4 e5 e6 e7
  exact body_eq _ h0 _ h1 _ h2 _ h3 _ h4 _ h5 _ h6 _ h7 _ (Memref.isWhole_whole _) _ (Memref.isWhole_whole _) _ (Memref.isWhole_whole _) _ (Memref.isWhole_whole _) _ _ _ _ _ _

/-- The body that the launch runs is the body as read back. -/
theorem prog_eq : defs₀ (F := F) .tc cfg0.body (cfg0.bodyArgs t0_0 (cfg0.slots t0_0)) = body (Memref.whole cc0_stg0_0) (Memref.whole cc0_stg1_0) (Memref.whole cc0_stg2_0) (Memref.whole cc0_stg3_0) (Memref.whole cc0_stg4_0) (Memref.whole cc0_stg5_0) (Memref.whole cc0_stg6_0) RR := by
  have e : defs₀ (F := F) .tc cfg0.body (cfg0.bodyArgs t0_0 (cfg0.slots t0_0)) = bodyAt0 t0_0 := rfl
  exact e.trans (body_at _ _ _ _ _ _ _ _ _ _ _ _ _ _ _ _ rfl rfl rfl rfl rfl rfl rfl rfl)

/-- The body, from what the pipeline staged to what it writes back. -/
theorem obligation (c : Dev nD) : BodyObligation (dats m 0 c) defs₀ 𝒱₀ 0 Set.univ := fun t => by
  obtain rfl := fin_N0 t
  rw [bigSep_W0, bigSep_W0, prog_eq]
  refine BI.Entails.trans ?_ (BI.Entails.trans (body_staged m c) ?_)
  · refine BI.sep_mono ?_ (BI.sep_mono ?_ (BI.sep_mono ?_ (BI.sep_mono ?_ (BI.sep_mono ?_ (BI.sep_mono ?_ (BI.sep_mono ?_ (BI.sep_mono ?_ (BI.sep_mono ?_ ?_))))))))
    · exact BI.Entails.refl _
    · exact BI.Entails.refl _
    · exact BI.Entails.refl _
    · exact BI.Entails.refl _
    · exact BI.Entails.refl _
    · exact BI.Entails.refl _
    · exact BI.Entails.refl _
    · exact BI.Entails.refl _
    · exact BI.Entails.refl _
    · exact BI.Entails.refl _
  · unfold run
    apply wp_mono
    intro _
    unfold leaves
    refine BI.sep_mono ?_ (BI.sep_mono ?_ (BI.sep_mono ?_ (BI.sep_mono ?_ (BI.sep_mono ?_ (BI.sep_mono ?_ (BI.sep_mono ?_ (BI.sep_mono ?_ (BI.sep_mono ?_ ?_))))))))
    · exact BI.Entails.refl _
    · exact BI.Entails.refl _
    · exact BI.Entails.refl _
    · exact BI.Entails.refl _
    · exact BI.Entails.refl _
    · exact BI.Entails.refl _
    · exact BI.Entails.refl _
    · exact BI.Entails.refl _
    · exact BI.Entails.refl _
    · exact BI.Entails.refl _

end Cert.KernelIdeal.Own

end
-- ==== Proof.KernelIdealWhole.lean ====
module

public import proofs.«01_k».proof.Proof.KernelIdealLaunch
public import Idealize.ShloMosaic.Lib.Pipeline.RegionArrays
public import Idealize.ShloMosaic.Lib.Pipeline.ValueKit.Geometry

/-! # The run

The kernel's region as a record of the launch kit, and the whole run: every device terminates, the arguments are as they were, every
counter is at zero, and every device's result is `Out`, the same array everywhere. -/

@[expose] public section

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation Seg)
open Idealize.ShloMosaic.Rounds Idealize.ShloMosaic.Release
open Cert.KernelIdeal Cert.KernelIdeal.Facts₀ Cert.KernelIdeal.Facts Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The arrays at the end -/

theorem read7 (t : Fin cfg0.N) (f) : (win0_7.blk t).view.read (Elt F) f = f :=
  Memref.read_access_unit_zero (Elt F) main_v28 (funext fun a => Nat.zero_mul _) (fun a => by fin_cases a <;> decide) f

/-- The result's array ends as the body left its staging buffer. -/
theorem end_out (c : Dev nD) : (dats m 0 c).arrAt 7 cfg0.N = Out (given m) := by
  have h : (win0_7.blk t0_0).view.read (Elt F) ((dats m 0 c).arrAt 7 cfg0.N) = Out (given m) := by
    rw [show cfg0.N = t0_0.val + 1 from rfl, (dats m 0 c).arrAt_succ 7 t0_0]
    rw [show (cfg0.win 7).flush t0_0 = true from by decide, if_pos rfl]
    exact View.read_write_univ _ _
  rw [read7] at h
  exact h

theorem out_entry (c : Dev nD) : V2 m (outs m) c main_v28 = Out (given m) := by
  have h : V2 m (outs m) c main_v28 = outs m 2 main_v28 c := Function.update_self _ _ _
  rw [h]
  unfold outs
  rw [dif_pos rfl]

/-- Every window's array at the end is what the last valuation says. -/
theorem ends (c : Dev nD) (w : Fin 8) : (dats m 0 c).arrAt w cfg0.N = V2 m (outs m) c (Proc.devRef .tc (Pipeline.arrRef spec0 w)) := by
  by_cases hw : w = 7
  · subst hw
    exact (end_out m c).trans (out_entry m c).symm
  · have hin : ∀ w : Fin 8, w ≠ 7 → (win0 w).isOut = false := by decide
    have hne : ∀ w : Fin 8, w ≠ 7 → Pipeline.arrRef spec0 w ∉ ([main_v28] : List (Ref sig .tc)) := by decide
    exact ((dats m 0 c).arrAt_in w (hin w hw) _).trans (V2_of m (outs m) c _ (hne w hw)).symm

/-! ## Levels -/

theorem above_due (c : Dev nD) : Above 0 (due c) := by
  have hb : ∀ d : Dev nD, ∀ n, Above 0 (tallyAt (barC d) 0 n) := fun d n => above_tally d (.reg barS) n (by omega) (by rw [lv_bar]; omega)
  exact above_add (above_add (above_mono (by omega) (above_ringsDue c)) (hb _ 1)) (hb _ 1)

theorem above_owed (c : Dev nD) (t : Fin (cfg0.N + 1)) : Above 0 ((dats (F := F) m 0 c).owed t) := by
  obtain ⟨n, hn⟩ := t
  cases n with
  | zero => exact above_due c
  | succ n => exact above_zero 0

theorem staging_other : ∀ (w : Fin 8) (s : Fin (spec0 w).nbuf), kd (.dma ((spec0 w).sem s)) = .other := by decide

theorem staging_level (c : Dev nD) (w : Fin 8) (s : Fin (spec0 w).nbuf) : lv ((c : Thread nD τ), .dma ((spec0 w).sem s)) 0 ≤ 0 := by
  unfold lv
  rw [staging_other w s]

/-! ## Entering and leaving the region -/

/-- What the launch keeps for the region. -/
def Tk (c : Dev nD) : sProp 𝕄 :=
  iprop((∃ K I, recs (given m) K I ∗ share c) ∗ (bigSep Finset.univ fun k : Fin 4 => iprop(toRecv k c 0 ∗ toTake k c 0)) ∗ cred (tallyAt (barC c) 0 2))
/-- What enters the region's invariant. -/
def Xk (c : Dev nD) : sProp 𝕄 :=
  iprop(∃ K I, recs (given m) K I ∗ levAts L lv ∗ (bigSep Finset.univ fun k : Fin 4 => iprop(counters k c ∗ readers k c))
    ∗ (bigSep Finset.univ fun k : Fin 4 => tokens k c) ∗ barrier c)
/-- What is left. -/
def Yk (c : Dev nD) : sProp 𝕄 := semVal (barC c) 0

theorem own_zeros (c : Dev nD) : (Pipeline.ownSems0 osem c : sProp 𝕄) = bigSep Finset.univ fun k : Fin 4 => zeros k c := by
  unfold Pipeline.ownSems0 zeros
  rw [bigSep_univ_prod (α := Fin 4) (β := Fin 5)]

/-- The counters of the four rings, taken into the protocol. -/
theorem open_all (K : GSem nD τ sig → ℕ) (I : Key → ℕ) (c : Dev nD) :
    iprop(recs (given m) K I ∗ (bigSep Finset.univ fun k : Fin 4 => zeros k c)
      ∗ bigSep Finset.univ fun k : Fin 4 => bigSep Finset.univ fun i : Fin 5 => openTok ER ((c : Thread nD τ), osem (k, i)))
      ⊢ (|={Set.univ}=> bigSep Finset.univ fun k : Fin 4 => counters k c : sProp 𝕄) := by
  rw [four, four, four]
  iintro ⟨#HR, ⟨Z0, Z1, Z2, Z3⟩, ⟨T0, T1, T2, T3⟩⟩
  imod (counters_open (given m) K I 0 c) $$ [Z0 T0] with H0
  · isplitr; · iexact HR
    isplitl [Z0]; · iexact Z0
    iexact T0
  imod (counters_open (given m) K I 1 c) $$ [Z1 T1] with H1
  · isplitr; · iexact HR
    isplitl [Z1]; · iexact Z1
    iexact T1
  imod (counters_open (given m) K I 2 c) $$ [Z2 T2] with H2
  · isplitr; · iexact HR
    isplitl [Z2]; · iexact Z2
    iexact T2
  imod (counters_open (given m) K I 3 c) $$ [Z3 T3] with H3
  · isplitr; · iexact HR
    isplitl [Z3]; · iexact Z3
    iexact T3
  imodintro
  isplitl [H0]; · iexact H0
  isplitl [H1]; · iexact H1
  isplitl [H2]; · iexact H2
  iexact H3

/-- A device's dealings, ring by ring, beside its credits: its tokens and its readers. -/
theorem deal_tokens (c : Dev nD) :
    iprop((bigSep Finset.univ fun k : Fin 4 => dealt (c, k)) ∗ bigSep Finset.univ fun k : Fin 4 => iprop(toRecv k c 0 ∗ toTake k c 0))
      ⊢ (iprop((bigSep Finset.univ fun k : Fin 4 => tokens k c) ∗ bigSep Finset.univ fun k : Fin 4 => readers k c) : sProp 𝕄) := by
  rw [← bigSep_sep', ← bigSep_sep']
  refine bigSep_mono fun k _ => ?_
  have key : iprop(dealt (c, k) ∗ toRecv k c 0 ∗ toTake k c 0) ⊢ (iprop(tokens k c ∗ readers k c) : sProp 𝕄) := by
    unfold dealt tokens
    iintro ⟨⟨H1, H2, H3⟩, H4, H5⟩
    isplitr [H3]
    · isplitl [H1]; · iexact H1
      isplitl [H2]; · iexact H2
      isplitl [H4]; · iexact H4
      iexact H5
    iexact H3
  exact key

theorem hopen (c : Dev nD) : iprop(Tk m c ∗ Pipeline.ownSems0 osem c ∗ levAts L lv) ⊢ (|={Set.univ}=> Xk m c : sProp 𝕄) := by
  rw [own_zeros]
  unfold Tk Xk share
  iintro ⟨⟨⟨%K, %I, #HR, Ho, Hd, Hb⟩, Hc, Hcb⟩, Hz, #Hlev⟩
  imod (open_all m K I c) $$ [Hz Ho] with Hk
  · isplitr; · iexact HR
    isplitl [Hz]; · iexact Hz
    iexact Ho
  ihave Ht := (deal_tokens (F := F) c) $$ [Hd Hc]
  · isplitl [Hd]; · iexact Hd
    iexact Hc
  icases Ht with ⟨Ht, Hr⟩
  imodintro
  iexists K, I
  isplitr; · iexact HR
  isplitr; · iexact Hlev
  isplitl [Hk Hr]
  · have key : iprop((bigSep Finset.univ fun k : Fin 4 => counters k c) ∗ bigSep Finset.univ fun k : Fin 4 => readers k c)
        ⊢ (bigSep Finset.univ fun k : Fin 4 => iprop(counters k c ∗ readers k c) : sProp 𝕄) := Entails.of_eq (bigSep_sep' _ _ _).symm
    iapply key
    isplitl [Hk]; · iexact Hk
    iexact Hr
  isplitl [Ht]; · iexact Ht
  unfold dealtBar barrier
  icases Hb with ⟨Ha, Hd, H1, H2⟩
  isplitl [Ha]; · iexact Ha
  isplitl [Hcb]; · iexact Hcb
  isplitl [Hd]; · iexact Hd
  isplitl [H1]; · iexact H1
  iexact H2

/-- The landing buffers are the scoped buffers that no window stages. -/
theorem landings (c : Dev nD) : (Pipeline.scopedRest (Ix := ℕ) (Name := ℕ) (U := UU) (Lvl := ℕ) (Val := Elt F) spec0 c : sProp 𝕄)
    = bigSep Finset.univ fun k : Fin 4 => landing k c := by
  rw [scopedRest0_eq, four]
  rfl

theorem hin (c : Dev nD) : iprop(Pipeline.scopedRest (Pipeline.pin (pcfgs (F := F)) adm 0).spec c ∗ (∃ r, prngReg c r)
      ∗ StableHlo.held (c.tc : Thread nD τ) ∅ (V1 m c) ∗ Xk m c) ⊢ (dats m 0 c).Φ 0 := by
  have e : (dats m 0 c).Φ 0 = iprop((∃ K I, before (given m) K I c) ∗ ∃ r, prngReg c r) := rfl
  have e' : (Pipeline.scopedRest (Pipeline.pin (pcfgs (F := F)) adm 0).spec c : sProp 𝕄) = bigSep Finset.univ fun k : Fin 4 => landing k c := landings c
  rw [e, e']
  unfold Xk before
  iintro ⟨Hs, Hp, -, ⟨%K, %I, HR, Hl, Hk, Ht, Hb⟩⟩
  isplitr [Hp]
  · iexists K, I
    isplitl [HR]; · iexact HR
    isplitl [Hl]; · iexact Hl
    isplitl [Hk Hs]
    · have key : iprop((bigSep Finset.univ fun k : Fin 4 => iprop(counters k c ∗ readers k c)) ∗ bigSep Finset.univ fun k : Fin 4 => landing k c)
          ⊢ (bigSep Finset.univ fun k : Fin 4 => iprop(counters k c ∗ readers k c ∗ landing k c) : sProp 𝕄) := by
        rw [← bigSep_sep']
        exact bigSep_mono fun k _ => Entails.of_eq (sep_assoc_eq _ _ _)
      iapply key
      isplitl [Hk]; · iexact Hk
      iexact Hs
    isplitl [Ht]; · iexact Ht
    iexact Hb
  iexact Hp

theorem held_none (c : Dev nD) (W : Valuation τ sig (Elt F)) : (StableHlo.held (c.tc : Thread nD τ) ∅ W : sProp 𝕄) = BI.emp := by
  unfold StableHlo.held
  exact BI.bigSep_empty

theorem hout (c : Dev nD) : (dats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V2 m (outs m) c)
      ∗ Pipeline.ownSems0 osem c ∗ Yk c) := by
  have e : (dats m 0 c).Φ (Fin.last (Pipeline.pin (pcfgs (F := F)) adm 0).N) = iprop(after c ∗ ∃ r, prngReg c r) := rfl
  have e' : (Pipeline.scopedRest (Pipeline.pin (pcfgs (F := F)) adm 0).spec c : sProp 𝕄) = bigSep Finset.univ fun k : Fin 4 => landing k c := landings c
  rw [e, e', held_none, own_zeros]
  unfold after Yk
  iintro ⟨⟨Hz, Hl, Hb⟩, Hp⟩
  isplitl [Hl]; · iexact Hl
  isplitl [Hp]; · iexact Hp
  isplitr; · iempintro
  isplitl [Hz]; · iexact Hz
  iexact Hb

/-! ## The region's record -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers that are no window's array. -/
abbrev others : Finset (DevRef τ sig) := Pipeline.ucRefs τ sig \ Pipeline.arrRefs (τ := τ) spec0

theorem arr_sub : Pipeline.arrRefs (τ := τ) spec0 ⊆ Pipeline.ucRefs τ sig := Pipeline.arrRefs_sub_ucRefs spec0 (by decide)

theorem v28_mem : (Proc.devRef .tc main_v28 : DevRef τ sig) ∈ Pipeline.arrRefs (τ := τ) spec0 :=
  Finset.mem_map_of_mem _ (Finset.mem_image.mpr ⟨7, Finset.mem_univ _, rfl⟩)

/-- Outside the arrays nothing changes. -/
theorem unchanged (c : Dev nD) (b : DevRef τ sig) (hb : b ∈ others \ (∅ : Finset (DevRef τ sig))) : V2 m (outs m) c b = V1 m c b := by
  have h : b ≠ Proc.devRef .tc main_v28 := by
    rintro rfl
    exact (Finset.mem_sdiff.mp (Finset.mem_sdiff.mp hb).1).2 v28_mem
  exact Function.update_of_ne h _ _

theorem own_facts : Pipeline.OwnSemFacts spec0 osem := by decide

set_option backward.isDefEq.respectTransparency.types false in
/-- The region. -/
def region : Pipeline.RegionSeg (pcfgs (F := F)) adm (dats m) 0 defs₀ 𝒱₀ L lv 0 :=
  Pipeline.RegionSeg.ofTalk (pcfgs (F := F)) adm (dats m) 0 defs₀ 𝒱₀ L lv 0 osem own_facts
    ∅ others (Finset.empty_subset _) kitP rfl (fun c => (obligation m c).loose)
    (fun _ => 0) due (fun c => (show (dats m 0 c).owed 0 = due c from rfl).trans (zero_add _).symm) (fun _ => rfl) (fun _ => rfl)
    (fun c w => by unfold Dat.share; split <;> rfl)
    (V1 m) (V2 m (outs m)) (unchanged m)
    (Tk m) Yk (Xk m) Yk (hopen m) (hin m) (hout m)
    (fun c => by iintro H; imodintro; iexact H)
    (fun _ => 0)
    ⟨fun c w s => mem_L c _ (by omega), fun c w s => staging_level c w s, fun c t g i h => above_owed m c t g i h⟩
    (fun _ => iprop(emp))
    (fun _ _ => rfl) (ends m)

/-! ## The run -/

/-- What rides beside the buffers: before the region and after it. -/
def E (j : Fin 2) (c : Dev nD) : sProp 𝕄 :=
  match j with
  | 0 => iprop(Tk m c ∗ (∃ r, prngReg c r) ∗ ∃ W, owes (c : Thread nD τ) (due c) W)
  | 1 => iprop(semVal (barC c) 0 ∗ ∃ W, owes (c : Thread nD τ) (0 : CellTallies nD τ sig ℕ) W)

theorem pre_eq (c : Dev nD) : iprop(StableHlo.held (c : Thread nD τ) (Pipeline.ucRefs τ sig) (V1 m c) ∗ E m 0 c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + due c) Wd)
  rw [zero_add, StableHlo.held_sub_split (c.tc : Thread nD τ) arr_sub (V1 m c)]
  unfold E
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem post_eq (c : Dev nD) : (region m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig ℕ) Wd) ⊢ _
  rw [StableHlo.held_sub_split (c.tc : Thread nD τ) arr_sub (V2 m (outs m) c)]
  unfold E Yk
  iintro ⟨Ha, -, ⟨Ho, -⟩, Hb, HO⟩
  isplitl [Ha Ho]
  · isplitl [Ha]; · iexact Ha
    iexact Ho
  isplitl [Hb]; · iexact Hb
  iexact HO

/-- The launch element: the pipeline's, the protocol's cells, its slots. -/
def u₀ : UU :=
  (initOf (Pipeline.cells cfgs cellOf_inj) (Pipeline.launchToks cfgs cellOf_inj), (launchOf barCells ownCells toks, initSlots keys 1))

/-- The protocol's part of the launch element. -/
abbrev funds : sProp 𝕄 := iprop(BI.own (ER (launchOf barCells ownCells toks)) ∗ BI.own (ES (initSlots keys 1)))

/-- The protocol's part, all of it at one device. -/
def G (c : Dev nD) : sProp 𝕄 := if c = (0 : Dev nD) then funds else iprop(emp)

theorem bigSep_G : bigSep Finset.univ (G (F := F)) = funds := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem fund : (ownU u₀ : sProp 𝕄) ⊢ |={Set.univ}=> iprop(BI.own (EP (initOf (Pipeline.cells cfgs cellOf_inj) (Pipeline.launchToks cfgs cellOf_inj))) ∗ bigSep Finset.univ (G (F := F))) := by
  rw [bigSep_G]
  unfold u₀
  iintro Hu
  ihave H := (ownU_pair _ _) $$ Hu
  icases H with ⟨HP, HX⟩
  imodintro
  isplitl [HP]; · iexact HP
  have key : (BI.own (EQ (launchOf barCells ownCells toks, initSlots keys 1)) : sProp 𝕄) ⊢ funds := own_pair_emb EQ _ _
  iapply key
  iexact HX

theorem unscoped_eq : ∀ sm : SemLoc sig, sm.isScoped .tc = false → sm = .reg barS := by decide

theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

/-- What of a core's launch holdings is not the protocol's. -/
def bundle (c : Dev nD) : sProp 𝕄 :=
  iprop(StableHlo.held (c : Thread nD τ) (Pipeline.ucRefs τ sig) (V0 m c)
    ∗ ((bigSep Finset.univ fun k : Fin 4 => iprop(toRecv k c 0 ∗ toTake k c 0)) ∗ cred (tallyAt (barC c) 0 2))
    ∗ (∃ r, prngReg c r) ∗ ∃ W, owes (c : Thread nD τ) (due c) W)

/-- The first thread state. -/
abbrev T₀ (c : Dev nD) : sProp 𝕄 := iprop(StableHlo.held (c : Thread nD τ) (Pipeline.ucRefs τ sig) (V0 m c) ∗ E m 0 c)

theorem T₀_intro (K : GSem nD τ sig → ℕ) (I : Key → ℕ) (c : Dev nD) : iprop(recs (given m) K I ∗ (share c ∗ bundle m c)) ⊢ T₀ m c := by
  unfold bundle T₀ E Tk
  iintro ⟨#HR, Hs, Hh, ⟨Hc, Hb⟩, Hp, HO⟩
  isplitl [Hh]; · iexact Hh
  isplitl [Hs Hc Hb]
  · isplitl [Hs]
    · iexists K, I
      isplitr; · iexact HR
      iexact Hs
    isplitl [Hc]; · iexact Hc
    iexact Hb
  isplitl [Hp]; · iexact Hp
  iexact HO

theorem core (c : Dev nD) : iprop(unscopedBufs c (fun b => m ((c : Thread nD τ).loc b)) ∗ unscopedSems0 c
      ∗ owes (c : Thread nD τ) (due c) ∅ ∗ Pipeline.launchCred due c ∗ prngReg c (ρ c) ∗ G c)
    ⊢ (iprop(bundle m c ∗ (semVal (barC c) 0 ∗ G c)) : sProp 𝕄) := by
  rw [show (unscopedBufs c (fun b => m ((c : Thread nD τ).loc b)) : sProp 𝕄) = StableHlo.held (c : Thread nD τ) (Pipeline.ucRefs τ sig) (V0 m c) from
    Pipeline.unscopedBufs_held (Ix := ℕ) (Name := ℕ) (U := UU) (Lvl := ℕ) c (V0 m c), unscopedSems0_eq]
  unfold bundle
  iintro ⟨Hh, Hus, HO, Hcr, Hp, HG⟩
  ihave Hc := (launch_credits (F := F) c) $$ Hcr
  isplitr [Hus HG]
  · isplitl [Hh]; · iexact Hh
    isplitl [Hc]; · iexact Hc
    isplitl [Hp]; · iexists (ρ c); iexact Hp
    iexists ∅; iexact HO
  isplitl [Hus]; · iexact Hus
  iexact HG

/-- The launch, on every device at once. -/
theorem init :
    iprop((bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ G c)) ∗ levAts L lv)
      ⊢ (|={Set.univ}=> bigSep Finset.univ (T₀ m) : sProp 𝕄) := by
  have h1 : (bigSep Finset.univ fun c : Dev nD => iprop(unscopedBufs c (fun b => m ((c : Thread nD τ).loc b)) ∗ unscopedSems0 c
          ∗ owes (c : Thread nD τ) (due c) ∅ ∗ Pipeline.launchCred due c ∗ prngReg c (ρ c) ∗ G c))
      ⊢ (iprop((bigSep Finset.univ fun c : Dev nD => bundle m c) ∗ (bigSep Finset.univ fun c : Dev nD => semVal (barC c) 0) ∗ funds) : sProp 𝕄) := by
    rw [← bigSep_G, ← bigSep_sep', ← bigSep_sep']
    exact bigSep_mono fun c _ => core m ρ c
  have h2 : iprop((bigSep Finset.univ fun c : Dev nD => semVal (barC c) 0) ∗ funds)
      ⊢ (|={Set.univ}=> ∃ K I, recs (given m) K I ∗ bigSep Finset.univ fun c : Dev nD => share c : sProp 𝕄) := by
    rw [← bars_split (fun g => semVal g 0)]
    exact BI.Entails.trans BI.sep_assoc' (deal (given m))
  iintro ⟨H, -⟩
  ihave H := h1 $$ H
  icases H with ⟨HB, HF⟩
  imod h2 $$ HF with ⟨%K, %I, #HR, Hs⟩
  imodintro
  iapply (bigSep_with_persistent (R := recs (given m) K I) (Φ := fun c => iprop(share c ∗ bundle m c)) fun c _ => T₀_intro m K I c)
  isplitr; · iexact HR
  have key : iprop((bigSep Finset.univ fun c : Dev nD => share c) ∗ bigSep Finset.univ fun c : Dev nD => bundle m c)
      ⊢ (bigSep Finset.univ fun c : Dev nD => iprop(share c ∗ bundle m c) : sProp 𝕄) := Entails.of_eq (bigSep_sep' _ _ _).symm
  iapply key
  isplitl [Hs]; · iexact Hs
  iexact HB

/-- The last thread state. -/
abbrev Tₙ (c : Dev nD) : sProp 𝕄 := iprop(StableHlo.held (c : Thread nD τ) (Pipeline.ucRefs τ sig) (V2 m (outs m) c) ∗ semVal (barC c) 0)

/-- What is read off a final memory on one device. -/
def Reads (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_v28) = Out (given m))
  ∧ s.sem (barC c) = 0

theorem final (c : Dev nD) (s' : Phys nD τ sig (Elt F)) : iprop(Tₙ m c ∗ SI s') ⊢ (|={Set.univ}=> iprop(⌜Reads m c s'.mem⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    have hr : ∀ r : Ref sig .tc, ¬ (Proc.devRef .tc r : DevRef τ sig).isScoped → s'.mem.mem ((c.tc : Thread nD τ).loc r) = V2 m (outs m) c r := fun r hs =>
      h (Proc.devRef .tc r) (Finset.mem_filter.mpr ⟨StableHlo.devRef_mem_tcRefs r, hs⟩)
    exact ⟨⟨(hr main_arg0 (by decide)).trans (V2_main_arg0 m (outs m) c), (hr main_arg1 (by decide)).trans (V2_main_arg1 m (outs m) c),
      (hr main_arg2 (by decide)).trans (V2_main_arg2 m (outs m) c), (hr main_arg3 (by decide)).trans (V2_main_arg3 m (outs m) c),
      (hr main_v28 (by decide)).trans (out_entry m c)⟩, by simpa using hb⟩
  iexact HSI

set_option backward.isDefEq.respectTransparency.types false in
/-- The run: every weakly fair execution from zero counters ends, every device's arguments as they were and its result `Out`, every counter at zero. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v28) = Out (given m)) ∧ r.2.sem = fun _ => 0) :=
  Pipeline.θ_run_regions_kit_dev_sems (pcfgs (F := F)) adm (dats m) 0 cellOf_inj EP defs₀ 𝒱₀ L lv m ρ main
    (segs m 𝒱₀ L lv (E m) 0 (dats m) (region m))
    (fun c Q => by
      rewrite [main_chain c, Seg.run_eq_chain,
        show (segs m 𝒱₀ L lv (E m) 0 (dats m) (region m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide) due L_of_ne G u₀ fund
    (T₀ := T₀ m) (Tₙ := Tₙ m)
    (hch := fun c => ⟨.rfl, pre_eq m c, (post_eq m c).trans (by
      have key : iprop(StableHlo.held (c : Thread nD τ) (Pipeline.ucRefs τ sig) (V2 m (outs m) c) ∗ E m 1 c)
          ⊢ (iprop(Tₙ m c ∗ ∃ W, owes (c : Thread nD τ) (0 : CellTallies nD τ sig ℕ) W) : sProp 𝕄) := by
        unfold E
        iintro ⟨Hh, Hb, HO⟩
        isplitr [HO]
        · isplitl [Hh]; · iexact Hh
          iexact Hb
        iexact HO
      exact key)⟩)
    (hinit := init m ρ) (QY := Reads m) (hfin := final m)
    (hQ := fun s h hs => ⟨fun c => (h c).1, sem_eq_zero hs fun c sm hsm => by
      obtain rfl := unscoped_eq sm hsm
      exact (h c).2⟩)

end Cert.KernelIdeal.Own

end
-- ==== Proof.KernelIdealValue.lean ====
module

public import proofs.«01_k».proof.Proof.KernelIdealLaunch
public import proofs.«01_k».proof.Proof.Gen.ReferenceIdeal.Run
public import Idealize.ShloMosaic.Lib.IntMxu
public import Idealize.ShloMosaic.Lib.MatmulPlain
public import Idealize.ShloMosaic.Lib.StackMember

/-! # The value over the reals

`Out`, read over the extended reals, is the reference's array. A chunk that goes round a ring collects, one device at a time, the
same 128 by 512 window of the 32 local products. The local product of device `d` is the exact integer sum over its 128 positions of
the contraction, so the 32 of them add up to the sum over all 4096. The activation is the same formula on both sides. -/

@[expose] public section

noncomputable section

namespace Cert.KernelIdeal.Own

open Idealize.ShloMosaic
open Idealize.ShloMosaic.TcCoe
open Idealize.ShloMosaic.StackMember
open scoped BigOperators
open Cert.KernelIdeal Cert.KernelIdeal.Facts₀ Cert.KernelIdeal.Facts Cert.KernelIdeal.Gen

/-! ## Round the ring -/

/-- The element of the whole array that an element of the chunk of step `h` is. -/
def spot (k : Fin 4) (c : Dev nD) (h : ℕ) (y : S128x512.Idx) : S4096x2048.Idx := (chunkAt k c h).view.emb y

/-- Its row and its column. -/
theorem spot_row (k : Fin 4) (c : Dev nD) (h : ℕ) (y : S128x512.Idx) : (spot k c h y 0).val = 128 * qn k c h + (y 0).val :=
  (chunk_emb k (qn k c h) (qn_lt k c h) y _ rfl).1
theorem spot_col (k : Fin 4) (c : Dev nD) (h : ℕ) (y : S128x512.Idx) : (spot k c h y 1).val = 512 * k.val + (y 1).val :=
  (chunk_emb k (qn k c h) (qn_lt k c h) y _ rfl).2

/-- The chunk of step `h` at the upstream neighbour is the chunk of step `h + 1` here. -/
theorem spot_prv (k : Fin 4) (c : Dev nD) (h : ℕ) (y : S128x512.Idx) : spot k (prv k c) h y = spot k c (h + 1) y := by
  refine funext fun a => Fin.ext ?_
  match a with
  | ⟨0, _⟩ => exact (spot_row k (prv k c) h y).trans ((congrArg (fun q => 128 * q + (y 0).val) (qn_prv k c h)).trans (spot_row k c (h + 1) y).symm)
  | ⟨1, _⟩ => exact (spot_col k (prv k c) h y).trans (spot_col k c (h + 1) y).symm

/-- Going `j` steps upstream is going `j` steps on in the order of chunks. -/
theorem qn_iter (k : Fin 4) (c : Dev nD) (j h : ℕ) : qn k ((prv k)^[j] c) h = qn k c (h + j) := by
  induction j generalizing c with
  | zero => rfl
  | succ j ih => rw [Function.iterate_succ_apply, ih, qn_prv]; rfl

/-- A sum along 32 different devices is the sum over all of them. -/
theorem sum_all (g : ℕ → Dev nD) (hg : ∀ i < 32, ∀ j < 32, g i = g j → i = j) (f : Dev nD → EReal) :
    ∑ j ∈ Finset.range 32, f (g j) = ∑ d, f d := by
  have hinj : ∀ i ∈ Finset.range 32, ∀ j ∈ Finset.range 32, g i = g j → i = j :=
    fun i hi j hj e => hg i (Finset.mem_range.1 hi) j (Finset.mem_range.1 hj) e
  have hu : (Finset.range 32).image g = Finset.univ :=
    Finset.eq_univ_of_card _ (((Finset.card_image_of_injOn hinj).trans (Finset.card_range 32)).trans (Fintype.card_fin 32).symm)
  exact (Finset.sum_image (f := f) hinj).symm.trans (congrArg (fun t : Finset (Dev nD) => ∑ d ∈ t, f d) hu)

/-- The first 32 devices upstream are all the devices, once each. -/
theorem sum_ring (k : Fin 4) (c : Dev nD) (f : Dev nD → EReal) : ∑ j ∈ Finset.range 32, f ((prv k)^[j] c) = ∑ d, f d := by
  refine sum_all (fun j => (prv k)^[j] c) (fun i hi j hj e => ?_) f
  have e0 : qn k c (0 + i) = qn k c (0 + j) := (qn_iter k c i 0).symm.trans ((congrArg (fun d => qn k d 0) e).trans (qn_iter k c j 0))
  have := qn_inj k c e0
  omega

variable (P : Par Ideal)

/-- What arrived added to a chunk of local products, at an index. -/
theorem added_apply (a b : S128x512.Idx → Elt Ideal .f32) (y : S128x512.Idx) : added a b y = (a y + b y : EReal) := by
  unfold added
  rw [shapeCast_self]
  rfl

/-- Up to step 30 what device `c` sends is the sum of the same window of the products of the devices it has come from. -/
theorem val_sum (k : Fin 4) (h : ℕ) (hh : h ≤ 30) (c : Dev nD) (y : S128x512.Idx) :
    val P k h c y = (∑ j ∈ Finset.range (h + 1), (P.X ((prv k)^[j] c) (spot k c h y) : EReal) : EReal) := by
  induction h generalizing c with
  | zero => rw [Finset.sum_range_one]; rfl
  | succ h ih =>
    rw [val_lt P k c (by omega), added_apply, ih (by omega), spot_prv, Finset.sum_range_succ' _ (h + 1), add_comm]
    rfl

/-- The chunk that step 31 activates is the sum over all devices. -/
theorem whole_sum (k : Fin 4) (c : Dev nD) (y : S128x512.Idx) :
    added (part P k c 31) (val P k 30 (prv k c)) y = (∑ d, (P.X d (spot k c 31 y) : EReal) : EReal) := by
  rw [added_apply, val_sum P k 30 (le_refl _), spot_prv, ← sum_ring k c, Finset.sum_range_succ' _ 31, add_comm]
  rfl

/-- Every element is in the chunk its column group and row name, at its inner place. -/
theorem spot_inner (x : S4096x2048.Idx) :
    spot ⟨(x 1).val / 512, col_lt x⟩ (owner ⟨(x 1).val / 512, col_lt x⟩ ((x 0).val / 128)) 31 (inner x) = x := by
  have hx0 : (x 0).val < 4096 := (x 0).isLt
  have hq : qn ⟨(x 1).val / 512, col_lt x⟩ (owner ⟨(x 1).val / 512, col_lt x⟩ ((x 0).val / 128)) 31 = (x 0).val / 128 :=
    qn_owner ⟨(x 1).val / 512, col_lt x⟩ ⟨(x 0).val / 128, by omega⟩
  refine funext fun a => Fin.ext ?_
  match a with
  | ⟨0, _⟩ =>
    refine (spot_row _ _ _ _).trans ?_
    rw [hq]
    show 128 * ((x 0).val / 128) + (x 0).val % 128 = (x 0).val
    omega
  | ⟨1, _⟩ =>
    refine (spot_col _ _ _ _).trans ?_
    show 512 * ((x 1).val / 512) + (x 1).val % 512 = (x 1).val
    omega

/-- The activation, on a scaled sum. -/
def act (a s : EReal) : EReal := Ideal.div (a * s) (Ideal.ofBits .f32 0x3F800000#32 + Ideal.exp (-(a * s)))

/-- The kernel's activation at an index: subtracting from zero is negating. -/
theorem siluV_apply (s : Ideal .f32) (x : Vec Ideal S128x512 .f32) (y : S128x512.Idx) : siluV s x y = act (x y) s := by
  have hz : (Ideal.ofBits .f32 0x00000000#32 : EReal) = 0 := Ideal.ofBits_zero_f32
  unfold siluV
  rw [shapeCast_self]
  show Ideal.div ((x y : EReal) * s) (Ideal.ofBits .f32 0x3F800000#32 + Ideal.exp (Ideal.ofBits .f32 0x00000000#32 - (x y : EReal) * s)) = _
  rw [hz, zero_sub]
  rfl

/-- The array every device ends with, where all bring the same scale: the activation of the sum of the local products. -/
theorem Out_apply (s : EReal) (hs : ∀ c, P.s c = s) (x : S4096x2048.Idx) : Out P x = act (∑ d, (P.X d x : EReal)) s := by
  unfold Out
  rw [val_31, siluV_apply, whole_sum, spot_inner, hs]

/-! ## Sums of integers -/

/-- A sum of integers is the same sum of extended reals. -/
theorem coe_sum {ι : Type} (t : Finset ι) (f : ι → ℤ) : (((∑ i ∈ t, f i : ℤ) : ℝ) : EReal) = ∑ i ∈ t, ((f i : ℝ) : EReal) := by
  classical
  refine Finset.induction_on t (by simp) ?_
  intro a t ha ih
  rw [Finset.sum_insert ha, Finset.sum_insert ha, ← ih, Int.cast_add, EReal.coe_add]

/-- The kernel's product on 8-bit words is the exact integer sum over its 128 positions. -/
theorem prodV_apply (x : S4096x128.Idx → Elt Ideal .i8) (w : S128x2048.Idx → Elt Ideal .i8) (r : Fin 4096) (q : Fin 2048) :
    prodV (F := Ideal) x w (ValueIdx.ix2 r q : S4096x2048.Idx)
      = (((∑ i : Fin 128, (x (ValueIdx.ix2 r i) : BitVec 8).toInt * (w (ValueIdx.ix2 i q) : BitVec 8).toInt : ℤ) : ℝ) : EReal) := by
  have hd : dot_S4096x128_S128x2048_S4096x2048_1_0_0_1_n_n = DotDims.plain 4096 128 2048 := rfl
  unfold prodV
  rw [shapeCast_self, shapeCast_self, hd]
  show (((BitVec.toInt (matmulI8 IntMxuNumerics.v7x (DotDims.plain 4096 128 2048) x w (constantI S4096x2048 32 0#32) (ValueIdx.ix2 r q)) : ℤ) : ℝ) : EReal) = _
  rw [matmulI8_toInt IntMxuNumerics.v7x (DotDims.plain 4096 128 2048) x w _ (ValueIdx.ix2 r q) rfl
    ((absDotI8_le_numel (DotDims.plain 4096 128 2048) x w (ValueIdx.ix2 r q)).trans (by decide))]
  have e := Ideal.matmul_plain_apply (φ₁ := .f32) (φ₂ := .f32) none (fun i => (((x i : BitVec 8).toInt : ℝ) : EReal))
    (fun i => (((w i : BitVec 8).toInt : ℝ) : EReal)) (fun _ => 0) r q
  rw [Ideal.matmul_apply, zero_add, zero_add] at e
  unfold dotI8
  rw [coe_sum, coe_sum]
  simp only [Int.cast_mul, EReal.coe_mul]
  exact e

/-- The sum over the 32 devices of the sums over 128 positions is the sum over 4096. -/
theorem sum_split (f : Fin 4096 → ℤ) : ∑ d : Fin 32, ∑ i : Fin 128, f ⟨d.val * 128 + i.val, by omega⟩ = ∑ j : Fin 4096, f j := by
  rw [← Fintype.sum_prod_type' (fun (d : Fin 32) (i : Fin 128) => f ⟨d.val * 128 + i.val, by omega⟩)]
  refine Fintype.sum_equiv (finProdFinEquiv (m := 32) (n := 128)) _ _ fun p => congrArg f (Fin.ext ?_)
  show p.1.val * 128 + p.2.val = p.2.val + 128 * p.1.val
  omega

/-! ## The reference's array -/

section Reference

variable (x : (⟨2, ![4096, 4096]⟩ : Shape).Idx → BitVec 8) (w : (⟨2, ![4096, 2048]⟩ : Shape).Idx → BitVec 8)

/-- The whole contraction at a row and a column. -/
def total (r : Fin 4096) (q : Fin 2048) : ℤ := ∑ j : Fin 4096, (x (ValueIdx.ix2 r j)).toInt * (w (ValueIdx.ix2 j q)).toInt

/-- The local products add up to the whole contraction. -/
theorem sum_prodV (r : Fin 4096) (q : Fin 2048) :
    ∑ d : Fin 32, (prodV (F := Ideal) (Layout.block ⟨2, ![4096, 128]⟩ ⟨2, ![4096, 4096]⟩ 1 32 d x)
        (Layout.block ⟨2, ![128, 2048]⟩ ⟨2, ![4096, 2048]⟩ 0 32 d w) (ValueIdx.ix2 r q : S4096x2048.Idx) : EReal)
      = (((total x w r q : ℤ) : ℝ) : EReal) := by
  have e : ∀ d : Fin 32, (prodV (F := Ideal) (Layout.block ⟨2, ![4096, 128]⟩ ⟨2, ![4096, 4096]⟩ 1 32 d x)
        (Layout.block ⟨2, ![128, 2048]⟩ ⟨2, ![4096, 2048]⟩ 0 32 d w) (ValueIdx.ix2 r q : S4096x2048.Idx) : EReal)
      = (((∑ i : Fin 128, (x (ValueIdx.ix2 r ⟨d.val * 128 + i.val, by omega⟩)).toInt * (w (ValueIdx.ix2 ⟨d.val * 128 + i.val, by omega⟩ q)).toInt : ℤ) : ℝ) : EReal) := by
    intro d
    rw [prodV_apply]
    refine congrArg (fun z : ℤ => ((z : ℝ) : EReal)) (Finset.sum_congr rfl fun i _ => ?_)
    refine congrArg₂ (fun a b : BitVec 8 => a.toInt * b.toInt) (congrArg x ?_) (congrArg w ?_)
    · funext a; apply Fin.ext
      match a with
      | ⟨0, _⟩ => rfl
      | ⟨1, _⟩ => rfl
    · funext a; apply Fin.ext
      match a with
      | ⟨0, _⟩ => rfl
      | ⟨1, _⟩ => rfl
  rw [Finset.sum_congr rfl fun d _ => e d, ← coe_sum]
  exact congrArg (fun z : ℤ => ((z : ℝ) : EReal)) (sum_split fun j => (x (ValueIdx.ix2 r j)).toInt * (w (ValueIdx.ix2 j q)).toInt)

/-- The reference's product of the operands, read as numbers, is the whole contraction. -/
theorem ref_dot (r : Fin 4096) (q : Fin 2048) :
    Host.dotGeneral (F := Ideal) Cert.ReferenceIdeal.dot_S4096x4096_S4096x2048_S4096x2048_1_0_0_1_n_n none
        (sitofp .f32 (extsi 32 x Cert.ReferenceIdeal.Gen.natLt_8_32)) (sitofp .f32 (extsi 32 w Cert.ReferenceIdeal.Gen.natLt_8_32)) (ValueIdx.ix2 r q)
      = (((total x w r q : ℤ) : ℝ) : EReal) := by
  have hd : Cert.ReferenceIdeal.dot_S4096x4096_S4096x2048_S4096x2048_1_0_0_1_n_n = DotDims.plain 4096 4096 2048 := rfl
  rw [hd, dotGeneral_plain_apply]
  unfold total
  rw [coe_sum]
  refine Finset.sum_congr rfl fun j _ => ?_
  rw [Int.cast_mul, EReal.coe_mul]
  show ((((x (ValueIdx.ix2 r j)).signExtend 32).toInt : ℝ) : EReal) * ((((w (ValueIdx.ix2 j q)).signExtend 32).toInt : ℝ) : EReal) = _
  rw [BitVec.toInt_signExtend_of_le (by decide), BitVec.toInt_signExtend_of_le (by decide)]

/-- The reference's last steps, on an array of products and the two scales. -/
def refOut (p : Cert.ReferenceIdeal.S4096x2048.Idx → Elt Ideal .f32) (a b : Cert.ReferenceIdeal.S1.Idx → Elt Ideal .f32) : Cert.ReferenceIdeal.S4096x2048.Idx → Elt Ideal .f32 :=
  let y : FVec Ideal Cert.ReferenceIdeal.S4096x2048 .f32 := mulf p (broadcastInDim Cert.ReferenceIdeal.S4096x2048 ![0, 1] Cert.ReferenceIdeal.Gen.bcast_S1x1_S4096x2048_0_1
    (broadcastInDim Cert.ReferenceIdeal.S1x1 ![1] Cert.ReferenceIdeal.Gen.bcast_S1_S1x1_1 (mulf (φ := .f32) a b : FVec Ideal Cert.ReferenceIdeal.S1 .f32)))
  Host.divf y (addf (broadcastInDim Cert.ReferenceIdeal.S4096x2048 ![] Cert.ReferenceIdeal.Gen.bcast_S_S4096x2048 (constant Cert.ReferenceIdeal.S_ .f32 0x3F800000#32))
    (Host.exp (Host.negf y)))

/-- They are the activation with the product of the scales, at every index. -/
theorem refOut_apply (p : Cert.ReferenceIdeal.S4096x2048.Idx → Elt Ideal .f32) (a b : Cert.ReferenceIdeal.S1.Idx → Elt Ideal .f32) (z : S4096x2048.Idx) :
    refOut p a b z = act (p z) ((a i1 : EReal) * (b i1 : EReal)) := by
  have e : (broadcastInDim Cert.ReferenceIdeal.S4096x2048 ![0, 1] Cert.ReferenceIdeal.Gen.bcast_S1x1_S4096x2048_0_1
    (broadcastInDim Cert.ReferenceIdeal.S1x1 ![1] Cert.ReferenceIdeal.Gen.bcast_S1_S1x1_1 (mulf (φ := .f32) a b : FVec Ideal Cert.ReferenceIdeal.S1 .f32))) z
      = (a i1 : EReal) * (b i1 : EReal) :=
    congrArg (mulf (φ := .f32) a b : FVec Ideal Cert.ReferenceIdeal.S1 .f32) (eq_i1 _)
  unfold refOut act
  rw [← e]
  rfl

/-- `Out` of the arguments' blocks is the reference's array of the whole arguments. -/
theorem Out_eq (m : (ℓ : Loc nD τ sig) → Buf (Elt Ideal) ℓ) (a b : S1.Idx → Elt Ideal .f32)
    (hx : ∀ c : Dev nD, argX m c = Layout.block ⟨2, ![4096, 128]⟩ ⟨2, ![4096, 4096]⟩ 1 32 c x)
    (hw : ∀ c : Dev nD, argW m c = Layout.block ⟨2, ![128, 2048]⟩ ⟨2, ![4096, 2048]⟩ 0 32 c w)
    (ha : ∀ c : Dev nD, argSx m c = a) (hb : ∀ c : Dev nD, argSw m c = b) :
    Out (given m) = refOut (Host.dotGeneral (F := Ideal) Cert.ReferenceIdeal.dot_S4096x4096_S4096x2048_S4096x2048_1_0_0_1_n_n none
        (sitofp .f32 (extsi 32 x Cert.ReferenceIdeal.Gen.natLt_8_32)) (sitofp .f32 (extsi 32 w Cert.ReferenceIdeal.Gen.natLt_8_32))) a b := by
  funext z
  rw [Out_apply (given m) ((a i1 : EReal) * (b i1 : EReal)) (fun c => by
    show ((argSx m c i1 : EReal) * (argSw m c i1 : EReal)) = _
    rw [ha, hb]), refOut_apply]
  obtain ⟨r, q, rfl⟩ : ∃ (r : Fin 4096) (q : Fin 2048), z = ValueIdx.ix2 r q := ⟨z 0, z 1, ValueIdx.eq_ix2 z⟩
  refine congrArg (fun t => act t _) ((Finset.sum_congr rfl fun d _ => ?_).trans ((sum_prodV x w _ _).trans (ref_dot x w _ _).symm))
  show prodV (F := Ideal) (argX m d) (argW m d) _ = _
  rw [hx, hw]

end Reference

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KernelWhole
public import proofs.«01_k».proof.Proof.KernelIdealWhole
public import proofs.«01_k».proof.Proof.KernelIdealValue
public import Idealize.ShloMosaic.Adequacy
public import Idealize.ShloMosaic.Init

@[expose] public section

noncomputable section

namespace Cert.Proof

open Idealize.ShloMosaic Idealize.SL.Sem Cert.Kernel

/-- The kernel terminates, leaves its arguments as they were and every counter at zero. -/
theorem frame_kernel : Cert.quiescent_Kernel := fun m ρ _ =>
  (θ_run Cert.Kernel.defs _ _).mono
    (fun _ h => ⟨fun c => ⟨(h.1 c).1, (h.1 c).2.1, (h.1 c).2.2.1, (h.1 c).2.2.2.1⟩, h.2⟩) (Cert.Kernel.Own.run_main m ρ)

/-- So does the kernel read over the extended reals, -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩) (Cert.KernelIdeal.Own.run_main m ρ)

/-- and the reference, which has no counter. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- Over the extended reals every device ends with the reference's whole array. -/
theorem algebraic : Cert.algebraic_KernelIdeal_ReferenceIdeal := by
  intro m ρ m' ρ' _ hagree
  refine ⟨Cert.KernelIdeal.Own.Out (Cert.KernelIdeal.Own.given m), ?_, ?_⟩
  · exact (θ_run Cert.KernelIdeal.defs _ _).mono
      (fun _ h c => ⟨(h.1 c).2.2.2.2, (h.1 c).1, (h.1 c).2.1, (h.1 c).2.2.1, (h.1 c).2.2.2.1⟩) (Cert.KernelIdeal.Own.run_main m ρ)
  · refine (θ_run Cert.ReferenceIdeal.defs _ _).mono (fun _ h => ⟨?_, (h 0).2⟩) (Cert.ReferenceIdeal.Value.run m' ρ')
    exact (h 0).1.trans (Cert.KernelIdeal.Own.Out_eq _ _ m _ _ (fun c => (hagree c).1) (fun c => (hagree c).2.1)
      (fun c => (hagree c).2.2.1) (fun c => (hagree c).2.2.2)).symm

/-- All five claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
